-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scaled_codes [hPre_scaled_codes : Cert.Pre_scaled_codes.Facts] (m : (ℓ : Loc Cert.KernelIdeal.nD Cert.KernelIdeal.τ Cert.KernelIdeal.sig) → Buf (Elt Ideal) ℓ) : Prop :=
  ∀ c : Dev Cert.KernelIdeal.nD,
    (Cert.Pre_scaled_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scaled_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_scaled_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_scaled_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_scaled_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaled_codes [hPre_scaled_codes : Cert.Pre_scaled_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaled_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scaled_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_scaled_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_scaled_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_scaled_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scaled_codes [hKernelIdeal : Cert.KernelIdeal.Facts] [hPre_scaled_codes : Cert.Pre_scaled_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaled_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scaled_codes [hReferenceIdeal : Cert.ReferenceIdeal.Facts] [hPre_scaled_codes : Cert.Pre_scaled_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaled_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "logit_scale" .f32 0x3E0293EE#32 (((Real.log 2)⁻¹ * (Real.sqrt 128)⁻¹ : ℝ) : EReal)

def algebraic_KernelIdeal_ReferenceIdeal_pre_scaled_codes [hKernelIdeal : Cert.KernelIdeal.Facts] [hReferenceIdeal : Cert.ReferenceIdeal.Facts] [hPre_scaled_codes : Cert.Pre_scaled_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaled_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scaled_codes : Cert.Pre_scaled_codes.Facts),
    quiescent_Kernel (hKernel := hKernel)
    ∧ quiescent_KernelIdeal (hKernelIdeal := hKernelIdeal)
    ∧ quiescent_KernelIdeal_pre_scaled_codes (hKernelIdeal := hKernelIdeal) (hPre_scaled_codes := hPre_scaled_codes)
    ∧ quiescent_ReferenceIdeal (hReferenceIdeal := hReferenceIdeal)
    ∧ quiescent_ReferenceIdeal_pre_scaled_codes (hReferenceIdeal := hReferenceIdeal) (hPre_scaled_codes := hPre_scaled_codes)
    ∧ preserves_Kernel_KernelIdeal
    ∧ algebraic_KernelIdeal_ReferenceIdeal_pre_scaled_codes (hKernelIdeal := hKernelIdeal) (hReferenceIdeal := hReferenceIdeal) (hPre_scaled_codes := hPre_scaled_codes)
-- ==== Pre_scaled_codes.lean ====
abbrev S8x4x8192x128 : Shape := ⟨4, ![8, 4, 8192, 128]⟩
abbrev S8x4x4x16 : Shape := ⟨4, ![8, 4, 4, 16]⟩
abbrev S8x16x16x128 : Shape := ⟨4, ![8, 16, 16, 128]⟩
abbrev S8x4x2048x128 : Shape := ⟨4, ![8, 4, 2048, 128]⟩
abbrev S8x4x32x1 : Shape := ⟨4, ![8, 4, 32, 1]⟩
abbrev S8x4x128 : Shape := ⟨3, ![8, 4, 128]⟩
abbrev S_ : Shape := ⟨0, ![]⟩

class Facts : Prop where
  bcast_S_S8x4x8192x128 : S_.BroadcastsInDim S8x4x8192x128 (![] : Fin 0 → Fin S8x4x8192x128.rank)
  bcast_S_S8x4x4x16 : S_.BroadcastsInDim S8x4x4x16 (![] : Fin 0 → Fin S8x4x4x16.rank)
  bcast_S_S8x16x16x128 : S_.BroadcastsInDim S8x16x16x128 (![] : Fin 0 → Fin S8x16x16x128.rank)
  bcast_S_S8x4x2048x128 : S_.BroadcastsInDim S8x4x2048x128 (![] : Fin 0 → Fin S8x4x2048x128.rank)
  bcast_S_S8x4x32x1 : S_.BroadcastsInDim S8x4x32x1 (![] : Fin 0 → Fin S8x4x32x1.rank)

variable [Facts]

def fn_part1 {F : FTy → Type} [FloatOps F] (main_arg4 : FVec F S8x4x32x1 .f32) (main_v2 : IVec S8x4x8192x128 1) (main_v7 : IVec S8x4x4x16 1) (main_v10 : IVec S8x16x16x128 1) (main_v13 : IVec S8x4x2048x128 1) (main_v15 : IVec S8x4x32x1 1) (main_v16 : FVec F S8x4x32x1 .f32) : IVec S8x4x8192x128 1 × IVec S8x4x4x16 1 × IVec S8x16x16x128 1 × IVec S8x4x2048x128 1 × IVec S8x4x32x1 1 :=
  let main_v17 : IVec S8x4x32x1 1 := cmpf .olt main_arg4 main_v16
  let main_v18 : IVec S8x4x32x1 1 := andi main_v15 main_v17
  (main_v2, main_v7, main_v10, main_v13, main_v18)

def fn {F : FTy → Type} [FloatOps F] (main_arg0 : FVec F S8x4x8192x128 .bf16) (main_arg1 : FVec F S8x4x4x16 .f32) (main_arg2 : FVec F S8x16x16x128 .bf16) (main_arg3 : FVec F S8x4x2048x128 .bf16) (main_arg4 : FVec F S8x4x32x1 .f32) (main_arg5 : FVec F S8x4x2048x128 .bf16) (main_arg6 : FVec F S8x4x128 .f32) : IVec S8x4x8192x128 1 × IVec S8x4x4x16 1 × IVec S8x16x16x128 1 × IVec S8x4x2048x128 1 × IVec S8x4x32x1 1 :=
  let main_v0 : FVec F S8x4x8192x128 .bf16 := Host.absf main_arg0
  let main_cst : FVec F S_ .bf16 := constant S_ .bf16 0x7F80#16
  let main_v1 : FVec F S8x4x8192x128 .bf16 := broadcastInDim S8x4x8192x128 ![] bcast_S_S8x4x8192x128 main_cst
  let main_v2 : IVec S8x4x8192x128 1 := cmpf .olt main_v0 main_v1
  let main_cst_0 : FVec F S_ .f32 := constant S_ .f32 0x00000000#32
  let main_v3 : FVec F S8x4x4x16 .f32 := broadcastInDim S8x4x4x16 ![] bcast_S_S8x4x4x16 main_cst_0
  let main_v4 : IVec S8x4x4x16 1 := cmpf .ogt main_arg1 main_v3
  let main_cst_1 : FVec F S_ .f32 := constant S_ .f32 0x7F800000#32
  let main_v5 : FVec F S8x4x4x16 .f32 := broadcastInDim S8x4x4x16 ![] bcast_S_S8x4x4x16 main_cst_1
  let main_v6 : IVec S8x4x4x16 1 := cmpf .olt main_arg1 main_v5
  let main_v7 : IVec S8x4x4x16 1 := andi main_v4 main_v6
  let main_v8 : FVec F S8x16x16x128 .bf16 := Host.absf main_arg2
  let main_cst_2 : FVec F S_ .bf16 := constant S_ .bf16 0x7F80#16
  let main_v9 : FVec F S8x16x16x128 .bf16 := broadcastInDim S8x16x16x128 ![] bcast_S_S8x16x16x128 main_cst_2
  let main_v10 : IVec S8x16x16x128 1 := cmpf .olt main_v8 main_v9
  let main_v11 : FVec F S8x4x2048x128 .bf16 := Host.absf main_arg3
  let main_cst_3 : FVec F S_ .bf16 := constant S_ .bf16 0x7F80#16
  let main_v12 : FVec F S8x4x2048x128 .bf16 := broadcastInDim S8x4x2048x128 ![] bcast_S_S8x4x2048x128 main_cst_3
  let main_v13 : IVec S8x4x2048x128 1 := cmpf .olt main_v11 main_v12
  let main_cst_4 : FVec F S_ .f32 := constant S_ .f32 0x00000000#32
  let main_v14 : FVec F S8x4x32x1 .f32 := broadcastInDim S8x4x32x1 ![] bcast_S_S8x4x32x1 main_cst_4
  let main_v15 : IVec S8x4x32x1 1 := cmpf .ogt main_arg4 main_v14
  let main_cst_5 : FVec F S_ .f32 := constant S_ .f32 0x7F800000#32
  let main_v16 : FVec F S8x4x32x1 .f32 := broadcastInDim S8x4x32x1 ![] bcast_S_S8x4x32x1 main_cst_5
  fn_part1 (F := F) main_arg4 main_v2 main_v7 main_v10 main_v13 main_v15 main_v16
-- ==== Kernel.lean ====
abbrev S8x4x8192x128 : Shape := ⟨4, ![8, 4, 8192, 128]⟩
abbrev S8x4x4x16 : Shape := ⟨4, ![8, 4, 4, 16]⟩
abbrev S8x16x16x128 : Shape := ⟨4, ![8, 16, 16, 128]⟩
abbrev S8x4x2048x128 : Shape := ⟨4, ![8, 4, 2048, 128]⟩
abbrev S8x4x32x1 : Shape := ⟨4, ![8, 4, 32, 1]⟩
abbrev S8x4x128 : Shape := ⟨3, ![8, 4, 128]⟩
abbrev S8x2048x2048 : Shape := ⟨3, ![8, 2048, 2048]⟩
abbrev S1x1x8192x128 : Shape := ⟨4, ![1, 1, 8192, 128]⟩
abbrev S1x1x4x16 : Shape := ⟨4, ![1, 1, 4, 16]⟩
abbrev S1x4x16x128 : Shape := ⟨4, ![1, 4, 16, 128]⟩
abbrev S1x1x2048x128 : Shape := ⟨4, ![1, 1, 2048, 128]⟩
abbrev S1x1x32x1 : Shape := ⟨4, ![1, 1, 32, 1]⟩
abbrev S1x4x128 : Shape := ⟨3, ![1, 4, 128]⟩
abbrev S1x2048x512 : Shape := ⟨3, ![1, 2048, 512]⟩
abbrev S2048x128 : Shape := ⟨2, ![2048, 128]⟩
abbrev S32x128 : Shape := ⟨2, ![32, 128]⟩
abbrev S128x2048 : Shape := ⟨2, ![128, 2048]⟩
abbrev S8192x128 : Shape := ⟨2, ![8192, 128]⟩
abbrev S128x128 : Shape := ⟨2, ![128, 128]⟩
abbrev S2x2048x512 : Shape := ⟨3, ![2, 2048, 512]⟩
abbrev S2x512x128 : Shape := ⟨3, ![2, 512, 128]⟩
abbrev S128x512 : Shape := ⟨2, ![128, 512]⟩
abbrev S1x1x128 : Shape := ⟨3, ![1, 1, 128]⟩
abbrev S1x128 : Shape := ⟨2, ![1, 128]⟩
abbrev S32x1 : Shape := ⟨2, ![32, 1]⟩
abbrev S1x1x4x1 : Shape := ⟨4, ![1, 1, 4, 1]⟩
abbrev S4x1 : Shape := ⟨2, ![4, 1]⟩
abbrev S4x128 : Shape := ⟨2, ![4, 128]⟩
abbrev S8x128 : Shape := ⟨2, ![8, 128]⟩
abbrev S1x4x1x128 : Shape := ⟨4, ![1, 4, 1, 128]⟩
abbrev S1x8x128 : Shape := ⟨3, ![1, 8, 128]⟩
abbrev S16x8x128 : Shape := ⟨3, ![16, 8, 128]⟩
abbrev S512x128 : Shape := ⟨2, ![512, 128]⟩
abbrev S1x128x512 : Shape := ⟨3, ![1, 128, 512]⟩
abbrev S64x512 : Shape := ⟨2, ![64, 512]⟩
abbrev S8x8x512 : Shape := ⟨3, ![8, 8, 512]⟩
abbrev S8x512 : Shape := ⟨2, ![8, 512]⟩
abbrev S512 : Shape := ⟨1, ![512]⟩
abbrev S1x512 : Shape := ⟨2, ![1, 512]⟩
abbrev S1x64x512 : Shape := ⟨3, ![1, 64, 512]⟩
abbrev S1x8x512 : Shape := ⟨3, ![1, 8, 512]⟩
abbrev S1x512x128 : Shape := ⟨3, ![1, 512, 128]⟩
abbrev S1x128x128 : Shape := ⟨3, ![1, 128, 128]⟩
abbrev S256x128 : Shape := ⟨2, ![256, 128]⟩
abbrev S256x512 : Shape := ⟨2, ![256, 512]⟩
abbrev S1x256x512 : Shape := ⟨3, ![1, 256, 512]⟩
abbrev S128x256 : Shape := ⟨2, ![128, 256]⟩
abbrev S384x128 : Shape := ⟨2, ![384, 128]⟩
abbrev S384x512 : Shape := ⟨2, ![384, 512]⟩
abbrev S1x384x512 : Shape := ⟨3, ![1, 384, 512]⟩
abbrev S128x384 : Shape := ⟨2, ![128, 384]⟩
abbrev S512x512 : Shape := ⟨2, ![512, 512]⟩
abbrev S1x512x512 : Shape := ⟨3, ![1, 512, 512]⟩
abbrev S128x640 : Shape := ⟨2, ![128, 640]⟩
abbrev S1x640x512 : Shape := ⟨3, ![1, 640, 512]⟩
abbrev S640x512 : Shape := ⟨2, ![640, 512]⟩
abbrev S128x768 : Shape := ⟨2, ![128, 768]⟩
abbrev S1x768x512 : Shape := ⟨3, ![1, 768, 512]⟩
abbrev S768x512 : Shape := ⟨2, ![768, 512]⟩
abbrev S128x896 : Shape := ⟨2, ![128, 896]⟩
abbrev S1x896x512 : Shape := ⟨3, ![1, 896, 512]⟩
abbrev S896x512 : Shape := ⟨2, ![896, 512]⟩
abbrev S128x1024 : Shape := ⟨2, ![128, 1024]⟩
abbrev S1x1024x512 : Shape := ⟨3, ![1, 1024, 512]⟩
abbrev S1024x512 : Shape := ⟨2, ![1024, 512]⟩
abbrev S128x1152 : Shape := ⟨2, ![128, 1152]⟩
abbrev S1x1152x512 : Shape := ⟨3, ![1, 1152, 512]⟩
abbrev S1152x512 : Shape := ⟨2, ![1152, 512]⟩
abbrev S128x1280 : Shape := ⟨2, ![128, 1280]⟩
abbrev S1x1280x512 : Shape := ⟨3, ![1, 1280, 512]⟩
abbrev S1280x512 : Shape := ⟨2, ![1280, 512]⟩
abbrev S128x1408 : Shape := ⟨2, ![128, 1408]⟩
abbrev S1x1408x512 : Shape := ⟨3, ![1, 1408, 512]⟩
abbrev S1408x512 : Shape := ⟨2, ![1408, 512]⟩
abbrev S128x1536 : Shape := ⟨2, ![128, 1536]⟩
abbrev S1x1536x512 : Shape := ⟨3, ![1, 1536, 512]⟩
abbrev S1536x512 : Shape := ⟨2, ![1536, 512]⟩
abbrev S128x1664 : Shape := ⟨2, ![128, 1664]⟩
abbrev S1x1664x512 : Shape := ⟨3, ![1, 1664, 512]⟩
abbrev S1664x512 : Shape := ⟨2, ![1664, 512]⟩
abbrev S128x1792 : Shape := ⟨2, ![128, 1792]⟩
abbrev S1x1792x512 : Shape := ⟨3, ![1, 1792, 512]⟩
abbrev S1792x512 : Shape := ⟨2, ![1792, 512]⟩
abbrev S128x1920 : Shape := ⟨2, ![128, 1920]⟩
abbrev S1x1920x512 : Shape := ⟨3, ![1, 1920, 512]⟩
abbrev S1920x512 : Shape := ⟨2, ![1920, 512]⟩
abbrev S2048x512 : Shape := ⟨2, ![2048, 512]⟩

abbrev nBuf : Space → Nat
  | .hbm => 8
  | .vmem => 26
  | .smem => 0
  | _ => 0

abbrev bufTy : (tb : Table) → Fin (tcTables nBuf tb) → BufTy
  | .hbm, ⟨0, _⟩ => ⟨S8x4x8192x128, .bf16⟩
  | .hbm, ⟨1, _⟩ => ⟨S8x4x4x16, .f32⟩
  | .hbm, ⟨2, _⟩ => ⟨S8x16x16x128, .bf16⟩
  | .hbm, ⟨3, _⟩ => ⟨S8x4x2048x128, .bf16⟩
  | .hbm, ⟨4, _⟩ => ⟨S8x4x32x1, .f32⟩
  | .hbm, ⟨5, _⟩ => ⟨S8x4x2048x128, .bf16⟩
  | .hbm, ⟨6, _⟩ => ⟨S8x4x128, .f32⟩
  | .hbm, ⟨7, _⟩ => ⟨S8x2048x2048, .bf16⟩
  | .local _ .vmem, ⟨0, _⟩ => ⟨S1x1x8192x128, .bf16⟩
  | .local _ .vmem, ⟨1, _⟩ => ⟨S1x1x8192x128, .bf16⟩
  | .local _ .vmem, ⟨2, _⟩ => ⟨S1x1x4x16, .f32⟩
  | .local _ .vmem, ⟨3, _⟩ => ⟨S1x1x4x16, .f32⟩
  | .local _ .vmem, ⟨4, _⟩ => ⟨S1x4x16x128, .bf16⟩
  | .local _ .vmem, ⟨5, _⟩ => ⟨S1x4x16x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x32x1, .f32⟩
  | .local _ .vmem, ⟨9, _⟩ => ⟨S1x1x32x1, .f32⟩
  | .local _ .vmem, ⟨10, _⟩ => ⟨S1x1x2048x128, .bf16⟩
  | .local _ .vmem, ⟨11, _⟩ => ⟨S1x1x2048x128, .bf16⟩
  | .local _ .vmem, ⟨12, _⟩ => ⟨S1x4x128, .f32⟩
  | .local _ .vmem, ⟨13, _⟩ => ⟨S1x4x128, .f32⟩
  | .local _ .vmem, ⟨14, _⟩ => ⟨S1x2048x512, .bf16⟩
  | .local _ .vmem, ⟨15, _⟩ => ⟨S1x2048x512, .bf16⟩
  | .local _ .vmem, ⟨16, _⟩ => ⟨S2048x128, .fp8e4m3⟩
  | .local _ .vmem, ⟨17, _⟩ => ⟨S2048x128, .bf16⟩
  | .local _ .vmem, ⟨18, _⟩ => ⟨S32x128, .f32⟩
  | .local _ .vmem, ⟨19, _⟩ => ⟨S128x2048, .fp8e4m3⟩
  | .local _ .vmem, ⟨20, _⟩ => ⟨S8192x128, .fp8e4m3⟩
  | .local _ .vmem, ⟨21, _⟩ => ⟨S128x128, .f32⟩
  | .local _ .vmem, ⟨22, _⟩ => ⟨S128x128, .f32⟩
  | .local _ .vmem, ⟨23, _⟩ => ⟨S2x2048x512, .f32⟩
  | .local _ .vmem, ⟨24, _⟩ => ⟨S2x2048x512, .fp8e4m3⟩
  | .local _ .vmem, ⟨25, _⟩ => ⟨S2x512x128, .f32⟩
  | _, _ => ⟨S8x4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let c0 : Index := 0#32
  let arg1 : BitVec 32 := BitVec.ofNat 32 (i 1).val
  let v27 : Index := Scalar.indexCast arg1
  let c0_4 : Index := 0#32
  ![0, v27.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "logit_scale" => some (((Real.log 2)⁻¹ * (Real.sqrt 128)⁻¹ : ℝ) : EReal)
  | _ => none
-- ==== ReferenceIdeal.lean ====
abbrev S8x4x8192x128 : Shape := ⟨4, ![8, 4, 8192, 128]⟩
abbrev S8x4x4x16 : Shape := ⟨4, ![8, 4, 4, 16]⟩
abbrev S8x16x16x128 : Shape := ⟨4, ![8, 16, 16, 128]⟩
abbrev S8x4x2048x128 : Shape := ⟨4, ![8, 4, 2048, 128]⟩
abbrev S8x4x32x1 : Shape := ⟨4, ![8, 4, 32, 1]⟩
abbrev S8x4x128 : Shape := ⟨3, ![8, 4, 128]⟩
abbrev S8x4x16x128x4x128 : Shape := ⟨6, ![8, 4, 16, 128, 4, 128]⟩
abbrev S8x4x4x16x128 : Shape := ⟨5, ![8, 4, 4, 16, 128]⟩
abbrev S8x4x16x128x4x2048 : Shape := ⟨6, ![8, 4, 16, 128, 4, 2048]⟩
abbrev S8x4x2048x4x16 : Shape := ⟨5, ![8, 4, 2048, 4, 16]⟩
abbrev S8x4x16x4x2048 : Shape := ⟨5, ![8, 4, 16, 4, 2048]⟩
abbrev S8x4x16x4 : Shape := ⟨4, ![8, 4, 16, 4]⟩
abbrev S8x4x16x1x4x1 : Shape := ⟨6, ![8, 4, 16, 1, 4, 1]⟩
abbrev S8x4x32x64 : Shape := ⟨4, ![8, 4, 32, 64]⟩
abbrev S8x4x1x1x1x2048 : Shape := ⟨6, ![8, 4, 1, 1, 1, 2048]⟩
abbrev S8x4x16x1x4x2048 : Shape := ⟨6, ![8, 4, 16, 1, 4, 2048]⟩
abbrev S_ : Shape := ⟨0, ![]⟩
abbrev S8x4x16x128x4 : Shape := ⟨5, ![8, 4, 16, 128, 4]⟩
abbrev S8x4x16x128x4x1 : Shape := ⟨6, ![8, 4, 16, 128, 4, 1]⟩
abbrev S8x4x1x1x1x128 : Shape := ⟨6, ![8, 4, 1, 1, 1, 128]⟩
abbrev S8x16x128x4x4x128 : Shape := ⟨6, ![8, 16, 128, 4, 4, 128]⟩
abbrev S8x2048x2048 : Shape := ⟨3, ![8, 2048, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8x4x8192x128, .bf16⟩
  | .hbm, ⟨1, _⟩ => ⟨S8x4x4x16, .f32⟩
  | .hbm, ⟨2, _⟩ => ⟨S8x16x16x128, .bf16⟩
  | .hbm, ⟨3, _⟩ => ⟨S8x4x2048x128, .bf16⟩
  | .hbm, ⟨4, _⟩ => ⟨S8x4x32x1, .f32⟩
  | .hbm, ⟨5, _⟩ => ⟨S8x4x2048x128, .bf16⟩
  | .hbm, ⟨6, _⟩ => ⟨S8x4x128, .f32⟩
  | .hbm, ⟨7, _⟩ => ⟨S8x4x16x128x4x128, .bf16⟩
  | .hbm, ⟨8, _⟩ => ⟨S8x4x4x16x128, .bf16⟩
  | .hbm, ⟨9, _⟩ => ⟨S8x4x16x128x4x2048, .f32⟩
  | .hbm, ⟨10, _⟩ => ⟨S8x4x2048x4x16, .f32⟩
  | .hbm, ⟨11, _⟩ => ⟨S8x4x16x4x2048, .f32⟩
  | .hbm, ⟨12, _⟩ => ⟨S8x4x16x4, .f32⟩
  | .hbm, ⟨13, _⟩ => ⟨S8x4x16x1x4x1, .f32⟩
  | .hbm, ⟨14, _⟩ => ⟨S8x4x16x128x4x2048, .f32⟩
  | .hbm, ⟨15, _⟩ => ⟨S8x4x32x64, .f32⟩
  | .hbm, ⟨16, _⟩ => ⟨S8x4x1x1x1x2048, .f32⟩
  | .hbm, ⟨17, _⟩ => ⟨S8x4x16x128x4x2048, .f32⟩
  | .hbm, ⟨18, _⟩ => ⟨S8x4x16x128x4x2048, .f32⟩
  | .hbm, ⟨19, _⟩ => ⟨S8x4x16x1x4x2048, .f32⟩
  | .hbm, ⟨20, _⟩ => ⟨S8x4x16x128x4x2048, .f32⟩
  | .hbm, ⟨21, _⟩ => ⟨S8x4x16x128x4x2048, .f32⟩
  | .hbm, ⟨22, _⟩ => ⟨S8x4x16x128x4x2048, .f32⟩
  | .hbm, ⟨23, _⟩ => ⟨S_, .f32⟩
  | .hbm, ⟨24, _⟩ => ⟨S_, .f32⟩
  | .hbm, ⟨25, _⟩ => ⟨S8x4x16x128x4x2048, .f32⟩
  | .hbm, ⟨26, _⟩ => ⟨S8x4x16x128x4x2048, .f32⟩
  | .hbm, ⟨27, _⟩ => ⟨S8x4x16x128x4x2048, .i32⟩
  | .hbm, ⟨28, _⟩ => ⟨S_, .i32⟩
  | .hbm, ⟨29, _⟩ => ⟨S8x4x16x128x4x2048, .i32⟩
  | .hbm, ⟨30, _⟩ => ⟨S8x4x16x128x4x2048, .i32⟩
  | .hbm, ⟨31, _⟩ => ⟨S8x4x16x128x4x2048, .i32⟩
  | .hbm, ⟨32, _⟩ => ⟨S8x4x16x128x4x2048, .i32⟩
  | .hbm, ⟨33, _⟩ => ⟨S8x4x16x128x4x2048, .i32⟩
  | .hbm, ⟨34, _⟩ => ⟨S8x4x16x128x4x2048, .i1⟩
  | .hbm, ⟨35, _⟩ => ⟨S_, .f32⟩
  | .hbm, ⟨36, _⟩ => ⟨S_, .f32⟩
  | .hbm, ⟨37, _⟩ => ⟨S8x4x16x128x4x2048, .f32⟩
  | .hbm, ⟨38, _⟩ => ⟨S8x4x16x128x4x2048, .f32⟩
  | .hbm, ⟨39, _⟩ => ⟨S_, .f32⟩
  | .hbm, ⟨40, _⟩ => ⟨S8x4x16x128x4, .f32⟩
  | .hbm, ⟨41, _⟩ => ⟨S8x4x16x128x4x1, .f32⟩
  | .hbm, ⟨42, _⟩ => ⟨S8x4x16x128x4x2048, .f32⟩
  | .hbm, ⟨43, _⟩ => ⟨S8x4x16x128x4x2048, .f32⟩
  | .hbm, ⟨44, _⟩ => ⟨S8x4x16x128x4x2048, .f32⟩
  | .hbm, ⟨45, _⟩ => ⟨S_, .f32⟩
  | .hbm, ⟨46, _⟩ => ⟨S_, .f32⟩
  | .hbm, ⟨47, _⟩ => ⟨S8x4x16x128x4x2048, .f32⟩
  | .hbm, ⟨48, _⟩ => ⟨S8x4x16x128x4x2048, .f32⟩
  | .hbm, ⟨49, _⟩ => ⟨S_, .f32⟩
  | .hbm, ⟨50, _⟩ => ⟨S8x4x16x128x4, .f32⟩
  | .hbm, ⟨51, _⟩ => ⟨S8x4x16x128x4x1, .f32⟩
  | .hbm, ⟨52, _⟩ => ⟨S_, .f32⟩
  | .hbm, ⟨53, _⟩ => ⟨S8x4x16x128x4x2048, .f32⟩
  | .hbm, ⟨54, _⟩ => ⟨S8x4x16x128x4x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x4x16x128x4x2048, .f32⟩
  | .hbm, ⟨59, _⟩ => ⟨S8x4x16x128x4x2048, .f32⟩
  | .hbm, ⟨60, _⟩ => ⟨S_, .f32⟩
  | .hbm, ⟨61, _⟩ => ⟨S8x4x16x128x4x2048, .f32⟩
  | .hbm, ⟨62, _⟩ => ⟨S8x4x16x128x4x2048, .f32⟩
  | .hbm, ⟨63, _⟩ => ⟨S8x4x16x128x4x2048, .bf16⟩
  | .hbm, ⟨64, _⟩ => ⟨S8x4x16x128x4x128, .f32⟩
  | .hbm, ⟨65, _⟩ => ⟨S_, .f32⟩
  | .hbm, ⟨66, _⟩ => ⟨S8x4x16x128x4x128, .f32⟩
  | .hbm, ⟨67, _⟩ => ⟨S8x4x16x128x4x128, .f32⟩
  | .hbm, ⟨68, _⟩ => ⟨S8x4x1x1x1x128, .f32⟩
  | .hbm, ⟨69, _⟩ => ⟨S8x4x16x128x4x128, .f32⟩
  | .hbm, ⟨70, _⟩ => ⟨S8x4x16x128x4x128, .f32⟩
  | .hbm, ⟨71, _⟩ => ⟨S8x4x16x128x4x128, .f32⟩
  | .hbm, ⟨72, _⟩ => ⟨S8x4x16x128x4x128, .f32⟩
  | .hbm, ⟨73, _⟩ => ⟨S8x16x128x4x4x128, .f32⟩
  | .hbm, ⟨74, _⟩ => ⟨S8x2048x2048, .f32⟩
  | .hbm, ⟨75, _⟩ => ⟨S8x2048x2048, .bf16⟩
  | _, _ => ⟨S8x4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Proof.Frames.lean ====
/- The three programs run to the end, leave their arguments as they were and leave no semaphore counter raised; and the
   one constant that the idealized kernel names denotes the real number that its name stands for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_scaled_codes
public import Idealize.ShloMosaic.Lib.Quiescent

@[expose] public section

noncomputable section

open Idealize.ShloMosaic Idealize.ShloMosaic.TcCoe Idealize.SL.Sem

namespace Cert.Proof.Frames

/-- The kernel at the machine's number formats. -/
theorem kernel : Cert.quiescent_Kernel := fun m ρ _ => Cert.Kernel.Gen.frame m ρ

/-- The kernel over the extended reals. -/
theorem kernelIdeal : Cert.quiescent_KernelIdeal := fun m ρ _ => Cert.KernelIdeal.Gen.frame m ρ

/-- … and so under the precondition. -/
theorem kernelIdeal_pre : Cert.quiescent_KernelIdeal_pre_scaled_codes := fun m ρ _ => Cert.KernelIdeal.Gen.frame m ρ

/-- The reference: its arguments are left as they were and it has no semaphores. -/
theorem reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- … and so under the precondition. -/
theorem reference_pre : Cert.quiescent_ReferenceIdeal_pre_scaled_codes := fun m ρ _ => reference m ρ trivial

/-- The kernel's printed logit scale stands for `1 / (log 2 · √128)`. -/
theorem preserves : Cert.preserves_Kernel_KernelIdeal :=
  IdealRules.named_const.statement Cert.KernelIdeal.κ "logit_scale" .f32 0x3E0293EE#32
    (((Real.log 2)⁻¹ * (Real.sqrt 128)⁻¹ : ℝ) : EReal) rfl

end Cert.Proof.Frames

end
-- ==== Proof.Column.lean ====
/- The mathematics of one output element, away from any array: a masked softmax over 2048 keys whose probabilities are
   clipped to the fp8 range before they weigh the values. The kernel takes powers of two of logits in units of `log 2`, shifts
   them by eight (so that its probabilities are 256 times the reference's) and divides at the end; the reference takes natural
   exponentials, multiplies by 256 before the clip and undoes it after. The two are one number, whatever the values and their scale.
   The kernel meets only the keys up to the end of its query block, in groups of 64 and in each group eight keys at a time; those it does
   not meet are masked. -/
module

public import Idealize.ShloMosaic.PureOps.Ideal

@[expose] public section

noncomputable section

namespace Cert.Column

open Idealize.ShloMosaic

/-- A positive real factor moves into a maximum. -/
theorem sup_mul {ι : Type*} (S : Finset ι) (f : ι → EReal) {a : ℝ} (ha : 0 < a) :
    S.sup f * (a : EReal) = S.sup fun s => f s * (a : EReal) := by
  have hm : Monotone fun x : EReal => x * (a : EReal) := fun x y h =>
    mul_le_mul_of_nonneg_right h (EReal.coe_nonneg.mpr ha.le)
  exact Finset.comp_sup_eq_sup_comp_of_is_total _ hm (EReal.bot_mul_coe_of_pos ha)

/-- A folded maximum from the least element is the supremum. -/
theorem fold_max_bot {ι : Type*} (S : Finset ι) (f : ι → EReal) : Finset.fold max ⊥ f S = S.sup f := rfl

/-- A maximum over 64 numbers, as eight maxima over every eighth. -/
theorem sup_eighths (f : Nat → EReal) :
    (Finset.univ.sup fun u : Fin 8 => Finset.univ.sup fun x : Fin 8 => f (x.val * 8 + u.val)) = (Finset.range 64).sup f := by
  apply le_antisymm
  · exact Finset.sup_le fun u _ => Finset.sup_le fun x _ => Finset.le_sup (f := f) (Finset.mem_range.2 (by omega))
  · refine Finset.sup_le fun s hs => ?_
    have h := Finset.mem_range.1 hs
    refine le_trans ?_ (Finset.le_sup (f := fun u : Fin 8 => Finset.univ.sup fun x : Fin 8 => f (x.val * 8 + u.val))
      (Finset.mem_univ (⟨s % 8, by omega⟩ : Fin 8)))
    refine le_trans (le_of_eq ?_) (Finset.le_sup (f := fun x : Fin 8 => f (x.val * 8 + s % 8)) (Finset.mem_univ (⟨s / 8, by omega⟩ : Fin 8)))
    exact congrArg f (by dsimp only; omega)

/-- A sum over 64 numbers, as eight sums over every eighth. -/
theorem sum_eighths (f : Nat → EReal) : (∑ u : Fin 8, ∑ x : Fin 8, f (x.val * 8 + u.val)) = ∑ s ∈ Finset.range 64, f s := by
  rw [← Fintype.sum_prod_type', Finset.sum_range]
  refine Fintype.sum_equiv ((Equiv.prodComm (Fin 8) (Fin 8)).trans finProdFinEquiv) (fun p : Fin 8 × Fin 8 => f (p.2.val * 8 + p.1.val))
    (fun i : Fin (8 * 8) => f i.val) fun p => congrArg f ?_
  show p.2.val * 8 + p.1.val = p.1.val + 8 * p.2.val
  omega

/-- A maximum over a first part and a second. -/
theorem sup_range_add (f : Nat → EReal) (n m : Nat) :
    (Finset.range (n + m)).sup f = max ((Finset.range n).sup f) ((Finset.range m).sup fun s => f (n + s)) := by
  apply le_antisymm
  · refine Finset.sup_le fun s hs => ?_
    have h := Finset.mem_range.1 hs
    by_cases hn : s < n
    · exact le_trans (Finset.le_sup (f := f) (Finset.mem_range.2 hn)) (le_max_left _ _)
    · refine le_trans (le_trans (le_of_eq (congrArg f ?_)) (Finset.le_sup (f := fun s => f (n + s)) (Finset.mem_range.2 (by omega : s - n < m))))
        (le_max_right _ _)
      omega
  · refine max_le (Finset.sup_le fun s hs => ?_) (Finset.sup_le fun s hs => ?_)
    · have h := Finset.mem_range.1 hs
      exact Finset.le_sup (f := f) (Finset.mem_range.2 (by omega))
    · have h := Finset.mem_range.1 hs
      exact Finset.le_sup (f := f) (Finset.mem_range.2 (by omega))

/-- Keys that are masked out add nothing to a maximum. -/
theorem sup_extend (f : Nat → EReal) {n N : Nat} (hn : n ≤ N) (h0 : ∀ s, n ≤ s → f s = ⊥) :
    (Finset.range n).sup f = Finset.univ.sup fun s : Fin N => f s.val := by
  apply le_antisymm
  · refine Finset.sup_le fun s hs => ?_
    have h := Finset.mem_range.1 hs
    exact Finset.le_sup (f := fun s : Fin N => f s.val) (Finset.mem_univ (⟨s, by omega⟩ : Fin N))
  · refine Finset.sup_le fun s _ => ?_
    by_cases h : s.val < n
    · exact Finset.le_sup (f := f) (Finset.mem_range.2 h)
    · rw [h0 s.val (by omega)]
      exact bot_le

/-- Nor to a sum, where they weigh nothing. -/
theorem sum_extend (f : Nat → EReal) {n N : Nat} (hn : n ≤ N) (h0 : ∀ s, n ≤ s → f s = 0) :
    ∑ s ∈ Finset.range n, f s = ∑ s : Fin N, f s.val := by
  rw [← Finset.sum_range f]
  refine Finset.sum_subset (fun s hs => Finset.mem_range.2 (lt_of_lt_of_le (Finset.mem_range.1 hs) hn)) fun s _ hs => h0 s ?_
  exact not_lt.1 fun h => hs (Finset.mem_range.2 h)

/-- Sums of reals, read in the extended reals. -/
theorem coe_sum {ι : Type*} (S : Finset ι) (f : ι → ℝ) : (∑ s ∈ S, (f s : EReal)) = ((∑ s ∈ S, f s : ℝ) : EReal) := by
  classical
  induction S using Finset.induction_on with
  | empty => simp
  | insert a S h ih => rw [Finset.sum_insert h, Finset.sum_insert h, ih, EReal.coe_add]

/-- Maxima and minima of reals, read in the extended reals. -/
theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

variable (vis : Fin 2048 → Prop) [DecidablePred vis]

/-- A real score where the key is visible, the least element where it is masked. -/
def masked (z : Fin 2048 → ℝ) (s : Fin 2048) : EReal := if vis s then (z s : EReal) else ⊥

/-- The kernel's element: logits in units of `log 2`. -/
def kernel (y : Fin 2048 → EReal) (v : Fin 2048 → EReal) (vs : EReal) : EReal :=
  (∑ s, v s * min ((448 : ℝ) : EReal) (max ((-448 : ℝ) : EReal) (Ideal.exp2 (y s - (Finset.univ.sup y - ((8 : ℝ) : EReal))))))
    * Ideal.div 1 (∑ s, Ideal.exp2 (y s - (Finset.univ.sup y - ((8 : ℝ) : EReal)))) * vs

/-- The kernel's element over the keys it meets is its element over all of them: the others are masked. -/
theorem kernel_extend (y v : Nat → EReal) (vs : EReal) {n : Nat} (hn : n ≤ 2048) (h0 : ∀ s, n ≤ s → y s = ⊥) :
    (∑ s ∈ Finset.range n, v s * min ((448 : ℝ) : EReal) (max ((-448 : ℝ) : EReal)
        (Ideal.exp2 (y s - ((Finset.range n).sup y - ((8 : ℝ) : EReal))))))
      * Ideal.div 1 (∑ s ∈ Finset.range n, Ideal.exp2 (y s - ((Finset.range n).sup y - ((8 : ℝ) : EReal)))) * vs
    = kernel (fun s => y s.val) (fun s => v s.val) vs := by
  have hz : ∀ s, n ≤ s → Ideal.exp2 (y s - ((Finset.range n).sup y - ((8 : ℝ) : EReal))) = 0 := fun s hs => by
    rw [h0 s hs, EReal.bot_sub, Ideal.exp2_bot]
  unfold kernel
  rw [sum_extend _ hn hz, sum_extend (fun s => v s * min ((448 : ℝ) : EReal) (max ((-448 : ℝ) : EReal)
    (Ideal.exp2 (y s - ((Finset.range n).sup y - ((8 : ℝ) : EReal)))))) hn, sup_extend y hn h0]
  intro s hs
  have hc : min ((448 : ℝ) : EReal) (max ((-448 : ℝ) : EReal) 0) = 0 := by
    rw [max_eq_right (EReal.coe_nonpos.2 (by norm_num)), min_eq_right (EReal.coe_nonneg.2 (by norm_num))]
  show v s * _ = 0
  rw [hz s hs, hc, mul_zero]

/-- The reference's element. -/
def reference (σ : Fin 2048 → EReal) (v : Fin 2048 → EReal) (vs : EReal) : EReal :=
  Ideal.div ((∑ s, min ((448 : ℝ) : EReal) (max ((-448 : ℝ) : EReal)
      ((if vis s then Ideal.exp (σ s - Finset.univ.sup σ) else 0) * ((256 : ℝ) : EReal))) * v s) * ((1 / 256 : ℝ) : EReal) * vs)
    (∑ s, if vis s then Ideal.exp (σ s - Finset.univ.sup σ) else 0)

/-- The two elements are one, when the visible scores differ by the factor `log 2`. -/
theorem kernel_eq_reference (h0 : vis 0) (z : Fin 2048 → ℝ) (v : Fin 2048 → EReal) (vs : EReal) :
    kernel (masked vis z) v vs = reference vis (masked vis fun s => z s * Real.log 2) v vs := by
  have hln : 0 < Real.log 2 := Real.log_pos (by norm_num)
  -- the maximum is one of the visible scores
  obtain ⟨i, -, hi⟩ := Finset.exists_mem_eq_sup Finset.univ Finset.univ_nonempty (masked vis z)
  have hvi : vis i := by
    by_contra hn
    have h1 : masked vis z 0 ≤ Finset.univ.sup (masked vis z) := Finset.le_sup (Finset.mem_univ 0)
    rw [hi, masked, masked, if_pos h0, if_neg hn] at h1
    exact absurd (le_bot_iff.mp h1) (EReal.coe_ne_bot _)
  have hm : Finset.univ.sup (masked vis z) = (z i : EReal) := by rw [hi, masked, if_pos hvi]
  have hm' : Finset.univ.sup (masked vis fun s => z s * Real.log 2) = ((z i * Real.log 2 : ℝ) : EReal) := by
    have e : (masked vis fun s => z s * Real.log 2) = fun s => masked vis z s * ((Real.log 2 : ℝ) : EReal) := by
      funext s
      unfold masked
      by_cases h : vis s
      · rw [if_pos h, if_pos h, EReal.coe_mul]
      · rw [if_neg h, if_neg h, EReal.bot_mul_coe_of_pos hln]
    rw [e, ← sup_mul _ _ hln, hm, EReal.coe_mul]
  -- the unnormalised probabilities, as reals
  let e : Fin 2048 → ℝ := fun s => if vis s then Real.exp (z s * Real.log 2 - z i * Real.log 2) else 0
  have hk : ∀ s, Ideal.exp2 (masked vis z s - (Finset.univ.sup (masked vis z) - ((8 : ℝ) : EReal))) = ((e s * 256 : ℝ) : EReal) := by
    intro s
    rw [hm, ← EReal.coe_sub]
    by_cases h : vis s
    · rw [masked, if_pos h, ← EReal.coe_sub, Ideal.exp2_coe]
      refine congrArg _ ?_
      simp only [e, if_pos h]
      show (2 : ℝ) ^ (z s - (z i - 8)) = _
      rw [Real.rpow_def_of_pos (by norm_num : (0 : ℝ) < 2),
        show Real.log 2 * (z s - (z i - 8)) = (z s * Real.log 2 - z i * Real.log 2) + Real.log 2 * 8 by ring, Real.exp_add,
        ← Real.rpow_def_of_pos (by norm_num : (0 : ℝ) < 2)]
      norm_num
    · rw [masked, if_neg h, EReal.bot_sub, Ideal.exp2_bot]
      simp [e, h]
  have hr : ∀ s, (if vis s then Ideal.exp (masked vis (fun s => z s * Real.log 2) s
      - Finset.univ.sup (masked vis fun s => z s * Real.log 2)) else 0) = ((e s : ℝ) : EReal) := by
    intro s
    by_cases h : vis s
    · rw [if_pos h, hm', masked, if_pos h, ← EReal.coe_sub, Ideal.exp_coe]
      simp only [e, if_pos h]
    · rw [if_neg h]
      simp [e, h]
  have hpos : 0 < ∑ s, e s := by
    refine Finset.sum_pos' (fun s _ => ?_) ⟨i, Finset.mem_univ i, ?_⟩
    · by_cases h : vis s
      · simp only [e, if_pos h]; exact (Real.exp_pos _).le
      · simp [e, h]
    · simp only [e, if_pos hvi]; exact Real.exp_pos _
  unfold kernel reference
  simp only [hk, hr, ← EReal.coe_mul]
  rw [coe_sum, coe_sum, Ideal.div_coe (ne_of_gt hpos), Ideal.div_coe (by rw [← Finset.sum_mul]; positivity), one_mul]
  have hc : ∀ s, v s * min ((448 : ℝ) : EReal) (max ((-448 : ℝ) : EReal) ((e s * 256 : ℝ) : EReal))
      = min ((448 : ℝ) : EReal) (max ((-448 : ℝ) : EReal) ((e s * 256 : ℝ) : EReal)) * v s := fun s => mul_comm _ _
  simp only [hc]
  have hd : (1 / ∑ s, e s * 256 : ℝ) = 1 / 256 * (1 / ∑ s, e s) := by
    rw [← Finset.sum_mul]
    have := hpos.ne'
    field_simp
  rw [hd, EReal.coe_mul]
  ac_rfl

end Cert.Column

end
-- ==== Proof.Consts.lean ====
/- The values of the bit patterns the two programs print. -/
module

public import proofs.«01_k».proof.Defs
public import Idealize.ShloMosaic.PureOps.Ideal

@[expose] public section

noncomputable section

namespace Cert.Consts

open Idealize.ShloMosaic

theorem neg_inf : Ideal.ofBits .f32 0xFF800000#32 = ⊥ := by simp [Ideal.ofBits, Ideal.ieee, -EReal.coe_mul]
theorem zero : Ideal.ofBits .f32 0x00000000#32 = 0 := by simp [Ideal.ofBits, Ideal.ieee, -EReal.coe_mul]
theorem eight : Ideal.ofBits .f32 0x41000000#32 = ((8 : ℝ) : EReal) := by simp [Ideal.ofBits, Ideal.ieee, -EReal.coe_mul]; norm_num
theorem top_code : Ideal.ofBits .f32 0x43E00000#32 = ((448 : ℝ) : EReal) := by simp [Ideal.ofBits, Ideal.ieee, -EReal.coe_mul]; norm_num
theorem bottom_code : Ideal.ofBits .f32 0xC3E00000#32 = ((-448 : ℝ) : EReal) := by simp [Ideal.ofBits, Ideal.ieee, -EReal.coe_mul]; norm_num
theorem code_scale : Ideal.ofBits .f32 0x43800000#32 = ((256 : ℝ) : EReal) := by simp [Ideal.ofBits, Ideal.ieee, -EReal.coe_mul]; norm_num
theorem inv_code_scale : Ideal.ofBits .f32 0x3B800000#32 = ((1 / 256 : ℝ) : EReal) := by simp [Ideal.ofBits, Ideal.ieee, -EReal.coe_mul]; norm_num
theorem head_dim : Ideal.ofBits .f32 0x43000000#32 = ((128 : ℝ) : EReal) := by simp [Ideal.ofBits, Ideal.ieee, -EReal.coe_mul]; norm_num

/-- The kernel's logit scale, one over `log 2` and the root of 128. -/
theorem logit_scale : Named.named (F := Ideal) Cert.KernelIdeal.κ "logit_scale" (φ := .f32) 0x3E0293EE#32
    = (((Real.log 2)⁻¹ * (Real.sqrt 128)⁻¹ : ℝ) : EReal) :=
  IdealRules.named_const.ideal_named_scalar _ _ _ _ rfl

end Cert.Consts

end
-- ==== Proof.Steps.lean ====
/- The steps of one query block's attention over vectors, each read at an index: the logit scales, the partial maxima, the shift,
   the probabilities, their sums and their codes. The vectors are arbitrary: a step says what comes out of it when its operands
   hold what they should. Keys are counted by natural numbers, in groups of 64 that fold to eight partial results. -/
module

public import proofs.«01_k».proof.Proof.Gen.KernelIdeal.Value
public import proofs.«01_k».proof.Proof.Column
public import proofs.«01_k».proof.Proof.Consts
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen

/-! ## What a query block computes, row by row and key by key -/

/-- The partial maximum `u` of group `g`: over the keys of the group that are `u` modulo eight. -/
def part (lg : Fin 512 → Nat → EReal) (g : Nat) (u : Fin 8) (r : Fin 512) : EReal :=
  Finset.univ.sup fun x : Fin 8 => lg r (64 * g + (x.val * 8 + u.val))

/-- The partial maximum over the groups up to the `n`-th. -/
def top (lg : Fin 512 → Nat → EReal) : Nat → Fin 8 → Fin 512 → EReal
  | 0, u, r => part lg 0 u r
  | n + 1, u, r => max (top lg n u r) (part lg (n + 1) u r)

/-- What is taken off every logit: eight less than the row's maximum. -/
def shift (lg : Fin 512 → Nat → EReal) (n : Nat) (r : Fin 512) : EReal :=
  (Finset.univ.sup fun u : Fin 8 => top lg n u r) - ((8 : ℝ) : EReal)

/-- A probability, 256 times the reference's. -/
def weight (lg : Fin 512 → Nat → EReal) (n : Nat) (r : Fin 512) (s : Nat) : EReal := Ideal.exp2 (lg r s - shift lg n r)

/-- The partial sum of probabilities over the groups up to the `g`-th. -/
def mass (w : Fin 512 → Nat → EReal) : Nat → Fin 8 → Fin 512 → EReal
  | 0, u, r => ∑ x : Fin 8, w r (64 * 0 + (x.val * 8 + u.val))
  | g + 1, u, r => mass w g u r + ∑ x : Fin 8, w r (64 * (g + 1) + (x.val * 8 + u.val))

/-- The clipped probability. -/
def code (w : Fin 512 → Nat → EReal) (r : Fin 512) (s : Nat) : EReal :=
  min ((448 : ℝ) : EReal) (max ((-448 : ℝ) : EReal) (w r s))

/-- A logit from its score and the two scales. -/
def scaled (sc : Fin 512 → Nat → EReal) (qs : Fin 4 → EReal) (ks : Nat → EReal) (r : Fin 512) (s : Nat) : EReal :=
  sc r s * (qs ⟨r.val % 4, by omega⟩ * ks (s / 64))

/-! ## The steps -/

/-- Four copies of 128 lanes laid side by side, each depending on the lane modulo four, depend on the column modulo four. -/
theorem lanes (f : Fin 4 → EReal) (r : Fin 512) :
    (if _ : r.val < 128 then f ⟨r.val % 4, by omega⟩ else if _ : r.val - 128 < 128 then f ⟨(r.val - 128) % 4, by omega⟩
      else if _ : r.val - 128 - 128 < 128 then f ⟨(r.val - 128 - 128) % 4, by omega⟩ else f ⟨(r.val - 128 - 128 - 128) % 4, by omega⟩)
    = f ⟨r.val % 4, by omega⟩ := by
  split_ifs <;> exact congrArg f (Fin.ext (by first | rfl | (dsimp only; omega)))

theorem exp2_def (x : EReal) : FloatOps.exp2 (F := Ideal) (φ := .f32) x = Ideal.exp2 x := rfl

/-- The logit scales of one group of keys, as printed. -/
def scales (Q : FVec Ideal S8x128 .f32) (K : FVec Ideal S1x128 .f32) : FVec Ideal S8x512 .f32 :=
  let a := mulf Q (broadcastTo S8x128 K broadcasts_S1x128_S8x128)
  concatenate S8x512 1 [⟨S8x128, a⟩, ⟨S8x128, a⟩, ⟨S8x128, a⟩, ⟨S8x128, a⟩] concatenates_S8x128_S8x128_S8x128_S8x128_S8x512_d1

variable {sc : Fin 512 → Nat → EReal} {qs : Fin 4 → EReal} {ks : Nat → EReal}

theorem scales_apply {Q : FVec Ideal S8x128 .f32} {K : FVec Ideal S1x128 .f32} {g : Nat}
    (hQ : ∀ u l, Q (ix2 u l) = qs ⟨l.val % 4, by omega⟩) (hK : ∀ l, K (ix2 0 l) = ks g) (u : Fin 8) (r : Fin 512) :
    scales Q K (ix2 u r) = qs ⟨r.val % 4, by omega⟩ * ks g := by
  pointwise [scales, hQ, hK]
  exact lanes (fun x => qs x * ks g) r

/-- One group's scaled partial maximum, as printed. -/
def groupMax (Z : FVec Ideal S64x512 .f32) (Q : FVec Ideal S8x128 .f32) (K : FVec Ideal S1x128 .f32) : FVec Ideal S8x512 .f32 :=
  mulf (multiReduction .maximumf [0] S8x512 (shapeCast S8x8x512 Z shapeCasts_S64x512_S8x8x512) 0xFF800000#32 reduces_S8x8x512_S8x512
    (.inl rfl) rfl) (scales Q K)

variable (hp : ∀ x n, ∃ a : ℝ, 0 < a ∧ qs x * ks n = (a : EReal))
include hp

theorem groupMax_apply {Z : FVec Ideal S64x512 .f32} {Q : FVec Ideal S8x128 .f32} {K : FVec Ideal S1x128 .f32} {g : Nat}
    (hZ : ∀ s r, Z (ix2 s r) = sc r (64 * g + s.val))
    (hQ : ∀ u l, Q (ix2 u l) = qs ⟨l.val % 4, by omega⟩) (hK : ∀ l, K (ix2 0 l) = ks g) (u : Fin 8) (r : Fin 512) :
    groupMax Z Q K (ix2 u r) = part (scaled sc qs ks) g u r := by
  obtain ⟨a, ha, h⟩ := hp ⟨r.val % 4, by omega⟩ g
  unfold groupMax
  pointwise [hZ, scales_apply hQ hK, Cert.Consts.neg_inf]
  rw [Column.fold_max_bot, h, Column.sup_mul _ _ ha]
  unfold part scaled
  refine Finset.sup_congr rfl fun x _ => ?_
  rw [show (64 * g + (x.val * 8 + u.val)) / 64 = g by omega, h]

/-- The first group. -/
theorem top_first {Z : FVec Ideal S64x512 .f32} {Q : FVec Ideal S8x128 .f32} {K : FVec Ideal S1x128 .f32}
    (hZ : ∀ s r, Z (ix2 s r) = sc r (64 * 0 + s.val))
    (hQ : ∀ u l, Q (ix2 u l) = qs ⟨l.val % 4, by omega⟩) (hK : ∀ l, K (ix2 0 l) = ks 0) (u : Fin 8) (r : Fin 512) :
    groupMax Z Q K (ix2 u r) = top (scaled sc qs ks) 0 u r := groupMax_apply hp hZ hQ hK u r

/-- A further group. -/
theorem top_next {M : FVec Ideal S8x512 .f32} {Z : FVec Ideal S64x512 .f32} {Q : FVec Ideal S8x128 .f32} {K : FVec Ideal S1x128 .f32} {n : Nat}
    (hM : ∀ u r, M (ix2 u r) = top (scaled sc qs ks) n u r) (hZ : ∀ s r, Z (ix2 s r) = sc r (64 * (n + 1) + s.val))
    (hQ : ∀ u l, Q (ix2 u l) = qs ⟨l.val % 4, by omega⟩) (hK : ∀ l, K (ix2 0 l) = ks (n + 1)) (u : Fin 8) (r : Fin 512) :
    maximumf M (groupMax Z Q K) (ix2 u r) = top (scaled sc qs ks) (n + 1) u r :=
  congrArg₂ max (hM u r) (groupMax_apply hp hZ hQ hK u r)

omit hp

/-- The shift, as printed. -/
def shiftOf (M : FVec Ideal S8x512 .f32) : FVec Ideal S1x512 .f32 :=
  subf (shapeCast S1x512 (multiReduction .maximumf [0] S512 M 0xFF800000#32 reduces_S8x512_S512 (.inl rfl) rfl) shapeCasts_S512_S1x512)
    (broadcast S1x512 (Scalar.ofBits .f32 0x41000000#32))

theorem shift_apply {lg : Fin 512 → Nat → EReal} {M : FVec Ideal S8x512 .f32} {n : Nat}
    (hM : ∀ u r, M (ix2 u r) = top lg n u r) (r : Fin 512) : shiftOf M (ix2 0 r) = shift lg n r := by
  unfold shiftOf shift
  pointwise [hM, Cert.Consts.neg_inf, Cert.Consts.eight]
  rw [Column.fold_max_bot]

/-- The probabilities of one group, as printed. -/
def prob (Y : FVec Ideal S1x64x512 .f32) (Q : FVec Ideal S8x128 .f32) (K : FVec Ideal S1x128 .f32) (H : FVec Ideal S1x512 .f32) :
    FVec Ideal S64x512 .f32 :=
  exp2 (subf (mulf (shapeCast S64x512 Y shapeCasts_S1x64x512_S64x512)
    (shapeCast S64x512 (broadcastTo S8x8x512 (shapeCast S1x8x512 (shapeCast S1x8x512 (scales Q K) shapeCasts_S8x512_S1x8x512)
      shapeCasts_S1x8x512_S1x8x512) broadcasts_S1x8x512_S8x8x512) shapeCasts_S8x8x512_S64x512))
    (broadcastTo S64x512 H broadcasts_S1x512_S64x512))

theorem prob_apply {Y : FVec Ideal S1x64x512 .f32} {Q : FVec Ideal S8x128 .f32} {K : FVec Ideal S1x128 .f32}
    {H : FVec Ideal S1x512 .f32} {g n : Nat}
    (hY : ∀ s r, Y (ix3 0 s r) = sc r (64 * g + s.val))
    (hQ : ∀ u l, Q (ix2 u l) = qs ⟨l.val % 4, by omega⟩) (hK : ∀ l, K (ix2 0 l) = ks g)
    (hH : ∀ r, H (ix2 0 r) = shift (scaled sc qs ks) n r) (s : Fin 64) (r : Fin 512) :
    prob Y Q K H (ix2 s r) = weight (scaled sc qs ks) n r (64 * g + s.val) := by
  unfold prob weight scaled
  pointwise [hY, scales_apply hQ hK, hH, exp2_def]
  rw [show (64 * g + s.val) / 64 = g by omega]
  rfl

/-- One group's partial sums, as printed. -/
def groupSum (W : FVec Ideal S64x512 .f32) : FVec Ideal S8x512 .f32 :=
  multiReduction .add [0] S8x512 (shapeCast S8x8x512 W shapeCasts_S64x512_S8x8x512) 0x00000000#32 reduces_S8x8x512_S8x512 (.inl rfl) rfl

theorem groupSum_apply {w : Fin 512 → Nat → EReal} {W : FVec Ideal S64x512 .f32} {g : Nat}
    (hW : ∀ s r, W (ix2 s r) = w r (64 * g + s.val)) (u : Fin 8) (r : Fin 512) :
    groupSum W (ix2 u r) = ∑ x : Fin 8, w r (64 * g + (x.val * 8 + u.val)) := by
  unfold groupSum
  pointwise [hW]

theorem mass_first {w : Fin 512 → Nat → EReal} {W : FVec Ideal S64x512 .f32}
    (hW : ∀ s r, W (ix2 s r) = w r (64 * 0 + s.val)) (u : Fin 8) (r : Fin 512) :
    addf (broadcast S8x512 (Scalar.ofBits .f32 0x00000000#32)) (groupSum W) (ix2 u r) = mass w 0 u r := by
  pointwise [groupSum_apply hW, Cert.Consts.zero]
  simp [mass]

theorem mass_next {w : Fin 512 → Nat → EReal} {M : FVec Ideal S8x512 .f32} {W : FVec Ideal S64x512 .f32} {g : Nat}
    (hM : ∀ u r, M (ix2 u r) = mass w g u r) (hW : ∀ s r, W (ix2 s r) = w r (64 * (g + 1) + s.val)) (u : Fin 8) (r : Fin 512) :
    addf M (groupSum W) (ix2 u r) = mass w (g + 1) u r :=
  congrArg₂ (· + ·) (hM u r) (groupSum_apply hW u r)

/-- The stored codes of one group, as printed. -/
def codesOf (W : FVec Ideal S64x512 .f32) : FVec Ideal S1x64x512 .fp8e4m3 :=
  shapeCast S1x64x512 (truncf .fp8e4m3 (minimumf (broadcast S64x512 (Scalar.ofBits .f32 0x43E00000#32))
    (maximumf (broadcast S64x512 (Scalar.ofBits .f32 0xC3E00000#32)) W)) bitsLt_fp8e4m3_f32) shapeCasts_S64x512_S1x64x512

theorem codes_apply {w : Fin 512 → Nat → EReal} {W : FVec Ideal S64x512 .f32} {o : Nat}
    (hW : ∀ s r, W (ix2 s r) = w r (o + s.val)) (s : Fin 64) (r : Fin 512) :
    codesOf W (ix3 0 s r) = code w r (o + s.val) := by
  unfold codesOf code
  pointwise [hW, Cert.Consts.top_code, Cert.Consts.bottom_code]

/-- One head's rows of the output, as printed. -/
def headOf (O : FVec Ideal S1x128x128 .f32) (V : FVec Ideal S1x128 .f32) : FVec Ideal S1x128x128 .bf16 :=
  shapeCast S1x128x128 (truncf .bf16 (mulf (shapeCast S128x128 O shapeCasts_S1x128x128_S128x128)
    (broadcastTo S128x128 V broadcasts_S1x128_S128x128)) bitsLt_bf16_f32) shapeCasts_S128x128_S1x128x128

theorem head_apply (O : FVec Ideal S1x128x128 .f32) (V : FVec Ideal S1x128 .f32) (t d : Fin 128) :
    headOf O V (ix3 0 t d) = O (ix3 0 t d) * V (ix2 0 d) := by
  unfold headOf
  pointwise

end Cert.KernelIdeal.Block

end
-- ==== Proof.Reads.lean ====
/- How the body reads its scratch back: the scores of a group from the chunk that holds them, the codes of a block from the stores
   of its groups, one head's rows from the block's rows; and the scores of a chunk of keys over arbitrary operands. -/
module

public import proofs.«01_k».proof.Proof.Steps

@[expose] public section

set_option maxRecDepth 16384

noncomputable section

open Idealize.ShloMosaic Idealize.ShloMosaic.TcCoe Idealize.SL.Sem

namespace Cert.KernelIdeal.Block

open Cert.KernelIdeal Cert.KernelIdeal.Gen

/-! ## Loads and stores -/

/-- A load that reads, at `j`, the place the last store wrote from its index `x`, reads that element of the store. -/
theorem readCov_piece {s : Shape} {e : EltTy} {κ : Kind} {sp : Space} (v : View sig κ sp s e) (r : Rect s)
    (w : r.shape.Idx → Elt Ideal e) (L : List (View.Piece (Elt Ideal) s e)) (B : LoadRect s) (j : B.shape.Idx) (x : r.shape.Idx)
    (h : ∀ a, (B.idx j a).val = (r.emb x a).val) : v.readCov (⟨r, w⟩ :: L) B j = w x := by
  rw [View.readCov_eq_canon']
  show View.canon _ (B.idx j) = _
  rw [show B.idx j = r.emb x from funext fun a => Fin.ext (h a)]
  exact View.canon_cons_emb ..

/-- A load that reads, at `j`, a place outside the last store, reads what the earlier stores left. -/
theorem readCov_skip {s : Shape} {e : EltTy} {κ : Kind} {sp : Space} (v : View sig κ sp s e) (r : Rect s)
    (w : r.shape.Idx → Elt Ideal e) (L : List (View.Piece (Elt Ideal) s e)) (B : LoadRect s) (j : B.shape.Idx)
    (h : B.idx j ∉ r.set) : v.readCov (⟨r, w⟩ :: L) B j = v.readCov L B j := by
  rw [View.readCov_eq_canon', View.readCov_eq_canon']
  exact View.canon_cons_of_not_mem _ _ h

/-- An element the last store wrote. -/
theorem canon_piece {s : Shape} {e : EltTy} (r : Rect s) (w : r.shape.Idx → Elt Ideal e) (L : List (View.Piece (Elt Ideal) s e))
    (y : s.Idx) (x : r.shape.Idx) (h : ∀ a, (y a).val = (r.emb x a).val) : View.canon (⟨r, w⟩ :: L) y = w x := by
  rw [show y = r.emb x from funext fun a => Fin.ext (h a)]
  exact View.canon_cons_emb ..

variable {κ : Kind} {sp : Space}

/-- Rows of a stored matrix, from row `o`. -/
theorem rows_read {e : EltTy} {N M n : Nat} {v : View sig κ sp ⟨2, ![N, M]⟩ e}
    {i1 : ∀ a : Fin 2, (![0, 0] : Fin 2 → Nat) a + (![N, M] : Fin 2 → Nat) a ≤ (![N, M] : Fin 2 → Nat) a} {o : Nat} {i2 : ∀ a : Fin 2, (![o, 0] : Fin 2 → Nat) a + (![n, M] : Fin 2 → Nat) a ≤ (![N, M] : Fin 2 → Nat) a}
    {w : (Rect.unit (s := ⟨2, ![N, M]⟩) ![0, 0] ![N, M] i1).shape.Idx → Elt Ideal e} {L : List (View.Piece (Elt Ideal) ⟨2, ![N, M]⟩ e)}
    (h : o + n ≤ N) (s : Fin n) (l : Fin M) :
    v.readCov (⟨Rect.unit ![0, 0] ![N, M] i1, w⟩ :: L) (Rect.unit (s := ⟨2, ![N, M]⟩) ![o, 0] ![n, M] i2).toLoadRect (ix2 s l)
      = w (ix2 (⟨o + s.val, by omega⟩ : Fin N) l) := by
  refine readCov_piece _ _ _ _ _ _ _ fun a => ?_
  match a with
  | ⟨0, _⟩ => show o + 1 * s.val = 0 + 1 * (o + s.val); omega
  | ⟨1, _⟩ => rfl

/-- Leading columns of a stored matrix. -/
theorem cols_read {e : EltTy} {N M n : Nat} {v : View sig κ sp ⟨2, ![N, M]⟩ e}
    {i1 : ∀ a : Fin 2, (![0, 0] : Fin 2 → Nat) a + (![N, M] : Fin 2 → Nat) a ≤ (![N, M] : Fin 2 → Nat) a} {i2 : ∀ a : Fin 2, (![0, 0] : Fin 2 → Nat) a + (![N, n] : Fin 2 → Nat) a ≤ (![N, M] : Fin 2 → Nat) a}
    {w : (Rect.unit (s := ⟨2, ![N, M]⟩) ![0, 0] ![N, M] i1).shape.Idx → Elt Ideal e} {L : List (View.Piece (Elt Ideal) ⟨2, ![N, M]⟩ e)}
    (h : n ≤ M) (d : Fin N) (s : Fin n) :
    v.readCov (⟨Rect.unit ![0, 0] ![N, M] i1, w⟩ :: L) (Rect.unit (s := ⟨2, ![N, M]⟩) ![0, 0] ![N, n] i2).toLoadRect (ix2 d s)
      = w (ix2 d (⟨s.val, by omega⟩ : Fin M)) := by
  refine readCov_piece _ _ _ _ _ _ _ fun a => ?_
  match a with
  | ⟨0, _⟩ => rfl
  | ⟨1, _⟩ => rfl

/-! ## Scores, codes and rows kept in scratch -/

variable {f : Fin 512 → Nat → EReal}

/-- A group of scores, read from the chunk that holds it. -/
theorem scores_hit {v : View sig κ sp S2x2048x512 .f32} {σ c n o : Nat} {i1 i2}
    {w : (Rect.unit (s := S2x2048x512) ![σ, c, 0] ![1, n, 512] i1).shape.Idx → EReal} {L : List (View.Piece (Elt Ideal) S2x2048x512 .f32)}
    (h1 : c ≤ o) (h2 : o + 64 ≤ c + n) (hw : ∀ (s : Fin n) (r : Fin 512), w (ix3 0 s r) = f r (c + s.val)) (s : Fin 64) (r : Fin 512) :
    v.readCov (⟨Rect.unit ![σ, c, 0] ![1, n, 512] i1, w⟩ :: L)
      (Rect.unit (s := S2x2048x512) ![σ, o, 0] ![1, 64, 512] i2).toLoadRect (ix3 0 s r) = f r (o + s.val) := by
  refine (readCov_piece _ _ _ _ _ _ (ix3 (0 : Fin 1) (⟨o - c + s.val, by omega⟩ : Fin n) r) fun a => ?_).trans ?_
  · match a with
    | ⟨0, _⟩ => rfl
    | ⟨1, _⟩ => show o + 1 * s.val = c + 1 * (o - c + s.val); omega
    | ⟨2, _⟩ => rfl
  · rw [hw]
    exact congrArg (f r) (by show c + (o - c + s.val) = _; omega)

/-- A group of scores, past a later chunk. -/
theorem scores_skip {v : View sig κ sp S2x2048x512 .f32} {σ c n o : Nat} {i1 i2}
    {w : (Rect.unit (s := S2x2048x512) ![σ, c, 0] ![1, n, 512] i1).shape.Idx → EReal} {L : List (View.Piece (Elt Ideal) S2x2048x512 .f32)}
    (h : o + 64 ≤ c) {s : Fin 64} {r : Fin 512} {y : EReal}
    (hL : v.readCov L (Rect.unit (s := S2x2048x512) ![σ, o, 0] ![1, 64, 512] i2).toLoadRect (ix3 0 s r) = y) :
    v.readCov (⟨Rect.unit ![σ, c, 0] ![1, n, 512] i1, w⟩ :: L)
      (Rect.unit (s := S2x2048x512) ![σ, o, 0] ![1, 64, 512] i2).toLoadRect (ix3 0 s r) = y := by
  refine (readCov_skip _ _ _ _ _ _ ?_).trans hL
  rw [Rect.mem_set_unit]
  intro hm
  have h1 : c ≤ o + 1 * s.val := (hm 1).1
  omega

/-- The codes of a block, read whole, as the stores left them. -/
theorem codes_start {v : View sig κ sp S2x2048x512 .fp8e4m3} {σ n : Nat} {i2} {L : List (View.Piece (Elt Ideal) S2x2048x512 .fp8e4m3)}
    (hσ : σ < 2) (hn : n ≤ 2048) (s : Fin n) (r : Fin 512) :
    v.readCov L (Rect.unit (s := S2x2048x512) ![σ, 0, 0] ![1, n, 512] i2).toLoadRect (ix3 0 s r)
      = View.canon L (ix3 (⟨σ, hσ⟩ : Fin 2) (⟨s.val, by omega⟩ : Fin 2048) r) := by
  rw [View.readCov_eq_canon']
  show View.canon _ (_ : S2x2048x512.Idx) = _
  refine congrArg (View.canon L) (funext fun a => Fin.ext ?_)
  match a with
  | ⟨0, _⟩ => rfl
  | ⟨1, _⟩ => show 0 + 1 * s.val = s.val; omega
  | ⟨2, _⟩ => show 0 + 1 * r.val = r.val; omega

/-- One store of codes: it holds its own group, and leaves the groups before it. -/
theorem codes_step {σ o : Nat} {i1} {w : (Rect.unit (s := S2x2048x512) ![σ, o, 0] ![1, 64, 512] i1).shape.Idx → EReal}
    {L : List (View.Piece (Elt Ideal) S2x2048x512 .fp8e4m3)} {hσ : σ < 2} {s : Fin 2048} {r : Fin 512}
    (hw : ∀ (s : Fin 64) (r : Fin 512), w (ix3 0 s r) = f r (o + s.val)) (hs : s.val < o + 64)
    (hL : s.val < o → View.canon L (ix3 (⟨σ, hσ⟩ : Fin 2) s r) = f r s.val) :
    View.canon (⟨Rect.unit ![σ, o, 0] ![1, 64, 512] i1, w⟩ :: L) (ix3 (⟨σ, hσ⟩ : Fin 2) s r) = f r s.val := by
  by_cases h : s.val < o
  · refine (View.canon_cons_of_not_mem _ _ ?_).trans (hL h)
    rw [Rect.mem_set_unit]
    intro hm
    have h1 : o ≤ s.val := (hm 1).1
    omega
  · refine (canon_piece _ _ _ _ (ix3 (0 : Fin 1) (⟨s.val - o, by omega⟩ : Fin 64) r) fun a => ?_).trans ?_
    · match a with
      | ⟨0, _⟩ => rfl
      | ⟨1, _⟩ => show s.val = o + 1 * (s.val - o); omega
      | ⟨2, _⟩ => show r.val = 0 + 1 * r.val; omega
    · rw [hw]
      exact congrArg (f r) (by show o + (s.val - o) = _; omega)

/-- One head's rows: every fourth row of the block. -/
theorem head_read {v : View sig κ sp S2x512x128 .f32} {σ h : Nat} {i1 i2}
    {w : (Rect.unit (s := S2x512x128) ![σ, 0, 0] ![1, 512, 128] i1).shape.Idx → EReal} {L : List (View.Piece (Elt Ideal) S2x512x128 .f32)}
    (hh : h < 4) (t d : Fin 128) :
    v.readCov (⟨Rect.unit ![σ, 0, 0] ![1, 512, 128] i1, w⟩ :: L) (⟨![σ, h, 0], ![1, 128, 128], ![1, 4, 1], i2⟩ : LoadRect S2x512x128) (ix3 0 t d)
      = w (ix3 0 (⟨4 * t.val + h, by omega⟩ : Fin 512) d) := by
  refine readCov_piece _ _ _ _ _ _ _ fun a => ?_
  match a with
  | ⟨0, _⟩ => rfl
  | ⟨1, _⟩ => show h + 4 * t.val = 0 + 1 * (4 * t.val + h); omega
  | ⟨2, _⟩ => rfl

/-- The four stores of one query block into the output: they hold the block's tokens, and leave the tokens before it. -/
theorem out_step {o : Nat} {i0 i1 i2 i3} {F : Nat → Nat → EReal}
    {w0 : (Rect.unit (s := S1x2048x512) ![0, o, 0] ![1, 128, 128] i0).shape.Idx → EReal}
    {w1 : (Rect.unit (s := S1x2048x512) ![0, o, 128] ![1, 128, 128] i1).shape.Idx → EReal}
    {w2 : (Rect.unit (s := S1x2048x512) ![0, o, 256] ![1, 128, 128] i2).shape.Idx → EReal}
    {w3 : (Rect.unit (s := S1x2048x512) ![0, o, 384] ![1, 128, 128] i3).shape.Idx → EReal}
    {L : List (View.Piece (Elt Ideal) S1x2048x512 .bf16)} {T : Fin 2048} {l : Fin 512}
    (h0 : ∀ t d : Fin 128, w0 (ix3 0 t d) = F (o + t.val) (0 + d.val)) (h1 : ∀ t d : Fin 128, w1 (ix3 0 t d) = F (o + t.val) (128 + d.val))
    (h2 : ∀ t d : Fin 128, w2 (ix3 0 t d) = F (o + t.val) (256 + d.val)) (h3 : ∀ t d : Fin 128, w3 (ix3 0 t d) = F (o + t.val) (384 + d.val))
    (hT : T.val < o + 128) (hL : T.val < o → View.canon L (ix3 (0 : Fin 1) T l) = F T.val l.val) :
    View.canon (⟨Rect.unit ![0, o, 384] ![1, 128, 128] i3, w3⟩ :: ⟨Rect.unit ![0, o, 256] ![1, 128, 128] i2, w2⟩
      :: ⟨Rect.unit ![0, o, 128] ![1, 128, 128] i1, w1⟩ :: ⟨Rect.unit ![0, o, 0] ![1, 128, 128] i0, w0⟩ :: L) (ix3 (0 : Fin 1) T l)
      = F T.val l.val := by
  have step : ∀ (p : Nat) (ip) (w : (Rect.unit (s := S1x2048x512) ![0, o, p] ![1, 128, 128] ip).shape.Idx → EReal)
      (M : List (View.Piece (Elt Ideal) S1x2048x512 .bf16)), (∀ t d : Fin 128, w (ix3 0 t d) = F (o + t.val) (p + d.val)) →
      l.val < p + 128 → (T.val < o ∨ l.val < p → View.canon M (ix3 (0 : Fin 1) T l) = F T.val l.val) →
      View.canon (⟨Rect.unit ![0, o, p] ![1, 128, 128] ip, w⟩ :: M) (ix3 (0 : Fin 1) T l) = F T.val l.val := by
    intro p ip w M hw hl hM
    by_cases h : T.val < o ∨ l.val < p
    · refine (View.canon_cons_of_not_mem _ _ ?_).trans (hM h)
      rw [Rect.mem_set_unit]
      intro hm
      have e1 : o ≤ T.val := (hm 1).1
      have e2 : p ≤ l.val := (hm 2).1
      omega
    · refine (canon_piece _ _ _ _ (ix3 (0 : Fin 1) (⟨T.val - o, by omega⟩ : Fin 128) (⟨l.val - p, by omega⟩ : Fin 128)) fun a => ?_).trans ?_
      · match a with
        | ⟨0, _⟩ => rfl
        | ⟨1, _⟩ => show T.val = o + 1 * (T.val - o); omega
        | ⟨2, _⟩ => show l.val = p + 1 * (l.val - p); omega
      · rw [hw]
        exact congrArg₂ F (by show o + (T.val - o) = _; omega) (by show p + (l.val - p) = _; omega)
  have skip : ∀ (p : Nat) (ip) (w : (Rect.unit (s := S1x2048x512) ![0, o, p] ![1, 128, 128] ip).shape.Idx → EReal)
      (M : List (View.Piece (Elt Ideal) S1x2048x512 .bf16)), (T.val < o ∨ l.val < p) → View.canon M (ix3 (0 : Fin 1) T l) = F T.val l.val →
      View.canon (⟨Rect.unit ![0, o, p] ![1, 128, 128] ip, w⟩ :: M) (ix3 (0 : Fin 1) T l) = F T.val l.val := by
    intro p ip w M h hM
    refine (View.canon_cons_of_not_mem _ _ ?_).trans hM
    rw [Rect.mem_set_unit]
    intro hm
    have e1 : o ≤ T.val := (hm 1).1
    have e2 : p ≤ l.val := (hm 2).1
    omega
  by_cases hT' : T.val < o
  · exact skip _ _ _ _ (.inl hT') (skip _ _ _ _ (.inl hT') (skip _ _ _ _ (.inl hT') (skip _ _ _ _ (.inl hT') (hL hT'))))
  · have hl := l.isLt
    exact step 384 _ _ _ h3 (by omega) fun h => step 256 _ _ _ h2 (by omega) fun h => step 128 _ _ _ h1 (by omega) fun h =>
      step 0 _ _ _ h0 (by omega) fun h => by omega

end Cert.KernelIdeal.Block

end
-- ==== Proof.Chunks.lean ====
/- The scores of a chunk of keys against a query block, over arbitrary operands: raw, and masked where the chunk meets the block's own
   tokens. A chunk holds 128, 256, 384 or 512 keys; the last 128 keys of a block's last chunk are the masked ones. -/
module

public import proofs.«01_k».proof.Proof.Reads

@[expose] public section

set_option maxRecDepth 16384

noncomputable section

open Idealize.ShloMosaic Idealize.ShloMosaic.TcCoe Idealize.SL.Sem

namespace Cert.KernelIdeal.Block

open Cert.KernelIdeal Cert.KernelIdeal.Gen

/-- The mask: a key is visible to a row when it is no later than the row's token. -/
theorem visible_apply (s : Fin 128) (r : Fin 512) : k0_pay3 (ix2 s r) = BitVec.ofBool (decide (s.val ≤ r.val / 4)) := by
  pointwise [k0_pay3]
  have h : ∀ r : Fin 512, Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32)))
          (Scalar.subi (Scalar.extui (Scalar.cmpi .sgt 4#32 0#32)) (Scalar.extui (Scalar.cmpi .slt 4#32 0#32))))
        (IntOp.cmpi .ne (IntOp.remsi .vector (BitVec.ofNat 32 r.val) 4#32) 0#32))
      (IntOp.subi (IntOp.divsi .vector (BitVec.ofNat 32 r.val) 4#32) 1#32)
      (IntOp.divsi .vector (BitVec.ofNat 32 r.val) 4#32) = BitVec.ofNat 32 (r.val / 4) := by decide +kernel
  rw [h r, WordCmp.cmpi_sle_ofNat (by omega) (by omega)]

/-- A score before the mask: the key against the query, and against the mean over its scale. -/
def rawScore (k : Nat → Fin 128 → EReal) (q : Fin 512 → Fin 128 → EReal) (mm : Fin 4 → Fin 128 → EReal) (r : Fin 512) (s : Nat) : EReal :=
  (∑ d : Fin 128, k s d * q r d) + ∑ d : Fin 128, k s d * mm ⟨r.val % 4, by omega⟩ d

/-- A masked score of query block `i`. -/
def maskedScore (i : Nat) (f : Fin 512 → Nat → EReal) (r : Fin 512) (s : Nat) : EReal := if s ≤ 128 * i + r.val / 4 then f r s else ⊥

variable {k : Nat → Fin 128 → EReal} {q : Fin 512 → Fin 128 → EReal} {mm : Fin 4 → Fin 128 → EReal} {f : Fin 512 → Nat → EReal} {i c : Nat}

/-- The masked rows of a chunk, as printed. -/
theorem mask_apply {X : FVec Ideal S128x512 .f32} (hX : ∀ s r, X (ix2 s r) = f r (c + s.val)) (hc : c = 128 * i) (s : Fin 128) (r : Fin 512) :
    select k0_pay3 X (broadcast S128x512 (Scalar.ofBits .f32 0xFF800000#32)) (ix2 s r) = maskedScore i f r (c + s.val) := by
  unfold maskedScore
  pointwise [visible_apply, hX, Cert.Consts.neg_inf]
  exact if_congr (by omega) rfl rfl

/-- A chunk before the block's own tokens is not masked. -/
theorem whole_apply {Y : FVec Ideal S512x512 .f32} (hY : ∀ s r, Y (ix2 s r) = f r (c + s.val)) (hc : c + 512 ≤ 128 * i) (s : Fin 512) (r : Fin 512) :
    Y (ix2 s r) = maskedScore i f r (c + s.val) := by
  rw [hY, maskedScore, if_pos (by omega)]

/-! ## Chunks of 128 keys -/

theorem raw128_apply {K8 : FVec Ideal S128x128 .fp8e4m3} {K16 : FVec Ideal S128x128 .bf16} {Q : FVec Ideal S512x128 .fp8e4m3}
    {M : FVec Ideal S128x128 .bf16} (h8 : ∀ s d, K8 (ix2 s d) = k (c + s.val) d) (h16 : ∀ s d, K16 (ix2 s d) = k (c + s.val) d)
    (hQ : ∀ r d, Q (ix2 r d) = q r d) (hM : ∀ l d, M (ix2 l d) = mm ⟨l.val % 4, by omega⟩ d) (s : Fin 128) (r : Fin 512) :
    addf (matmul dot_S128x128_S512x128_S128x512_1_1_0_0_n_n none K8 Q (constant S128x512 .f32 0x00000000#32))
      (let a := matmul dot_S128x128_S128x128_S128x128_1_1_0_0_n_n none K16 M (constant S128x128 .f32 0x00000000#32)
       concatenate S128x512 1 [⟨S128x128, a⟩, ⟨S128x128, a⟩, ⟨S128x128, a⟩, ⟨S128x128, a⟩]
        concatenates_S128x128_S128x128_S128x128_S128x128_S128x512_d1) (ix2 s r) = rawScore k q mm r (c + s.val) := by
  pointwise [h8, h16, hQ, hM]
  exact congrArg _ (lanes (fun g => ∑ d : Fin 128, k (c + s.val) d * mm g d) r)

theorem cut128_apply {Y : FVec Ideal S128x512 .f32} {t o : Nat} {h} (hY : ∀ s r, Y (ix2 s r) = f r (c + s.val)) (ho : c + t = o) (s : Fin 64) (r : Fin 512) :
    extractStridedSlice S64x512 ![t, 0] Y h (ix2 s r) = f r (o + s.val) := by
  subst ho
  pointwise [hY]
  exact congrArg (f r) (by first | omega | (dsimp only; omega) | simp <;> omega)

theorem store128_apply {Y : FVec Ideal S128x512 .f32} (hY : ∀ s r, Y (ix2 s r) = f r (c + s.val)) (s : Fin 128) (r : Fin 512) :
    shapeCast S1x128x512 Y shapeCasts_S128x512_S1x128x512 (ix3 0 s r) = f r (c + s.val) := by
  pointwise [hY]

/-! ## Chunks of 256 keys -/

theorem raw256_apply {K8 : FVec Ideal S256x128 .fp8e4m3} {K16 : FVec Ideal S256x128 .bf16} {Q : FVec Ideal S512x128 .fp8e4m3}
    {M : FVec Ideal S128x128 .bf16} (h8 : ∀ s d, K8 (ix2 s d) = k (c + s.val) d) (h16 : ∀ s d, K16 (ix2 s d) = k (c + s.val) d)
    (hQ : ∀ r d, Q (ix2 r d) = q r d) (hM : ∀ l d, M (ix2 l d) = mm ⟨l.val % 4, by omega⟩ d) (s : Fin 256) (r : Fin 512) :
    addf (matmul dot_S256x128_S512x128_S256x512_1_1_0_0_n_n none K8 Q (constant S256x512 .f32 0x00000000#32))
      (let a := matmul dot_S256x128_S128x128_S256x128_1_1_0_0_n_n none K16 M (constant S256x128 .f32 0x00000000#32)
       concatenate S256x512 1 [⟨S256x128, a⟩, ⟨S256x128, a⟩, ⟨S256x128, a⟩, ⟨S256x128, a⟩]
        concatenates_S256x128_S256x128_S256x128_S256x128_S256x512_d1) (ix2 s r) = rawScore k q mm r (c + s.val) := by
  pointwise [h8, h16, hQ, hM]
  exact congrArg _ (lanes (fun g => ∑ d : Fin 128, k (c + s.val) d * mm g d) r)

theorem cut256_apply {Y : FVec Ideal S256x512 .f32} {t o : Nat} {h} (hY : ∀ s r, Y (ix2 s r) = f r (c + s.val)) (ho : c + t = o) (s : Fin 64) (r : Fin 512) :
    extractStridedSlice S64x512 ![t, 0] Y h (ix2 s r) = f r (o + s.val) := by
  subst ho
  pointwise [hY]
  exact congrArg (f r) (by first | omega | (dsimp only; omega) | simp <;> omega)

theorem store256_apply {Y : FVec Ideal S256x512 .f32} (hY : ∀ s r, Y (ix2 s r) = f r (c + s.val)) (s : Fin 256) (r : Fin 512) :
    shapeCast S1x256x512 Y shapeCasts_S256x512_S1x256x512 (ix3 0 s r) = f r (c + s.val) := by
  pointwise [hY]

theorem tail256_apply {Y : FVec Ideal S256x512 .f32} {h0 h1} (hY : ∀ s r, Y (ix2 s r) = f r (c + s.val)) (hc : c + 128 = 128 * i)
    (s : Fin 256) (r : Fin 512) :
    concatenate S256x512 0 [⟨S128x512, extractStridedSlice S128x512 ![0, 0] Y h0⟩, ⟨S128x512, select k0_pay3
      (extractStridedSlice S128x512 ![128, 0] Y h1) (broadcast S128x512 (Scalar.ofBits .f32 0xFF800000#32))⟩]
      concatenates_S128x512_S128x512_S256x512_d0 (ix2 s r) = maskedScore i f r (c + s.val) := by
  unfold maskedScore
  pointwise [visible_apply, hY, Cert.Consts.neg_inf]
  split
  · rw [if_pos (by omega)]
  · rename_i hs
    have e : c + (128 + (s.val - 128)) = c + s.val := by omega
    refine if_congr (by omega) ?_ rfl
    exact congrArg (f r) (by first | omega | (dsimp only; omega))

/-! ## Chunks of 384 keys -/

theorem raw384_apply {K8 : FVec Ideal S384x128 .fp8e4m3} {K16 : FVec Ideal S384x128 .bf16} {Q : FVec Ideal S512x128 .fp8e4m3}
    {M : FVec Ideal S128x128 .bf16} (h8 : ∀ s d, K8 (ix2 s d) = k (c + s.val) d) (h16 : ∀ s d, K16 (ix2 s d) = k (c + s.val) d)
    (hQ : ∀ r d, Q (ix2 r d) = q r d) (hM : ∀ l d, M (ix2 l d) = mm ⟨l.val % 4, by omega⟩ d) (s : Fin 384) (r : Fin 512) :
    addf (matmul dot_S384x128_S512x128_S384x512_1_1_0_0_n_n none K8 Q (constant S384x512 .f32 0x00000000#32))
      (let a := matmul dot_S384x128_S128x128_S384x128_1_1_0_0_n_n none K16 M (constant S384x128 .f32 0x00000000#32)
       concatenate S384x512 1 [⟨S384x128, a⟩, ⟨S384x128, a⟩, ⟨S384x128, a⟩, ⟨S384x128, a⟩]
        concatenates_S384x128_S384x128_S384x128_S384x128_S384x512_d1) (ix2 s r) = rawScore k q mm r (c + s.val) := by
  pointwise [h8, h16, hQ, hM]
  exact congrArg _ (lanes (fun g => ∑ d : Fin 128, k (c + s.val) d * mm g d) r)

theorem cut384_apply {Y : FVec Ideal S384x512 .f32} {t o : Nat} {h} (hY : ∀ s r, Y (ix2 s r) = f r (c + s.val)) (ho : c + t = o) (s : Fin 64) (r : Fin 512) :
    extractStridedSlice S64x512 ![t, 0] Y h (ix2 s r) = f r (o + s.val) := by
  subst ho
  pointwise [hY]
  exact congrArg (f r) (by first | omega | (dsimp only; omega) | simp <;> omega)

theorem store384_apply {Y : FVec Ideal S384x512 .f32} (hY : ∀ s r, Y (ix2 s r) = f r (c + s.val)) (s : Fin 384) (r : Fin 512) :
    shapeCast S1x384x512 Y shapeCasts_S384x512_S1x384x512 (ix3 0 s r) = f r (c + s.val) := by
  pointwise [hY]

theorem tail384_apply {Y : FVec Ideal S384x512 .f32} {h0 h1} (hY : ∀ s r, Y (ix2 s r) = f r (c + s.val)) (hc : c + 256 = 128 * i)
    (s : Fin 384) (r : Fin 512) :
    concatenate S384x512 0 [⟨S256x512, extractStridedSlice S256x512 ![0, 0] Y h0⟩, ⟨S128x512, select k0_pay3
      (extractStridedSlice S128x512 ![256, 0] Y h1) (broadcast S128x512 (Scalar.ofBits .f32 0xFF800000#32))⟩]
      concatenates_S256x512_S128x512_S384x512_d0 (ix2 s r) = maskedScore i f r (c + s.val) := by
  unfold maskedScore
  pointwise [visible_apply, hY, Cert.Consts.neg_inf]
  split
  · rw [if_pos (by omega)]
  · rename_i hs
    have e : c + (256 + (s.val - 256)) = c + s.val := by omega
    refine if_congr (by omega) ?_ rfl
    exact congrArg (f r) (by first | omega | (dsimp only; omega))

/-! ## Chunks of 512 keys -/

theorem raw512_apply {K8 : FVec Ideal S512x128 .fp8e4m3} {K16 : FVec Ideal S512x128 .bf16} {Q : FVec Ideal S512x128 .fp8e4m3}
    {M : FVec Ideal S128x128 .bf16} (h8 : ∀ s d, K8 (ix2 s d) = k (c + s.val) d) (h16 : ∀ s d, K16 (ix2 s d) = k (c + s.val) d)
    (hQ : ∀ r d, Q (ix2 r d) = q r d) (hM : ∀ l d, M (ix2 l d) = mm ⟨l.val % 4, by omega⟩ d) (s : Fin 512) (r : Fin 512) :
    addf (matmul dot_S512x128_S512x128_S512x512_1_1_0_0_n_n none K8 Q (constant S512x512 .f32 0x00000000#32))
      (let a := matmul dot_S512x128_S128x128_S512x128_1_1_0_0_n_n none K16 M (constant S512x128 .f32 0x00000000#32)
       concatenate S512x512 1 [⟨S512x128, a⟩, ⟨S512x128, a⟩, ⟨S512x128, a⟩, ⟨S512x128, a⟩]
        concatenates_S512x128_S512x128_S512x128_S512x128_S512x512_d1) (ix2 s r) = rawScore k q mm r (c + s.val) := by
  pointwise [h8, h16, hQ, hM]
  exact congrArg _ (lanes (fun g => ∑ d : Fin 128, k (c + s.val) d * mm g d) r)

theorem cut512_apply {Y : FVec Ideal S512x512 .f32} {t o : Nat} {h} (hY : ∀ s r, Y (ix2 s r) = f r (c + s.val)) (ho : c + t = o) (s : Fin 64) (r : Fin 512) :
    extractStridedSlice S64x512 ![t, 0] Y h (ix2 s r) = f r (o + s.val) := by
  subst ho
  pointwise [hY]
  exact congrArg (f r) (by first | omega | (dsimp only; omega) | simp <;> omega)

theorem store512_apply {Y : FVec Ideal S512x512 .f32} (hY : ∀ s r, Y (ix2 s r) = f r (c + s.val)) (s : Fin 512) (r : Fin 512) :
    shapeCast S1x512x512 Y shapeCasts_S512x512_S1x512x512 (ix3 0 s r) = f r (c + s.val) := by
  pointwise [hY]

theorem tail512_apply {Y : FVec Ideal S512x512 .f32} {h0 h1} (hY : ∀ s r, Y (ix2 s r) = f r (c + s.val)) (hc : c + 384 = 128 * i)
    (s : Fin 512) (r : Fin 512) :
    concatenate S512x512 0 [⟨S384x512, extractStridedSlice S384x512 ![0, 0] Y h0⟩, ⟨S128x512, select k0_pay3
      (extractStridedSlice S128x512 ![384, 0] Y h1) (broadcast S128x512 (Scalar.ofBits .f32 0xFF800000#32))⟩]
      concatenates_S384x512_S128x512_S512x512_d0 (ix2 s r) = maskedScore i f r (c + s.val) := by
  unfold maskedScore
  pointwise [visible_apply, hY, Cert.Consts.neg_inf]
  split
  · rw [if_pos (by omega)]
  · rename_i hs
    have e : c + (384 + (s.val - 384)) = c + s.val := by omega
    refine if_congr (by omega) ?_ rfl
    exact congrArg (f r) (by first | omega | (dsimp only; omega))

end Cert.KernelIdeal.Block

end
-- ==== Proof.Readings.lean ====
/- The operands of the attention, as the kernel prepares them: the stored keys, queries, values, means and scales, read back at an index
   down to the entries of the seven input blocks. -/
module

public import proofs.«01_k».proof.Proof.Chunks
public import proofs.«01_k».proof.Proof.Gen.KernelIdeal.Frame

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Gen.kernelRun0_A.sl

/-! ## The operands -/

/-- Row `s` of the keys. -/
def key (x3 : Vec Ideal S1x1x2048x128 .bf16) (s : Nat) (d : Fin 128) : EReal := x3 (ix4 0 0 ⟨s % 2048, by omega⟩ d)

/-- Row `s` of the values. -/
def val (x5 : Vec Ideal S1x1x2048x128 .bf16) (s : Nat) (d : Fin 128) : EReal := x5 (ix4 0 0 ⟨s % 2048, by omega⟩ d)

/-- Row `r` of query block `i`. -/
def query (x0 : Vec Ideal S1x1x8192x128 .bf16) (i : Nat) (r : Fin 512) (d : Fin 128) : EReal := x0 (ix4 0 0 ⟨(512 * i + r.val) % 8192, by omega⟩ d)

/-- The query scale of head `g` in query block `i`. -/
def queryScale (x1 : Vec Ideal S1x1x4x16 .f32) (i : Nat) (g : Fin 4) : EReal := x1 (ix4 0 0 g ⟨i % 16, by omega⟩)

/-- The query mean of head `g` in query block `i`, over its scale. -/
def mean (x1 : Vec Ideal S1x1x4x16 .f32) (x2 : Vec Ideal S1x4x16x128 .bf16) (i : Nat) (g : Fin 4) (d : Fin 128) : EReal :=
  x2 (ix4 0 g ⟨i % 16, by omega⟩ d) * Ideal.div 1 (queryScale x1 i g)

/-- The key scale of group `n`, times the logit scale. -/
def keyScale (x4 : Vec Ideal S1x1x32x1 .f32) (n : Nat) : EReal :=
  x4 (ix4 0 0 ⟨n % 32, by omega⟩ 0) * (((Real.log 2)⁻¹ * (Real.sqrt 128)⁻¹ : ℝ) : EReal)

/-- A masked score of query block `i`, before its scales. -/
def score (x0 : Vec Ideal S1x1x8192x128 .bf16) (x1 : Vec Ideal S1x1x4x16 .f32) (x2 : Vec Ideal S1x4x16x128 .bf16) (x3 : Vec Ideal S1x1x2048x128 .bf16)
    (i : Nat) : Fin 512 → Nat → EReal := maskedScore i (rawScore (key x3) (query x0 i) (mean x1 x2 i))

/-- A masked logit of query block `i`, in units of `log 2`. -/
def logit (x0 : Vec Ideal S1x1x8192x128 .bf16) (x1 : Vec Ideal S1x1x4x16 .f32) (x2 : Vec Ideal S1x4x16x128 .bf16) (x3 : Vec Ideal S1x1x2048x128 .bf16)
    (x4 : Vec Ideal S1x1x32x1 .f32) (i : Nat) : Fin 512 → Nat → EReal := scaled (score x0 x1 x2 x3 i) (queryScale x1 i) (keyScale x4)

/-- A probability of query block `i`, 256 times the reference's. -/
def prb (x0 : Vec Ideal S1x1x8192x128 .bf16) (x1 : Vec Ideal S1x1x4x16 .f32) (x2 : Vec Ideal S1x4x16x128 .bf16) (x3 : Vec Ideal S1x1x2048x128 .bf16)
    (x4 : Vec Ideal S1x1x32x1 .f32) (i : Nat) : Fin 512 → Nat → EReal := weight (logit x0 x1 x2 x3 x4 i) (2 * i + 1)

/-- Row `r` of query block `i` of the attention, before the dequantization of the values. -/
def row (x0 : Vec Ideal S1x1x8192x128 .bf16) (x1 : Vec Ideal S1x1x4x16 .f32) (x2 : Vec Ideal S1x4x16x128 .bf16) (x3 : Vec Ideal S1x1x2048x128 .bf16)
    (x4 : Vec Ideal S1x1x32x1 .f32) (x5 : Vec Ideal S1x1x2048x128 .bf16) (i : Nat) (r : Fin 512) (d : Fin 128) : EReal :=
  (∑ s ∈ Finset.range (128 * (i + 1)), val x5 s d * code (prb x0 x1 x2 x3 x4 i) r s)
    * Ideal.div 1 (∑ u : Fin 8, mass (prb x0 x1 x2 x3 x4 i) (2 * i + 1) u r)

/-- The value scales of the grid point's key head. -/
def valueScale (i : grid0.Coords) (x6 : Vec Ideal S1x4x128 .f32) (d : Fin 128) : EReal :=
  k0_pay4 (View.ld x6 (Rect.unit (s := S1x4x128) (k0_off1 i) S1x1x128.size (k0_off1_inb i))) (ix2 0 d)

/-- The element of a grid point's block at query block `b`, token `t` of the block, head `h`, dimension `d`. -/
def output (x0 : Vec Ideal S1x1x8192x128 .bf16) (x1 : Vec Ideal S1x1x4x16 .f32) (x2 : Vec Ideal S1x4x16x128 .bf16) (x3 : Vec Ideal S1x1x2048x128 .bf16)
    (x4 : Vec Ideal S1x1x32x1 .f32) (x5 : Vec Ideal S1x1x2048x128 .bf16) (x6 : Vec Ideal S1x4x128 .f32) (i : grid0.Coords) (b h : Nat)
    (t d : Fin 128) : EReal := row x0 x1 x2 x3 x4 x5 b ⟨(4 * t.val + h) % 512, by omega⟩ d * valueScale i x6 d

/-- The logit scales are positive real numbers. -/
def Positive (x1 : Vec Ideal S1x1x4x16 .f32) (x4 : Vec Ideal S1x1x32x1 .f32) : Prop :=
  ∀ i g n, ∃ a : ℝ, 0 < a ∧ queryScale x1 i g * keyScale x4 n = (a : EReal)

variable {c : Dev nD} {i : grid0.Coords}
  {a2 : Memref sig .tc .vmem S1x1x8192x128 .bf16} {h2 : a2.IsWhole}
  {a3 : Memref sig .tc .vmem S1x1x4x16 .f32} {h3 : a3.IsWhole}
  {a4 : Memref sig .tc .vmem S1x4x16x128 .bf16} {h4 : a4.IsWhole}
  {a5 : Memref sig .tc .vmem S1x1x2048x128 .bf16} {h5 : a5.IsWhole}
  {a6 : Memref sig .tc .vmem S1x1x32x1 .f32} {h6 : a6.IsWhole}
  {a7 : Memref sig .tc .vmem S1x1x2048x128 .bf16} {h7 : a7.IsWhole}
  {a8 : Memref sig .tc .vmem S1x4x128 .f32} {h8 : a8.IsWhole}
  {a10 : Memref sig .tc .vmem S2048x128 .fp8e4m3}
  {a11 : Memref sig .tc .vmem S2048x128 .bf16}
  {a12 : Memref sig .tc .vmem S32x128 .f32}
  {a13 : Memref sig .tc .vmem S128x2048 .fp8e4m3}
  {a14 : Memref sig .tc .vmem S8192x128 .fp8e4m3}
  {a15 : Memref sig .tc .vmem S128x128 .f32}
  {a16 : Memref sig .tc .vmem S128x128 .f32}
  {a17 : Memref sig .tc .vmem S2x2048x512 .f32}
  {a18 : Memref sig .tc .vmem S2x2048x512 .fp8e4m3}
  {a19 : Memref sig .tc .vmem S2x512x128 .f32}
  {x0 : Vec Ideal S1x1x8192x128 .bf16}  {x1 : Vec Ideal S1x1x4x16 .f32}  {x2 : Vec Ideal S1x4x16x128 .bf16}
  {x3 : Vec Ideal S1x1x2048x128 .bf16}  {x4 : Vec Ideal S1x1x32x1 .f32}
  {x5 : Vec Ideal S1x1x2048x128 .bf16}  {x6 : Vec Ideal S1x4x128 .f32}

/-! ## What is stored -/

theorem keys8 (s : Fin 2048) (d : Fin 128) : (v49 c a5 h5 x3) (ix2 s d) = x3 (ix4 0 0 s d) := by
  pointwise [v49, v46, v40, View.readAt_eq_ld, Memref.IsWhole.read_unread]

theorem keys16 (s : Fin 2048) (d : Fin 128) : (v43 c a5 h5 x3) (ix2 s d) = x3 (ix4 0 0 s d) := by
  pointwise [v43, v40, View.readAt_eq_ld, Memref.IsWhole.read_unread]

theorem values (d : Fin 128) (s : Fin 2048) : (v57 c a7 h7 x5) (ix2 d s) = x5 (ix4 0 0 s d) := by
  pointwise [v57, v54, v53, v52, v51, View.readAt_eq_ld, Memref.IsWhole.read_unread]

theorem queries (r : Fin 8192) (d : Fin 128) : (v63 c a2 h2 x0) (ix2 r d) = x0 (ix4 0 0 r d) := by
  pointwise [v63, v60, v59, View.readAt_eq_ld, Memref.IsWhole.read_unread]

theorem mean0 (g : Fin 8) (d : Fin 128) : (v78 c a3 h3 a4 h4 x1 x2) (ix2 g d) = mean x1 x2 0 ⟨g.val % 4, by omega⟩ d := by
  pointwise [mean, queryScale, v78, v75, v72, v74, v71, v73, v68, v70, cst_43, v67, v66, v65, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale0 (g : Fin 8) (l : Fin 128) : (v87 c a3 h3 x1) (ix2 g l) = queryScale x1 0 ⟨l.val % 4, by omega⟩ := by
  pointwise [queryScale, v87, v84, v83, v82, v81, v80, v79, v68, v67, v66, v65, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean1 (g : Fin 8) (d : Fin 128) : (v102 c a3 h3 a4 h4 x1 x2) (ix2 g d) = mean x1 x2 1 ⟨g.val % 4, by omega⟩ d := by
  pointwise [mean, queryScale, v102, v99, v96, v98, v95, v73, v92, v94, cst_43, v91, v90, v89, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale1 (g : Fin 8) (l : Fin 128) : (v111 c a3 h3 x1) (ix2 g l) = queryScale x1 1 ⟨l.val % 4, by omega⟩ := by
  pointwise [queryScale, v111, v108, v107, v106, v105, v104, v103, v92, v91, v90, v89, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean2 (g : Fin 8) (d : Fin 128) : (v126 c a3 h3 a4 h4 x1 x2) (ix2 g d) = mean x1 x2 2 ⟨g.val % 4, by omega⟩ d := by
  pointwise [mean, queryScale, v126, v123, v120, v122, v119, v73, v116, v118, cst_43, v115, v114, v113, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale2 (g : Fin 8) (l : Fin 128) : (v135 c a3 h3 x1) (ix2 g l) = queryScale x1 2 ⟨l.val % 4, by omega⟩ := by
  pointwise [queryScale, v135, v132, v131, v130, v129, v128, v127, v116, v115, v114, v113, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean3 (g : Fin 8) (d : Fin 128) : (v150 c a3 h3 a4 h4 x1 x2) (ix2 g d) = mean x1 x2 3 ⟨g.val % 4, by omega⟩ d := by
  pointwise [mean, queryScale, v150, v147, v144, v146, v143, v73, v140, v142, cst_43, v139, v138, v137, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale3 (g : Fin 8) (l : Fin 128) : (v159 c a3 h3 x1) (ix2 g l) = queryScale x1 3 ⟨l.val % 4, by omega⟩ := by
  pointwise [queryScale, v159, v156, v155, v154, v153, v152, v151, v140, v139, v138, v137, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean4 (g : Fin 8) (d : Fin 128) : (v174 c a3 h3 a4 h4 x1 x2) (ix2 g d) = mean x1 x2 4 ⟨g.val % 4, by omega⟩ d := by
  pointwise [mean, queryScale, v174, v171, v168, v170, v167, v73, v164, v166, cst_43, v163, v162, v161, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale4 (g : Fin 8) (l : Fin 128) : (v183 c a3 h3 x1) (ix2 g l) = queryScale x1 4 ⟨l.val % 4, by omega⟩ := by
  pointwise [queryScale, v183, v180, v179, v178, v177, v176, v175, v164, v163, v162, v161, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean5 (g : Fin 8) (d : Fin 128) : (v198 c a3 h3 a4 h4 x1 x2) (ix2 g d) = mean x1 x2 5 ⟨g.val % 4, by omega⟩ d := by
  pointwise [mean, queryScale, v198, v195, v192, v194, v191, v73, v188, v190, cst_43, v187, v186, v185, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale5 (g : Fin 8) (l : Fin 128) : (v207 c a3 h3 x1) (ix2 g l) = queryScale x1 5 ⟨l.val % 4, by omega⟩ := by
  pointwise [queryScale, v207, v204, v203, v202, v201, v200, v199, v188, v187, v186, v185, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean6 (g : Fin 8) (d : Fin 128) : (v222 c a3 h3 a4 h4 x1 x2) (ix2 g d) = mean x1 x2 6 ⟨g.val % 4, by omega⟩ d := by
  pointwise [mean, queryScale, v222, v219, v216, v218, v215, v73, v212, v214, cst_43, v211, v210, v209, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale6 (g : Fin 8) (l : Fin 128) : (v231 c a3 h3 x1) (ix2 g l) = queryScale x1 6 ⟨l.val % 4, by omega⟩ := by
  pointwise [queryScale, v231, v228, v227, v226, v225, v224, v223, v212, v211, v210, v209, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean7 (g : Fin 8) (d : Fin 128) : (v246 c a3 h3 a4 h4 x1 x2) (ix2 g d) = mean x1 x2 7 ⟨g.val % 4, by omega⟩ d := by
  pointwise [mean, queryScale, v246, v243, v240, v242, v239, v73, v236, v238, cst_43, v235, v234, v233, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale7 (g : Fin 8) (l : Fin 128) : (v255 c a3 h3 x1) (ix2 g l) = queryScale x1 7 ⟨l.val % 4, by omega⟩ := by
  pointwise [queryScale, v255, v252, v251, v250, v249, v248, v247, v236, v235, v234, v233, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean8 (g : Fin 8) (d : Fin 128) : (v270 c a3 h3 a4 h4 x1 x2) (ix2 g d) = mean x1 x2 8 ⟨g.val % 4, by omega⟩ d := by
  pointwise [mean, queryScale, v270, v267, v264, v266, v263, v73, v260, v262, cst_43, v259, v258, v257, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale8 (g : Fin 8) (l : Fin 128) : (v279 c a3 h3 x1) (ix2 g l) = queryScale x1 8 ⟨l.val % 4, by omega⟩ := by
  pointwise [queryScale, v279, v276, v275, v274, v273, v272, v271, v260, v259, v258, v257, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean9 (g : Fin 8) (d : Fin 128) : (v294 c a3 h3 a4 h4 x1 x2) (ix2 g d) = mean x1 x2 9 ⟨g.val % 4, by omega⟩ d := by
  pointwise [mean, queryScale, v294, v291, v288, v290, v287, v73, v284, v286, cst_43, v283, v282, v281, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale9 (g : Fin 8) (l : Fin 128) : (v303 c a3 h3 x1) (ix2 g l) = queryScale x1 9 ⟨l.val % 4, by omega⟩ := by
  pointwise [queryScale, v303, v300, v299, v298, v297, v296, v295, v284, v283, v282, v281, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean10 (g : Fin 8) (d : Fin 128) : (v318 c a3 h3 a4 h4 x1 x2) (ix2 g d) = mean x1 x2 10 ⟨g.val % 4, by omega⟩ d := by
  pointwise [mean, queryScale, v318, v315, v312, v314, v311, v73, v308, v310, cst_43, v307, v306, v305, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale10 (g : Fin 8) (l : Fin 128) : (v327 c a3 h3 x1) (ix2 g l) = queryScale x1 10 ⟨l.val % 4, by omega⟩ := by
  pointwise [queryScale, v327, v324, v323, v322, v321, v320, v319, v308, v307, v306, v305, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean11 (g : Fin 8) (d : Fin 128) : (v342 c a3 h3 a4 h4 x1 x2) (ix2 g d) = mean x1 x2 11 ⟨g.val % 4, by omega⟩ d := by
  pointwise [mean, queryScale, v342, v339, v336, v338, v335, v73, v332, v334, cst_43, v331, v330, v329, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale11 (g : Fin 8) (l : Fin 128) : (v351 c a3 h3 x1) (ix2 g l) = queryScale x1 11 ⟨l.val % 4, by omega⟩ := by
  pointwise [queryScale, v351, v348, v347, v346, v345, v344, v343, v332, v331, v330, v329, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean12 (g : Fin 8) (d : Fin 128) : (v366 c a3 h3 a4 h4 x1 x2) (ix2 g d) = mean x1 x2 12 ⟨g.val % 4, by omega⟩ d := by
  pointwise [mean, queryScale, v366, v363, v360, v362, v359, v73, v356, v358, cst_43, v355, v354, v353, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale12 (g : Fin 8) (l : Fin 128) : (v375 c a3 h3 x1) (ix2 g l) = queryScale x1 12 ⟨l.val % 4, by omega⟩ := by
  pointwise [queryScale, v375, v372, v371, v370, v369, v368, v367, v356, v355, v354, v353, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean13 (g : Fin 8) (d : Fin 128) : (v390 c a3 h3 a4 h4 x1 x2) (ix2 g d) = mean x1 x2 13 ⟨g.val % 4, by omega⟩ d := by
  pointwise [mean, queryScale, v390, v387, v384, v386, v383, v73, v380, v382, cst_43, v379, v378, v377, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale13 (g : Fin 8) (l : Fin 128) : (v399 c a3 h3 x1) (ix2 g l) = queryScale x1 13 ⟨l.val % 4, by omega⟩ := by
  pointwise [queryScale, v399, v396, v395, v394, v393, v392, v391, v380, v379, v378, v377, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean14 (g : Fin 8) (d : Fin 128) : (v414 c a3 h3 a4 h4 x1 x2) (ix2 g d) = mean x1 x2 14 ⟨g.val % 4, by omega⟩ d := by
  pointwise [mean, queryScale, v414, v411, v408, v410, v407, v73, v404, v406, cst_43, v403, v402, v401, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale14 (g : Fin 8) (l : Fin 128) : (v423 c a3 h3 x1) (ix2 g l) = queryScale x1 14 ⟨l.val % 4, by omega⟩ := by
  pointwise [queryScale, v423, v420, v419, v418, v417, v416, v415, v404, v403, v402, v401, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem mean15 (g : Fin 8) (d : Fin 128) : (v438 c a3 h3 a4 h4 x1 x2) (ix2 g d) = mean x1 x2 15 ⟨g.val % 4, by omega⟩ d := by
  pointwise [mean, queryScale, v438, v435, v432, v434, v431, v73, v428, v430, cst_43, v427, v426, v425, View.readAt_eq_ld, Memref.IsWhole.read_unread]
  split
  · exact congrArg₂ (fun a b => x2 (ix4 0 a _ d) * Ideal.div 1 (x1 (ix4 0 0 b _))) (Fin.ext (by dsimp only; omega)) (Fin.ext (by dsimp only; omega))
  · exact congrArg₂ (fun a b => x2 (ix4 0 a _ d) * Ideal.div 1 (x1 (ix4 0 0 b _))) (Fin.ext (by dsimp only; omega)) (Fin.ext (by dsimp only; omega))

theorem queryScale15 (g : Fin 8) (l : Fin 128) : (v447 c a3 h3 x1) (ix2 g l) = queryScale x1 15 ⟨l.val % 4, by omega⟩ := by
  pointwise [queryScale, v447, v444, v443, v442, v441, v440, v439, v428, v427, v426, v425, View.readAt_eq_ld, Memref.IsWhole.read_unread]
  split
  · exact congrArg (fun a => x1 (ix4 0 0 a _)) (Fin.ext (by dsimp only; omega))
  · exact congrArg (fun a => x1 (ix4 0 0 a _)) (Fin.ext (by dsimp only; omega))

theorem valueScales (d : Fin 128) : kernelRun0_A.sl.r c i a8 h8 x6 (ix2 0 d) = valueScale i x6 d := by
  unfold kernelRun0_A.sl.r valueScale
  rw [View.readAt_eq_ld, Memref.IsWhole.read_unread]

/-! ## What is read back -/

variable {κ : Kind} {sp : Space}

theorem keys8_read {v : View sig κ sp S2048x128 .fp8e4m3} {o n : Nat} {h} (hn : o + n ≤ 2048) (s : Fin n) (d : Fin 128) :
    v.readCov (HS0_1 c a5 h5 x3) (Rect.unit (s := S2048x128) ![o, 0] ![n, 128] h).toLoadRect (ix2 s d) = key x3 (o + s.val) d :=
  (rows_read hn s d).trans ((keys8 _ d).trans (congrArg (fun a => x3 (ix4 0 0 a d)) (Fin.ext (by dsimp only; omega))))

theorem keys16_read {v : View sig κ sp S2048x128 .bf16} {o n : Nat} {h} (hn : o + n ≤ 2048) (s : Fin n) (d : Fin 128) :
    v.readCov (HS1_1 c a5 h5 x3) (Rect.unit (s := S2048x128) ![o, 0] ![n, 128] h).toLoadRect (ix2 s d) = key x3 (o + s.val) d :=
  (rows_read hn s d).trans ((keys16 _ d).trans (congrArg (fun a => x3 (ix4 0 0 a d)) (Fin.ext (by dsimp only; omega))))

theorem query_read {v : View sig κ sp S8192x128 .fp8e4m3} {o j : Nat} {h} (ho : o = 512 * j) (hj : j < 16) (r : Fin 512) (d : Fin 128) :
    v.readCov (HS4_1 c a2 h2 x0) (Rect.unit (s := S8192x128) ![o, 0] ![512, 128] h).toLoadRect (ix2 r d) = query x0 j r d :=
  (rows_read (by omega) r d).trans ((queries _ d).trans (congrArg (fun a => x0 (ix4 0 0 a d)) (Fin.ext (by dsimp only; omega))))

theorem value_read {v : View sig κ sp S128x2048 .fp8e4m3} {n : Nat} {h} (hn : n ≤ 2048) (d : Fin 128) (s : Fin n) :
    v.readCov (HS3_1 c a7 h7 x5) (Rect.unit (s := S128x2048) ![0, 0] ![128, n] h).toLoadRect (ix2 d s) = val x5 s.val d :=
  (cols_read hn d s).trans ((values d _).trans (congrArg (fun a => x5 (ix4 0 0 a d)) (Fin.ext (by dsimp only; omega))))

theorem keyScale_read {v : View sig κ sp S32x128 .f32} {n : Nat} {h} (hn : n < 32) (l : Fin 128) :
    v.readCov (HS2_1 c a6 h6 x4) (Rect.unit (s := S32x128) ![n, 0] ![1, 128] h).toLoadRect (ix2 0 l) = keyScale x4 n := by
  refine (rows_read (by omega) (0 : Fin 1) l).trans ?_
  unfold keyScale
  pointwise [k0_pay5, View.readAt_eq_ld, Memref.IsWhole.read_unread, Cert.Consts.logit_scale]
  exact congrArg (fun a => x4 (ix4 0 0 a 0) * _) (Fin.ext (by dsimp only; omega))

/-- Rows read out of stores of eight rows each. -/
theorem eight_step {o : Nat} {i1} {w : (Rect.unit (s := S128x128) ![o, 0] ![8, 128] i1).shape.Idx → EReal}
    {L : List (View.Piece (Elt Ideal) S128x128 .f32)} {f : Nat → Fin 128 → EReal} {t l : Fin 128}
    (hw : ∀ (g : Fin 8) l, w (ix2 g l) = f (o + g.val) l) (ht : t.val < o + 8) (hL : t.val < o → View.canon L (ix2 t l) = f t.val l) :
    View.canon (⟨Rect.unit (s := S128x128) ![o, 0] ![8, 128] i1, w⟩ :: L) (ix2 t l) = f t.val l := by
  by_cases h : t.val < o
  · refine (View.canon_cons_of_not_mem _ _ ?_).trans (hL h)
    rw [Rect.mem_set_unit]
    intro hm
    have h1 : o ≤ t.val := (hm 0).1
    omega
  · refine (canon_piece _ w L (ix2 t l) (ix2 ⟨t.val - o, by omega⟩ l) fun a => match a with
      | ⟨0, _⟩ => ?_
      | ⟨1, _⟩ => ?_).trans ((hw _ l).trans (congrArg (f · l) ?_))
    · show t.val = o + 1 * (t.val - o); omega
    · show l.val = 0 + 1 * l.val; omega
    · show o + (t.val - o) = t.val; omega

theorem eight_read {v : View sig κ sp S128x128 .f32} {o : Nat} {h} {L : List (View.Piece (Elt Ideal) S128x128 .f32)} {f : Nat → Fin 128 → EReal}
    (ho : o ≤ 120) (hL : ∀ t l, View.canon L (ix2 t l) = f t.val l) (g : Fin 8) (l : Fin 128) :
    v.readCov L (Rect.unit (s := S128x128) ![o, 0] ![8, 128] h).toLoadRect (ix2 g l) = f (o + g.val) l := by
  rw [View.readCov_eq_canon']
  refine Eq.trans (congrArg (View.canon L) ?_) (hL ⟨o + g.val, by omega⟩ l)
  funext a
  apply Fin.ext
  match a with
  | ⟨0, _⟩ => show o + 1 * g.val = o + g.val; omega
  | ⟨1, _⟩ => show 0 + 1 * l.val = l.val; omega

/-- The means, as stored. -/
theorem means_canon (t l : Fin 128) : View.canon (HS5_16 c a3 h3 a4 h4 x1 x2) (ix2 t l)
    = mean x1 x2 (t.val / 8) ⟨t.val % 4, by omega⟩ l :=
  eight_step (f := fun t l => mean x1 x2 (t / 8) ⟨t % 4, by omega⟩ l) (fun g l => (mean15 g l).trans (congrArg₂ (fun a b => mean x1 x2 a b l) (by omega) (Fin.ext (by dsimp only; omega)))) (by omega) fun _ =>
    eight_step (f := fun t l => mean x1 x2 (t / 8) ⟨t % 4, by omega⟩ l) (fun g l => (mean14 g l).trans (congrArg₂ (fun a b => mean x1 x2 a b l) (by omega) (Fin.ext (by dsimp only; omega)))) (by omega) fun _ =>
    eight_step (f := fun t l => mean x1 x2 (t / 8) ⟨t % 4, by omega⟩ l) (fun g l => (mean13 g l).trans (congrArg₂ (fun a b => mean x1 x2 a b l) (by omega) (Fin.ext (by dsimp only; omega)))) (by omega) fun _ =>
    eight_step (f := fun t l => mean x1 x2 (t / 8) ⟨t % 4, by omega⟩ l) (fun g l => (mean12 g l).trans (congrArg₂ (fun a b => mean x1 x2 a b l) (by omega) (Fin.ext (by dsimp only; omega)))) (by omega) fun _ =>
    eight_step (f := fun t l => mean x1 x2 (t / 8) ⟨t % 4, by omega⟩ l) (fun g l => (mean11 g l).trans (congrArg₂ (fun a b => mean x1 x2 a b l) (by omega) (Fin.ext (by dsimp only; omega)))) (by omega) fun _ =>
    eight_step (f := fun t l => mean x1 x2 (t / 8) ⟨t % 4, by omega⟩ l) (fun g l => (mean10 g l).trans (congrArg₂ (fun a b => mean x1 x2 a b l) (by omega) (Fin.ext (by dsimp only; omega)))) (by omega) fun _ =>
    eight_step (f := fun t l => mean x1 x2 (t / 8) ⟨t % 4, by omega⟩ l) (fun g l => (mean9 g l).trans (congrArg₂ (fun a b => mean x1 x2 a b l) (by omega) (Fin.ext (by dsimp only; omega)))) (by omega) fun _ =>
    eight_step (f := fun t l => mean x1 x2 (t / 8) ⟨t % 4, by omega⟩ l) (fun g l => (mean8 g l).trans (congrArg₂ (fun a b => mean x1 x2 a b l) (by omega) (Fin.ext (by dsimp only; omega)))) (by omega) fun _ =>
    eight_step (f := fun t l => mean x1 x2 (t / 8) ⟨t % 4, by omega⟩ l) (fun g l => (mean7 g l).trans (congrArg₂ (fun a b => mean x1 x2 a b l) (by omega) (Fin.ext (by dsimp only; omega)))) (by omega) fun _ =>
    eight_step (f := fun t l => mean x1 x2 (t / 8) ⟨t % 4, by omega⟩ l) (fun g l => (mean6 g l).trans (congrArg₂ (fun a b => mean x1 x2 a b l) (by omega) (Fin.ext (by dsimp only; omega)))) (by omega) fun _ =>
    eight_step (f := fun t l => mean x1 x2 (t / 8) ⟨t % 4, by omega⟩ l) (fun g l => (mean5 g l).trans (congrArg₂ (fun a b => mean x1 x2 a b l) (by omega) (Fin.ext (by dsimp only; omega)))) (by omega) fun _ =>
    eight_step (f := fun t l => mean x1 x2 (t / 8) ⟨t % 4, by omega⟩ l) (fun g l => (mean4 g l).trans (congrArg₂ (fun a b => mean x1 x2 a b l) (by omega) (Fin.ext (by dsimp only; omega)))) (by omega) fun _ =>
    eight_step (f := fun t l => mean x1 x2 (t / 8) ⟨t % 4, by omega⟩ l) (fun g l => (mean3 g l).trans (congrArg₂ (fun a b => mean x1 x2 a b l) (by omega) (Fin.ext (by dsimp only; omega)))) (by omega) fun _ =>
    eight_step (f := fun t l => mean x1 x2 (t / 8) ⟨t % 4, by omega⟩ l) (fun g l => (mean2 g l).trans (congrArg₂ (fun a b => mean x1 x2 a b l) (by omega) (Fin.ext (by dsimp only; omega)))) (by omega) fun _ =>
    eight_step (f := fun t l => mean x1 x2 (t / 8) ⟨t % 4, by omega⟩ l) (fun g l => (mean1 g l).trans (congrArg₂ (fun a b => mean x1 x2 a b l) (by omega) (Fin.ext (by dsimp only; omega)))) (by omega) fun _ =>
    eight_step (f := fun t l => mean x1 x2 (t / 8) ⟨t % 4, by omega⟩ l) (fun g l => (mean0 g l).trans (congrArg₂ (fun a b => mean x1 x2 a b l) (by omega) (Fin.ext (by dsimp only; omega)))) (by omega) fun _ =>
    absurd ‹_› (by omega)

/-- The query scales, as stored. -/
theorem queryScales_canon (t l : Fin 128) : View.canon (HS6_16 c a3 h3 x1) (ix2 t l)
    = queryScale x1 (t.val / 8) ⟨l.val % 4, by omega⟩ :=
  eight_step (f := fun t l => queryScale x1 (t / 8) ⟨l.val % 4, by omega⟩) (fun g l => (queryScale15 g l).trans (congrArg (fun a => queryScale x1 a _) (by omega))) (by omega) fun _ =>
    eight_step (f := fun t l => queryScale x1 (t / 8) ⟨l.val % 4, by omega⟩) (fun g l => (queryScale14 g l).trans (congrArg (fun a => queryScale x1 a _) (by omega))) (by omega) fun _ =>
    eight_step (f := fun t l => queryScale x1 (t / 8) ⟨l.val % 4, by omega⟩) (fun g l => (queryScale13 g l).trans (congrArg (fun a => queryScale x1 a _) (by omega))) (by omega) fun _ =>
    eight_step (f := fun t l => queryScale x1 (t / 8) ⟨l.val % 4, by omega⟩) (fun g l => (queryScale12 g l).trans (congrArg (fun a => queryScale x1 a _) (by omega))) (by omega) fun _ =>
    eight_step (f := fun t l => queryScale x1 (t / 8) ⟨l.val % 4, by omega⟩) (fun g l => (queryScale11 g l).trans (congrArg (fun a => queryScale x1 a _) (by omega))) (by omega) fun _ =>
    eight_step (f := fun t l => queryScale x1 (t / 8) ⟨l.val % 4, by omega⟩) (fun g l => (queryScale10 g l).trans (congrArg (fun a => queryScale x1 a _) (by omega))) (by omega) fun _ =>
    eight_step (f := fun t l => queryScale x1 (t / 8) ⟨l.val % 4, by omega⟩) (fun g l => (queryScale9 g l).trans (congrArg (fun a => queryScale x1 a _) (by omega))) (by omega) fun _ =>
    eight_step (f := fun t l => queryScale x1 (t / 8) ⟨l.val % 4, by omega⟩) (fun g l => (queryScale8 g l).trans (congrArg (fun a => queryScale x1 a _) (by omega))) (by omega) fun _ =>
    eight_step (f := fun t l => queryScale x1 (t / 8) ⟨l.val % 4, by omega⟩) (fun g l => (queryScale7 g l).trans (congrArg (fun a => queryScale x1 a _) (by omega))) (by omega) fun _ =>
    eight_step (f := fun t l => queryScale x1 (t / 8) ⟨l.val % 4, by omega⟩) (fun g l => (queryScale6 g l).trans (congrArg (fun a => queryScale x1 a _) (by omega))) (by omega) fun _ =>
    eight_step (f := fun t l => queryScale x1 (t / 8) ⟨l.val % 4, by omega⟩) (fun g l => (queryScale5 g l).trans (congrArg (fun a => queryScale x1 a _) (by omega))) (by omega) fun _ =>
    eight_step (f := fun t l => queryScale x1 (t / 8) ⟨l.val % 4, by omega⟩) (fun g l => (queryScale4 g l).trans (congrArg (fun a => queryScale x1 a _) (by omega))) (by omega) fun _ =>
    eight_step (f := fun t l => queryScale x1 (t / 8) ⟨l.val % 4, by omega⟩) (fun g l => (queryScale3 g l).trans (congrArg (fun a => queryScale x1 a _) (by omega))) (by omega) fun _ =>
    eight_step (f := fun t l => queryScale x1 (t / 8) ⟨l.val % 4, by omega⟩) (fun g l => (queryScale2 g l).trans (congrArg (fun a => queryScale x1 a _) (by omega))) (by omega) fun _ =>
    eight_step (f := fun t l => queryScale x1 (t / 8) ⟨l.val % 4, by omega⟩) (fun g l => (queryScale1 g l).trans (congrArg (fun a => queryScale x1 a _) (by omega))) (by omega) fun _ =>
    eight_step (f := fun t l => queryScale x1 (t / 8) ⟨l.val % 4, by omega⟩) (fun g l => (queryScale0 g l).trans (congrArg (fun a => queryScale x1 a _) (by omega))) (by omega) fun _ =>
    absurd ‹_› (by omega)

theorem queryScale_read {v : View sig κ sp S128x128 .f32} {o j : Nat} {h} (ho : o = 8 * j) (hj : j < 16) (g : Fin 8) (l : Fin 128) :
    v.readCov (HS6_16 c a3 h3 x1) (Rect.unit (s := S128x128) ![o, 0] ![8, 128] h).toLoadRect (ix2 g l) = queryScale x1 j ⟨l.val % 4, by omega⟩ :=
  (eight_read (f := fun t l => queryScale x1 (t / 8) ⟨l.val % 4, by omega⟩) (by omega) queryScales_canon g l).trans
    (congrArg (fun a => queryScale x1 a _) (by omega))

/-- Eight rows, sixteen times over. -/
theorem tile_apply {R : FVec Ideal S8x128 .f32} {f : Fin 4 → Fin 128 → EReal} (hR : ∀ g d, R (ix2 g d) = f ⟨g.val % 4, by omega⟩ d)
    (l d : Fin 128) : truncf .bf16 (shapeCast S128x128 (broadcastTo S16x8x128 (shapeCast S1x8x128 (shapeCast S1x8x128 R
      shapeCasts_S8x128_S1x8x128) shapeCasts_S1x8x128_S1x8x128) broadcasts_S1x8x128_S16x8x128) shapeCasts_S16x8x128_S128x128)
      bitsLt_bf16_f32 (ix2 l d) = f ⟨l.val % 4, by omega⟩ d := by
  pointwise [hR]
  exact congrArg (fun a => f a d) (Fin.ext (by dsimp only; omega))

theorem mean_read {v : View sig κ sp S128x128 .f32} {o j : Nat} {h} (ho : o = 8 * j) (hj : j < 16) (g : Fin 8) (d : Fin 128) :
    v.readCov (HS5_16 c a3 h3 a4 h4 x1 x2) (Rect.unit (s := S128x128) ![o, 0] ![8, 128] h).toLoadRect (ix2 g d) = mean x1 x2 j ⟨g.val % 4, by omega⟩ d :=
  (eight_read (f := fun t l => mean x1 x2 (t / 8) ⟨t % 4, by omega⟩ l) (by omega) means_canon g d).trans
    (congrArg₂ (fun a b => mean x1 x2 a b d) (by omega) (Fin.ext (by dsimp only; omega)))

end Cert.KernelIdeal.Block

end
-- ==== Proof.Rows.lean ====
/- The rows of a query block: values against codes, over the sum of the probabilities, for each number of keys a block meets. -/
module

public import proofs.«01_k».proof.Proof.Chunks

@[expose] public section

set_option maxRecDepth 16384

noncomputable section

open Idealize.ShloMosaic Idealize.ShloMosaic.TcCoe Idealize.SL.Sem

namespace Cert.KernelIdeal.Block

open Cert.KernelIdeal Cert.KernelIdeal.Gen

variable {v : Nat → Fin 128 → EReal} {cd : Fin 512 → Nat → EReal} {ms : Fin 8 → Fin 512 → EReal}

/-- The reciprocal of the sum of the probabilities, as printed. -/
def recip (M : FVec Ideal S8x512 .f32) : FVec Ideal S128x512 .f32 :=
  broadcastTo S128x512 (divf (broadcast S1x512 (Scalar.ofBits .f32 0x3F800000#32)) (shapeCast S1x512
    (multiReduction .add [0] S512 M 0x00000000#32 reduces_S8x512_S512 (.inl rfl) rfl) shapeCasts_S512_S1x512)) broadcasts_S1x512_S128x512

theorem recip_apply {M : FVec Ideal S8x512 .f32} (hM : ∀ u r, M (ix2 u r) = ms u r) (d : Fin 128) (r : Fin 512) :
    recip M (ix2 d r) = Ideal.div 1 (∑ u : Fin 8, ms u r) := by
  unfold recip
  pointwise [hM, Cert.Consts.zero]

/-- The stored rows, as printed. -/
def rowsOf (X : FVec Ideal S128x512 .f32) (M : FVec Ideal S8x512 .f32) : FVec Ideal S1x512x128 .f32 :=
  shapeCast S1x512x128 (transpose S512x128 [1, 0] (mulf X (recip M)) transposes_S128x512_p1_0_S512x128) shapeCasts_S512x128_S1x512x128

theorem rows_apply {X : FVec Ideal S128x512 .f32} {M : FVec Ideal S8x512 .f32} {f : Fin 512 → Fin 128 → EReal}
    (hX : ∀ d r, X (ix2 d r) = f r d) (hM : ∀ u r, M (ix2 u r) = ms u r) (r : Fin 512) (d : Fin 128) :
    rowsOf X M (ix3 0 r d) = f r d * Ideal.div 1 (∑ u : Fin 8, ms u r) := by
  unfold rowsOf
  pointwise [hX, recip_apply hM]

theorem product128_apply {V : FVec Ideal S128x128 .fp8e4m3} {C : FVec Ideal S1x128x512 .fp8e4m3}
    (hV : ∀ d s, V (ix2 d s) = v s.val d) (hC : ∀ s r, C (ix3 0 s r) = cd r s.val) (d : Fin 128) (r : Fin 512) :
    matmul dot_S128x128_S128x512_S128x512_1_0_0_1_n_n none V (shapeCast S128x512 C shapeCasts_S1x128x512_S128x512)
      (constant S128x512 .f32 0x00000000#32) (ix2 d r) = ∑ s ∈ Finset.range 128, v s d * cd r s := by
  pointwise [hV, hC]
  exact Fin.sum_univ_eq_sum_range (fun s => v s d * cd r s) 128

theorem product256_apply {V : FVec Ideal S128x256 .fp8e4m3} {C : FVec Ideal S1x256x512 .fp8e4m3}
    (hV : ∀ d s, V (ix2 d s) = v s.val d) (hC : ∀ s r, C (ix3 0 s r) = cd r s.val) (d : Fin 128) (r : Fin 512) :
    matmul dot_S128x256_S256x512_S128x512_1_0_0_1_n_n none V (shapeCast S256x512 C shapeCasts_S1x256x512_S256x512)
      (constant S128x512 .f32 0x00000000#32) (ix2 d r) = ∑ s ∈ Finset.range 256, v s d * cd r s := by
  pointwise [hV, hC]
  exact Fin.sum_univ_eq_sum_range (fun s => v s d * cd r s) 256

theorem product384_apply {V : FVec Ideal S128x384 .fp8e4m3} {C : FVec Ideal S1x384x512 .fp8e4m3}
    (hV : ∀ d s, V (ix2 d s) = v s.val d) (hC : ∀ s r, C (ix3 0 s r) = cd r s.val) (d : Fin 128) (r : Fin 512) :
    matmul dot_S128x384_S384x512_S128x512_1_0_0_1_n_n none V (shapeCast S384x512 C shapeCasts_S1x384x512_S384x512)
      (constant S128x512 .f32 0x00000000#32) (ix2 d r) = ∑ s ∈ Finset.range 384, v s d * cd r s := by
  pointwise [hV, hC]
  exact Fin.sum_univ_eq_sum_range (fun s => v s d * cd r s) 384

theorem product512_apply {V : FVec Ideal S128x512 .fp8e4m3} {C : FVec Ideal S1x512x512 .fp8e4m3}
    (hV : ∀ d s, V (ix2 d s) = v s.val d) (hC : ∀ s r, C (ix3 0 s r) = cd r s.val) (d : Fin 128) (r : Fin 512) :
    matmul dot_S128x512_S512x512_S128x512_1_0_0_1_n_n none V (shapeCast S512x512 C shapeCasts_S1x512x512_S512x512)
      (constant S128x512 .f32 0x00000000#32) (ix2 d r) = ∑ s ∈ Finset.range 512, v s d * cd r s := by
  pointwise [hV, hC]
  exact Fin.sum_univ_eq_sum_range (fun s => v s d * cd r s) 512

theorem product640_apply {V : FVec Ideal S128x640 .fp8e4m3} {C : FVec Ideal S1x640x512 .fp8e4m3}
    (hV : ∀ d s, V (ix2 d s) = v s.val d) (hC : ∀ s r, C (ix3 0 s r) = cd r s.val) (d : Fin 128) (r : Fin 512) :
    matmul dot_S128x640_S640x512_S128x512_1_0_0_1_n_n none V (shapeCast S640x512 C shapeCasts_S1x640x512_S640x512)
      (constant S128x512 .f32 0x00000000#32) (ix2 d r) = ∑ s ∈ Finset.range 640, v s d * cd r s := by
  pointwise [hV, hC]
  exact Fin.sum_univ_eq_sum_range (fun s => v s d * cd r s) 640

theorem product768_apply {V : FVec Ideal S128x768 .fp8e4m3} {C : FVec Ideal S1x768x512 .fp8e4m3}
    (hV : ∀ d s, V (ix2 d s) = v s.val d) (hC : ∀ s r, C (ix3 0 s r) = cd r s.val) (d : Fin 128) (r : Fin 512) :
    matmul dot_S128x768_S768x512_S128x512_1_0_0_1_n_n none V (shapeCast S768x512 C shapeCasts_S1x768x512_S768x512)
      (constant S128x512 .f32 0x00000000#32) (ix2 d r) = ∑ s ∈ Finset.range 768, v s d * cd r s := by
  pointwise [hV, hC]
  exact Fin.sum_univ_eq_sum_range (fun s => v s d * cd r s) 768

theorem product896_apply {V : FVec Ideal S128x896 .fp8e4m3} {C : FVec Ideal S1x896x512 .fp8e4m3}
    (hV : ∀ d s, V (ix2 d s) = v s.val d) (hC : ∀ s r, C (ix3 0 s r) = cd r s.val) (d : Fin 128) (r : Fin 512) :
    matmul dot_S128x896_S896x512_S128x512_1_0_0_1_n_n none V (shapeCast S896x512 C shapeCasts_S1x896x512_S896x512)
      (constant S128x512 .f32 0x00000000#32) (ix2 d r) = ∑ s ∈ Finset.range 896, v s d * cd r s := by
  pointwise [hV, hC]
  exact Fin.sum_univ_eq_sum_range (fun s => v s d * cd r s) 896

theorem product1024_apply {V : FVec Ideal S128x1024 .fp8e4m3} {C : FVec Ideal S1x1024x512 .fp8e4m3}
    (hV : ∀ d s, V (ix2 d s) = v s.val d) (hC : ∀ s r, C (ix3 0 s r) = cd r s.val) (d : Fin 128) (r : Fin 512) :
    matmul dot_S128x1024_S1024x512_S128x512_1_0_0_1_n_n none V (shapeCast S1024x512 C shapeCasts_S1x1024x512_S1024x512)
      (constant S128x512 .f32 0x00000000#32) (ix2 d r) = ∑ s ∈ Finset.range 1024, v s d * cd r s := by
  pointwise [hV, hC]
  exact Fin.sum_univ_eq_sum_range (fun s => v s d * cd r s) 1024

theorem product1152_apply {V : FVec Ideal S128x1152 .fp8e4m3} {C : FVec Ideal S1x1152x512 .fp8e4m3}
    (hV : ∀ d s, V (ix2 d s) = v s.val d) (hC : ∀ s r, C (ix3 0 s r) = cd r s.val) (d : Fin 128) (r : Fin 512) :
    matmul dot_S128x1152_S1152x512_S128x512_1_0_0_1_n_n none V (shapeCast S1152x512 C shapeCasts_S1x1152x512_S1152x512)
      (constant S128x512 .f32 0x00000000#32) (ix2 d r) = ∑ s ∈ Finset.range 1152, v s d * cd r s := by
  pointwise [hV, hC]
  exact Fin.sum_univ_eq_sum_range (fun s => v s d * cd r s) 1152

theorem product1280_apply {V : FVec Ideal S128x1280 .fp8e4m3} {C : FVec Ideal S1x1280x512 .fp8e4m3}
    (hV : ∀ d s, V (ix2 d s) = v s.val d) (hC : ∀ s r, C (ix3 0 s r) = cd r s.val) (d : Fin 128) (r : Fin 512) :
    matmul dot_S128x1280_S1280x512_S128x512_1_0_0_1_n_n none V (shapeCast S1280x512 C shapeCasts_S1x1280x512_S1280x512)
      (constant S128x512 .f32 0x00000000#32) (ix2 d r) = ∑ s ∈ Finset.range 1280, v s d * cd r s := by
  pointwise [hV, hC]
  exact Fin.sum_univ_eq_sum_range (fun s => v s d * cd r s) 1280

theorem product1408_apply {V : FVec Ideal S128x1408 .fp8e4m3} {C : FVec Ideal S1x1408x512 .fp8e4m3}
    (hV : ∀ d s, V (ix2 d s) = v s.val d) (hC : ∀ s r, C (ix3 0 s r) = cd r s.val) (d : Fin 128) (r : Fin 512) :
    matmul dot_S128x1408_S1408x512_S128x512_1_0_0_1_n_n none V (shapeCast S1408x512 C shapeCasts_S1x1408x512_S1408x512)
      (constant S128x512 .f32 0x00000000#32) (ix2 d r) = ∑ s ∈ Finset.range 1408, v s d * cd r s := by
  pointwise [hV, hC]
  exact Fin.sum_univ_eq_sum_range (fun s => v s d * cd r s) 1408

theorem product1536_apply {V : FVec Ideal S128x1536 .fp8e4m3} {C : FVec Ideal S1x1536x512 .fp8e4m3}
    (hV : ∀ d s, V (ix2 d s) = v s.val d) (hC : ∀ s r, C (ix3 0 s r) = cd r s.val) (d : Fin 128) (r : Fin 512) :
    matmul dot_S128x1536_S1536x512_S128x512_1_0_0_1_n_n none V (shapeCast S1536x512 C shapeCasts_S1x1536x512_S1536x512)
      (constant S128x512 .f32 0x00000000#32) (ix2 d r) = ∑ s ∈ Finset.range 1536, v s d * cd r s := by
  pointwise [hV, hC]
  exact Fin.sum_univ_eq_sum_range (fun s => v s d * cd r s) 1536

theorem product1664_apply {V : FVec Ideal S128x1664 .fp8e4m3} {C : FVec Ideal S1x1664x512 .fp8e4m3}
    (hV : ∀ d s, V (ix2 d s) = v s.val d) (hC : ∀ s r, C (ix3 0 s r) = cd r s.val) (d : Fin 128) (r : Fin 512) :
    matmul dot_S128x1664_S1664x512_S128x512_1_0_0_1_n_n none V (shapeCast S1664x512 C shapeCasts_S1x1664x512_S1664x512)
      (constant S128x512 .f32 0x00000000#32) (ix2 d r) = ∑ s ∈ Finset.range 1664, v s d * cd r s := by
  pointwise [hV, hC]
  exact Fin.sum_univ_eq_sum_range (fun s => v s d * cd r s) 1664

theorem product1792_apply {V : FVec Ideal S128x1792 .fp8e4m3} {C : FVec Ideal S1x1792x512 .fp8e4m3}
    (hV : ∀ d s, V (ix2 d s) = v s.val d) (hC : ∀ s r, C (ix3 0 s r) = cd r s.val) (d : Fin 128) (r : Fin 512) :
    matmul dot_S128x1792_S1792x512_S128x512_1_0_0_1_n_n none V (shapeCast S1792x512 C shapeCasts_S1x1792x512_S1792x512)
      (constant S128x512 .f32 0x00000000#32) (ix2 d r) = ∑ s ∈ Finset.range 1792, v s d * cd r s := by
  pointwise [hV, hC]
  exact Fin.sum_univ_eq_sum_range (fun s => v s d * cd r s) 1792

theorem product1920_apply {V : FVec Ideal S128x1920 .fp8e4m3} {C : FVec Ideal S1x1920x512 .fp8e4m3}
    (hV : ∀ d s, V (ix2 d s) = v s.val d) (hC : ∀ s r, C (ix3 0 s r) = cd r s.val) (d : Fin 128) (r : Fin 512) :
    matmul dot_S128x1920_S1920x512_S128x512_1_0_0_1_n_n none V (shapeCast S1920x512 C shapeCasts_S1x1920x512_S1920x512)
      (constant S128x512 .f32 0x00000000#32) (ix2 d r) = ∑ s ∈ Finset.range 1920, v s d * cd r s := by
  pointwise [hV, hC]
  exact Fin.sum_univ_eq_sum_range (fun s => v s d * cd r s) 1920

theorem product2048_apply {V : FVec Ideal S128x2048 .fp8e4m3} {C : FVec Ideal S1x2048x512 .fp8e4m3}
    (hV : ∀ d s, V (ix2 d s) = v s.val d) (hC : ∀ s r, C (ix3 0 s r) = cd r s.val) (d : Fin 128) (r : Fin 512) :
    matmul dot_S128x2048_S2048x512_S128x512_1_0_0_1_n_n none V (shapeCast S2048x512 C shapeCasts_S1x2048x512_S2048x512)
      (constant S128x512 .f32 0x00000000#32) (ix2 d r) = ∑ s ∈ Finset.range 2048, v s d * cd r s := by
  pointwise [hV, hC]
  exact Fin.sum_univ_eq_sum_range (fun s => v s d * cd r s) 2048

end Cert.KernelIdeal.Block

end
-- ==== Proof.BlocksA.lean ====
/- Query blocks 0, 1, 2, 3, 4, 5, 6, 7: every value the kernel names, read at an index. -/
module

public import proofs.«01_k».proof.Proof.Readings
public import proofs.«01_k».proof.Proof.Rows

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Gen.kernelRun0_A.sl

variable {c : Dev nD} {i : grid0.Coords}
  {a2 : Memref sig .tc .vmem S1x1x8192x128 .bf16} {h2 : a2.IsWhole}
  {a3 : Memref sig .tc .vmem S1x1x4x16 .f32} {h3 : a3.IsWhole}
  {a4 : Memref sig .tc .vmem S1x4x16x128 .bf16} {h4 : a4.IsWhole}
  {a5 : Memref sig .tc .vmem S1x1x2048x128 .bf16} {h5 : a5.IsWhole}
  {a6 : Memref sig .tc .vmem S1x1x32x1 .f32} {h6 : a6.IsWhole}
  {a7 : Memref sig .tc .vmem S1x1x2048x128 .bf16} {h7 : a7.IsWhole}
  {a8 : Memref sig .tc .vmem S1x4x128 .f32} {h8 : a8.IsWhole}
  {a10 : Memref sig .tc .vmem S2048x128 .fp8e4m3}
  {a11 : Memref sig .tc .vmem S2048x128 .bf16}
  {a12 : Memref sig .tc .vmem S32x128 .f32}
  {a13 : Memref sig .tc .vmem S128x2048 .fp8e4m3}
  {a14 : Memref sig .tc .vmem S8192x128 .fp8e4m3}
  {a15 : Memref sig .tc .vmem S128x128 .f32}
  {a16 : Memref sig .tc .vmem S128x128 .f32}
  {a17 : Memref sig .tc .vmem S2x2048x512 .f32}
  {a18 : Memref sig .tc .vmem S2x2048x512 .fp8e4m3}
  {a19 : Memref sig .tc .vmem S2x512x128 .f32}
  {x0 : Vec Ideal S1x1x8192x128 .bf16}  {x1 : Vec Ideal S1x1x4x16 .f32}  {x2 : Vec Ideal S1x4x16x128 .bf16}
  {x3 : Vec Ideal S1x1x2048x128 .bf16}  {x4 : Vec Ideal S1x1x32x1 .f32}
  {x5 : Vec Ideal S1x1x2048x128 .bf16}  {x6 : Vec Ideal S1x4x128 .f32}

/-! ## Query block 0 -/

theorem scores0_0 (s : Fin 128) (r : Fin 512) : (v462 c a2 h2 a3 h3 a4 h4 a5 h5 a10 a11 a14 a15 x0 x1 x2 x3) (ix2 s r) = (score x0 x1 x2 x3 0 r (0 + s.val)) :=
  mask_apply (raw128_apply (keys8_read (by omega)) (keys16_read (by omega)) (query_read (by omega) (by omega)) (tile_apply (mean_read (by omega) (by omega)))) (by omega) s r

theorem top0_0 (hp : Positive x1 x4) (u : Fin 8) (r : Fin 512) : (v474 c a2 h2 a3 h3 a4 h4 a5 h5 a6 h6 a10 a11 a12 a14 a15 a16 x0 x1 x2 x3 x4) (ix2 u r) = top (logit x0 x1 x2 x3 x4 0) 0 u r :=
  top_first (hp 0) (cut128_apply scores0_0 (by omega)) (queryScale_read (by omega) (by omega)) (keyScale_read (by omega)) u r

theorem top0_1 (hp : Positive x1 x4) (u : Fin 8) (r : Fin 512) : (v484 c a2 h2 a3 h3 a4 h4 a5 h5 a6 h6 a10 a11 a12 a14 a15 a16 x0 x1 x2 x3 x4) (ix2 u r) = top (logit x0 x1 x2 x3 x4 0) 1 u r :=
  top_next (hp 0) (top0_0 hp) (cut128_apply scores0_0 (by omega)) (queryScale_read (by omega) (by omega)) (keyScale_read (by omega)) u r

theorem shift0 (hp : Positive x1 x4) (r : Fin 512) : (v488 c a2 h2 a3 h3 a4 h4 a5 h5 a6 h6 a10 a11 a12 a14 a15 a16 x0 x1 x2 x3 x4) (ix2 0 r) = shift (logit x0 x1 x2 x3 x4 0) 1 r :=
  shift_apply (top0_1 hp) r

theorem prb0_0 (hp : Positive x1 x4) (s : Fin 64) (r : Fin 512) : (v504 c a2 h2 a3 h3 a4 h4 a5 h5 a6 h6 a10 a11 a12 a14 a15 a16 a17 x0 x1 x2 x3 x4) (ix2 s r) = prb x0 x1 x2 x3 x4 0 r (0 + s.val) :=
  prob_apply (g := 0) (fun s r => scores_hit (by omega) (by omega) (store128_apply scores0_0) s r) (queryScale_read (by omega) (by omega)) (keyScale_read (by omega)) (shift0 hp) s r

theorem mass0_0 (hp : Positive x1 x4) (u : Fin 8) (r : Fin 512) : (v507 c a2 h2 a3 h3 a4 h4 a5 h5 a6 h6 a10 a11 a12 a14 a15 a16 a17 x0 x1 x2 x3 x4) (ix2 u r) = mass (prb x0 x1 x2 x3 x4 0) 0 u r :=
  mass_first (prb0_0 hp) u r

theorem prb0_1 (hp : Positive x1 x4) (s : Fin 64) (r : Fin 512) : (v530 c a2 h2 a3 h3 a4 h4 a5 h5 a6 h6 a10 a11 a12 a14 a15 a16 a17 x0 x1 x2 x3 x4) (ix2 s r) = prb x0 x1 x2 x3 x4 0 r (64 + s.val) :=
  prob_apply (g := 1) (fun s r => scores_hit (by omega) (by omega) (store128_apply scores0_0) s r) (queryScale_read (by omega) (by omega)) (keyScale_read (by omega)) (shift0 hp) s r

theorem mass0_1 (hp : Positive x1 x4) (u : Fin 8) (r : Fin 512) : (v533 c a2 h2 a3 h3 a4 h4 a5 h5 a6 h6 a10 a11 a12 a14 a15 a16 a17 x0 x1 x2 x3 x4) (ix2 u r) = mass (prb x0 x1 x2 x3 x4 0) 1 u r :=
  mass_next (mass0_0 hp) (prb0_1 hp) u r

theorem row0 (hp : Positive x1 x4) (r : Fin 512) (d : Fin 128) : (v555 c a2 h2 a3 h3 a4 h4 a5 h5 a6 h6 a7 h7 a10 a11 a12 a13 a14 a15 a16 a17 a18 x0 x1 x2 x3 x4 x5) (ix3 0 r d) = row x0 x1 x2 x3 x4 x5 0 r d :=
  rows_apply (product128_apply (value_read (by omega)) (fun s r => (codes_start (by omega) (by omega) s r).trans (codes_step (codes_apply (prb0_1 hp)) s.isLt fun _ =>
      codes_step (codes_apply (prb0_0 hp)) (by omega) fun _ =>
      absurd ‹_› (by omega)))) (mass0_1 hp) r d

theorem head0_0 (hp : Positive x1 x4) (t d : Fin 128) : (v563 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 0 0 t d :=
  (head_apply _ _ t d).trans (congrArg₂ (· * ·) ((head_read (by omega) t d).trans ((row0 hp _ d).trans (congrArg (fun a => row x0 x1 x2 x3 x4 x5 0 a d) (Fin.ext (by dsimp only; omega))))) (valueScales d))

theorem head0_1 (hp : Positive x1 x4) (t d : Fin 128) : (v571 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 0 1 t d :=
  (head_apply _ _ t d).trans (congrArg₂ (· * ·) ((head_read (by omega) t d).trans ((row0 hp _ d).trans (congrArg (fun a => row x0 x1 x2 x3 x4 x5 0 a d) (Fin.ext (by dsimp only; omega))))) (valueScales d))

theorem head0_2 (hp : Positive x1 x4) (t d : Fin 128) : (v579 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 0 2 t d :=
  (head_apply _ _ t d).trans (congrArg₂ (· * ·) ((head_read (by omega) t d).trans ((row0 hp _ d).trans (congrArg (fun a => row x0 x1 x2 x3 x4 x5 0 a d) (Fin.ext (by dsimp only; omega))))) (valueScales d))

theorem head0_3 (hp : Positive x1 x4) (t d : Fin 128) : (v587 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 0 3 t d :=
  (head_apply _ _ t d).trans (congrArg₂ (· * ·) ((head_read (by omega) t d).trans ((row0 hp _ d).trans (congrArg (fun a => row x0 x1 x2 x3 x4 x5 0 a d) (Fin.ext (by dsimp only; omega))))) (valueScales d))

/-! ## Query block 1 -/

theorem scores1_0 (s : Fin 256) (r : Fin 512) : (v605 c a2 h2 a3 h3 a4 h4 a5 h5 a10 a11 a14 a15 x0 x1 x2 x3) (ix2 s r) = (score x0 x1 x2 x3 1 r (0 + s.val)) :=
  tail256_apply (raw256_apply (keys8_read (by omega)) (keys16_read (by omega)) (query_read (by omega) (by omega)) (tile_apply (mean_read (by omega) (by omega)))) (by omega) s r

theorem top1_0 (hp : Positive x1 x4) (u : Fin 8) (r : Fin 512) : (v617 c a2 h2 a3 h3 a4 h4 a5 h5 a6 h6 a10 a11 a12 a14 a15 a16 x0 x1 x2 x3 x4) (ix2 u r) = top (logit x0 x1 x2 x3 x4 1) 0 u r :=
  top_first (hp 1) (cut256_apply scores1_0 (by omega)) (queryScale_read (by omega) (by omega)) (keyScale_read (by omega)) u r

theorem top1_1 (hp : Positive x1 x4) (u : Fin 8) (r : Fin 512) : (v627 c a2 h2 a3 h3 a4 h4 a5 h5 a6 h6 a10 a11 a12 a14 a15 a16 x0 x1 x2 x3 x4) (ix2 u r) = top (logit x0 x1 x2 x3 x4 1) 1 u r :=
  top_next (hp 1) (top1_0 hp) (cut256_apply scores1_0 (by omega)) (queryScale_read (by omega) (by omega)) (keyScale_read (by omega)) u r

theorem top1_2 (hp : Positive x1 x4) (u : Fin 8) (r : Fin 512) : (v637 c a2 h2 a3 h3 a4 h4 a5 h5 a6 h6 a10 a11 a12 a14 a15 a16 x0 x1 x2 x3 x4) (ix2 u r) = top (logit x0 x1 x2 x3 x4 1) 2 u r :=
  top_next (hp 1) (top1_1 hp) (cut256_apply scores1_0 (by omega)) (queryScale_read (by omega) (by omega)) (keyScale_read (by omega)) u r

theorem top1_3 (hp : Positive x1 x4) (u : Fin 8) (r : Fin 512) : (v647 c a2 h2 a3 h3 a4 h4 a5 h5 a6 h6 a10 a11 a12 a14 a15 a16 x0 x1 x2 x3 x4) (ix2 u r) = top (logit x0 x1 x2 x3 x4 1) 3 u r :=
  top_next (hp 1) (top1_2 hp) (cut256_apply scores1_0 (by omega)) (queryScale_read (by omega) (by omega)) (keyScale_read (by omega)) u r

theorem shift1 (hp : Positive x1 x4) (r : Fin 512) : (v651 c a2 h2 a3 h3 a4 h4 a5 h5 a6 h6 a10 a11 a12 a14 a15 a16 x0 x1 x2 x3 x4) (ix2 0 r) = shift (logit x0 x1 x2 x3 x4 1) 3 r :=
  shift_apply (top1_3 hp) r

theorem prb1_0 (hp : Positive x1 x4) (s : Fin 64) (r : Fin 512) : (v667 c a2 h2 a3 h3 a4 h4 a5 h5 a6 h6 a10 a11 a12 a14 a15 a16 a17 x0 x1 x2 x3 x4) (ix2 s r) = prb x0 x1 x2 x3 x4 1 r (0 + s.val) :=
  prob_apply (g := 0) (fun s r => scores_hit (by omega) (by omega) (store256_apply scores1_0) s r) (queryScale_read (by omega) (by omega)) (keyScale_read (by omega)) (shift1 hp) s r

theorem mass1_0 (hp : Positive x1 x4) (u : Fin 8) (r : Fin 512) : (v670 c a2 h2 a3 h3 a4 h4 a5 h5 a6 h6 a10 a11 a12 a14 a15 a16 a17 x0 x1 x2 x3 x4) (ix2 u r) = mass (prb x0 x1 x2 x3 x4 1) 0 u r :=
  mass_first (prb1_0 hp) u r

theorem prb1_1 (hp : Positive x1 x4) (s : Fin 64) (r : Fin 512) : (v693 c a2 h2 a3 h3 a4 h4 a5 h5 a6 h6 a10 a11 a12 a14 a15 a16 a17 x0 x1 x2 x3 x4) (ix2 s r) = prb x0 x1 x2 x3 x4 1 r (64 + s.val) :=
  prob_apply (g := 1) (fun s r => scores_hit (by omega) (by omega) (store256_apply scores1_0) s r) (queryScale_read (by omega) (by omega)) (keyScale_read (by omega)) (shift1 hp) s r

theorem mass1_1 (hp : Positive x1 x4) (u : Fin 8) (r : Fin 512) : (v696 c a2 h2 a3 h3 a4 h4 a5 h5 a6 h6 a10 a11 a12 a14 a15 a16 a17 x0 x1 x2 x3 x4) (ix2 u r) = mass (prb x0 x1 x2 x3 x4 1) 1 u r :=
  mass_next (mass1_0 hp) (prb1_1 hp) u r

theorem prb1_2 (hp : Positive x1 x4) (s : Fin 64) (r : Fin 512) : (v719 c a2 h2 a3 h3 a4 h4 a5 h5 a6 h6 a10 a11 a12 a14 a15 a16 a17 x0 x1 x2 x3 x4) (ix2 s r) = prb x0 x1 x2 x3 x4 1 r (128 + s.val) :=
  prob_apply (g := 2) (fun s r => scores_hit (by omega) (by omega) (store256_apply scores1_0) s r) (queryScale_read (by omega) (by omega)) (keyScale_read (by omega)) (shift1 hp) s r

theorem mass1_2 (hp : Positive x1 x4) (u : Fin 8) (r : Fin 512) : (v722 c a2 h2 a3 h3 a4 h4 a5 h5 a6 h6 a10 a11 a12 a14 a15 a16 a17 x0 x1 x2 x3 x4) (ix2 u r) = mass (prb x0 x1 x2 x3 x4 1) 2 u r :=
  mass_next (mass1_1 hp) (prb1_2 hp) u r

theorem prb1_3 (hp : Positive x1 x4) (s : Fin 64) (r : Fin 512) : (v745 c a2 h2 a3 h3 a4 h4 a5 h5 a6 h6 a10 a11 a12 a14 a15 a16 a17 x0 x1 x2 x3 x4) (ix2 s r) = prb x0 x1 x2 x3 x4 1 r (192 + s.val) :=
  prob_apply (g := 3) (fun s r => scores_hit (by omega) (by omega) (store256_apply scores1_0) s r) (queryScale_read (by omega) (by omega)) (keyScale_read (by omega)) (shift1 hp) s r

theorem mass1_3 (hp : Positive x1 x4) (u : Fin 8) (r : Fin 512) : (v748 c a2 h2 a3 h3 a4 h4 a5 h5 a6 h6 a10 a11 a12 a14 a15 a16 a17 x0 x1 x2 x3 x4) (ix2 u r) = mass (prb x0 x1 x2 x3 x4 1) 3 u r :=
  mass_next (mass1_2 hp) (prb1_3 hp) u r

theorem row1 (hp : Positive x1 x4) (r : Fin 512) (d : Fin 128) : (v770 c a2 h2 a3 h3 a4 h4 a5 h5 a6 h6 a7 h7 a10 a11 a12 a13 a14 a15 a16 a17 a18 x0 x1 x2 x3 x4 x5) (ix3 0 r d) = row x0 x1 x2 x3 x4 x5 1 r d :=
  rows_apply (product256_apply (value_read (by omega)) (fun s r => (codes_start (by omega) (by omega) s r).trans (codes_step (codes_apply (prb1_3 hp)) s.isLt fun _ =>
      codes_step (codes_apply (prb1_2 hp)) (by omega) fun _ =>
      codes_step (codes_apply (prb1_1 hp)) (by omega) fun _ =>
      codes_step (codes_apply (prb1_0 hp)) (by omega) fun _ =>
      absurd ‹_› (by omega)))) (mass1_3 hp) r d

theorem head1_0 (hp : Positive x1 x4) (t d : Fin 128) : (v778 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 1 0 t d :=
  (head_apply _ _ t d).trans (congrArg₂ (· * ·) ((head_read (by omega) t d).trans ((row1 hp _ d).trans (congrArg (fun a => row x0 x1 x2 x3 x4 x5 1 a d) (Fin.ext (by dsimp only; omega))))) (valueScales d))

theorem head1_1 (hp : Positive x1 x4) (t d : Fin 128) : (v786 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 1 1 t d :=
  (head_apply _ _ t d).trans (congrArg₂ (· * ·) ((head_read (by omega) t d).trans ((row1 hp _ d).trans (congrArg (fun a => row x0 x1 x2 x3 x4 x5 1 a d) (Fin.ext (by dsimp only; omega))))) (valueScales d))

theorem head1_2 (hp : Positive x1 x4) (t d : Fin 128) : (v794 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 1 2 t d :=
  (head_apply _ _ t d).trans (congrArg₂ (· * ·) ((head_read (by omega) t d).trans ((row1 hp _ d).trans (congrArg (fun a => row x0 x1 x2 x3 x4 x5 1 a d) (Fin.ext (by dsimp only; omega))))) (valueScales d))

theorem head1_3 (hp : Positive x1 x4) (t d : Fin 128) : (v802 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 1 3 t d :=
  (head_apply _ _ t d).trans (congrArg₂ (· * ·) ((head_read (by omega) t d).trans ((row1 hp _ d).trans (congrArg (fun a => row x0 x1 x2 x3 x4 x5 1 a d) (Fin.ext (by dsimp only; omega))))) (valueScales d))

/-! ## Query block 2 -/

theorem scores2_0 (s : Fin 384) (r : Fin 512) : (v820 c a2 h2 a3 h3 a4 h4 a5 h5 a10 a11 a14 a15 x0 x1 x2 x3) (ix2 s r) = (score x0 x1 x2 x3 2 r (0 + s.val)) :=
  tail384_apply (raw384_apply (keys8_read (by omega)) (keys16_read (by omega)) (query_read (by omega) (by omega)) (tile_apply (mean_read (by omega) (by omega)))) (by omega) s r

theorem top2_0 (hp : Positive x1 x4) (u : Fin 8) (r : Fin 512) : (v832 c a2 h2 a3 h3 a4 h4 a5 h5 a6 h6 a10 a11 a12 a14 a15 a16 x0 x1 x2 x3 x4) (ix2 u r) = top (logit x0 x1 x2 x3 x4 2) 0 u r :=
  top_first (hp 2) (cut384_apply scores2_0 (by omega)) (queryScale_read (by omega) (by omega)) (keyScale_read (by omega)) u r

theorem top2_1 (hp : Positive x1 x4) (u : Fin 8) (r : Fin 512) : (v842 c a2 h2 a3 h3 a4 h4 a5 h5 a6 h6 a10 a11 a12 a14 a15 a16 x0 x1 x2 x3 x4) (ix2 u r) = top (logit x0 x1 x2 x3 x4 2) 1 u r :=
  top_next (hp 2) (top2_0 hp) (cut384_apply scores2_0 (by omega)) (queryScale_read (by omega) (by omega)) (keyScale_read (by omega)) u r

theorem top2_2 (hp : Positive x1 x4) (u : Fin 8) (r : Fin 512) : (v852 c a2 h2 a3 h3 a4 h4 a5 h5 a6 h6 a10 a11 a12 a14 a15 a16 x0 x1 x2 x3 x4) (ix2 u r) = top (logit x0 x1 x2 x3 x4 2) 2 u r :=
  top_next (hp 2) (top2_1 hp) (cut384_apply scores2_0 (by omega)) (queryScale_read (by omega) (by omega)) (keyScale_read (by omega)) u r

theorem top2_3 (hp : Positive x1 x4) (u : Fin 8) (r : Fin 512) : (v862 c a2 h2 a3 h3 a4 h4 a5 h5 a6 h6 a10 a11 a12 a14 a15 a16 x0 x1 x2 x3 x4) (ix2 u r) = top (logit x0 x1 x2 x3 x4 2) 3 u r :=
  top_next (hp 2) (top2_2 hp) (cut384_apply scores2_0 (by omega)) (queryScale_read (by omega) (by omega)) (keyScale_read (by omega)) u r

theorem top2_4 (hp : Positive x1 x4) (u : Fin 8) (r : Fin 512) : (v872 c a2 h2 a3 h3 a4 h4 a5 h5 a6 h6 a10 a11 a12 a14 a15 a16 x0 x1 x2 x3 x4) (ix2 u r) = top (logit x0 x1 x2 x3 x4 2) 4 u r :=
  top_next (hp 2) (top2_3 hp) (cut384_apply scores2_0 (by omega)) (queryScale_read (by omega) (by omega)) (keyScale_read (by omega)) u r

theorem top2_5 (hp : Positive x1 x4) (u : Fin 8) (r : Fin 512) : (v882 c a2 h2 a3 h3 a4 h4 a5 h5 a6 h6 a10 a11 a12 a14 a15 a16 x0 x1 x2 x3 x4) (ix2 u r) = top (logit x0 x1 x2 x3 x4 2) 5 u r :=
  top_next (hp 2) (top2_4 hp) (cut384_apply scores2_0 (by omega)) (queryScale_read (by omega) (by omega)) (keyScale_read (by omega)) u r

theorem shift2 (hp : Positive x1 x4) (r : Fin 512) : (v886 c a2 h2 a3 h3 a4 h4 a5 h5 a6 h6 a10 a11 a12 a14 a15 a16 x0 x1 x2 x3 x4) (ix2 0 r) = shift (logit x0 x1 x2 x3 x4 2) 5 r :=
  shift_apply (top2_5 hp) r

theorem prb2_0 (hp : Positive x1 x4) (s : Fin 64) (r : Fin 512) : (v902 c a2 h2 a3 h3 a4 h4 a5 h5 a6 h6 a10 a11 a12 a14 a15 a16 a17 x0 x1 x2 x3 x4) (ix2 s r) = prb x0 x1 x2 x3 x4 2 r (0 + s.val) :=
  prob_apply (g := 0) (fun s r => scores_hit (by omega) (by omega) (store384_apply scores2_0) s r) (queryScale_read (by omega) (by omega)) (keyScale_read (by omega)) (shift2 hp) s r

theorem mass2_0 (hp : Positive x1 x4) (u : Fin 8) (r : Fin 512) : (v905 c a2 h2 a3 h3 a4 h4 a5 h5 a6 h6 a10 a11 a12 a14 a15 a16 a17 x0 x1 x2 x3 x4) (ix2 u r) = mass (prb x0 x1 x2 x3 x4 2) 0 u r :=
  mass_first (prb2_0 hp) u r

theorem prb2_1 (hp : Positive x1 x4) (s : Fin 64) (r : Fin 512) : (v928 c a2 h2 a3 h3 a4 h4 a5 h5 a6 h6 a10 a11 a12 a14 a15 a16 a17 x0 x1 x2 x3 x4) (ix2 s r) = prb x0 x1 x2 x3 x4 2 r (64 + s.val) :=
  prob_apply (g := 1) (fun s r => scores_hit (by omega) (by omega) (store384_apply scores2_0) s r) (queryScale_read (by omega) (by omega)) (keyScale_read (by omega)) (shift2 hp) s r

theorem mass2_1 (hp : Positive x1 x4) (u : Fin 8) (r : Fin 512) : (v931 c a2 h2 a3 h3 a4 h4 a5 h5 a6 h6 a10 a11 a12 a14 a15 a16 a17 x0 x1 x2 x3 x4) (ix2 u r) = mass (prb x0 x1 x2 x3 x4 2) 1 u r :=
  mass_next (mass2_0 hp) (prb2_1 hp) u r

theorem prb2_2 (hp : Positive x1 x4) (s : Fin 64) (r : Fin 512) : (v954 c a2 h2 a3 h3 a4 h4 a5 h5 a6 h6 a10 a11 a12 a14 a15 a16 a17 x0 x1 x2 x3 x4) (ix2 s r) = prb x0 x1 x2 x3 x4 2 r (128 + s.val) :=
  prob_apply (g := 2) (fun s r => scores_hit (by omega) (by omega) (store384_apply scores2_0) s r) (queryScale_read (by omega) (by omega)) (keyScale_read (by omega)) (shift2 hp) s r

theorem mass2_2 (hp : Positive x1 x4) (u : Fin 8) (r : Fin 512) : (v957 c a2 h2 a3 h3 a4 h4 a5 h5 a6 h6 a10 a11 a12 a14 a15 a16 a17 x0 x1 x2 x3 x4) (ix2 u r) = mass (prb x0 x1 x2 x3 x4 2) 2 u r :=
  mass_next (mass2_1 hp) (prb2_2 hp) u r

theorem prb2_3 (hp : Positive x1 x4) (s : Fin 64) (r : Fin 512) : (v980 c a2 h2 a3 h3 a4 h4 a5 h5 a6 h6 a10 a11 a12 a14 a15 a16 a17 x0 x1 x2 x3 x4) (ix2 s r) = prb x0 x1 x2 x3 x4 2 r (192 + s.val) :=
  prob_apply (g := 3) (fun s r => scores_hit (by omega) (by omega) (store384_apply scores2_0) s r) (queryScale_read (by omega) (by omega)) (keyScale_read (by omega)) (shift2 hp) s r

theorem mass2_3 (hp : Positive x1 x4) (u : Fin 8) (r : Fin 512) : (v983 c a2 h2 a3 h3 a4 h4 a5 h5 a6 h6 a10 a11 a12 a14 a15 a16 a17 x0 x1 x2 x3 x4) (ix2 u r) = mass (prb x0 x1 x2 x3 x4 2) 3 u r :=
  mass_next (mass2_2 hp) (prb2_3 hp) u r

theorem prb2_4 (hp : Positive x1 x4) (s : Fin 64) (r : Fin 512) : (v1006 c a2 h2 a3 h3 a4 h4 a5 h5 a6 h6 a10 a11 a12 a14 a15 a16 a17 x0 x1 x2 x3 x4) (ix2 s r) = prb x0 x1 x2 x3 x4 2 r (256 + s.val) :=
  prob_apply (g := 4) (fun s r => scores_hit (by omega) (by omega) (store384_apply scores2_0) s r) (queryScale_read (by omega) (by omega)) (keyScale_read (by omega)) (shift2 hp) s r

theorem mass2_4 (hp : Positive x1 x4) (u : Fin 8) (r : Fin 512) : (v1009 c a2 h2 a3 h3 a4 h4 a5 h5 a6 h6 a10 a11 a12 a14 a15 a16 a17 x0 x1 x2 x3 x4) (ix2 u r) = mass (prb x0 x1 x2 x3 x4 2) 4 u r :=
  mass_next (mass2_3 hp) (prb2_4 hp) u r

theorem prb2_5 (hp : Positive x1 x4) (s : Fin 64) (r : Fin 512) : (v1032 c a2 h2 a3 h3 a4 h4 a5 h5 a6 h6 a10 a11 a12 a14 a15 a16 a17 x0 x1 x2 x3 x4) (ix2 s r) = prb x0 x1 x2 x3 x4 2 r (320 + s.val) :=
  prob_apply (g := 5) (fun s r => scores_hit (by omega) (by omega) (store384_apply scores2_0) s r) (queryScale_read (by omega) (by omega)) (keyScale_read (by omega)) (shift2 hp) s r

theorem mass2_5 (hp : Positive x1 x4) (u : Fin 8) (r : Fin 512) : (v1035 c a2 h2 a3 h3 a4 h4 a5 h5 a6 h6 a10 a11 a12 a14 a15 a16 a17 x0 x1 x2 x3 x4) (ix2 u r) = mass (prb x0 x1 x2 x3 x4 2) 5 u r :=
  mass_next (mass2_4 hp) (prb2_5 hp) u r

theorem row2 (hp : Positive x1 x4) (r : Fin 512) (d : Fin 128) : (v1057 c a2 h2 a3 h3 a4 h4 a5 h5 a6 h6 a7 h7 a10 a11 a12 a13 a14 a15 a16 a17 a18 x0 x1 x2 x3 x4 x5) (ix3 0 r d) = row x0 x1 x2 x3 x4 x5 2 r d :=
  rows_apply (product384_apply (value_read (by omega)) (fun s r => (codes_start (by omega) (by omega) s r).trans (codes_step (codes_apply (prb2_5 hp)) s.isLt fun _ =>
      codes_step (codes_apply (prb2_4 hp)) (by omega) fun _ =>
      codes_step (codes_apply (prb2_3 hp)) (by omega) fun _ =>
      codes_step (codes_apply (prb2_2 hp)) (by omega) fun _ =>
      codes_step (codes_apply (prb2_1 hp)) (by omega) fun _ =>
      codes_step (codes_apply (prb2_0 hp)) (by omega) fun _ =>
      absurd ‹_› (by omega)))) (mass2_5 hp) r d

theorem head2_0 (hp : Positive x1 x4) (t d : Fin 128) : (v1065 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 2 0 t d :=
  (head_apply _ _ t d).trans (congrArg₂ (· * ·) ((head_read (by omega) t d).trans ((row2 hp _ d).trans (congrArg (fun a => row x0 x1 x2 x3 x4 x5 2 a d) (Fin.ext (by dsimp only; omega))))) (valueScales d))

theorem head2_1 (hp : Positive x1 x4) (t d : Fin 128) : (v1073 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 2 1 t d :=
  (head_apply _ _ t d).trans (congrArg₂ (· * ·) ((head_read (by omega) t d).trans ((row2 hp _ d).trans (congrArg (fun a => row x0 x1 x2 x3 x4 x5 2 a d) (Fin.ext (by dsimp only; omega))))) (valueScales d))

theorem head2_2 (hp : Positive x1 x4) (t d : Fin 128) : (v1081 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 2 2 t d :=
  (head_apply _ _ t d).trans (congrArg₂ (· * ·) ((head_read (by omega) t d).trans ((row2 hp _ d).trans (congrArg (fun a => row x0 x1 x2 x3 x4 x5 2 a d) (Fin.ext (by dsimp only; omega))))) (valueScales d))

theorem head2_3 (hp : Positive x1 x4) (t d : Fin 128) : (v1089 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 2 3 t d :=
  (head_apply _ _ t d).trans (congrArg₂ (· * ·) ((head_read (by omega) t d).trans ((row2 hp _ d).trans (congrArg (fun a => row x0 x1 x2 x3 x4 x5 2 a d) (Fin.ext (by dsimp only; omega))))) (valueScales d))

/-! ## Query block 3 -/

theorem scores3_0 (s : Fin 512) (r : Fin 512) : (v1107 c a2 h2 a3 h3 a4 h4 a5 h5 a10 a11 a14 a15 x0 x1 x2 x3) (ix2 s r) = (score x0 x1 x2 x3 3 r (0 + s.val)) :=
  tail512_apply (raw512_apply (keys8_read (by omega)) (keys16_read (by omega)) (query_read (by omega) (by omega)) (tile_apply (mean_read (by omega) (by omega)))) (by omega) s r

theorem top3_0 (hp : Positive x1 x4) (u : Fin 8) (r : Fin 512) : (v1119 c a2 h2 a3 h3 a4 h4 a5 h5 a6 h6 a10 a11 a12 a14 a15 a16 x0 x1 x2 x3 x4) (ix2 u r) = top (logit x0 x1 x2 x3 x4 3) 0 u r :=
  top_first (hp 3) (cut512_apply scores3_0 (by omega)) (queryScale_read (by omega) (by omega)) (keyScale_read (by omega)) u r

theorem top3_1 (hp : Positive x1 x4) (u : Fin 8) (r : Fin 512) : (v1129 c a2 h2 a3 h3 a4 h4 a5 h5 a6 h6 a10 a11 a12 a14 a15 a16 x0 x1 x2 x3 x4) (ix2 u r) = top (logit x0 x1 x2 x3 x4 3) 1 u r :=
  top_next (hp 3) (top3_0 hp) (cut512_apply scores3_0 (by omega)) (queryScale_read (by omega) (by omega)) (keyScale_read (by omega)) u r

theorem top3_2 (hp : Positive x1 x4) (u : Fin 8) (r : Fin 512) : (v1139 c a2 h2 a3 h3 a4 h4 a5 h5 a6 h6 a10 a11 a12 a14 a15 a16 x0 x1 x2 x3 x4) (ix2 u r) = top (logit x0 x1 x2 x3 x4 3) 2 u r :=
  top_next (hp 3) (top3_1 hp) (cut512_apply scores3_0 (by omega)) (queryScale_read (by omega) (by omega)) (keyScale_read (by omega)) u r

theorem top3_3 (hp : Positive x1 x4) (u : Fin 8) (r : Fin 512) : (v1149 c a2 h2 a3 h3 a4 h4 a5 h5 a6 h6 a10 a11 a12 a14 a15 a16 x0 x1 x2 x3 x4) (ix2 u r) = top (logit x0 x1 x2 x3 x4 3) 3 u r :=
  top_next (hp 3) (top3_2 hp) (cut512_apply scores3_0 (by omega)) (queryScale_read (by omega) (by omega)) (keyScale_read (by omega)) u r

theorem top3_4 (hp : Positive x1 x4) (u : Fin 8) (r : Fin 512) : (v1159 c a2 h2 a3 h3 a4 h4 a5 h5 a6 h6 a10 a11 a12 a14 a15 a16 x0 x1 x2 x3 x4) (ix2 u r) = top (logit x0 x1 x2 x3 x4 3) 4 u r :=
  top_next (hp 3) (top3_3 hp) (cut512_apply scores3_0 (by omega)) (queryScale_read (by omega) (by omega)) (keyScale_read (by omega)) u r

theorem top3_5 (hp : Positive x1 x4) (u : Fin 8) (r : Fin 512) : (v1169 c a2 h2 a3 h3 a4 h4 a5 h5 a6 h6 a10 a11 a12 a14 a15 a16 x0 x1 x2 x3 x4) (ix2 u r) = top (logit x0 x1 x2 x3 x4 3) 5 u r :=
  top_next (hp 3) (top3_4 hp) (cut512_apply scores3_0 (by omega)) (queryScale_read (by omega) (by omega)) (keyScale_read (by omega)) u r

theorem top3_6 (hp : Positive x1 x4) (u : Fin 8) (r : Fin 512) : (v1179 c a2 h2 a3 h3 a4 h4 a5 h5 a6 h6 a10 a11 a12 a14 a15 a16 x0 x1 x2 x3 x4) (ix2 u r) = top (logit x0 x1 x2 x3 x4 3) 6 u r :=
  top_next (hp 3) (top3_5 hp) (cut512_apply scores3_0 (by omega)) (queryScale_read (by omega) (by omega)) (keyScale_read (by omega)) u r

theorem top3_7 (hp : Positive x1 x4) (u : Fin 8) (r : Fin 512) : (v1189 c a2 h2 a3 h3 a4 h4 a5 h5 a6 h6 a10 a11 a12 a14 a15 a16 x0 x1 x2 x3 x4) (ix2 u r) = top (logit x0 x1 x2 x3 x4 3) 7 u r :=
  top_next (hp 3) (top3_6 hp) (cut512_apply scores3_0 (by omega)) (queryScale_read (by omega) (by omega)) (keyScale_read (by omega)) u r

theorem shift3 (hp : Positive x1 x4) (r : Fin 512) : (v1193 c a2 h2 a3 h3 a4 h4 a5 h5 a6 h6 a10 a11 a12 a14 a15 a16 x0 x1 x2 x3 x4) (ix2 0 r) = shift (logit x0 x1 x2 x3 x4 3) 7 r :=
  shift_apply (top3_7 hp) r

theorem prb3_0 (hp : Positive x1 x4) (s : Fin 64) (r : Fin 512) : (v1209 c a2 h2 a3 h3 a4 h4 a5 h5 a6 h6 a10 a11 a12 a14 a15 a16 a17 x0 x1 x2 x3 x4) (ix2 s r) = prb x0 x1 x2 x3 x4 3 r (0 + s.val) :=
  prob_apply (g := 0) (fun s r => scores_hit (by omega) (by omega) (store512_apply scores3_0) s r) (queryScale_read (by omega) (by omega)) (keyScale_read (by omega)) (shift3 hp) s r

theorem mass3_0 (hp : Positive x1 x4) (u : Fin 8) (r : Fin 512) : (v1212 c a2 h2 a3 h3 a4 h4 a5 h5 a6 h6 a10 a11 a12 a14 a15 a16 a17 x0 x1 x2 x3 x4) (ix2 u r) = mass (prb x0 x1 x2 x3 x4 3) 0 u r :=
  mass_first (prb3_0 hp) u r

theorem prb3_1 (hp : Positive x1 x4) (s : Fin 64) (r : Fin 512) : (v1235 c a2 h2 a3 h3 a4 h4 a5 h5 a6 h6 a10 a11 a12 a14 a15 a16 a17 x0 x1 x2 x3 x4) (ix2 s r) = prb x0 x1 x2 x3 x4 3 r (64 + s.val) :=
  prob_apply (g := 1) (fun s r => scores_hit (by omega) (by omega) (store512_apply scores3_0) s r) (queryScale_read (by omega) (by omega)) (keyScale_read (by omega)) (shift3 hp) s r

theorem mass3_1 (hp : Positive x1 x4) (u : Fin 8) (r : Fin 512) : (v1238 c a2 h2 a3 h3 a4 h4 a5 h5 a6 h6 a10 a11 a12 a14 a15 a16 a17 x0 x1 x2 x3 x4) (ix2 u r) = mass (prb x0 x1 x2 x3 x4 3) 1 u r :=
  mass_next (mass3_0 hp) (prb3_1 hp) u r

theorem prb3_2 (hp : Positive x1 x4) (s : Fin 64) (r : Fin 512) : (v1261 c a2 h2 a3 h3 a4 h4 a5 h5 a6 h6 a10 a11 a12 a14 a15 a16 a17 x0 x1 x2 x3 x4) (ix2 s r) = prb x0 x1 x2 x3 x4 3 r (128 + s.val) :=
  prob_apply (g := 2) (fun s r => scores_hit (by omega) (by omega) (store512_apply scores3_0) s r) (queryScale_read (by omega) (by omega)) (keyScale_read (by omega)) (shift3 hp) s r

theorem mass3_2 (hp : Positive x1 x4) (u : Fin 8) (r : Fin 512) : (v1264 c a2 h2 a3 h3 a4 h4 a5 h5 a6 h6 a10 a11 a12 a14 a15 a16 a17 x0 x1 x2 x3 x4) (ix2 u r) = mass (prb x0 x1 x2 x3 x4 3) 2 u r :=
  mass_next (mass3_1 hp) (prb3_2 hp) u r

theorem prb3_3 (hp : Positive x1 x4) (s : Fin 64) (r : Fin 512) : (v1287 c a2 h2 a3 h3 a4 h4 a5 h5 a6 h6 a10 a11 a12 a14 a15 a16 a17 x0 x1 x2 x3 x4) (ix2 s r) = prb x0 x1 x2 x3 x4 3 r (192 + s.val) :=
  prob_apply (g := 3) (fun s r => scores_hit (by omega) (by omega) (store512_apply scores3_0) s r) (queryScale_read (by omega) (by omega)) (keyScale_read (by omega)) (shift3 hp) s r

theorem mass3_3 (hp : Positive x1 x4) (u : Fin 8) (r : Fin 512) : (v1290 c a2 h2 a3 h3 a4 h4 a5 h5 a6 h6 a10 a11 a12 a14 a15 a16 a17 x0 x1 x2 x3 x4) (ix2 u r) = mass (prb x0 x1 x2 x3 x4 3) 3 u r :=
  mass_next (mass3_2 hp) (prb3_3 hp) u r

theorem prb3_4 (hp : Positive x1 x4) (s : Fin 64) (r : Fin 512) : (v1313 c a2 h2 a3 h3 a4 h4 a5 h5 a6 h6 a10 a11 a12 a14 a15 a16 a17 x0 x1 x2 x3 x4) (ix2 s r) = prb x0 x1 x2 x3 x4 3 r (256 + s.val) :=
  prob_apply (g := 4) (fun s r => scores_hit (by omega) (by omega) (store512_apply scores3_0) s r) (queryScale_read (by omega) (by omega)) (keyScale_read (by omega)) (shift3 hp) s r

theorem mass3_4 (hp : Positive x1 x4) (u : Fin 8) (r : Fin 512) : (v1316 c a2 h2 a3 h3 a4 h4 a5 h5 a6 h6 a10 a11 a12 a14 a15 a16 a17 x0 x1 x2 x3 x4) (ix2 u r) = mass (prb x0 x1 x2 x3 x4 3) 4 u r :=
  mass_next (mass3_3 hp) (prb3_4 hp) u r

theorem prb3_5 (hp : Positive x1 x4) (s : Fin 64) (r : Fin 512) : (v1339 c a2 h2 a3 h3 a4 h4 a5 h5 a6 h6 a10 a11 a12 a14 a15 a16 a17 x0 x1 x2 x3 x4) (ix2 s r) = prb x0 x1 x2 x3 x4 3 r (320 + s.val) :=
  prob_apply (g := 5) (fun s r => scores_hit (by omega) (by omega) (store512_apply scores3_0) s r) (queryScale_read (by omega) (by omega)) (keyScale_read (by omega)) (shift3 hp) s r

theorem mass3_5 (hp : Positive x1 x4) (u : Fin 8) (r : Fin 512) : (v1342 c a2 h2 a3 h3 a4 h4 a5 h5 a6 h6 a10 a11 a12 a14 a15 a16 a17 x0 x1 x2 x3 x4) (ix2 u r) = mass (prb x0 x1 x2 x3 x4 3) 5 u r :=
  mass_next (mass3_4 hp) (prb3_5 hp) u r

theorem prb3_6 (hp : Positive x1 x4) (s : Fin 64) (r : Fin 512) : (v1365 c a2 h2 a3 h3 a4 h4 a5 h5 a6 h6 a10 a11 a12 a14 a15 a16 a17 x0 x1 x2 x3 x4) (ix2 s r) = prb x0 x1 x2 x3 x4 3 r (384 + s.val) :=
  prob_apply (g := 6) (fun s r => scores_hit (by omega) (by omega) (store512_apply scores3_0) s r) (queryScale_read (by omega) (by omega)) (keyScale_read (by omega)) (shift3 hp) s r

theorem mass3_6 (hp : Positive x1 x4) (u : Fin 8) (r : Fin 512) : (v1368 c a2 h2 a3 h3 a4 h4 a5 h5 a6 h6 a10 a11 a12 a14 a15 a16 a17 x0 x1 x2 x3 x4) (ix2 u r) = mass (prb x0 x1 x2 x3 x4 3) 6 u r :=
  mass_next (mass3_5 hp) (prb3_6 hp) u r

theorem prb3_7 (hp : Positive x1 x4) (s : Fin 64) (r : Fin 512) : (v1391 c a2 h2 a3 h3 a4 h4 a5 h5 a6 h6 a10 a11 a12 a14 a15 a16 a17 x0 x1 x2 x3 x4) (ix2 s r) = prb x0 x1 x2 x3 x4 3 r (448 + s.val) :=
  prob_apply (g := 7) (fun s r => scores_hit (by omega) (by omega) (store512_apply scores3_0) s r) (queryScale_read (by omega) (by omega)) (keyScale_read (by omega)) (shift3 hp) s r

theorem mass3_7 (hp : Positive x1 x4) (u : Fin 8) (r : Fin 512) : (v1394 c a2 h2 a3 h3 a4 h4 a5 h5 a6 h6 a10 a11 a12 a14 a15 a16 a17 x0 x1 x2 x3 x4) (ix2 u r) = mass (prb x0 x1 x2 x3 x4 3) 7 u r :=
  mass_next (mass3_6 hp) (prb3_7 hp) u r

theorem row3 (hp : Positive x1 x4) (r : Fin 512) (d : Fin 128) : (v1416 c a2 h2 a3 h3 a4 h4 a5 h5 a6 h6 a7 h7 a10 a11 a12 a13 a14 a15 a16 a17 a18 x0 x1 x2 x3 x4 x5) (ix3 0 r d) = row x0 x1 x2 x3 x4 x5 3 r d :=
  rows_apply (product512_apply (value_read (by omega)) (fun s r => (codes_start (by omega) (by omega) s r).trans (codes_step (codes_apply (prb3_7 hp)) s.isLt fun _ =>
      codes_step (codes_apply (prb3_6 hp)) (by omega) fun _ =>
      codes_step (codes_apply (prb3_5 hp)) (by omega) fun _ =>
      codes_step (codes_apply (prb3_4 hp)) (by omega) fun _ =>
      codes_step (codes_apply (prb3_3 hp)) (by omega) fun _ =>
      codes_step (codes_apply (prb3_2 hp)) (by omega) fun _ =>
      codes_step (codes_apply (prb3_1 hp)) (by omega) fun _ =>
      codes_step (codes_apply (prb3_0 hp)) (by omega) fun _ =>
      absurd ‹_› (by omega)))) (mass3_7 hp) r d

theorem head3_0 (hp : Positive x1 x4) (t d : Fin 128) : (v1424 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 3 0 t d :=
  (head_apply _ _ t d).trans (congrArg₂ (· * ·) ((head_read (by omega) t d).trans ((row3 hp _ d).trans (congrArg (fun a => row x0 x1 x2 x3 x4 x5 3 a d) (Fin.ext (by dsimp only; omega))))) (valueScales d))

theorem head3_1 (hp : Positive x1 x4) (t d : Fin 128) : (v1432 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 3 1 t d :=
  (head_apply _ _ t d).trans (congrArg₂ (· * ·) ((head_read (by omega) t d).trans ((row3 hp _ d).trans (congrArg (fun a => row x0 x1 x2 x3 x4 x5 3 a d) (Fin.ext (by dsimp only; omega))))) (valueScales d))

theorem head3_2 (hp : Positive x1 x4) (t d : Fin 128) : (v1440 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 3 2 t d :=
  (head_apply _ _ t d).trans (congrArg₂ (· * ·) ((head_read (by omega) t d).trans ((row3 hp _ d).trans (congrArg (fun a => row x0 x1 x2 x3 x4 x5 3 a d) (Fin.ext (by dsimp only; omega))))) (valueScales d))

theorem head3_3 (hp : Positive x1 x4) (t d : Fin 128) : (v1448 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 3 3 t d :=
  (head_apply _ _ t d).trans (congrArg₂ (· * ·) ((head_read (by omega) t d).trans ((row3 hp _ d).trans (congrArg (fun a => row x0 x1 x2 x3 x4 x5 3 a d) (Fin.ext (by dsimp only; omega))))) (valueScales d))

/-! ## Query block 4 -/

theorem scores4_0 (s : Fin 512) (r : Fin 512) : (v1461 c a2 h2 a3 h3 a4 h4 a5 h5 a10 a11 a14 a15 x0 x1 x2 x3) (ix2 s r) = (score x0 x1 x2 x3 4 r (0 + s.val)) :=
  whole_apply (raw512_apply (keys8_read (by omega)) (keys16_read (by omega)) (query_read (by omega) (by omega)) (tile_apply (mean_read (by omega) (by omega)))) (by omega) s r

theorem scores4_1 (s : Fin 128) (r : Fin 512) : (v1551 c a2 h2 a3 h3 a4 h4 a5 h5 a10 a11 a14 a15 x0 x1 x2 x3) (ix2 s r) = (score x0 x1 x2 x3 4 r (512 + s.val)) :=
  mask_apply (raw128_apply (keys8_read (by omega)) (keys16_read (by omega)) (query_read (by omega) (by omega)) (tile_apply (mean_read (by omega) (by omega)))) (by omega) s r

theorem top4_0 (hp : Positive x1 x4) (u : Fin 8) (r : Fin 512) : (v1473 c a2 h2 a3 h3 a4 h4 a5 h5 a6 h6 a10 a11 a12 a14 a15 a16 x0 x1 x2 x3 x4) (ix2 u r) = top (logit x0 x1 x2 x3 x4 4) 0 u r :=
  top_first (hp 4) (cut512_apply scores4_0 (by omega)) (queryScale_read (by omega) (by omega)) (keyScale_read (by omega)) u r

theorem top4_1 (hp : Positive x1 x4) (u : Fin 8) (r : Fin 512) : (v1483 c a2 h2 a3 h3 a4 h4 a5 h5 a6 h6 a10 a11 a12 a14 a15 a16 x0 x1 x2 x3 x4) (ix2 u r) = top (logit x0 x1 x2 x3 x4 4) 1 u r :=
  top_next (hp 4) (top4_0 hp) (cut512_apply scores4_0 (by omega)) (queryScale_read (by omega) (by omega)) (keyScale_read (by omega)) u r

theorem top4_2 (hp : Positive x1 x4) (u : Fin 8) (r : Fin 512) : (v1493 c a2 h2 a3 h3 a4 h4 a5 h5 a6 h6 a10 a11 a12 a14 a15 a16 x0 x1 x2 x3 x4) (ix2 u r) = top (logit x0 x1 x2 x3 x4 4) 2 u r :=
  top_next (hp 4) (top4_1 hp) (cut512_apply scores4_0 (by omega)) (queryScale_read (by omega) (by omega)) (keyScale_read (by omega)) u r

theorem top4_3 (hp : Positive x1 x4) (u : Fin 8) (r : Fin 512) : (v1503 c a2 h2 a3 h3 a4 h4 a5 h5 a6 h6 a10 a11 a12 a14 a15 a16 x0 x1 x2 x3 x4) (ix2 u r) = top (logit x0 x1 x2 x3 x4 4) 3 u r :=
  top_next (hp 4) (top4_2 hp) (cut512_apply scores4_0 (by omega)) (queryScale_read (by omega) (by omega)) (keyScale_read (by omega)) u r

theorem top4_4 (hp : Positive x1 x4) (u : Fin 8) (r : Fin 512) : (v1513 c a2 h2 a3 h3 a4 h4 a5 h5 a6 h6 a10 a11 a12 a14 a15 a16 x0 x1 x2 x3 x4) (ix2 u r) = top (logit x0 x1 x2 x3 x4 4) 4 u r :=
  top_next (hp 4) (top4_3 hp) (cut512_apply scores4_0 (by omega)) (queryScale_read (by omega) (by omega)) (keyScale_read (by omega)) u r

theorem top4_5 (hp : Positive x1 x4) (u : Fin 8) (r : Fin 512) : (v1523 c a2 h2 a3 h3 a4 h4 a5 h5 a6 h6 a10 a11 a12 a14 a15 a16 x0 x1 x2 x3 x4) (ix2 u r) = top (logit x0 x1 x2 x3 x4 4) 5 u r :=
  top_next (hp 4) (top4_4 hp) (cut512_apply scores4_0 (by omega)) (queryScale_read (by omega) (by omega)) (keyScale_read (by omega)) u r

theorem top4_6 (hp : Positive x1 x4) (u : Fin 8) (r : Fin 512) : (v1533 c a2 h2 a3 h3 a4 h4 a5 h5 a6 h6 a10 a11 a12 a14 a15 a16 x0 x1 x2 x3 x4) (ix2 u r) = top (logit x0 x1 x2 x3 x4 4) 6 u r :=
  top_next (hp 4) (top4_5 hp) (cut512_apply scores4_0 (by omega)) (queryScale_read (by omega) (by omega)) (keyScale_read (by omega)) u r

theorem top4_7 (hp : Positive x1 x4) (u : Fin 8) (r : Fin 512) : (v1543 c a2 h2 a3 h3 a4 h4 a5 h5 a6 h6 a10 a11 a12 a14 a15 a16 x0 x1 x2 x3 x4) (ix2 u r) = top (logit x0 x1 x2 x3 x4 4) 7 u r :=
  top_next (hp 4) (top4_6 hp) (cut512_apply scores4_0 (by omega)) (queryScale_read (by omega) (by omega)) (keyScale_read (by omega)) u r

theorem top4_8 (hp : Positive x1 x4) (u : Fin 8) (r : Fin 512) : (v1564 c a2 h2 a3 h3 a4 h4 a5 h5 a6 h6 a10 a11 a12 a14 a15 a16 x0 x1 x2 x3 x4) (ix2 u r) = top (logit x0 x1 x2 x3 x4 4) 8 u r :=
  top_next (hp 4) (top4_7 hp) (cut128_apply scores4_1 (by omega)) (queryScale_read (by omega) (by omega)) (keyScale_read (by omega)) u r

theorem top4_9 (hp : Positive x1 x4) (u : Fin 8) (r : Fin 512) : (v1574 c a2 h2 a3 h3 a4 h4 a5 h5 a6 h6 a10 a11 a12 a14 a15 a16 x0 x1 x2 x3 x4) (ix2 u r) = top (logit x0 x1 x2 x3 x4 4) 9 u r :=
  top_next (hp 4) (top4_8 hp) (cut128_apply scores4_1 (by omega)) (queryScale_read (by omega) (by omega)) (keyScale_read (by omega)) u r

theorem shift4 (hp : Positive x1 x4) (r : Fin 512) : (v1578 c a2 h2 a3 h3 a4 h4 a5 h5 a6 h6 a10 a11 a12 a14 a15 a16 x0 x1 x2 x3 x4) (ix2 0 r) = shift (logit x0 x1 x2 x3 x4 4) 9 r :=
  shift_apply (top4_9 hp) r

theorem prb4_0 (hp : Positive x1 x4) (s : Fin 64) (r : Fin 512) : (v1594 c a2 h2 a3 h3 a4 h4 a5 h5 a6 h6 a10 a11 a12 a14 a15 a16 a17 x0 x1 x2 x3 x4) (ix2 s r) = prb x0 x1 x2 x3 x4 4 r (0 + s.val) :=
  prob_apply (g := 0) (fun s r => scores_skip (by omega) (scores_hit (by omega) (by omega) (store512_apply scores4_0) s r)) (queryScale_read (by omega) (by omega)) (keyScale_read (by omega)) (shift4 hp) s r

theorem mass4_0 (hp : Positive x1 x4) (u : Fin 8) (r : Fin 512) : (v1597 c a2 h2 a3 h3 a4 h4 a5 h5 a6 h6 a10 a11 a12 a14 a15 a16 a17 x0 x1 x2 x3 x4) (ix2 u r) = mass (prb x0 x1 x2 x3 x4 4) 0 u r :=
  mass_first (prb4_0 hp) u r

theorem prb4_1 (hp : Positive x1 x4) (s : Fin 64) (r : Fin 512) : (v1620 c a2 h2 a3 h3 a4 h4 a5 h5 a6 h6 a10 a11 a12 a14 a15 a16 a17 x0 x1 x2 x3 x4) (ix2 s r) = prb x0 x1 x2 x3 x4 4 r (64 + s.val) :=
  prob_apply (g := 1) (fun s r => scores_skip (by omega) (scores_hit (by omega) (by omega) (store512_apply scores4_0) s r)) (queryScale_read (by omega) (by omega)) (keyScale_read (by omega)) (shift4 hp) s r

theorem mass4_1 (hp : Positive x1 x4) (u : Fin 8) (r : Fin 512) : (v1623 c a2 h2 a3 h3 a4 h4 a5 h5 a6 h6 a10 a11 a12 a14 a15 a16 a17 x0 x1 x2 x3 x4) (ix2 u r) = mass (prb x0 x1 x2 x3 x4 4) 1 u r :=
  mass_next (mass4_0 hp) (prb4_1 hp) u r

theorem prb4_2 (hp : Positive x1 x4) (s : Fin 64) (r : Fin 512) : (v1646 c a2 h2 a3 h3 a4 h4 a5 h5 a6 h6 a10 a11 a12 a14 a15 a16 a17 x0 x1 x2 x3 x4) (ix2 s r) = prb x0 x1 x2 x3 x4 4 r (128 + s.val) :=
  prob_apply (g := 2) (fun s r => scores_skip (by omega) (scores_hit (by omega) (by omega) (store512_apply scores4_0) s r)) (queryScale_read (by omega) (by omega)) (keyScale_read (by omega)) (shift4 hp) s r

theorem mass4_2 (hp : Positive x1 x4) (u : Fin 8) (r : Fin 512) : (v1649 c a2 h2 a3 h3 a4 h4 a5 h5 a6 h6 a10 a11 a12 a14 a15 a16 a17 x0 x1 x2 x3 x4) (ix2 u r) = mass (prb x0 x1 x2 x3 x4 4) 2 u r :=
  mass_next (mass4_1 hp) (prb4_2 hp) u r

theorem prb4_3 (hp : Positive x1 x4) (s : Fin 64) (r : Fin 512) : (v1672 c a2 h2 a3 h3 a4 h4 a5 h5 a6 h6 a10 a11 a12 a14 a15 a16 a17 x0 x1 x2 x3 x4) (ix2 s r) = prb x0 x1 x2 x3 x4 4 r (192 + s.val) :=
  prob_apply (g := 3) (fun s r => scores_skip (by omega) (scores_hit (by omega) (by omega) (store512_apply scores4_0) s r)) (queryScale_read (by omega) (by omega)) (keyScale_read (by omega)) (shift4 hp) s r

theorem mass4_3 (hp : Positive x1 x4) (u : Fin 8) (r : Fin 512) : (v1675 c a2 h2 a3 h3 a4 h4 a5 h5 a6 h6 a10 a11 a12 a14 a15 a16 a17 x0 x1 x2 x3 x4) (ix2 u r) = mass (prb x0 x1 x2 x3 x4 4) 3 u r :=
  mass_next (mass4_2 hp) (prb4_3 hp) u r

theorem prb4_4 (hp : Positive x1 x4) (s : Fin 64) (r : Fin 512) : (v1698 c a2 h2 a3 h3 a4 h4 a5 h5 a6 h6 a10 a11 a12 a14 a15 a16 a17 x0 x1 x2 x3 x4) (ix2 s r) = prb x0 x1 x2 x3 x4 4 r (256 + s.val) :=
  prob_apply (g := 4) (fun s r => scores_skip (by omega) (scores_hit (by omega) (by omega) (store512_apply scores4_0) s r)) (queryScale_read (by omega) (by omega)) (keyScale_read (by omega)) (shift4 hp) s r

theorem mass4_4 (hp : Positive x1 x4) (u : Fin 8) (r : Fin 512) : (v1701 c a2 h2 a3 h3 a4 h4 a5 h5 a6 h6 a10 a11 a12 a14 a15 a16 a17 x0 x1 x2 x3 x4) (ix2 u r) = mass (prb x0 x1 x2 x3 x4 4) 4 u r :=
  mass_next (mass4_3 hp) (prb4_4 hp) u r

theorem prb4_5 (hp : Positive x1 x4) (s : Fin 64) (r : Fin 512) : (v1724 c a2 h2 a3 h3 a4 h4 a5 h5 a6 h6 a10 a11 a12 a14 a15 a16 a17 x0 x1 x2 x3 x4) (ix2 s r) = prb x0 x1 x2 x3 x4 4 r (320 + s.val) :=
  prob_apply (g := 5) (fun s r => scores_skip (by omega) (scores_hit (by omega) (by omega) (store512_apply scores4_0) s r)) (queryScale_read (by omega) (by omega)) (keyScale_read (by omega)) (shift4 hp) s r

theorem mass4_5 (hp : Positive x1 x4) (u : Fin 8) (r : Fin 512) : (v1727 c a2 h2 a3 h3 a4 h4 a5 h5 a6 h6 a10 a11 a12 a14 a15 a16 a17 x0 x1 x2 x3 x4) (ix2 u r) = mass (prb x0 x1 x2 x3 x4 4) 5 u r :=
  mass_next (mass4_4 hp) (prb4_5 hp) u r

theorem prb4_6 (hp : Positive x1 x4) (s : Fin 64) (r : Fin 512) : (v1750 c a2 h2 a3 h3 a4 h4 a5 h5 a6 h6 a10 a11 a12 a14 a15 a16 a17 x0 x1 x2 x3 x4) (ix2 s r) = prb x0 x1 x2 x3 x4 4 r (384 + s.val) :=
  prob_apply (g := 6) (fun s r => scores_skip (by omega) (scores_hit (by omega) (by omega) (store512_apply scores4_0) s r)) (queryScale_read (by omega) (by omega)) (keyScale_read (by omega)) (shift4 hp) s r

theorem mass4_6 (hp : Positive x1 x4) (u : Fin 8) (r : Fin 512) : (v1753 c a2 h2 a3 h3 a4 h4 a5 h5 a6 h6 a10 a11 a12 a14 a15 a16 a17 x0 x1 x2 x3 x4) (ix2 u r) = mass (prb x0 x1 x2 x3 x4 4) 6 u r :=
  mass_next (mass4_5 hp) (prb4_6 hp) u r

theorem prb4_7 (hp : Positive x1 x4) (s : Fin 64) (r : Fin 512) : (v1776 c a2 h2 a3 h3 a4 h4 a5 h5 a6 h6 a10 a11 a12 a14 a15 a16 a17 x0 x1 x2 x3 x4) (ix2 s r) = prb x0 x1 x2 x3 x4 4 r (448 + s.val) :=
  prob_apply (g := 7) (fun s r => scores_skip (by omega) (scores_hit (by omega) (by omega) (store512_apply scores4_0) s r)) (queryScale_read (by omega) (by omega)) (keyScale_read (by omega)) (shift4 hp) s r

theorem mass4_7 (hp : Positive x1 x4) (u : Fin 8) (r : Fin 512) : (v1779 c a2 h2 a3 h3 a4 h4 a5 h5 a6 h6 a10 a11 a12 a14 a15 a16 a17 x0 x1 x2 x3 x4) (ix2 u r) = mass (prb x0 x1 x2 x3 x4 4) 7 u r :=
  mass_next (mass4_6 hp) (prb4_7 hp) u r

theorem prb4_8 (hp : Positive x1 x4) (s : Fin 64) (r : Fin 512) : (v1802 c a2 h2 a3 h3 a4 h4 a5 h5 a6 h6 a10 a11 a12 a14 a15 a16 a17 x0 x1 x2 x3 x4) (ix2 s r) = prb x0 x1 x2 x3 x4 4 r (512 + s.val) :=
  prob_apply (g := 8) (fun s r => scores_hit (by omega) (by omega) (store128_apply scores4_1) s r) (queryScale_read (by omega) (by omega)) (keyScale_read (by omega)) (shift4 hp) s r

theorem mass4_8 (hp : Positive x1 x4) (u : Fin 8) (r : Fin 512) : (v1805 c a2 h2 a3 h3 a4 h4 a5 h5 a6 h6 a10 a11 a12 a14 a15 a16 a17 x0 x1 x2 x3 x4) (ix2 u r) = mass (prb x0 x1 x2 x3 x4 4) 8 u r :=
  mass_next (mass4_7 hp) (prb4_8 hp) u r

theorem prb4_9 (hp : Positive x1 x4) (s : Fin 64) (r : Fin 512) : (v1828 c a2 h2 a3 h3 a4 h4 a5 h5 a6 h6 a10 a11 a12 a14 a15 a16 a17 x0 x1 x2 x3 x4) (ix2 s r) = prb x0 x1 x2 x3 x4 4 r (576 + s.val) :=
  prob_apply (g := 9) (fun s r => scores_hit (by omega) (by omega) (store128_apply scores4_1) s r) (queryScale_read (by omega) (by omega)) (keyScale_read (by omega)) (shift4 hp) s r

theorem mass4_9 (hp : Positive x1 x4) (u : Fin 8) (r : Fin 512) : (v1831 c a2 h2 a3 h3 a4 h4 a5 h5 a6 h6 a10 a11 a12 a14 a15 a16 a17 x0 x1 x2 x3 x4) (ix2 u r) = mass (prb x0 x1 x2 x3 x4 4) 9 u r :=
  mass_next (mass4_8 hp) (prb4_9 hp) u r

theorem row4 (hp : Positive x1 x4) (r : Fin 512) (d : Fin 128) : (v1853 c a2 h2 a3 h3 a4 h4 a5 h5 a6 h6 a7 h7 a10 a11 a12 a13 a14 a15 a16 a17 a18 x0 x1 x2 x3 x4 x5) (ix3 0 r d) = row x0 x1 x2 x3 x4 x5 4 r d :=
  rows_apply (product640_apply (value_read (by omega)) (fun s r => (codes_start (by omega) (by omega) s r).trans (codes_step (codes_apply (prb4_9 hp)) s.isLt fun _ =>
      codes_step (codes_apply (prb4_8 hp)) (by omega) fun _ =>
      codes_step (codes_apply (prb4_7 hp)) (by omega) fun _ =>
      codes_step (codes_apply (prb4_6 hp)) (by omega) fun _ =>
      codes_step (codes_apply (prb4_5 hp)) (by omega) fun _ =>
      codes_step (codes_apply (prb4_4 hp)) (by omega) fun _ =>
      codes_step (codes_apply (prb4_3 hp)) (by omega) fun _ =>
      codes_step (codes_apply (prb4_2 hp)) (by omega) fun _ =>
      codes_step (codes_apply (prb4_1 hp)) (by omega) fun _ =>
      codes_step (codes_apply (prb4_0 hp)) (by omega) fun _ =>
      absurd ‹_› (by omega)))) (mass4_9 hp) r d

theorem head4_0 (hp : Positive x1 x4) (t d : Fin 128) : (v1861 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 4 0 t d :=
  (head_apply _ _ t d).trans (congrArg₂ (· * ·) ((head_read (by omega) t d).trans ((row4 hp _ d).trans (congrArg (fun a => row x0 x1 x2 x3 x4 x5 4 a d) (Fin.ext (by dsimp only; omega))))) (valueScales d))

theorem head4_1 (hp : Positive x1 x4) (t d : Fin 128) : (v1869 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 4 1 t d :=
  (head_apply _ _ t d).trans (congrArg₂ (· * ·) ((head_read (by omega) t d).trans ((row4 hp _ d).trans (congrArg (fun a => row x0 x1 x2 x3 x4 x5 4 a d) (Fin.ext (by dsimp only; omega))))) (valueScales d))

theorem head4_2 (hp : Positive x1 x4) (t d : Fin 128) : (v1877 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 4 2 t d :=
  (head_apply _ _ t d).trans (congrArg₂ (· * ·) ((head_read (by omega) t d).trans ((row4 hp _ d).trans (congrArg (fun a => row x0 x1 x2 x3 x4 x5 4 a d) (Fin.ext (by dsimp only; omega))))) (valueScales d))

theorem head4_3 (hp : Positive x1 x4) (t d : Fin 128) : (v1885 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 4 3 t d :=
  (head_apply _ _ t d).trans (congrArg₂ (· * ·) ((head_read (by omega) t d).trans ((row4 hp _ d).trans (congrArg (fun a => row x0 x1 x2 x3 x4 x5 4 a d) (Fin.ext (by dsimp only; omega))))) (valueScales d))

/-! ## Query block 5 -/

theorem scores5_0 (s : Fin 512) (r : Fin 512) : (v1898 c a2 h2 a3 h3 a4 h4 a5 h5 a10 a11 a14 a15 x0 x1 x2 x3) (ix2 s r) = (score x0 x1 x2 x3 5 r (0 + s.val)) :=
  whole_apply (raw512_apply (keys8_read (by omega)) (keys16_read (by omega)) (query_read (by omega) (by omega)) (tile_apply (mean_read (by omega) (by omega)))) (by omega) s r

theorem scores5_1 (s : Fin 256) (r : Fin 512) : (v1991 c a2 h2 a3 h3 a4 h4 a5 h5 a10 a11 a14 a15 x0 x1 x2 x3) (ix2 s r) = (score x0 x1 x2 x3 5 r (512 + s.val)) :=
  tail256_apply (raw256_apply (keys8_read (by omega)) (keys16_read (by omega)) (query_read (by omega) (by omega)) (tile_apply (mean_read (by omega) (by omega)))) (by omega) s r

theorem top5_0 (hp : Positive x1 x4) (u : Fin 8) (r : Fin 512) : (v1910 c a2 h2 a3 h3 a4 h4 a5 h5 a6 h6 a10 a11 a12 a14 a15 a16 x0 x1 x2 x3 x4) (ix2 u r) = top (logit x0 x1 x2 x3 x4 5) 0 u r :=
  top_first (hp 5) (cut512_apply scores5_0 (by omega)) (queryScale_read (by omega) (by omega)) (keyScale_read (by omega)) u r

theorem top5_1 (hp : Positive x1 x4) (u : Fin 8) (r : Fin 512) : (v1920 c a2 h2 a3 h3 a4 h4 a5 h5 a6 h6 a10 a11 a12 a14 a15 a16 x0 x1 x2 x3 x4) (ix2 u r) = top (logit x0 x1 x2 x3 x4 5) 1 u r :=
  top_next (hp 5) (top5_0 hp) (cut512_apply scores5_0 (by omega)) (queryScale_read (by omega) (by omega)) (keyScale_read (by omega)) u r

theorem top5_2 (hp : Positive x1 x4) (u : Fin 8) (r : Fin 512) : (v1930 c a2 h2 a3 h3 a4 h4 a5 h5 a6 h6 a10 a11 a12 a14 a15 a16 x0 x1 x2 x3 x4) (ix2 u r) = top (logit x0 x1 x2 x3 x4 5) 2 u r :=
  top_next (hp 5) (top5_1 hp) (cut512_apply scores5_0 (by omega)) (queryScale_read (by omega) (by omega)) (keyScale_read (by omega)) u r

theorem top5_3 (hp : Positive x1 x4) (u : Fin 8) (r : Fin 512) : (v1940 c a2 h2 a3 h3 a4 h4 a5 h5 a6 h6 a10 a11 a12 a14 a15 a16 x0 x1 x2 x3 x4) (ix2 u r) = top (logit x0 x1 x2 x3 x4 5) 3 u r :=
  top_next (hp 5) (top5_2 hp) (cut512_apply scores5_0 (by omega)) (queryScale_read (by omega) (by omega)) (keyScale_read (by omega)) u r

theorem top5_4 (hp : Positive x1 x4) (u : Fin 8) (r : Fin 512) : (v1950 c a2 h2 a3 h3 a4 h4 a5 h5 a6 h6 a10 a11 a12 a14 a15 a16 x0 x1 x2 x3 x4) (ix2 u r) = top (logit x0 x1 x2 x3 x4 5) 4 u r :=
  top_next (hp 5) (top5_3 hp) (cut512_apply scores5_0 (by omega)) (queryScale_read (by omega) (by omega)) (keyScale_read (by omega)) u r

theorem top5_5 (hp : Positive x1 x4) (u : Fin 8) (r : Fin 512) : (v1960 c a2 h2 a3 h3 a4 h4 a5 h5 a6 h6 a10 a11 a12 a14 a15 a16 x0 x1 x2 x3 x4) (ix2 u r) = top (logit x0 x1 x2 x3 x4 5) 5 u r :=
  top_next (hp 5) (top5_4 hp) (cut512_apply scores5_0 (by omega)) (queryScale_read (by omega) (by omega)) (keyScale_read (by omega)) u r

theorem top5_6 (hp : Positive x1 x4) (u : Fin 8) (r : Fin 512) : (v1970 c a2 h2 a3 h3 a4 h4 a5 h5 a6 h6 a10 a11 a12 a14 a15 a16 x0 x1 x2 x3 x4) (ix2 u r) = top (logit x0 x1 x2 x3 x4 5) 6 u r :=
  top_next (hp 5) (top5_5 hp) (cut512_apply scores5_0 (by omega)) (queryScale_read (by omega) (by omega)) (keyScale_read (by omega)) u r

theorem top5_7 (hp : Positive x1 x4) (u : Fin 8) (r : Fin 512) : (v1980 c a2 h2 a3 h3 a4 h4 a5 h5 a6 h6 a10 a11 a12 a14 a15 a16 x0 x1 x2 x3 x4) (ix2 u r) = top (logit x0 x1 x2 x3 x4 5) 7 u r :=
  top_next (hp 5) (top5_6 hp) (cut512_apply scores5_0 (by omega)) (queryScale_read (by omega) (by omega)) (keyScale_read (by omega)) u r

theorem top5_8 (hp : Positive x1 x4) (u : Fin 8) (r : Fin 512) : (v2004 c a2 h2 a3 h3 a4 h4 a5 h5 a6 h6 a10 a11 a12 a14 a15 a16 x0 x1 x2 x3 x4) (ix2 u r) = top (logit x0 x1 x2 x3 x4 5) 8 u r :=
  top_next (hp 5) (top5_7 hp) (cut256_apply scores5_1 (by omega)) (queryScale_read (by omega) (by omega)) (keyScale_read (by omega)) u r

theorem top5_9 (hp : Positive x1 x4) (u : Fin 8) (r : Fin 512) : (v2014 c a2 h2 a3 h3 a4 h4 a5 h5 a6 h6 a10 a11 a12 a14 a15 a16 x0 x1 x2 x3 x4) (ix2 u r) = top (logit x0 x1 x2 x3 x4 5) 9 u r :=
  top_next (hp 5) (top5_8 hp) (cut256_apply scores5_1 (by omega)) (queryScale_read (by omega) (by omega)) (keyScale_read (by omega)) u r

theorem top5_10 (hp : Positive x1 x4) (u : Fin 8) (r : Fin 512) : (v2024 c a2 h2 a3 h3 a4 h4 a5 h5 a6 h6 a10 a11 a12 a14 a15 a16 x0 x1 x2 x3 x4) (ix2 u r) = top (logit x0 x1 x2 x3 x4 5) 10 u r :=
  top_next (hp 5) (top5_9 hp) (cut256_apply scores5_1 (by omega)) (queryScale_read (by omega) (by omega)) (keyScale_read (by omega)) u r

theorem top5_11 (hp : Positive x1 x4) (u : Fin 8) (r : Fin 512) : (v2034 c a2 h2 a3 h3 a4 h4 a5 h5 a6 h6 a10 a11 a12 a14 a15 a16 x0 x1 x2 x3 x4) (ix2 u r) = top (logit x0 x1 x2 x3 x4 5) 11 u r :=
  top_next (hp 5) (top5_10 hp) (cut256_apply scores5_1 (by omega)) (queryScale_read (by omega) (by omega)) (keyScale_read (by omega)) u r

theorem shift5 (hp : Positive x1 x4) (r : Fin 512) : (v2038 c a2 h2 a3 h3 a4 h4 a5 h5 a6 h6 a10 a11 a12 a14 a15 a16 x0 x1 x2 x3 x4) (ix2 0 r) = shift (logit x0 x1 x2 x3 x4 5) 11 r :=
  shift_apply (top5_11 hp) r

theorem prb5_0 (hp : Positive x1 x4) (s : Fin 64) (r : Fin 512) : (v2054 c a2 h2 a3 h3 a4 h4 a5 h5 a6 h6 a10 a11 a12 a14 a15 a16 a17 x0 x1 x2 x3 x4) (ix2 s r) = prb x0 x1 x2 x3 x4 5 r (0 + s.val) :=
  prob_apply (g := 0) (fun s r => scores_skip (by omega) (scores_hit (by omega) (by omega) (store512_apply scores5_0) s r)) (queryScale_read (by omega) (by omega)) (keyScale_read (by omega)) (shift5 hp) s r

theorem mass5_0 (hp : Positive x1 x4) (u : Fin 8) (r : Fin 512) : (v2057 c a2 h2 a3 h3 a4 h4 a5 h5 a6 h6 a10 a11 a12 a14 a15 a16 a17 x0 x1 x2 x3 x4) (ix2 u r) = mass (prb x0 x1 x2 x3 x4 5) 0 u r :=
  mass_first (prb5_0 hp) u r

theorem prb5_1 (hp : Positive x1 x4) (s : Fin 64) (r : Fin 512) : (v2080 c a2 h2 a3 h3 a4 h4 a5 h5 a6 h6 a10 a11 a12 a14 a15 a16 a17 x0 x1 x2 x3 x4) (ix2 s r) = prb x0 x1 x2 x3 x4 5 r (64 + s.val) :=
  prob_apply (g := 1) (fun s r => scores_skip (by omega) (scores_hit (by omega) (by omega) (store512_apply scores5_0) s r)) (queryScale_read (by omega) (by omega)) (keyScale_read (by omega)) (shift5 hp) s r

theorem mass5_1 (hp : Positive x1 x4) (u : Fin 8) (r : Fin 512) : (v2083 c a2 h2 a3 h3 a4 h4 a5 h5 a6 h6 a10 a11 a12 a14 a15 a16 a17 x0 x1 x2 x3 x4) (ix2 u r) = mass (prb x0 x1 x2 x3 x4 5) 1 u r :=
  mass_next (mass5_0 hp) (prb5_1 hp) u r

theorem prb5_2 (hp : Positive x1 x4) (s : Fin 64) (r : Fin 512) : (v2106 c a2 h2 a3 h3 a4 h4 a5 h5 a6 h6 a10 a11 a12 a14 a15 a16 a17 x0 x1 x2 x3 x4) (ix2 s r) = prb x0 x1 x2 x3 x4 5 r (128 + s.val) :=
  prob_apply (g := 2) (fun s r => scores_skip (by omega) (scores_hit (by omega) (by omega) (store512_apply scores5_0) s r)) (queryScale_read (by omega) (by omega)) (keyScale_read (by omega)) (shift5 hp) s r

theorem mass5_2 (hp : Positive x1 x4) (u : Fin 8) (r : Fin 512) : (v2109 c a2 h2 a3 h3 a4 h4 a5 h5 a6 h6 a10 a11 a12 a14 a15 a16 a17 x0 x1 x2 x3 x4) (ix2 u r) = mass (prb x0 x1 x2 x3 x4 5) 2 u r :=
  mass_next (mass5_1 hp) (prb5_2 hp) u r

theorem prb5_3 (hp : Positive x1 x4) (s : Fin 64) (r : Fin 512) : (v2132 c a2 h2 a3 h3 a4 h4 a5 h5 a6 h6 a10 a11 a12 a14 a15 a16 a17 x0 x1 x2 x3 x4) (ix2 s r) = prb x0 x1 x2 x3 x4 5 r (192 + s.val) :=
  prob_apply (g := 3) (fun s r => scores_skip (by omega) (scores_hit (by omega) (by omega) (store512_apply scores5_0) s r)) (queryScale_read (by omega) (by omega)) (keyScale_read (by omega)) (shift5 hp) s r

theorem mass5_3 (hp : Positive x1 x4) (u : Fin 8) (r : Fin 512) : (v2135 c a2 h2 a3 h3 a4 h4 a5 h5 a6 h6 a10 a11 a12 a14 a15 a16 a17 x0 x1 x2 x3 x4) (ix2 u r) = mass (prb x0 x1 x2 x3 x4 5) 3 u r :=
  mass_next (mass5_2 hp) (prb5_3 hp) u r

theorem prb5_4 (hp : Positive x1 x4) (s : Fin 64) (r : Fin 512) : (v2158 c a2 h2 a3 h3 a4 h4 a5 h5 a6 h6 a10 a11 a12 a14 a15 a16 a17 x0 x1 x2 x3 x4) (ix2 s r) = prb x0 x1 x2 x3 x4 5 r (256 + s.val) :=
  prob_apply (g := 4) (fun s r => scores_skip (by omega) (scores_hit (by omega) (by omega) (store512_apply scores5_0) s r)) (queryScale_read (by omega) (by omega)) (keyScale_read (by omega)) (shift5 hp) s r

theorem mass5_4 (hp : Positive x1 x4) (u : Fin 8) (r : Fin 512) : (v2161 c a2 h2 a3 h3 a4 h4 a5 h5 a6 h6 a10 a11 a12 a14 a15 a16 a17 x0 x1 x2 x3 x4) (ix2 u r) = mass (prb x0 x1 x2 x3 x4 5) 4 u r :=
  mass_next (mass5_3 hp) (prb5_4 hp) u r

theorem prb5_5 (hp : Positive x1 x4) (s : Fin 64) (r : Fin 512) : (v2184 c a2 h2 a3 h3 a4 h4 a5 h5 a6 h6 a10 a11 a12 a14 a15 a16 a17 x0 x1 x2 x3 x4) (ix2 s r) = prb x0 x1 x2 x3 x4 5 r (320 + s.val) :=
  prob_apply (g := 5) (fun s r => scores_skip (by omega) (scores_hit (by omega) (by omega) (store512_apply scores5_0) s r)) (queryScale_read (by omega) (by omega)) (keyScale_read (by omega)) (shift5 hp) s r

theorem mass5_5 (hp : Positive x1 x4) (u : Fin 8) (r : Fin 512) : (v2187 c a2 h2 a3 h3 a4 h4 a5 h5 a6 h6 a10 a11 a12 a14 a15 a16 a17 x0 x1 x2 x3 x4) (ix2 u r) = mass (prb x0 x1 x2 x3 x4 5) 5 u r :=
  mass_next (mass5_4 hp) (prb5_5 hp) u r

theorem prb5_6 (hp : Positive x1 x4) (s : Fin 64) (r : Fin 512) : (v2210 c a2 h2 a3 h3 a4 h4 a5 h5 a6 h6 a10 a11 a12 a14 a15 a16 a17 x0 x1 x2 x3 x4) (ix2 s r) = prb x0 x1 x2 x3 x4 5 r (384 + s.val) :=
  prob_apply (g := 6) (fun s r => scores_skip (by omega) (scores_hit (by omega) (by omega) (store512_apply scores5_0) s r)) (queryScale_read (by omega) (by omega)) (keyScale_read (by omega)) (shift5 hp) s r

theorem mass5_6 (hp : Positive x1 x4) (u : Fin 8) (r : Fin 512) : (v2213 c a2 h2 a3 h3 a4 h4 a5 h5 a6 h6 a10 a11 a12 a14 a15 a16 a17 x0 x1 x2 x3 x4) (ix2 u r) = mass (prb x0 x1 x2 x3 x4 5) 6 u r :=
  mass_next (mass5_5 hp) (prb5_6 hp) u r

theorem prb5_7 (hp : Positive x1 x4) (s : Fin 64) (r : Fin 512) : (v2236 c a2 h2 a3 h3 a4 h4 a5 h5 a6 h6 a10 a11 a12 a14 a15 a16 a17 x0 x1 x2 x3 x4) (ix2 s r) = prb x0 x1 x2 x3 x4 5 r (448 + s.val) :=
  prob_apply (g := 7) (fun s r => scores_skip (by omega) (scores_hit (by omega) (by omega) (store512_apply scores5_0) s r)) (queryScale_read (by omega) (by omega)) (keyScale_read (by omega)) (shift5 hp) s r

theorem mass5_7 (hp : Positive x1 x4) (u : Fin 8) (r : Fin 512) : (v2239 c a2 h2 a3 h3 a4 h4 a5 h5 a6 h6 a10 a11 a12 a14 a15 a16 a17 x0 x1 x2 x3 x4) (ix2 u r) = mass (prb x0 x1 x2 x3 x4 5) 7 u r :=
  mass_next (mass5_6 hp) (prb5_7 hp) u r

theorem prb5_8 (hp : Positive x1 x4) (s : Fin 64) (r : Fin 512) : (v2262 c a2 h2 a3 h3 a4 h4 a5 h5 a6 h6 a10 a11 a12 a14 a15 a16 a17 x0 x1 x2 x3 x4) (ix2 s r) = prb x0 x1 x2 x3 x4 5 r (512 + s.val) :=
  prob_apply (g := 8) (fun s r => scores_hit (by omega) (by omega) (store256_apply scores5_1) s r) (queryScale_read (by omega) (by omega)) (keyScale_read (by omega)) (shift5 hp) s r

theorem mass5_8 (hp : Positive x1 x4) (u : Fin 8) (r : Fin 512) : (v2265 c a2 h2 a3 h3 a4 h4 a5 h5 a6 h6 a10 a11 a12 a14 a15 a16 a17 x0 x1 x2 x3 x4) (ix2 u r) = mass (prb x0 x1 x2 x3 x4 5) 8 u r :=
  mass_next (mass5_7 hp) (prb5_8 hp) u r

theorem prb5_9 (hp : Positive x1 x4) (s : Fin 64) (r : Fin 512) : (v2288 c a2 h2 a3 h3 a4 h4 a5 h5 a6 h6 a10 a11 a12 a14 a15 a16 a17 x0 x1 x2 x3 x4) (ix2 s r) = prb x0 x1 x2 x3 x4 5 r (576 + s.val) :=
  prob_apply (g := 9) (fun s r => scores_hit (by omega) (by omega) (store256_apply scores5_1) s r) (queryScale_read (by omega) (by omega)) (keyScale_read (by omega)) (shift5 hp) s r

theorem mass5_9 (hp : Positive x1 x4) (u : Fin 8) (r : Fin 512) : (v2291 c a2 h2 a3 h3 a4 h4 a5 h5 a6 h6 a10 a11 a12 a14 a15 a16 a17 x0 x1 x2 x3 x4) (ix2 u r) = mass (prb x0 x1 x2 x3 x4 5) 9 u r :=
  mass_next (mass5_8 hp) (prb5_9 hp) u r

theorem prb5_10 (hp : Positive x1 x4) (s : Fin 64) (r : Fin 512) : (v2314 c a2 h2 a3 h3 a4 h4 a5 h5 a6 h6 a10 a11 a12 a14 a15 a16 a17 x0 x1 x2 x3 x4) (ix2 s r) = prb x0 x1 x2 x3 x4 5 r (640 + s.val) :=
  prob_apply (g := 10) (fun s r => scores_hit (by omega) (by omega) (store256_apply scores5_1) s r) (queryScale_read (by omega) (by omega)) (keyScale_read (by omega)) (shift5 hp) s r

theorem mass5_10 (hp : Positive x1 x4) (u : Fin 8) (r : Fin 512) : (v2317 c a2 h2 a3 h3 a4 h4 a5 h5 a6 h6 a10 a11 a12 a14 a15 a16 a17 x0 x1 x2 x3 x4) (ix2 u r) = mass (prb x0 x1 x2 x3 x4 5) 10 u r :=
  mass_next (mass5_9 hp) (prb5_10 hp) u r

theorem prb5_11 (hp : Positive x1 x4) (s : Fin 64) (r : Fin 512) : (v2340 c a2 h2 a3 h3 a4 h4 a5 h5 a6 h6 a10 a11 a12 a14 a15 a16 a17 x0 x1 x2 x3 x4) (ix2 s r) = prb x0 x1 x2 x3 x4 5 r (704 + s.val) :=
  prob_apply (g := 11) (fun s r => scores_hit (by omega) (by omega) (store256_apply scores5_1) s r) (queryScale_read (by omega) (by omega)) (keyScale_read (by omega)) (shift5 hp) s r

theorem mass5_11 (hp : Positive x1 x4) (u : Fin 8) (r : Fin 512) : (v2343 c a2 h2 a3 h3 a4 h4 a5 h5 a6 h6 a10 a11 a12 a14 a15 a16 a17 x0 x1 x2 x3 x4) (ix2 u r) = mass (prb x0 x1 x2 x3 x4 5) 11 u r :=
  mass_next (mass5_10 hp) (prb5_11 hp) u r

theorem row5 (hp : Positive x1 x4) (r : Fin 512) (d : Fin 128) : (v2365 c a2 h2 a3 h3 a4 h4 a5 h5 a6 h6 a7 h7 a10 a11 a12 a13 a14 a15 a16 a17 a18 x0 x1 x2 x3 x4 x5) (ix3 0 r d) = row x0 x1 x2 x3 x4 x5 5 r d :=
  rows_apply (product768_apply (value_read (by omega)) (fun s r => (codes_start (by omega) (by omega) s r).trans (codes_step (codes_apply (prb5_11 hp)) s.isLt fun _ =>
      codes_step (codes_apply (prb5_10 hp)) (by omega) fun _ =>
      codes_step (codes_apply (prb5_9 hp)) (by omega) fun _ =>
      codes_step (codes_apply (prb5_8 hp)) (by omega) fun _ =>
      codes_step (codes_apply (prb5_7 hp)) (by omega) fun _ =>
      codes_step (codes_apply (prb5_6 hp)) (by omega) fun _ =>
      codes_step (codes_apply (prb5_5 hp)) (by omega) fun _ =>
      codes_step (codes_apply (prb5_4 hp)) (by omega) fun _ =>
      codes_step (codes_apply (prb5_3 hp)) (by omega) fun _ =>
      codes_step (codes_apply (prb5_2 hp)) (by omega) fun _ =>
      codes_step (codes_apply (prb5_1 hp)) (by omega) fun _ =>
      codes_step (codes_apply (prb5_0 hp)) (by omega) fun _ =>
      absurd ‹_› (by omega)))) (mass5_11 hp) r d

theorem head5_0 (hp : Positive x1 x4) (t d : Fin 128) : (v2373 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 5 0 t d :=
  (head_apply _ _ t d).trans (congrArg₂ (· * ·) ((head_read (by omega) t d).trans ((row5 hp _ d).trans (congrArg (fun a => row x0 x1 x2 x3 x4 x5 5 a d) (Fin.ext (by dsimp only; omega))))) (valueScales d))

theorem head5_1 (hp : Positive x1 x4) (t d : Fin 128) : (v2381 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 5 1 t d :=
  (head_apply _ _ t d).trans (congrArg₂ (· * ·) ((head_read (by omega) t d).trans ((row5 hp _ d).trans (congrArg (fun a => row x0 x1 x2 x3 x4 x5 5 a d) (Fin.ext (by dsimp only; omega))))) (valueScales d))

theorem head5_2 (hp : Positive x1 x4) (t d : Fin 128) : (v2389 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 5 2 t d :=
  (head_apply _ _ t d).trans (congrArg₂ (· * ·) ((head_read (by omega) t d).trans ((row5 hp _ d).trans (congrArg (fun a => row x0 x1 x2 x3 x4 x5 5 a d) (Fin.ext (by dsimp only; omega))))) (valueScales d))

theorem head5_3 (hp : Positive x1 x4) (t d : Fin 128) : (v2397 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 5 3 t d :=
  (head_apply _ _ t d).trans (congrArg₂ (· * ·) ((head_read (by omega) t d).trans ((row5 hp _ d).trans (congrArg (fun a => row x0 x1 x2 x3 x4 x5 5 a d) (Fin.ext (by dsimp only; omega))))) (valueScales d))

/-! ## Query block 6 -/

theorem scores6_0 (s : Fin 512) (r : Fin 512) : (v2410 c a2 h2 a3 h3 a4 h4 a5 h5 a10 a11 a14 a15 x0 x1 x2 x3) (ix2 s r) = (score x0 x1 x2 x3 6 r (0 + s.val)) :=
  whole_apply (raw512_apply (keys8_read (by omega)) (keys16_read (by omega)) (query_read (by omega) (by omega)) (tile_apply (mean_read (by omega) (by omega)))) (by omega) s r

theorem scores6_1 (s : Fin 384) (r : Fin 512) : (v2503 c a2 h2 a3 h3 a4 h4 a5 h5 a10 a11 a14 a15 x0 x1 x2 x3) (ix2 s r) = (score x0 x1 x2 x3 6 r (512 + s.val)) :=
  tail384_apply (raw384_apply (keys8_read (by omega)) (keys16_read (by omega)) (query_read (by omega) (by omega)) (tile_apply (mean_read (by omega) (by omega)))) (by omega) s r

theorem top6_0 (hp : Positive x1 x4) (u : Fin 8) (r : Fin 512) : (v2422 c a2 h2 a3 h3 a4 h4 a5 h5 a6 h6 a10 a11 a12 a14 a15 a16 x0 x1 x2 x3 x4) (ix2 u r) = top (logit x0 x1 x2 x3 x4 6) 0 u r :=
  top_first (hp 6) (cut512_apply scores6_0 (by omega)) (queryScale_read (by omega) (by omega)) (keyScale_read (by omega)) u r

theorem top6_1 (hp : Positive x1 x4) (u : Fin 8) (r : Fin 512) : (v2432 c a2 h2 a3 h3 a4 h4 a5 h5 a6 h6 a10 a11 a12 a14 a15 a16 x0 x1 x2 x3 x4) (ix2 u r) = top (logit x0 x1 x2 x3 x4 6) 1 u r :=
  top_next (hp 6) (top6_0 hp) (cut512_apply scores6_0 (by omega)) (queryScale_read (by omega) (by omega)) (keyScale_read (by omega)) u r

theorem top6_2 (hp : Positive x1 x4) (u : Fin 8) (r : Fin 512) : (v2442 c a2 h2 a3 h3 a4 h4 a5 h5 a6 h6 a10 a11 a12 a14 a15 a16 x0 x1 x2 x3 x4) (ix2 u r) = top (logit x0 x1 x2 x3 x4 6) 2 u r :=
  top_next (hp 6) (top6_1 hp) (cut512_apply scores6_0 (by omega)) (queryScale_read (by omega) (by omega)) (keyScale_read (by omega)) u r

theorem top6_3 (hp : Positive x1 x4) (u : Fin 8) (r : Fin 512) : (v2452 c a2 h2 a3 h3 a4 h4 a5 h5 a6 h6 a10 a11 a12 a14 a15 a16 x0 x1 x2 x3 x4) (ix2 u r) = top (logit x0 x1 x2 x3 x4 6) 3 u r :=
  top_next (hp 6) (top6_2 hp) (cut512_apply scores6_0 (by omega)) (queryScale_read (by omega) (by omega)) (keyScale_read (by omega)) u r

theorem top6_4 (hp : Positive x1 x4) (u : Fin 8) (r : Fin 512) : (v2462 c a2 h2 a3 h3 a4 h4 a5 h5 a6 h6 a10 a11 a12 a14 a15 a16 x0 x1 x2 x3 x4) (ix2 u r) = top (logit x0 x1 x2 x3 x4 6) 4 u r :=
  top_next (hp 6) (top6_3 hp) (cut512_apply scores6_0 (by omega)) (queryScale_read (by omega) (by omega)) (keyScale_read (by omega)) u r

theorem top6_5 (hp : Positive x1 x4) (u : Fin 8) (r : Fin 512) : (v2472 c a2 h2 a3 h3 a4 h4 a5 h5 a6 h6 a10 a11 a12 a14 a15 a16 x0 x1 x2 x3 x4) (ix2 u r) = top (logit x0 x1 x2 x3 x4 6) 5 u r :=
  top_next (hp 6) (top6_4 hp) (cut512_apply scores6_0 (by omega)) (queryScale_read (by omega) (by omega)) (keyScale_read (by omega)) u r

theorem top6_6 (hp : Positive x1 x4) (u : Fin 8) (r : Fin 512) : (v2482 c a2 h2 a3 h3 a4 h4 a5 h5 a6 h6 a10 a11 a12 a14 a15 a16 x0 x1 x2 x3 x4) (ix2 u r) = top (logit x0 x1 x2 x3 x4 6) 6 u r :=
  top_next (hp 6) (top6_5 hp) (cut512_apply scores6_0 (by omega)) (queryScale_read (by omega) (by omega)) (keyScale_read (by omega)) u r

theorem top6_7 (hp : Positive x1 x4) (u : Fin 8) (r : Fin 512) : (v2492 c a2 h2 a3 h3 a4 h4 a5 h5 a6 h6 a10 a11 a12 a14 a15 a16 x0 x1 x2 x3 x4) (ix2 u r) = top (logit x0 x1 x2 x3 x4 6) 7 u r :=
  top_next (hp 6) (top6_6 hp) (cut512_apply scores6_0 (by omega)) (queryScale_read (by omega) (by omega)) (keyScale_read (by omega)) u r

theorem top6_8 (hp : Positive x1 x4) (u : Fin 8) (r : Fin 512) : (v2516 c a2 h2 a3 h3 a4 h4 a5 h5 a6 h6 a10 a11 a12 a14 a15 a16 x0 x1 x2 x3 x4) (ix2 u r) = top (logit x0 x1 x2 x3 x4 6) 8 u r :=
  top_next (hp 6) (top6_7 hp) (cut384_apply scores6_1 (by omega)) (queryScale_read (by omega) (by omega)) (keyScale_read (by omega)) u r

theorem top6_9 (hp : Positive x1 x4) (u : Fin 8) (r : Fin 512) : (v2526 c a2 h2 a3 h3 a4 h4 a5 h5 a6 h6 a10 a11 a12 a14 a15 a16 x0 x1 x2 x3 x4) (ix2 u r) = top (logit x0 x1 x2 x3 x4 6) 9 u r :=
  top_next (hp 6) (top6_8 hp) (cut384_apply scores6_1 (by omega)) (queryScale_read (by omega) (by omega)) (keyScale_read (by omega)) u r

theorem top6_10 (hp : Positive x1 x4) (u : Fin 8) (r : Fin 512) : (v2536 c a2 h2 a3 h3 a4 h4 a5 h5 a6 h6 a10 a11 a12 a14 a15 a16 x0 x1 x2 x3 x4) (ix2 u r) = top (logit x0 x1 x2 x3 x4 6) 10 u r :=
  top_next (hp 6) (top6_9 hp) (cut384_apply scores6_1 (by omega)) (queryScale_read (by omega) (by omega)) (keyScale_read (by omega)) u r

theorem top6_11 (hp : Positive x1 x4) (u : Fin 8) (r : Fin 512) : (v2546 c a2 h2 a3 h3 a4 h4 a5 h5 a6 h6 a10 a11 a12 a14 a15 a16 x0 x1 x2 x3 x4) (ix2 u r) = top (logit x0 x1 x2 x3 x4 6) 11 u r :=
  top_next (hp 6) (top6_10 hp) (cut384_apply scores6_1 (by omega)) (queryScale_read (by omega) (by omega)) (keyScale_read (by omega)) u r

theorem top6_12 (hp : Positive x1 x4) (u : Fin 8) (r : Fin 512) : (v2556 c a2 h2 a3 h3 a4 h4 a5 h5 a6 h6 a10 a11 a12 a14 a15 a16 x0 x1 x2 x3 x4) (ix2 u r) = top (logit x0 x1 x2 x3 x4 6) 12 u r :=
  top_next (hp 6) (top6_11 hp) (cut384_apply scores6_1 (by omega)) (queryScale_read (by omega) (by omega)) (keyScale_read (by omega)) u r

theorem top6_13 (hp : Positive x1 x4) (u : Fin 8) (r : Fin 512) : (v2566 c a2 h2 a3 h3 a4 h4 a5 h5 a6 h6 a10 a11 a12 a14 a15 a16 x0 x1 x2 x3 x4) (ix2 u r) = top (logit x0 x1 x2 x3 x4 6) 13 u r :=
  top_next (hp 6) (top6_12 hp) (cut384_apply scores6_1 (by omega)) (queryScale_read (by omega) (by omega)) (keyScale_read (by omega)) u r

theorem shift6 (hp : Positive x1 x4) (r : Fin 512) : (v2570 c a2 h2 a3 h3 a4 h4 a5 h5 a6 h6 a10 a11 a12 a14 a15 a16 x0 x1 x2 x3 x4) (ix2 0 r) = shift (logit x0 x1 x2 x3 x4 6) 13 r :=
  shift_apply (top6_13 hp) r

theorem prb6_0 (hp : Positive x1 x4) (s : Fin 64) (r : Fin 512) : (v2586 c a2 h2 a3 h3 a4 h4 a5 h5 a6 h6 a10 a11 a12 a14 a15 a16 a17 x0 x1 x2 x3 x4) (ix2 s r) = prb x0 x1 x2 x3 x4 6 r (0 + s.val) :=
  prob_apply (g := 0) (fun s r => scores_skip (by omega) (scores_hit (by omega) (by omega) (store512_apply scores6_0) s r)) (queryScale_read (by omega) (by omega)) (keyScale_read (by omega)) (shift6 hp) s r

theorem mass6_0 (hp : Positive x1 x4) (u : Fin 8) (r : Fin 512) : (v2589 c a2 h2 a3 h3 a4 h4 a5 h5 a6 h6 a10 a11 a12 a14 a15 a16 a17 x0 x1 x2 x3 x4) (ix2 u r) = mass (prb x0 x1 x2 x3 x4 6) 0 u r :=
  mass_first (prb6_0 hp) u r

theorem prb6_1 (hp : Positive x1 x4) (s : Fin 64) (r : Fin 512) : (v2612 c a2 h2 a3 h3 a4 h4 a5 h5 a6 h6 a10 a11 a12 a14 a15 a16 a17 x0 x1 x2 x3 x4) (ix2 s r) = prb x0 x1 x2 x3 x4 6 r (64 + s.val) :=
  prob_apply (g := 1) (fun s r => scores_skip (by omega) (scores_hit (by omega) (by omega) (store512_apply scores6_0) s r)) (queryScale_read (by omega) (by omega)) (keyScale_read (by omega)) (shift6 hp) s r

theorem mass6_1 (hp : Positive x1 x4) (u : Fin 8) (r : Fin 512) : (v2615 c a2 h2 a3 h3 a4 h4 a5 h5 a6 h6 a10 a11 a12 a14 a15 a16 a17 x0 x1 x2 x3 x4) (ix2 u r) = mass (prb x0 x1 x2 x3 x4 6) 1 u r :=
  mass_next (mass6_0 hp) (prb6_1 hp) u r

theorem prb6_2 (hp : Positive x1 x4) (s : Fin 64) (r : Fin 512) : (v2638 c a2 h2 a3 h3 a4 h4 a5 h5 a6 h6 a10 a11 a12 a14 a15 a16 a17 x0 x1 x2 x3 x4) (ix2 s r) = prb x0 x1 x2 x3 x4 6 r (128 + s.val) :=
  prob_apply (g := 2) (fun s r => scores_skip (by omega) (scores_hit (by omega) (by omega) (store512_apply scores6_0) s r)) (queryScale_read (by omega) (by omega)) (keyScale_read (by omega)) (shift6 hp) s r

theorem mass6_2 (hp : Positive x1 x4) (u : Fin 8) (r : Fin 512) : (v2641 c a2 h2 a3 h3 a4 h4 a5 h5 a6 h6 a10 a11 a12 a14 a15 a16 a17 x0 x1 x2 x3 x4) (ix2 u r) = mass (prb x0 x1 x2 x3 x4 6) 2 u r :=
  mass_next (mass6_1 hp) (prb6_2 hp) u r

theorem prb6_3 (hp : Positive x1 x4) (s : Fin 64) (r : Fin 512) : (v2664 c a2 h2 a3 h3 a4 h4 a5 h5 a6 h6 a10 a11 a12 a14 a15 a16 a17 x0 x1 x2 x3 x4) (ix2 s r) = prb x0 x1 x2 x3 x4 6 r (192 + s.val) :=
  prob_apply (g := 3) (fun s r => scores_skip (by omega) (scores_hit (by omega) (by omega) (store512_apply scores6_0) s r)) (queryScale_read (by omega) (by omega)) (keyScale_read (by omega)) (shift6 hp) s r

theorem mass6_3 (hp : Positive x1 x4) (u : Fin 8) (r : Fin 512) : (v2667 c a2 h2 a3 h3 a4 h4 a5 h5 a6 h6 a10 a11 a12 a14 a15 a16 a17 x0 x1 x2 x3 x4) (ix2 u r) = mass (prb x0 x1 x2 x3 x4 6) 3 u r :=
  mass_next (mass6_2 hp) (prb6_3 hp) u r

theorem prb6_4 (hp : Positive x1 x4) (s : Fin 64) (r : Fin 512) : (v2690 c a2 h2 a3 h3 a4 h4 a5 h5 a6 h6 a10 a11 a12 a14 a15 a16 a17 x0 x1 x2 x3 x4) (ix2 s r) = prb x0 x1 x2 x3 x4 6 r (256 + s.val) :=
  prob_apply (g := 4) (fun s r => scores_skip (by omega) (scores_hit (by omega) (by omega) (store512_apply scores6_0) s r)) (queryScale_read (by omega) (by omega)) (keyScale_read (by omega)) (shift6 hp) s r

theorem mass6_4 (hp : Positive x1 x4) (u : Fin 8) (r : Fin 512) : (v2693 c a2 h2 a3 h3 a4 h4 a5 h5 a6 h6 a10 a11 a12 a14 a15 a16 a17 x0 x1 x2 x3 x4) (ix2 u r) = mass (prb x0 x1 x2 x3 x4 6) 4 u r :=
  mass_next (mass6_3 hp) (prb6_4 hp) u r

theorem prb6_5 (hp : Positive x1 x4) (s : Fin 64) (r : Fin 512) : (v2716 c a2 h2 a3 h3 a4 h4 a5 h5 a6 h6 a10 a11 a12 a14 a15 a16 a17 x0 x1 x2 x3 x4) (ix2 s r) = prb x0 x1 x2 x3 x4 6 r (320 + s.val) :=
  prob_apply (g := 5) (fun s r => scores_skip (by omega) (scores_hit (by omega) (by omega) (store512_apply scores6_0) s r)) (queryScale_read (by omega) (by omega)) (keyScale_read (by omega)) (shift6 hp) s r

theorem mass6_5 (hp : Positive x1 x4) (u : Fin 8) (r : Fin 512) : (v2719 c a2 h2 a3 h3 a4 h4 a5 h5 a6 h6 a10 a11 a12 a14 a15 a16 a17 x0 x1 x2 x3 x4) (ix2 u r) = mass (prb x0 x1 x2 x3 x4 6) 5 u r :=
  mass_next (mass6_4 hp) (prb6_5 hp) u r

theorem prb6_6 (hp : Positive x1 x4) (s : Fin 64) (r : Fin 512) : (v2742 c a2 h2 a3 h3 a4 h4 a5 h5 a6 h6 a10 a11 a12 a14 a15 a16 a17 x0 x1 x2 x3 x4) (ix2 s r) = prb x0 x1 x2 x3 x4 6 r (384 + s.val) :=
  prob_apply (g := 6) (fun s r => scores_skip (by omega) (scores_hit (by omega) (by omega) (store512_apply scores6_0) s r)) (queryScale_read (by omega) (by omega)) (keyScale_read (by omega)) (shift6 hp) s r

theorem mass6_6 (hp : Positive x1 x4) (u : Fin 8) (r : Fin 512) : (v2745 c a2 h2 a3 h3 a4 h4 a5 h5 a6 h6 a10 a11 a12 a14 a15 a16 a17 x0 x1 x2 x3 x4) (ix2 u r) = mass (prb x0 x1 x2 x3 x4 6) 6 u r :=
  mass_next (mass6_5 hp) (prb6_6 hp) u r

theorem prb6_7 (hp : Positive x1 x4) (s : Fin 64) (r : Fin 512) : (v2768 c a2 h2 a3 h3 a4 h4 a5 h5 a6 h6 a10 a11 a12 a14 a15 a16 a17 x0 x1 x2 x3 x4) (ix2 s r) = prb x0 x1 x2 x3 x4 6 r (448 + s.val) :=
  prob_apply (g := 7) (fun s r => scores_skip (by omega) (scores_hit (by omega) (by omega) (store512_apply scores6_0) s r)) (queryScale_read (by omega) (by omega)) (keyScale_read (by omega)) (shift6 hp) s r

theorem mass6_7 (hp : Positive x1 x4) (u : Fin 8) (r : Fin 512) : (v2771 c a2 h2 a3 h3 a4 h4 a5 h5 a6 h6 a10 a11 a12 a14 a15 a16 a17 x0 x1 x2 x3 x4) (ix2 u r) = mass (prb x0 x1 x2 x3 x4 6) 7 u r :=
  mass_next (mass6_6 hp) (prb6_7 hp) u r

theorem prb6_8 (hp : Positive x1 x4) (s : Fin 64) (r : Fin 512) : (v2794 c a2 h2 a3 h3 a4 h4 a5 h5 a6 h6 a10 a11 a12 a14 a15 a16 a17 x0 x1 x2 x3 x4) (ix2 s r) = prb x0 x1 x2 x3 x4 6 r (512 + s.val) :=
  prob_apply (g := 8) (fun s r => scores_hit (by omega) (by omega) (store384_apply scores6_1) s r) (queryScale_read (by omega) (by omega)) (keyScale_read (by omega)) (shift6 hp) s r

theorem mass6_8 (hp : Positive x1 x4) (u : Fin 8) (r : Fin 512) : (v2797 c a2 h2 a3 h3 a4 h4 a5 h5 a6 h6 a10 a11 a12 a14 a15 a16 a17 x0 x1 x2 x3 x4) (ix2 u r) = mass (prb x0 x1 x2 x3 x4 6) 8 u r :=
  mass_next (mass6_7 hp) (prb6_8 hp) u r

theorem prb6_9 (hp : Positive x1 x4) (s : Fin 64) (r : Fin 512) : (v2820 c a2 h2 a3 h3 a4 h4 a5 h5 a6 h6 a10 a11 a12 a14 a15 a16 a17 x0 x1 x2 x3 x4) (ix2 s r) = prb x0 x1 x2 x3 x4 6 r (576 + s.val) :=
  prob_apply (g := 9) (fun s r => scores_hit (by omega) (by omega) (store384_apply scores6_1) s r) (queryScale_read (by omega) (by omega)) (keyScale_read (by omega)) (shift6 hp) s r

theorem mass6_9 (hp : Positive x1 x4) (u : Fin 8) (r : Fin 512) : (v2823 c a2 h2 a3 h3 a4 h4 a5 h5 a6 h6 a10 a11 a12 a14 a15 a16 a17 x0 x1 x2 x3 x4) (ix2 u r) = mass (prb x0 x1 x2 x3 x4 6) 9 u r :=
  mass_next (mass6_8 hp) (prb6_9 hp) u r

theorem prb6_10 (hp : Positive x1 x4) (s : Fin 64) (r : Fin 512) : (v2846 c a2 h2 a3 h3 a4 h4 a5 h5 a6 h6 a10 a11 a12 a14 a15 a16 a17 x0 x1 x2 x3 x4) (ix2 s r) = prb x0 x1 x2 x3 x4 6 r (640 + s.val) :=
  prob_apply (g := 10) (fun s r => scores_hit (by omega) (by omega) (store384_apply scores6_1) s r) (queryScale_read (by omega) (by omega)) (keyScale_read (by omega)) (shift6 hp) s r

theorem mass6_10 (hp : Positive x1 x4) (u : Fin 8) (r : Fin 512) : (v2849 c a2 h2 a3 h3 a4 h4 a5 h5 a6 h6 a10 a11 a12 a14 a15 a16 a17 x0 x1 x2 x3 x4) (ix2 u r) = mass (prb x0 x1 x2 x3 x4 6) 10 u r :=
  mass_next (mass6_9 hp) (prb6_10 hp) u r

theorem prb6_11 (hp : Positive x1 x4) (s : Fin 64) (r : Fin 512) : (v2872 c a2 h2 a3 h3 a4 h4 a5 h5 a6 h6 a10 a11 a12 a14 a15 a16 a17 x0 x1 x2 x3 x4) (ix2 s r) = prb x0 x1 x2 x3 x4 6 r (704 + s.val) :=
  prob_apply (g := 11) (fun s r => scores_hit (by omega) (by omega) (store384_apply scores6_1) s r) (queryScale_read (by omega) (by omega)) (keyScale_read (by omega)) (shift6 hp) s r

theorem mass6_11 (hp : Positive x1 x4) (u : Fin 8) (r : Fin 512) : (v2875 c a2 h2 a3 h3 a4 h4 a5 h5 a6 h6 a10 a11 a12 a14 a15 a16 a17 x0 x1 x2 x3 x4) (ix2 u r) = mass (prb x0 x1 x2 x3 x4 6) 11 u r :=
  mass_next (mass6_10 hp) (prb6_11 hp) u r

theorem prb6_12 (hp : Positive x1 x4) (s : Fin 64) (r : Fin 512) : (v2898 c a2 h2 a3 h3 a4 h4 a5 h5 a6 h6 a10 a11 a12 a14 a15 a16 a17 x0 x1 x2 x3 x4) (ix2 s r) = prb x0 x1 x2 x3 x4 6 r (768 + s.val) :=
  prob_apply (g := 12) (fun s r => scores_hit (by omega) (by omega) (store384_apply scores6_1) s r) (queryScale_read (by omega) (by omega)) (keyScale_read (by omega)) (shift6 hp) s r

theorem mass6_12 (hp : Positive x1 x4) (u : Fin 8) (r : Fin 512) : (v2901 c a2 h2 a3 h3 a4 h4 a5 h5 a6 h6 a10 a11 a12 a14 a15 a16 a17 x0 x1 x2 x3 x4) (ix2 u r) = mass (prb x0 x1 x2 x3 x4 6) 12 u r :=
  mass_next (mass6_11 hp) (prb6_12 hp) u r

theorem prb6_13 (hp : Positive x1 x4) (s : Fin 64) (r : Fin 512) : (v2924 c a2 h2 a3 h3 a4 h4 a5 h5 a6 h6 a10 a11 a12 a14 a15 a16 a17 x0 x1 x2 x3 x4) (ix2 s r) = prb x0 x1 x2 x3 x4 6 r (832 + s.val) :=
  prob_apply (g := 13) (fun s r => scores_hit (by omega) (by omega) (store384_apply scores6_1) s r) (queryScale_read (by omega) (by omega)) (keyScale_read (by omega)) (shift6 hp) s r

theorem mass6_13 (hp : Positive x1 x4) (u : Fin 8) (r : Fin 512) : (v2927 c a2 h2 a3 h3 a4 h4 a5 h5 a6 h6 a10 a11 a12 a14 a15 a16 a17 x0 x1 x2 x3 x4) (ix2 u r) = mass (prb x0 x1 x2 x3 x4 6) 13 u r :=
  mass_next (mass6_12 hp) (prb6_13 hp) u r

theorem row6 (hp : Positive x1 x4) (r : Fin 512) (d : Fin 128) : (v2949 c a2 h2 a3 h3 a4 h4 a5 h5 a6 h6 a7 h7 a10 a11 a12 a13 a14 a15 a16 a17 a18 x0 x1 x2 x3 x4 x5) (ix3 0 r d) = row x0 x1 x2 x3 x4 x5 6 r d :=
  rows_apply (product896_apply (value_read (by omega)) (fun s r => (codes_start (by omega) (by omega) s r).trans (codes_step (codes_apply (prb6_13 hp)) s.isLt fun _ =>
      codes_step (codes_apply (prb6_12 hp)) (by omega) fun _ =>
      codes_step (codes_apply (prb6_11 hp)) (by omega) fun _ =>
      codes_step (codes_apply (prb6_10 hp)) (by omega) fun _ =>
      codes_step (codes_apply (prb6_9 hp)) (by omega) fun _ =>
      codes_step (codes_apply (prb6_8 hp)) (by omega) fun _ =>
      codes_step (codes_apply (prb6_7 hp)) (by omega) fun _ =>
      codes_step (codes_apply (prb6_6 hp)) (by omega) fun _ =>
      codes_step (codes_apply (prb6_5 hp)) (by omega) fun _ =>
      codes_step (codes_apply (prb6_4 hp)) (by omega) fun _ =>
      codes_step (codes_apply (prb6_3 hp)) (by omega) fun _ =>
      codes_step (codes_apply (prb6_2 hp)) (by omega) fun _ =>
      codes_step (codes_apply (prb6_1 hp)) (by omega) fun _ =>
      codes_step (codes_apply (prb6_0 hp)) (by omega) fun _ =>
      absurd ‹_› (by omega)))) (mass6_13 hp) r d

theorem head6_0 (hp : Positive x1 x4) (t d : Fin 128) : (v2957 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 6 0 t d :=
  (head_apply _ _ t d).trans (congrArg₂ (· * ·) ((head_read (by omega) t d).trans ((row6 hp _ d).trans (congrArg (fun a => row x0 x1 x2 x3 x4 x5 6 a d) (Fin.ext (by dsimp only; omega))))) (valueScales d))

theorem head6_1 (hp : Positive x1 x4) (t d : Fin 128) : (v2965 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 6 1 t d :=
  (head_apply _ _ t d).trans (congrArg₂ (· * ·) ((head_read (by omega) t d).trans ((row6 hp _ d).trans (congrArg (fun a => row x0 x1 x2 x3 x4 x5 6 a d) (Fin.ext (by dsimp only; omega))))) (valueScales d))

theorem head6_2 (hp : Positive x1 x4) (t d : Fin 128) : (v2973 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 6 2 t d :=
  (head_apply _ _ t d).trans (congrArg₂ (· * ·) ((head_read (by omega) t d).trans ((row6 hp _ d).trans (congrArg (fun a => row x0 x1 x2 x3 x4 x5 6 a d) (Fin.ext (by dsimp only; omega))))) (valueScales d))

theorem head6_3 (hp : Positive x1 x4) (t d : Fin 128) : (v2981 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 6 3 t d :=
  (head_apply _ _ t d).trans (congrArg₂ (· * ·) ((head_read (by omega) t d).trans ((row6 hp _ d).trans (congrArg (fun a => row x0 x1 x2 x3 x4 x5 6 a d) (Fin.ext (by dsimp only; omega))))) (valueScales d))

/-! ## Query block 7 -/

theorem scores7_0 (s : Fin 512) (r : Fin 512) : (v2994 c a2 h2 a3 h3 a4 h4 a5 h5 a10 a11 a14 a15 x0 x1 x2 x3) (ix2 s r) = (score x0 x1 x2 x3 7 r (0 + s.val)) :=
  whole_apply (raw512_apply (keys8_read (by omega)) (keys16_read (by omega)) (query_read (by omega) (by omega)) (tile_apply (mean_read (by omega) (by omega)))) (by omega) s r

theorem scores7_1 (s : Fin 512) (r : Fin 512) : (v3087 c a2 h2 a3 h3 a4 h4 a5 h5 a10 a11 a14 a15 x0 x1 x2 x3) (ix2 s r) = (score x0 x1 x2 x3 7 r (512 + s.val)) :=
  tail512_apply (raw512_apply (keys8_read (by omega)) (keys16_read (by omega)) (query_read (by omega) (by omega)) (tile_apply (mean_read (by omega) (by omega)))) (by omega) s r

theorem top7_0 (hp : Positive x1 x4) (u : Fin 8) (r : Fin 512) : (v3006 c a2 h2 a3 h3 a4 h4 a5 h5 a6 h6 a10 a11 a12 a14 a15 a16 x0 x1 x2 x3 x4) (ix2 u r) = top (logit x0 x1 x2 x3 x4 7) 0 u r :=
  top_first (hp 7) (cut512_apply scores7_0 (by omega)) (queryScale_read (by omega) (by omega)) (keyScale_read (by omega)) u r

theorem top7_1 (hp : Positive x1 x4) (u : Fin 8) (r : Fin 512) : (v3016 c a2 h2 a3 h3 a4 h4 a5 h5 a6 h6 a10 a11 a12 a14 a15 a16 x0 x1 x2 x3 x4) (ix2 u r) = top (logit x0 x1 x2 x3 x4 7) 1 u r :=
  top_next (hp 7) (top7_0 hp) (cut512_apply scores7_0 (by omega)) (queryScale_read (by omega) (by omega)) (keyScale_read (by omega)) u r

theorem top7_2 (hp : Positive x1 x4) (u : Fin 8) (r : Fin 512) : (v3026 c a2 h2 a3 h3 a4 h4 a5 h5 a6 h6 a10 a11 a12 a14 a15 a16 x0 x1 x2 x3 x4) (ix2 u r) = top (logit x0 x1 x2 x3 x4 7) 2 u r :=
  top_next (hp 7) (top7_1 hp) (cut512_apply scores7_0 (by omega)) (queryScale_read (by omega) (by omega)) (keyScale_read (by omega)) u r

theorem top7_3 (hp : Positive x1 x4) (u : Fin 8) (r : Fin 512) : (v3036 c a2 h2 a3 h3 a4 h4 a5 h5 a6 h6 a10 a11 a12 a14 a15 a16 x0 x1 x2 x3 x4) (ix2 u r) = top (logit x0 x1 x2 x3 x4 7) 3 u r :=
  top_next (hp 7) (top7_2 hp) (cut512_apply scores7_0 (by omega)) (queryScale_read (by omega) (by omega)) (keyScale_read (by omega)) u r

theorem top7_4 (hp : Positive x1 x4) (u : Fin 8) (r : Fin 512) : (v3046 c a2 h2 a3 h3 a4 h4 a5 h5 a6 h6 a10 a11 a12 a14 a15 a16 x0 x1 x2 x3 x4) (ix2 u r) = top (logit x0 x1 x2 x3 x4 7) 4 u r :=
  top_next (hp 7) (top7_3 hp) (cut512_apply scores7_0 (by omega)) (queryScale_read (by omega) (by omega)) (keyScale_read (by omega)) u r

theorem top7_5 (hp : Positive x1 x4) (u : Fin 8) (r : Fin 512) : (v3056 c a2 h2 a3 h3 a4 h4 a5 h5 a6 h6 a10 a11 a12 a14 a15 a16 x0 x1 x2 x3 x4) (ix2 u r) = top (logit x0 x1 x2 x3 x4 7) 5 u r :=
  top_next (hp 7) (top7_4 hp) (cut512_apply scores7_0 (by omega)) (queryScale_read (by omega) (by omega)) (keyScale_read (by omega)) u r

theorem top7_6 (hp : Positive x1 x4) (u : Fin 8) (r : Fin 512) : (v3066 c a2 h2 a3 h3 a4 h4 a5 h5 a6 h6 a10 a11 a12 a14 a15 a16 x0 x1 x2 x3 x4) (ix2 u r) = top (logit x0 x1 x2 x3 x4 7) 6 u r :=
  top_next (hp 7) (top7_5 hp) (cut512_apply scores7_0 (by omega)) (queryScale_read (by omega) (by omega)) (keyScale_read (by omega)) u r

theorem top7_7 (hp : Positive x1 x4) (u : Fin 8) (r : Fin 512) : (v3076 c a2 h2 a3 h3 a4 h4 a5 h5 a6 h6 a10 a11 a12 a14 a15 a16 x0 x1 x2 x3 x4) (ix2 u r) = top (logit x0 x1 x2 x3 x4 7) 7 u r :=
  top_next (hp 7) (top7_6 hp) (cut512_apply scores7_0 (by omega)) (queryScale_read (by omega) (by omega)) (keyScale_read (by omega)) u r

theorem top7_8 (hp : Positive x1 x4) (u : Fin 8) (r : Fin 512) : (v3100 c a2 h2 a3 h3 a4 h4 a5 h5 a6 h6 a10 a11 a12 a14 a15 a16 x0 x1 x2 x3 x4) (ix2 u r) = top (logit x0 x1 x2 x3 x4 7) 8 u r :=
  top_next (hp 7) (top7_7 hp) (cut512_apply scores7_1 (by omega)) (queryScale_read (by omega) (by omega)) (keyScale_read (by omega)) u r

theorem top7_9 (hp : Positive x1 x4) (u : Fin 8) (r : Fin 512) : (v3110 c a2 h2 a3 h3 a4 h4 a5 h5 a6 h6 a10 a11 a12 a14 a15 a16 x0 x1 x2 x3 x4) (ix2 u r) = top (logit x0 x1 x2 x3 x4 7) 9 u r :=
  top_next (hp 7) (top7_8 hp) (cut512_apply scores7_1 (by omega)) (queryScale_read (by omega) (by omega)) (keyScale_read (by omega)) u r

theorem top7_10 (hp : Positive x1 x4) (u : Fin 8) (r : Fin 512) : (v3120 c a2 h2 a3 h3 a4 h4 a5 h5 a6 h6 a10 a11 a12 a14 a15 a16 x0 x1 x2 x3 x4) (ix2 u r) = top (logit x0 x1 x2 x3 x4 7) 10 u r :=
  top_next (hp 7) (top7_9 hp) (cut512_apply scores7_1 (by omega)) (queryScale_read (by omega) (by omega)) (keyScale_read (by omega)) u r

theorem top7_11 (hp : Positive x1 x4) (u : Fin 8) (r : Fin 512) : (v3130 c a2 h2 a3 h3 a4 h4 a5 h5 a6 h6 a10 a11 a12 a14 a15 a16 x0 x1 x2 x3 x4) (ix2 u r) = top (logit x0 x1 x2 x3 x4 7) 11 u r :=
  top_next (hp 7) (top7_10 hp) (cut512_apply scores7_1 (by omega)) (queryScale_read (by omega) (by omega)) (keyScale_read (by omega)) u r

theorem top7_12 (hp : Positive x1 x4) (u : Fin 8) (r : Fin 512) : (v3140 c a2 h2 a3 h3 a4 h4 a5 h5 a6 h6 a10 a11 a12 a14 a15 a16 x0 x1 x2 x3 x4) (ix2 u r) = top (logit x0 x1 x2 x3 x4 7) 12 u r :=
  top_next (hp 7) (top7_11 hp) (cut512_apply scores7_1 (by omega)) (queryScale_read (by omega) (by omega)) (keyScale_read (by omega)) u r

theorem top7_13 (hp : Positive x1 x4) (u : Fin 8) (r : Fin 512) : (v3150 c a2 h2 a3 h3 a4 h4 a5 h5 a6 h6 a10 a11 a12 a14 a15 a16 x0 x1 x2 x3 x4) (ix2 u r) = top (logit x0 x1 x2 x3 x4 7) 13 u r :=
  top_next (hp 7) (top7_12 hp) (cut512_apply scores7_1 (by omega)) (queryScale_read (by omega) (by omega)) (keyScale_read (by omega)) u r

theorem top7_14 (hp : Positive x1 x4) (u : Fin 8) (r : Fin 512) : (v3160 c a2 h2 a3 h3 a4 h4 a5 h5 a6 h6 a10 a11 a12 a14 a15 a16 x0 x1 x2 x3 x4) (ix2 u r) = top (logit x0 x1 x2 x3 x4 7) 14 u r :=
  top_next (hp 7) (top7_13 hp) (cut512_apply scores7_1 (by omega)) (queryScale_read (by omega) (by omega)) (keyScale_read (by omega)) u r

theorem top7_15 (hp : Positive x1 x4) (u : Fin 8) (r : Fin 512) : (v3170 c a2 h2 a3 h3 a4 h4 a5 h5 a6 h6 a10 a11 a12 a14 a15 a16 x0 x1 x2 x3 x4) (ix2 u r) = top (logit x0 x1 x2 x3 x4 7) 15 u r :=
  top_next (hp 7) (top7_14 hp) (cut512_apply scores7_1 (by omega)) (queryScale_read (by omega) (by omega)) (keyScale_read (by omega)) u r

theorem shift7 (hp : Positive x1 x4) (r : Fin 512) : (v3174 c a2 h2 a3 h3 a4 h4 a5 h5 a6 h6 a10 a11 a12 a14 a15 a16 x0 x1 x2 x3 x4) (ix2 0 r) = shift (logit x0 x1 x2 x3 x4 7) 15 r :=
  shift_apply (top7_15 hp) r

theorem prb7_0 (hp : Positive x1 x4) (s : Fin 64) (r : Fin 512) : (v3190 c a2 h2 a3 h3 a4 h4 a5 h5 a6 h6 a10 a11 a12 a14 a15 a16 a17 x0 x1 x2 x3 x4) (ix2 s r) = prb x0 x1 x2 x3 x4 7 r (0 + s.val) :=
  prob_apply (g := 0) (fun s r => scores_skip (by omega) (scores_hit (by omega) (by omega) (store512_apply scores7_0) s r)) (queryScale_read (by omega) (by omega)) (keyScale_read (by omega)) (shift7 hp) s r

theorem mass7_0 (hp : Positive x1 x4) (u : Fin 8) (r : Fin 512) : (v3193 c a2 h2 a3 h3 a4 h4 a5 h5 a6 h6 a10 a11 a12 a14 a15 a16 a17 x0 x1 x2 x3 x4) (ix2 u r) = mass (prb x0 x1 x2 x3 x4 7) 0 u r :=
  mass_first (prb7_0 hp) u r

theorem prb7_1 (hp : Positive x1 x4) (s : Fin 64) (r : Fin 512) : (v3216 c a2 h2 a3 h3 a4 h4 a5 h5 a6 h6 a10 a11 a12 a14 a15 a16 a17 x0 x1 x2 x3 x4) (ix2 s r) = prb x0 x1 x2 x3 x4 7 r (64 + s.val) :=
  prob_apply (g := 1) (fun s r => scores_skip (by omega) (scores_hit (by omega) (by omega) (store512_apply scores7_0) s r)) (queryScale_read (by omega) (by omega)) (keyScale_read (by omega)) (shift7 hp) s r

theorem mass7_1 (hp : Positive x1 x4) (u : Fin 8) (r : Fin 512) : (v3219 c a2 h2 a3 h3 a4 h4 a5 h5 a6 h6 a10 a11 a12 a14 a15 a16 a17 x0 x1 x2 x3 x4) (ix2 u r) = mass (prb x0 x1 x2 x3 x4 7) 1 u r :=
  mass_next (mass7_0 hp) (prb7_1 hp) u r

theorem prb7_2 (hp : Positive x1 x4) (s : Fin 64) (r : Fin 512) : (v3242 c a2 h2 a3 h3 a4 h4 a5 h5 a6 h6 a10 a11 a12 a14 a15 a16 a17 x0 x1 x2 x3 x4) (ix2 s r) = prb x0 x1 x2 x3 x4 7 r (128 + s.val) :=
  prob_apply (g := 2) (fun s r => scores_skip (by omega) (scores_hit (by omega) (by omega) (store512_apply scores7_0) s r)) (queryScale_read (by omega) (by omega)) (keyScale_read (by omega)) (shift7 hp) s r

theorem mass7_2 (hp : Positive x1 x4) (u : Fin 8) (r : Fin 512) : (v3245 c a2 h2 a3 h3 a4 h4 a5 h5 a6 h6 a10 a11 a12 a14 a15 a16 a17 x0 x1 x2 x3 x4) (ix2 u r) = mass (prb x0 x1 x2 x3 x4 7) 2 u r :=
  mass_next (mass7_1 hp) (prb7_2 hp) u r

theorem prb7_3 (hp : Positive x1 x4) (s : Fin 64) (r : Fin 512) : (v3268 c a2 h2 a3 h3 a4 h4 a5 h5 a6 h6 a10 a11 a12 a14 a15 a16 a17 x0 x1 x2 x3 x4) (ix2 s r) = prb x0 x1 x2 x3 x4 7 r (192 + s.val) :=
  prob_apply (g := 3) (fun s r => scores_skip (by omega) (scores_hit (by omega) (by omega) (store512_apply scores7_0) s r)) (queryScale_read (by omega) (by omega)) (keyScale_read (by omega)) (shift7 hp) s r

theorem mass7_3 (hp : Positive x1 x4) (u : Fin 8) (r : Fin 512) : (v3271 c a2 h2 a3 h3 a4 h4 a5 h5 a6 h6 a10 a11 a12 a14 a15 a16 a17 x0 x1 x2 x3 x4) (ix2 u r) = mass (prb x0 x1 x2 x3 x4 7) 3 u r :=
  mass_next (mass7_2 hp) (prb7_3 hp) u r

theorem prb7_4 (hp : Positive x1 x4) (s : Fin 64) (r : Fin 512) : (v3294 c a2 h2 a3 h3 a4 h4 a5 h5 a6 h6 a10 a11 a12 a14 a15 a16 a17 x0 x1 x2 x3 x4) (ix2 s r) = prb x0 x1 x2 x3 x4 7 r (256 + s.val) :=
  prob_apply (g := 4) (fun s r => scores_skip (by omega) (scores_hit (by omega) (by omega) (store512_apply scores7_0) s r)) (queryScale_read (by omega) (by omega)) (keyScale_read (by omega)) (shift7 hp) s r

theorem mass7_4 (hp : Positive x1 x4) (u : Fin 8) (r : Fin 512) : (v3297 c a2 h2 a3 h3 a4 h4 a5 h5 a6 h6 a10 a11 a12 a14 a15 a16 a17 x0 x1 x2 x3 x4) (ix2 u r) = mass (prb x0 x1 x2 x3 x4 7) 4 u r :=
  mass_next (mass7_3 hp) (prb7_4 hp) u r

theorem prb7_5 (hp : Positive x1 x4) (s : Fin 64) (r : Fin 512) : (v3320 c a2 h2 a3 h3 a4 h4 a5 h5 a6 h6 a10 a11 a12 a14 a15 a16 a17 x0 x1 x2 x3 x4) (ix2 s r) = prb x0 x1 x2 x3 x4 7 r (320 + s.val) :=
  prob_apply (g := 5) (fun s r => scores_skip (by omega) (scores_hit (by omega) (by omega) (store512_apply scores7_0) s r)) (queryScale_read (by omega) (by omega)) (keyScale_read (by omega)) (shift7 hp) s r

theorem mass7_5 (hp : Positive x1 x4) (u : Fin 8) (r : Fin 512) : (v3323 c a2 h2 a3 h3 a4 h4 a5 h5 a6 h6 a10 a11 a12 a14 a15 a16 a17 x0 x1 x2 x3 x4) (ix2 u r) = mass (prb x0 x1 x2 x3 x4 7) 5 u r :=
  mass_next (mass7_4 hp) (prb7_5 hp) u r

theorem prb7_6 (hp : Positive x1 x4) (s : Fin 64) (r : Fin 512) : (v3346 c a2 h2 a3 h3 a4 h4 a5 h5 a6 h6 a10 a11 a12 a14 a15 a16 a17 x0 x1 x2 x3 x4) (ix2 s r) = prb x0 x1 x2 x3 x4 7 r (384 + s.val) :=
  prob_apply (g := 6) (fun s r => scores_skip (by omega) (scores_hit (by omega) (by omega) (store512_apply scores7_0) s r)) (queryScale_read (by omega) (by omega)) (keyScale_read (by omega)) (shift7 hp) s r

theorem mass7_6 (hp : Positive x1 x4) (u : Fin 8) (r : Fin 512) : (v3349 c a2 h2 a3 h3 a4 h4 a5 h5 a6 h6 a10 a11 a12 a14 a15 a16 a17 x0 x1 x2 x3 x4) (ix2 u r) = mass (prb x0 x1 x2 x3 x4 7) 6 u r :=
  mass_next (mass7_5 hp) (prb7_6 hp) u r

theorem prb7_7 (hp : Positive x1 x4) (s : Fin 64) (r : Fin 512) : (v3372 c a2 h2 a3 h3 a4 h4 a5 h5 a6 h6 a10 a11 a12 a14 a15 a16 a17 x0 x1 x2 x3 x4) (ix2 s r) = prb x0 x1 x2 x3 x4 7 r (448 + s.val) :=
  prob_apply (g := 7) (fun s r => scores_skip (by omega) (scores_hit (by omega) (by omega) (store512_apply scores7_0) s r)) (queryScale_read (by omega) (by omega)) (keyScale_read (by omega)) (shift7 hp) s r

theorem mass7_7 (hp : Positive x1 x4) (u : Fin 8) (r : Fin 512) : (v3375 c a2 h2 a3 h3 a4 h4 a5 h5 a6 h6 a10 a11 a12 a14 a15 a16 a17 x0 x1 x2 x3 x4) (ix2 u r) = mass (prb x0 x1 x2 x3 x4 7) 7 u r :=
  mass_next (mass7_6 hp) (prb7_7 hp) u r

theorem prb7_8 (hp : Positive x1 x4) (s : Fin 64) (r : Fin 512) : (v3398 c a2 h2 a3 h3 a4 h4 a5 h5 a6 h6 a10 a11 a12 a14 a15 a16 a17 x0 x1 x2 x3 x4) (ix2 s r) = prb x0 x1 x2 x3 x4 7 r (512 + s.val) :=
  prob_apply (g := 8) (fun s r => scores_hit (by omega) (by omega) (store512_apply scores7_1) s r) (queryScale_read (by omega) (by omega)) (keyScale_read (by omega)) (shift7 hp) s r

theorem mass7_8 (hp : Positive x1 x4) (u : Fin 8) (r : Fin 512) : (v3401 c a2 h2 a3 h3 a4 h4 a5 h5 a6 h6 a10 a11 a12 a14 a15 a16 a17 x0 x1 x2 x3 x4) (ix2 u r) = mass (prb x0 x1 x2 x3 x4 7) 8 u r :=
  mass_next (mass7_7 hp) (prb7_8 hp) u r

theorem prb7_9 (hp : Positive x1 x4) (s : Fin 64) (r : Fin 512) : (v3424 c a2 h2 a3 h3 a4 h4 a5 h5 a6 h6 a10 a11 a12 a14 a15 a16 a17 x0 x1 x2 x3 x4) (ix2 s r) = prb x0 x1 x2 x3 x4 7 r (576 + s.val) :=
  prob_apply (g := 9) (fun s r => scores_hit (by omega) (by omega) (store512_apply scores7_1) s r) (queryScale_read (by omega) (by omega)) (keyScale_read (by omega)) (shift7 hp) s r

theorem mass7_9 (hp : Positive x1 x4) (u : Fin 8) (r : Fin 512) : (v3427 c a2 h2 a3 h3 a4 h4 a5 h5 a6 h6 a10 a11 a12 a14 a15 a16 a17 x0 x1 x2 x3 x4) (ix2 u r) = mass (prb x0 x1 x2 x3 x4 7) 9 u r :=
  mass_next (mass7_8 hp) (prb7_9 hp) u r

theorem prb7_10 (hp : Positive x1 x4) (s : Fin 64) (r : Fin 512) : (v3450 c a2 h2 a3 h3 a4 h4 a5 h5 a6 h6 a10 a11 a12 a14 a15 a16 a17 x0 x1 x2 x3 x4) (ix2 s r) = prb x0 x1 x2 x3 x4 7 r (640 + s.val) :=
  prob_apply (g := 10) (fun s r => scores_hit (by omega) (by omega) (store512_apply scores7_1) s r) (queryScale_read (by omega) (by omega)) (keyScale_read (by omega)) (shift7 hp) s r

theorem mass7_10 (hp : Positive x1 x4) (u : Fin 8) (r : Fin 512) : (v3453 c a2 h2 a3 h3 a4 h4 a5 h5 a6 h6 a10 a11 a12 a14 a15 a16 a17 x0 x1 x2 x3 x4) (ix2 u r) = mass (prb x0 x1 x2 x3 x4 7) 10 u r :=
  mass_next (mass7_9 hp) (prb7_10 hp) u r

theorem prb7_11 (hp : Positive x1 x4) (s : Fin 64) (r : Fin 512) : (v3476 c a2 h2 a3 h3 a4 h4 a5 h5 a6 h6 a10 a11 a12 a14 a15 a16 a17 x0 x1 x2 x3 x4) (ix2 s r) = prb x0 x1 x2 x3 x4 7 r (704 + s.val) :=
  prob_apply (g := 11) (fun s r => scores_hit (by omega) (by omega) (store512_apply scores7_1) s r) (queryScale_read (by omega) (by omega)) (keyScale_read (by omega)) (shift7 hp) s r

theorem mass7_11 (hp : Positive x1 x4) (u : Fin 8) (r : Fin 512) : (v3479 c a2 h2 a3 h3 a4 h4 a5 h5 a6 h6 a10 a11 a12 a14 a15 a16 a17 x0 x1 x2 x3 x4) (ix2 u r) = mass (prb x0 x1 x2 x3 x4 7) 11 u r :=
  mass_next (mass7_10 hp) (prb7_11 hp) u r

theorem prb7_12 (hp : Positive x1 x4) (s : Fin 64) (r : Fin 512) : (v3502 c a2 h2 a3 h3 a4 h4 a5 h5 a6 h6 a10 a11 a12 a14 a15 a16 a17 x0 x1 x2 x3 x4) (ix2 s r) = prb x0 x1 x2 x3 x4 7 r (768 + s.val) :=
  prob_apply (g := 12) (fun s r => scores_hit (by omega) (by omega) (store512_apply scores7_1) s r) (queryScale_read (by omega) (by omega)) (keyScale_read (by omega)) (shift7 hp) s r

theorem mass7_12 (hp : Positive x1 x4) (u : Fin 8) (r : Fin 512) : (v3505 c a2 h2 a3 h3 a4 h4 a5 h5 a6 h6 a10 a11 a12 a14 a15 a16 a17 x0 x1 x2 x3 x4) (ix2 u r) = mass (prb x0 x1 x2 x3 x4 7) 12 u r :=
  mass_next (mass7_11 hp) (prb7_12 hp) u r

theorem prb7_13 (hp : Positive x1 x4) (s : Fin 64) (r : Fin 512) : (v3528 c a2 h2 a3 h3 a4 h4 a5 h5 a6 h6 a10 a11 a12 a14 a15 a16 a17 x0 x1 x2 x3 x4) (ix2 s r) = prb x0 x1 x2 x3 x4 7 r (832 + s.val) :=
  prob_apply (g := 13) (fun s r => scores_hit (by omega) (by omega) (store512_apply scores7_1) s r) (queryScale_read (by omega) (by omega)) (keyScale_read (by omega)) (shift7 hp) s r

theorem mass7_13 (hp : Positive x1 x4) (u : Fin 8) (r : Fin 512) : (v3531 c a2 h2 a3 h3 a4 h4 a5 h5 a6 h6 a10 a11 a12 a14 a15 a16 a17 x0 x1 x2 x3 x4) (ix2 u r) = mass (prb x0 x1 x2 x3 x4 7) 13 u r :=
  mass_next (mass7_12 hp) (prb7_13 hp) u r

theorem prb7_14 (hp : Positive x1 x4) (s : Fin 64) (r : Fin 512) : (v3554 c a2 h2 a3 h3 a4 h4 a5 h5 a6 h6 a10 a11 a12 a14 a15 a16 a17 x0 x1 x2 x3 x4) (ix2 s r) = prb x0 x1 x2 x3 x4 7 r (896 + s.val) :=
  prob_apply (g := 14) (fun s r => scores_hit (by omega) (by omega) (store512_apply scores7_1) s r) (queryScale_read (by omega) (by omega)) (keyScale_read (by omega)) (shift7 hp) s r

theorem mass7_14 (hp : Positive x1 x4) (u : Fin 8) (r : Fin 512) : (v3557 c a2 h2 a3 h3 a4 h4 a5 h5 a6 h6 a10 a11 a12 a14 a15 a16 a17 x0 x1 x2 x3 x4) (ix2 u r) = mass (prb x0 x1 x2 x3 x4 7) 14 u r :=
  mass_next (mass7_13 hp) (prb7_14 hp) u r

theorem prb7_15 (hp : Positive x1 x4) (s : Fin 64) (r : Fin 512) : (v3580 c a2 h2 a3 h3 a4 h4 a5 h5 a6 h6 a10 a11 a12 a14 a15 a16 a17 x0 x1 x2 x3 x4) (ix2 s r) = prb x0 x1 x2 x3 x4 7 r (960 + s.val) :=
  prob_apply (g := 15) (fun s r => scores_hit (by omega) (by omega) (store512_apply scores7_1) s r) (queryScale_read (by omega) (by omega)) (keyScale_read (by omega)) (shift7 hp) s r

theorem mass7_15 (hp : Positive x1 x4) (u : Fin 8) (r : Fin 512) : (v3583 c a2 h2 a3 h3 a4 h4 a5 h5 a6 h6 a10 a11 a12 a14 a15 a16 a17 x0 x1 x2 x3 x4) (ix2 u r) = mass (prb x0 x1 x2 x3 x4 7) 15 u r :=
  mass_next (mass7_14 hp) (prb7_15 hp) u r

theorem row7 (hp : Positive x1 x4) (r : Fin 512) (d : Fin 128) : (v3605 c a2 h2 a3 h3 a4 h4 a5 h5 a6 h6 a7 h7 a10 a11 a12 a13 a14 a15 a16 a17 a18 x0 x1 x2 x3 x4 x5) (ix3 0 r d) = row x0 x1 x2 x3 x4 x5 7 r d :=
  rows_apply (product1024_apply (value_read (by omega)) (fun s r => (codes_start (by omega) (by omega) s r).trans (codes_step (codes_apply (prb7_15 hp)) s.isLt fun _ =>
      codes_step (codes_apply (prb7_14 hp)) (by omega) fun _ =>
      codes_step (codes_apply (prb7_13 hp)) (by omega) fun _ =>
      codes_step (codes_apply (prb7_12 hp)) (by omega) fun _ =>
      codes_step (codes_apply (prb7_11 hp)) (by omega) fun _ =>
      codes_step (codes_apply (prb7_10 hp)) (by omega) fun _ =>
      codes_step (codes_apply (prb7_9 hp)) (by omega) fun _ =>
      codes_step (codes_apply (prb7_8 hp)) (by omega) fun _ =>
      codes_step (codes_apply (prb7_7 hp)) (by omega) fun _ =>
      codes_step (codes_apply (prb7_6 hp)) (by omega) fun _ =>
      codes_step (codes_apply (prb7_5 hp)) (by omega) fun _ =>
      codes_step (codes_apply (prb7_4 hp)) (by omega) fun _ =>
      codes_step (codes_apply (prb7_3 hp)) (by omega) fun _ =>
      codes_step (codes_apply (prb7_2 hp)) (by omega) fun _ =>
      codes_step (codes_apply (prb7_1 hp)) (by omega) fun _ =>
      codes_step (codes_apply (prb7_0 hp)) (by omega) fun _ =>
      absurd ‹_› (by omega)))) (mass7_15 hp) r d

theorem head7_0 (hp : Positive x1 x4) (t d : Fin 128) : (v3613 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 7 0 t d :=
  (head_apply _ _ t d).trans (congrArg₂ (· * ·) ((head_read (by omega) t d).trans ((row7 hp _ d).trans (congrArg (fun a => row x0 x1 x2 x3 x4 x5 7 a d) (Fin.ext (by dsimp only; omega))))) (valueScales d))

theorem head7_1 (hp : Positive x1 x4) (t d : Fin 128) : (v3621 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 7 1 t d :=
  (head_apply _ _ t d).trans (congrArg₂ (· * ·) ((head_read (by omega) t d).trans ((row7 hp _ d).trans (congrArg (fun a => row x0 x1 x2 x3 x4 x5 7 a d) (Fin.ext (by dsimp only; omega))))) (valueScales d))

theorem head7_2 (hp : Positive x1 x4) (t d : Fin 128) : (v3629 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 7 2 t d :=
  (head_apply _ _ t d).trans (congrArg₂ (· * ·) ((head_read (by omega) t d).trans ((row7 hp _ d).trans (congrArg (fun a => row x0 x1 x2 x3 x4 x5 7 a d) (Fin.ext (by dsimp only; omega))))) (valueScales d))

theorem head7_3 (hp : Positive x1 x4) (t d : Fin 128) : (v3637 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 7 3 t d :=
  (head_apply _ _ t d).trans (congrArg₂ (· * ·) ((head_read (by omega) t d).trans ((row7 hp _ d).trans (congrArg (fun a => row x0 x1 x2 x3 x4 x5 7 a d) (Fin.ext (by dsimp only; omega))))) (valueScales d))

end Cert.KernelIdeal.Block

end
-- ==== Proof.BlocksB.lean ====
/- Query blocks 8, 9, 10: every value the kernel names, read at an index. -/
module

public import proofs.«01_k».proof.Proof.Readings
public import proofs.«01_k».proof.Proof.Rows

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Gen.kernelRun0_A.sl

variable {c : Dev nD} {i : grid0.Coords}
  {a2 : Memref sig .tc .vmem S1x1x8192x128 .bf16} {h2 : a2.IsWhole}
  {a3 : Memref sig .tc .vmem S1x1x4x16 .f32} {h3 : a3.IsWhole}
  {a4 : Memref sig .tc .vmem S1x4x16x128 .bf16} {h4 : a4.IsWhole}
  {a5 : Memref sig .tc .vmem S1x1x2048x128 .bf16} {h5 : a5.IsWhole}
  {a6 : Memref sig .tc .vmem S1x1x32x1 .f32} {h6 : a6.IsWhole}
  {a7 : Memref sig .tc .vmem S1x1x2048x128 .bf16} {h7 : a7.IsWhole}
  {a8 : Memref sig .tc .vmem S1x4x128 .f32} {h8 : a8.IsWhole}
  {a10 : Memref sig .tc .vmem S2048x128 .fp8e4m3}
  {a11 : Memref sig .tc .vmem S2048x128 .bf16}
  {a12 : Memref sig .tc .vmem S32x128 .f32}
  {a13 : Memref sig .tc .vmem S128x2048 .fp8e4m3}
  {a14 : Memref sig .tc .vmem S8192x128 .fp8e4m3}
  {a15 : Memref sig .tc .vmem S128x128 .f32}
  {a16 : Memref sig .tc .vmem S128x128 .f32}
  {a17 : Memref sig .tc .vmem S2x2048x512 .f32}
  {a18 : Memref sig .tc .vmem S2x2048x512 .fp8e4m3}
  {a19 : Memref sig .tc .vmem S2x512x128 .f32}
  {x0 : Vec Ideal S1x1x8192x128 .bf16}  {x1 : Vec Ideal S1x1x4x16 .f32}  {x2 : Vec Ideal S1x4x16x128 .bf16}
  {x3 : Vec Ideal S1x1x2048x128 .bf16}  {x4 : Vec Ideal S1x1x32x1 .f32}
  {x5 : Vec Ideal S1x1x2048x128 .bf16}  {x6 : Vec Ideal S1x4x128 .f32}

/-! ## Query block 8 -/

theorem scores8_0 (s : Fin 512) (r : Fin 512) : (v3650 c a2 h2 a3 h3 a4 h4 a5 h5 a10 a11 a14 a15 x0 x1 x2 x3) (ix2 s r) = (score x0 x1 x2 x3 8 r (0 + s.val)) :=
  whole_apply (raw512_apply (keys8_read (by omega)) (keys16_read (by omega)) (query_read (by omega) (by omega)) (tile_apply (mean_read (by omega) (by omega)))) (by omega) s r

theorem scores8_1 (s : Fin 512) (r : Fin 512) : (v3738 c a2 h2 a3 h3 a4 h4 a5 h5 a10 a11 a14 a15 x0 x1 x2 x3) (ix2 s r) = (score x0 x1 x2 x3 8 r (512 + s.val)) :=
  whole_apply (raw512_apply (keys8_read (by omega)) (keys16_read (by omega)) (query_read (by omega) (by omega)) (tile_apply (mean_read (by omega) (by omega)))) (by omega) s r

theorem scores8_2 (s : Fin 128) (r : Fin 512) : (v3829 c a2 h2 a3 h3 a4 h4 a5 h5 a10 a11 a14 a15 x0 x1 x2 x3) (ix2 s r) = (score x0 x1 x2 x3 8 r (1024 + s.val)) :=
  mask_apply (raw128_apply (keys8_read (by omega)) (keys16_read (by omega)) (query_read (by omega) (by omega)) (tile_apply (mean_read (by omega) (by omega)))) (by omega) s r

theorem top8_0 (hp : Positive x1 x4) (u : Fin 8) (r : Fin 512) : (v3662 c a2 h2 a3 h3 a4 h4 a5 h5 a6 h6 a10 a11 a12 a14 a15 a16 x0 x1 x2 x3 x4) (ix2 u r) = top (logit x0 x1 x2 x3 x4 8) 0 u r :=
  top_first (hp 8) (cut512_apply scores8_0 (by omega)) (queryScale_read (by omega) (by omega)) (keyScale_read (by omega)) u r

theorem top8_1 (hp : Positive x1 x4) (u : Fin 8) (r : Fin 512) : (v3672 c a2 h2 a3 h3 a4 h4 a5 h5 a6 h6 a10 a11 a12 a14 a15 a16 x0 x1 x2 x3 x4) (ix2 u r) = top (logit x0 x1 x2 x3 x4 8) 1 u r :=
  top_next (hp 8) (top8_0 hp) (cut512_apply scores8_0 (by omega)) (queryScale_read (by omega) (by omega)) (keyScale_read (by omega)) u r

theorem top8_2 (hp : Positive x1 x4) (u : Fin 8) (r : Fin 512) : (v3682 c a2 h2 a3 h3 a4 h4 a5 h5 a6 h6 a10 a11 a12 a14 a15 a16 x0 x1 x2 x3 x4) (ix2 u r) = top (logit x0 x1 x2 x3 x4 8) 2 u r :=
  top_next (hp 8) (top8_1 hp) (cut512_apply scores8_0 (by omega)) (queryScale_read (by omega) (by omega)) (keyScale_read (by omega)) u r

theorem top8_3 (hp : Positive x1 x4) (u : Fin 8) (r : Fin 512) : (v3692 c a2 h2 a3 h3 a4 h4 a5 h5 a6 h6 a10 a11 a12 a14 a15 a16 x0 x1 x2 x3 x4) (ix2 u r) = top (logit x0 x1 x2 x3 x4 8) 3 u r :=
  top_next (hp 8) (top8_2 hp) (cut512_apply scores8_0 (by omega)) (queryScale_read (by omega) (by omega)) (keyScale_read (by omega)) u r

theorem top8_4 (hp : Positive x1 x4) (u : Fin 8) (r : Fin 512) : (v3702 c a2 h2 a3 h3 a4 h4 a5 h5 a6 h6 a10 a11 a12 a14 a15 a16 x0 x1 x2 x3 x4) (ix2 u r) = top (logit x0 x1 x2 x3 x4 8) 4 u r :=
  top_next (hp 8) (top8_3 hp) (cut512_apply scores8_0 (by omega)) (queryScale_read (by omega) (by omega)) (keyScale_read (by omega)) u r

theorem top8_5 (hp : Positive x1 x4) (u : Fin 8) (r : Fin 512) : (v3712 c a2 h2 a3 h3 a4 h4 a5 h5 a6 h6 a10 a11 a12 a14 a15 a16 x0 x1 x2 x3 x4) (ix2 u r) = top (logit x0 x1 x2 x3 x4 8) 5 u r :=
  top_next (hp 8) (top8_4 hp) (cut512_apply scores8_0 (by omega)) (queryScale_read (by omega) (by omega)) (keyScale_read (by omega)) u r

theorem top8_6 (hp : Positive x1 x4) (u : Fin 8) (r : Fin 512) : (v3722 c a2 h2 a3 h3 a4 h4 a5 h5 a6 h6 a10 a11 a12 a14 a15 a16 x0 x1 x2 x3 x4) (ix2 u r) = top (logit x0 x1 x2 x3 x4 8) 6 u r :=
  top_next (hp 8) (top8_5 hp) (cut512_apply scores8_0 (by omega)) (queryScale_read (by omega) (by omega)) (keyScale_read (by omega)) u r

theorem top8_7 (hp : Positive x1 x4) (u : Fin 8) (r : Fin 512) : (v3732 c a2 h2 a3 h3 a4 h4 a5 h5 a6 h6 a10 a11 a12 a14 a15 a16 x0 x1 x2 x3 x4) (ix2 u r) = top (logit x0 x1 x2 x3 x4 8) 7 u r :=
  top_next (hp 8) (top8_6 hp) (cut512_apply scores8_0 (by omega)) (queryScale_read (by omega) (by omega)) (keyScale_read (by omega)) u r

theorem top8_8 (hp : Positive x1 x4) (u : Fin 8) (r : Fin 512) : (v3751 c a2 h2 a3 h3 a4 h4 a5 h5 a6 h6 a10 a11 a12 a14 a15 a16 x0 x1 x2 x3 x4) (ix2 u r) = top (logit x0 x1 x2 x3 x4 8) 8 u r :=
  top_next (hp 8) (top8_7 hp) (cut512_apply scores8_1 (by omega)) (queryScale_read (by omega) (by omega)) (keyScale_read (by omega)) u r

theorem top8_9 (hp : Positive x1 x4) (u : Fin 8) (r : Fin 512) : (v3761 c a2 h2 a3 h3 a4 h4 a5 h5 a6 h6 a10 a11 a12 a14 a15 a16 x0 x1 x2 x3 x4) (ix2 u r) = top (logit x0 x1 x2 x3 x4 8) 9 u r :=
  top_next (hp 8) (top8_8 hp) (cut512_apply scores8_1 (by omega)) (queryScale_read (by omega) (by omega)) (keyScale_read (by omega)) u r

theorem top8_10 (hp : Positive x1 x4) (u : Fin 8) (r : Fin 512) : (v3771 c a2 h2 a3 h3 a4 h4 a5 h5 a6 h6 a10 a11 a12 a14 a15 a16 x0 x1 x2 x3 x4) (ix2 u r) = top (logit x0 x1 x2 x3 x4 8) 10 u r :=
  top_next (hp 8) (top8_9 hp) (cut512_apply scores8_1 (by omega)) (queryScale_read (by omega) (by omega)) (keyScale_read (by omega)) u r

theorem top8_11 (hp : Positive x1 x4) (u : Fin 8) (r : Fin 512) : (v3781 c a2 h2 a3 h3 a4 h4 a5 h5 a6 h6 a10 a11 a12 a14 a15 a16 x0 x1 x2 x3 x4) (ix2 u r) = top (logit x0 x1 x2 x3 x4 8) 11 u r :=
  top_next (hp 8) (top8_10 hp) (cut512_apply scores8_1 (by omega)) (queryScale_read (by omega) (by omega)) (keyScale_read (by omega)) u r

theorem top8_12 (hp : Positive x1 x4) (u : Fin 8) (r : Fin 512) : (v3791 c a2 h2 a3 h3 a4 h4 a5 h5 a6 h6 a10 a11 a12 a14 a15 a16 x0 x1 x2 x3 x4) (ix2 u r) = top (logit x0 x1 x2 x3 x4 8) 12 u r :=
  top_next (hp 8) (top8_11 hp) (cut512_apply scores8_1 (by omega)) (queryScale_read (by omega) (by omega)) (keyScale_read (by omega)) u r

theorem top8_13 (hp : Positive x1 x4) (u : Fin 8) (r : Fin 512) : (v3801 c a2 h2 a3 h3 a4 h4 a5 h5 a6 h6 a10 a11 a12 a14 a15 a16 x0 x1 x2 x3 x4) (ix2 u r) = top (logit x0 x1 x2 x3 x4 8) 13 u r :=
  top_next (hp 8) (top8_12 hp) (cut512_apply scores8_1 (by omega)) (queryScale_read (by omega) (by omega)) (keyScale_read (by omega)) u r

theorem top8_14 (hp : Positive x1 x4) (u : Fin 8) (r : Fin 512) : (v3811 c a2 h2 a3 h3 a4 h4 a5 h5 a6 h6 a10 a11 a12 a14 a15 a16 x0 x1 x2 x3 x4) (ix2 u r) = top (logit x0 x1 x2 x3 x4 8) 14 u r :=
  top_next (hp 8) (top8_13 hp) (cut512_apply scores8_1 (by omega)) (queryScale_read (by omega) (by omega)) (keyScale_read (by omega)) u r

theorem top8_15 (hp : Positive x1 x4) (u : Fin 8) (r : Fin 512) : (v3821 c a2 h2 a3 h3 a4 h4 a5 h5 a6 h6 a10 a11 a12 a14 a15 a16 x0 x1 x2 x3 x4) (ix2 u r) = top (logit x0 x1 x2 x3 x4 8) 15 u r :=
  top_next (hp 8) (top8_14 hp) (cut512_apply scores8_1 (by omega)) (queryScale_read (by omega) (by omega)) (keyScale_read (by omega)) u r

theorem top8_16 (hp : Positive x1 x4) (u : Fin 8) (r : Fin 512) : (v3842 c a2 h2 a3 h3 a4 h4 a5 h5 a6 h6 a10 a11 a12 a14 a15 a16 x0 x1 x2 x3 x4) (ix2 u r) = top (logit x0 x1 x2 x3 x4 8) 16 u r :=
  top_next (hp 8) (top8_15 hp) (cut128_apply scores8_2 (by omega)) (queryScale_read (by omega) (by omega)) (keyScale_read (by omega)) u r

theorem top8_17 (hp : Positive x1 x4) (u : Fin 8) (r : Fin 512) : (v3852 c a2 h2 a3 h3 a4 h4 a5 h5 a6 h6 a10 a11 a12 a14 a15 a16 x0 x1 x2 x3 x4) (ix2 u r) = top (logit x0 x1 x2 x3 x4 8) 17 u r :=
  top_next (hp 8) (top8_16 hp) (cut128_apply scores8_2 (by omega)) (queryScale_read (by omega) (by omega)) (keyScale_read (by omega)) u r

theorem shift8 (hp : Positive x1 x4) (r : Fin 512) : (v3856 c a2 h2 a3 h3 a4 h4 a5 h5 a6 h6 a10 a11 a12 a14 a15 a16 x0 x1 x2 x3 x4) (ix2 0 r) = shift (logit x0 x1 x2 x3 x4 8) 17 r :=
  shift_apply (top8_17 hp) r

theorem prb8_0 (hp : Positive x1 x4) (s : Fin 64) (r : Fin 512) : (v3872 c a2 h2 a3 h3 a4 h4 a5 h5 a6 h6 a10 a11 a12 a14 a15 a16 a17 x0 x1 x2 x3 x4) (ix2 s r) = prb x0 x1 x2 x3 x4 8 r (0 + s.val) :=
  prob_apply (g := 0) (fun s r => scores_skip (by omega) (scores_skip (by omega) (scores_hit (by omega) (by omega) (store512_apply scores8_0) s r))) (queryScale_read (by omega) (by omega)) (keyScale_read (by omega)) (shift8 hp) s r

theorem mass8_0 (hp : Positive x1 x4) (u : Fin 8) (r : Fin 512) : (v3875 c a2 h2 a3 h3 a4 h4 a5 h5 a6 h6 a10 a11 a12 a14 a15 a16 a17 x0 x1 x2 x3 x4) (ix2 u r) = mass (prb x0 x1 x2 x3 x4 8) 0 u r :=
  mass_first (prb8_0 hp) u r

theorem prb8_1 (hp : Positive x1 x4) (s : Fin 64) (r : Fin 512) : (v3898 c a2 h2 a3 h3 a4 h4 a5 h5 a6 h6 a10 a11 a12 a14 a15 a16 a17 x0 x1 x2 x3 x4) (ix2 s r) = prb x0 x1 x2 x3 x4 8 r (64 + s.val) :=
  prob_apply (g := 1) (fun s r => scores_skip (by omega) (scores_skip (by omega) (scores_hit (by omega) (by omega) (store512_apply scores8_0) s r))) (queryScale_read (by omega) (by omega)) (keyScale_read (by omega)) (shift8 hp) s r

theorem mass8_1 (hp : Positive x1 x4) (u : Fin 8) (r : Fin 512) : (v3901 c a2 h2 a3 h3 a4 h4 a5 h5 a6 h6 a10 a11 a12 a14 a15 a16 a17 x0 x1 x2 x3 x4) (ix2 u r) = mass (prb x0 x1 x2 x3 x4 8) 1 u r :=
  mass_next (mass8_0 hp) (prb8_1 hp) u r

theorem prb8_2 (hp : Positive x1 x4) (s : Fin 64) (r : Fin 512) : (v3924 c a2 h2 a3 h3 a4 h4 a5 h5 a6 h6 a10 a11 a12 a14 a15 a16 a17 x0 x1 x2 x3 x4) (ix2 s r) = prb x0 x1 x2 x3 x4 8 r (128 + s.val) :=
  prob_apply (g := 2) (fun s r => scores_skip (by omega) (scores_skip (by omega) (scores_hit (by omega) (by omega) (store512_apply scores8_0) s r))) (queryScale_read (by omega) (by omega)) (keyScale_read (by omega)) (shift8 hp) s r

theorem mass8_2 (hp : Positive x1 x4) (u : Fin 8) (r : Fin 512) : (v3927 c a2 h2 a3 h3 a4 h4 a5 h5 a6 h6 a10 a11 a12 a14 a15 a16 a17 x0 x1 x2 x3 x4) (ix2 u r) = mass (prb x0 x1 x2 x3 x4 8) 2 u r :=
  mass_next (mass8_1 hp) (prb8_2 hp) u r

theorem prb8_3 (hp : Positive x1 x4) (s : Fin 64) (r : Fin 512) : (v3950 c a2 h2 a3 h3 a4 h4 a5 h5 a6 h6 a10 a11 a12 a14 a15 a16 a17 x0 x1 x2 x3 x4) (ix2 s r) = prb x0 x1 x2 x3 x4 8 r (192 + s.val) :=
  prob_apply (g := 3) (fun s r => scores_skip (by omega) (scores_skip (by omega) (scores_hit (by omega) (by omega) (store512_apply scores8_0) s r))) (queryScale_read (by omega) (by omega)) (keyScale_read (by omega)) (shift8 hp) s r

theorem mass8_3 (hp : Positive x1 x4) (u : Fin 8) (r : Fin 512) : (v3953 c a2 h2 a3 h3 a4 h4 a5 h5 a6 h6 a10 a11 a12 a14 a15 a16 a17 x0 x1 x2 x3 x4) (ix2 u r) = mass (prb x0 x1 x2 x3 x4 8) 3 u r :=
  mass_next (mass8_2 hp) (prb8_3 hp) u r

theorem prb8_4 (hp : Positive x1 x4) (s : Fin 64) (r : Fin 512) : (v3976 c a2 h2 a3 h3 a4 h4 a5 h5 a6 h6 a10 a11 a12 a14 a15 a16 a17 x0 x1 x2 x3 x4) (ix2 s r) = prb x0 x1 x2 x3 x4 8 r (256 + s.val) :=
  prob_apply (g := 4) (fun s r => scores_skip (by omega) (scores_skip (by omega) (scores_hit (by omega) (by omega) (store512_apply scores8_0) s r))) (queryScale_read (by omega) (by omega)) (keyScale_read (by omega)) (shift8 hp) s r

theorem mass8_4 (hp : Positive x1 x4) (u : Fin 8) (r : Fin 512) : (v3979 c a2 h2 a3 h3 a4 h4 a5 h5 a6 h6 a10 a11 a12 a14 a15 a16 a17 x0 x1 x2 x3 x4) (ix2 u r) = mass (prb x0 x1 x2 x3 x4 8) 4 u r :=
  mass_next (mass8_3 hp) (prb8_4 hp) u r

theorem prb8_5 (hp : Positive x1 x4) (s : Fin 64) (r : Fin 512) : (v4002 c a2 h2 a3 h3 a4 h4 a5 h5 a6 h6 a10 a11 a12 a14 a15 a16 a17 x0 x1 x2 x3 x4) (ix2 s r) = prb x0 x1 x2 x3 x4 8 r (320 + s.val) :=
  prob_apply (g := 5) (fun s r => scores_skip (by omega) (scores_skip (by omega) (scores_hit (by omega) (by omega) (store512_apply scores8_0) s r))) (queryScale_read (by omega) (by omega)) (keyScale_read (by omega)) (shift8 hp) s r

theorem mass8_5 (hp : Positive x1 x4) (u : Fin 8) (r : Fin 512) : (v4005 c a2 h2 a3 h3 a4 h4 a5 h5 a6 h6 a10 a11 a12 a14 a15 a16 a17 x0 x1 x2 x3 x4) (ix2 u r) = mass (prb x0 x1 x2 x3 x4 8) 5 u r :=
  mass_next (mass8_4 hp) (prb8_5 hp) u r

theorem prb8_6 (hp : Positive x1 x4) (s : Fin 64) (r : Fin 512) : (v4028 c a2 h2 a3 h3 a4 h4 a5 h5 a6 h6 a10 a11 a12 a14 a15 a16 a17 x0 x1 x2 x3 x4) (ix2 s r) = prb x0 x1 x2 x3 x4 8 r (384 + s.val) :=
  prob_apply (g := 6) (fun s r => scores_skip (by omega) (scores_skip (by omega) (scores_hit (by omega) (by omega) (store512_apply scores8_0) s r))) (queryScale_read (by omega) (by omega)) (keyScale_read (by omega)) (shift8 hp) s r

theorem mass8_6 (hp : Positive x1 x4) (u : Fin 8) (r : Fin 512) : (v4031 c a2 h2 a3 h3 a4 h4 a5 h5 a6 h6 a10 a11 a12 a14 a15 a16 a17 x0 x1 x2 x3 x4) (ix2 u r) = mass (prb x0 x1 x2 x3 x4 8) 6 u r :=
  mass_next (mass8_5 hp) (prb8_6 hp) u r

theorem prb8_7 (hp : Positive x1 x4) (s : Fin 64) (r : Fin 512) : (v4054 c a2 h2 a3 h3 a4 h4 a5 h5 a6 h6 a10 a11 a12 a14 a15 a16 a17 x0 x1 x2 x3 x4) (ix2 s r) = prb x0 x1 x2 x3 x4 8 r (448 + s.val) :=
  prob_apply (g := 7) (fun s r => scores_skip (by omega) (scores_skip (by omega) (scores_hit (by omega) (by omega) (store512_apply scores8_0) s r))) (queryScale_read (by omega) (by omega)) (keyScale_read (by omega)) (shift8 hp) s r

theorem mass8_7 (hp : Positive x1 x4) (u : Fin 8) (r : Fin 512) : (v4057 c a2 h2 a3 h3 a4 h4 a5 h5 a6 h6 a10 a11 a12 a14 a15 a16 a17 x0 x1 x2 x3 x4) (ix2 u r) = mass (prb x0 x1 x2 x3 x4 8) 7 u r :=
  mass_next (mass8_6 hp) (prb8_7 hp) u r

theorem prb8_8 (hp : Positive x1 x4) (s : Fin 64) (r : Fin 512) : (v4080 c a2 h2 a3 h3 a4 h4 a5 h5 a6 h6 a10 a11 a12 a14 a15 a16 a17 x0 x1 x2 x3 x4) (ix2 s r) = prb x0 x1 x2 x3 x4 8 r (512 + s.val) :=
  prob_apply (g := 8) (fun s r => scores_skip (by omega) (scores_hit (by omega) (by omega) (store512_apply scores8_1) s r)) (queryScale_read (by omega) (by omega)) (keyScale_read (by omega)) (shift8 hp) s r

theorem mass8_8 (hp : Positive x1 x4) (u : Fin 8) (r : Fin 512) : (v4083 c a2 h2 a3 h3 a4 h4 a5 h5 a6 h6 a10 a11 a12 a14 a15 a16 a17 x0 x1 x2 x3 x4) (ix2 u r) = mass (prb x0 x1 x2 x3 x4 8) 8 u r :=
  mass_next (mass8_7 hp) (prb8_8 hp) u r

theorem prb8_9 (hp : Positive x1 x4) (s : Fin 64) (r : Fin 512) : (v4106 c a2 h2 a3 h3 a4 h4 a5 h5 a6 h6 a10 a11 a12 a14 a15 a16 a17 x0 x1 x2 x3 x4) (ix2 s r) = prb x0 x1 x2 x3 x4 8 r (576 + s.val) :=
  prob_apply (g := 9) (fun s r => scores_skip (by omega) (scores_hit (by omega) (by omega) (store512_apply scores8_1) s r)) (queryScale_read (by omega) (by omega)) (keyScale_read (by omega)) (shift8 hp) s r

theorem mass8_9 (hp : Positive x1 x4) (u : Fin 8) (r : Fin 512) : (v4109 c a2 h2 a3 h3 a4 h4 a5 h5 a6 h6 a10 a11 a12 a14 a15 a16 a17 x0 x1 x2 x3 x4) (ix2 u r) = mass (prb x0 x1 x2 x3 x4 8) 9 u r :=
  mass_next (mass8_8 hp) (prb8_9 hp) u r

theorem prb8_10 (hp : Positive x1 x4) (s : Fin 64) (r : Fin 512) : (v4132 c a2 h2 a3 h3 a4 h4 a5 h5 a6 h6 a10 a11 a12 a14 a15 a16 a17 x0 x1 x2 x3 x4) (ix2 s r) = prb x0 x1 x2 x3 x4 8 r (640 + s.val) :=
  prob_apply (g := 10) (fun s r => scores_skip (by omega) (scores_hit (by omega) (by omega) (store512_apply scores8_1) s r)) (queryScale_read (by omega) (by omega)) (keyScale_read (by omega)) (shift8 hp) s r

theorem mass8_10 (hp : Positive x1 x4) (u : Fin 8) (r : Fin 512) : (v4135 c a2 h2 a3 h3 a4 h4 a5 h5 a6 h6 a10 a11 a12 a14 a15 a16 a17 x0 x1 x2 x3 x4) (ix2 u r) = mass (prb x0 x1 x2 x3 x4 8) 10 u r :=
  mass_next (mass8_9 hp) (prb8_10 hp) u r

theorem prb8_11 (hp : Positive x1 x4) (s : Fin 64) (r : Fin 512) : (v4158 c a2 h2 a3 h3 a4 h4 a5 h5 a6 h6 a10 a11 a12 a14 a15 a16 a17 x0 x1 x2 x3 x4) (ix2 s r) = prb x0 x1 x2 x3 x4 8 r (704 + s.val) :=
  prob_apply (g := 11) (fun s r => scores_skip (by omega) (scores_hit (by omega) (by omega) (store512_apply scores8_1) s r)) (queryScale_read (by omega) (by omega)) (keyScale_read (by omega)) (shift8 hp) s r

theorem mass8_11 (hp : Positive x1 x4) (u : Fin 8) (r : Fin 512) : (v4161 c a2 h2 a3 h3 a4 h4 a5 h5 a6 h6 a10 a11 a12 a14 a15 a16 a17 x0 x1 x2 x3 x4) (ix2 u r) = mass (prb x0 x1 x2 x3 x4 8) 11 u r :=
  mass_next (mass8_10 hp) (prb8_11 hp) u r

theorem prb8_12 (hp : Positive x1 x4) (s : Fin 64) (r : Fin 512) : (v4184 c a2 h2 a3 h3 a4 h4 a5 h5 a6 h6 a10 a11 a12 a14 a15 a16 a17 x0 x1 x2 x3 x4) (ix2 s r) = prb x0 x1 x2 x3 x4 8 r (768 + s.val) :=
  prob_apply (g := 12) (fun s r => scores_skip (by omega) (scores_hit (by omega) (by omega) (store512_apply scores8_1) s r)) (queryScale_read (by omega) (by omega)) (keyScale_read (by omega)) (shift8 hp) s r

theorem mass8_12 (hp : Positive x1 x4) (u : Fin 8) (r : Fin 512) : (v4187 c a2 h2 a3 h3 a4 h4 a5 h5 a6 h6 a10 a11 a12 a14 a15 a16 a17 x0 x1 x2 x3 x4) (ix2 u r) = mass (prb x0 x1 x2 x3 x4 8) 12 u r :=
  mass_next (mass8_11 hp) (prb8_12 hp) u r

theorem prb8_13 (hp : Positive x1 x4) (s : Fin 64) (r : Fin 512) : (v4210 c a2 h2 a3 h3 a4 h4 a5 h5 a6 h6 a10 a11 a12 a14 a15 a16 a17 x0 x1 x2 x3 x4) (ix2 s r) = prb x0 x1 x2 x3 x4 8 r (832 + s.val) :=
  prob_apply (g := 13) (fun s r => scores_skip (by omega) (scores_hit (by omega) (by omega) (store512_apply scores8_1) s r)) (queryScale_read (by omega) (by omega)) (keyScale_read (by omega)) (shift8 hp) s r

theorem mass8_13 (hp : Positive x1 x4) (u : Fin 8) (r : Fin 512) : (v4213 c a2 h2 a3 h3 a4 h4 a5 h5 a6 h6 a10 a11 a12 a14 a15 a16 a17 x0 x1 x2 x3 x4) (ix2 u r) = mass (prb x0 x1 x2 x3 x4 8) 13 u r :=
  mass_next (mass8_12 hp) (prb8_13 hp) u r

theorem prb8_14 (hp : Positive x1 x4) (s : Fin 64) (r : Fin 512) : (v4236 c a2 h2 a3 h3 a4 h4 a5 h5 a6 h6 a10 a11 a12 a14 a15 a16 a17 x0 x1 x2 x3 x4) (ix2 s r) = prb x0 x1 x2 x3 x4 8 r (896 + s.val) :=
  prob_apply (g := 14) (fun s r => scores_skip (by omega) (scores_hit (by omega) (by omega) (store512_apply scores8_1) s r)) (queryScale_read (by omega) (by omega)) (keyScale_read (by omega)) (shift8 hp) s r

theorem mass8_14 (hp : Positive x1 x4) (u : Fin 8) (r : Fin 512) : (v4239 c a2 h2 a3 h3 a4 h4 a5 h5 a6 h6 a10 a11 a12 a14 a15 a16 a17 x0 x1 x2 x3 x4) (ix2 u r) = mass (prb x0 x1 x2 x3 x4 8) 14 u r :=
  mass_next (mass8_13 hp) (prb8_14 hp) u r

theorem prb8_15 (hp : Positive x1 x4) (s : Fin 64) (r : Fin 512) : (v4262 c a2 h2 a3 h3 a4 h4 a5 h5 a6 h6 a10 a11 a12 a14 a15 a16 a17 x0 x1 x2 x3 x4) (ix2 s r) = prb x0 x1 x2 x3 x4 8 r (960 + s.val) :=
  prob_apply (g := 15) (fun s r => scores_skip (by omega) (scores_hit (by omega) (by omega) (store512_apply scores8_1) s r)) (queryScale_read (by omega) (by omega)) (keyScale_read (by omega)) (shift8 hp) s r

theorem mass8_15 (hp : Positive x1 x4) (u : Fin 8) (r : Fin 512) : (v4265 c a2 h2 a3 h3 a4 h4 a5 h5 a6 h6 a10 a11 a12 a14 a15 a16 a17 x0 x1 x2 x3 x4) (ix2 u r) = mass (prb x0 x1 x2 x3 x4 8) 15 u r :=
  mass_next (mass8_14 hp) (prb8_15 hp) u r

theorem prb8_16 (hp : Positive x1 x4) (s : Fin 64) (r : Fin 512) : (v4288 c a2 h2 a3 h3 a4 h4 a5 h5 a6 h6 a10 a11 a12 a14 a15 a16 a17 x0 x1 x2 x3 x4) (ix2 s r) = prb x0 x1 x2 x3 x4 8 r (1024 + s.val) :=
  prob_apply (g := 16) (fun s r => scores_hit (by omega) (by omega) (store128_apply scores8_2) s r) (queryScale_read (by omega) (by omega)) (keyScale_read (by omega)) (shift8 hp) s r

theorem mass8_16 (hp : Positive x1 x4) (u : Fin 8) (r : Fin 512) : (v4291 c a2 h2 a3 h3 a4 h4 a5 h5 a6 h6 a10 a11 a12 a14 a15 a16 a17 x0 x1 x2 x3 x4) (ix2 u r) = mass (prb x0 x1 x2 x3 x4 8) 16 u r :=
  mass_next (mass8_15 hp) (prb8_16 hp) u r

theorem prb8_17 (hp : Positive x1 x4) (s : Fin 64) (r : Fin 512) : (v4314 c a2 h2 a3 h3 a4 h4 a5 h5 a6 h6 a10 a11 a12 a14 a15 a16 a17 x0 x1 x2 x3 x4) (ix2 s r) = prb x0 x1 x2 x3 x4 8 r (1088 + s.val) :=
  prob_apply (g := 17) (fun s r => scores_hit (by omega) (by omega) (store128_apply scores8_2) s r) (queryScale_read (by omega) (by omega)) (keyScale_read (by omega)) (shift8 hp) s r

theorem mass8_17 (hp : Positive x1 x4) (u : Fin 8) (r : Fin 512) : (v4317 c a2 h2 a3 h3 a4 h4 a5 h5 a6 h6 a10 a11 a12 a14 a15 a16 a17 x0 x1 x2 x3 x4) (ix2 u r) = mass (prb x0 x1 x2 x3 x4 8) 17 u r :=
  mass_next (mass8_16 hp) (prb8_17 hp) u r

theorem row8 (hp : Positive x1 x4) (r : Fin 512) (d : Fin 128) : (v4339 c a2 h2 a3 h3 a4 h4 a5 h5 a6 h6 a7 h7 a10 a11 a12 a13 a14 a15 a16 a17 a18 x0 x1 x2 x3 x4 x5) (ix3 0 r d) = row x0 x1 x2 x3 x4 x5 8 r d :=
  rows_apply (product1152_apply (value_read (by omega)) (fun s r => (codes_start (by omega) (by omega) s r).trans (codes_step (codes_apply (prb8_17 hp)) s.isLt fun _ =>
      codes_step (codes_apply (prb8_16 hp)) (by omega) fun _ =>
      codes_step (codes_apply (prb8_15 hp)) (by omega) fun _ =>
      codes_step (codes_apply (prb8_14 hp)) (by omega) fun _ =>
      codes_step (codes_apply (prb8_13 hp)) (by omega) fun _ =>
      codes_step (codes_apply (prb8_12 hp)) (by omega) fun _ =>
      codes_step (codes_apply (prb8_11 hp)) (by omega) fun _ =>
      codes_step (codes_apply (prb8_10 hp)) (by omega) fun _ =>
      codes_step (codes_apply (prb8_9 hp)) (by omega) fun _ =>
      codes_step (codes_apply (prb8_8 hp)) (by omega) fun _ =>
      codes_step (codes_apply (prb8_7 hp)) (by omega) fun _ =>
      codes_step (codes_apply (prb8_6 hp)) (by omega) fun _ =>
      codes_step (codes_apply (prb8_5 hp)) (by omega) fun _ =>
      codes_step (codes_apply (prb8_4 hp)) (by omega) fun _ =>
      codes_step (codes_apply (prb8_3 hp)) (by omega) fun _ =>
      codes_step (codes_apply (prb8_2 hp)) (by omega) fun _ =>
      codes_step (codes_apply (prb8_1 hp)) (by omega) fun _ =>
      codes_step (codes_apply (prb8_0 hp)) (by omega) fun _ =>
      absurd ‹_› (by omega)))) (mass8_17 hp) r d

theorem head8_0 (hp : Positive x1 x4) (t d : Fin 128) : (v4347 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 8 0 t d :=
  (head_apply _ _ t d).trans (congrArg₂ (· * ·) ((head_read (by omega) t d).trans ((row8 hp _ d).trans (congrArg (fun a => row x0 x1 x2 x3 x4 x5 8 a d) (Fin.ext (by dsimp only; omega))))) (valueScales d))

theorem head8_1 (hp : Positive x1 x4) (t d : Fin 128) : (v4355 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 8 1 t d :=
  (head_apply _ _ t d).trans (congrArg₂ (· * ·) ((head_read (by omega) t d).trans ((row8 hp _ d).trans (congrArg (fun a => row x0 x1 x2 x3 x4 x5 8 a d) (Fin.ext (by dsimp only; omega))))) (valueScales d))

theorem head8_2 (hp : Positive x1 x4) (t d : Fin 128) : (v4363 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 8 2 t d :=
  (head_apply _ _ t d).trans (congrArg₂ (· * ·) ((head_read (by omega) t d).trans ((row8 hp _ d).trans (congrArg (fun a => row x0 x1 x2 x3 x4 x5 8 a d) (Fin.ext (by dsimp only; omega))))) (valueScales d))

theorem head8_3 (hp : Positive x1 x4) (t d : Fin 128) : (v4371 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 8 3 t d :=
  (head_apply _ _ t d).trans (congrArg₂ (· * ·) ((head_read (by omega) t d).trans ((row8 hp _ d).trans (congrArg (fun a => row x0 x1 x2 x3 x4 x5 8 a d) (Fin.ext (by dsimp only; omega))))) (valueScales d))

/-! ## Query block 9 -/

theorem scores9_0 (s : Fin 512) (r : Fin 512) : (v4384 c a2 h2 a3 h3 a4 h4 a5 h5 a10 a11 a14 a15 x0 x1 x2 x3) (ix2 s r) = (score x0 x1 x2 x3 9 r (0 + s.val)) :=
  whole_apply (raw512_apply (keys8_read (by omega)) (keys16_read (by omega)) (query_read (by omega) (by omega)) (tile_apply (mean_read (by omega) (by omega)))) (by omega) s r

theorem scores9_1 (s : Fin 512) (r : Fin 512) : (v4472 c a2 h2 a3 h3 a4 h4 a5 h5 a10 a11 a14 a15 x0 x1 x2 x3) (ix2 s r) = (score x0 x1 x2 x3 9 r (512 + s.val)) :=
  whole_apply (raw512_apply (keys8_read (by omega)) (keys16_read (by omega)) (query_read (by omega) (by omega)) (tile_apply (mean_read (by omega) (by omega)))) (by omega) s r

theorem scores9_2 (s : Fin 256) (r : Fin 512) : (v4566 c a2 h2 a3 h3 a4 h4 a5 h5 a10 a11 a14 a15 x0 x1 x2 x3) (ix2 s r) = (score x0 x1 x2 x3 9 r (1024 + s.val)) :=
  tail256_apply (raw256_apply (keys8_read (by omega)) (keys16_read (by omega)) (query_read (by omega) (by omega)) (tile_apply (mean_read (by omega) (by omega)))) (by omega) s r

theorem top9_0 (hp : Positive x1 x4) (u : Fin 8) (r : Fin 512) : (v4396 c a2 h2 a3 h3 a4 h4 a5 h5 a6 h6 a10 a11 a12 a14 a15 a16 x0 x1 x2 x3 x4) (ix2 u r) = top (logit x0 x1 x2 x3 x4 9) 0 u r :=
  top_first (hp 9) (cut512_apply scores9_0 (by omega)) (queryScale_read (by omega) (by omega)) (keyScale_read (by omega)) u r

theorem top9_1 (hp : Positive x1 x4) (u : Fin 8) (r : Fin 512) : (v4406 c a2 h2 a3 h3 a4 h4 a5 h5 a6 h6 a10 a11 a12 a14 a15 a16 x0 x1 x2 x3 x4) (ix2 u r) = top (logit x0 x1 x2 x3 x4 9) 1 u r :=
  top_next (hp 9) (top9_0 hp) (cut512_apply scores9_0 (by omega)) (queryScale_read (by omega) (by omega)) (keyScale_read (by omega)) u r

theorem top9_2 (hp : Positive x1 x4) (u : Fin 8) (r : Fin 512) : (v4416 c a2 h2 a3 h3 a4 h4 a5 h5 a6 h6 a10 a11 a12 a14 a15 a16 x0 x1 x2 x3 x4) (ix2 u r) = top (logit x0 x1 x2 x3 x4 9) 2 u r :=
  top_next (hp 9) (top9_1 hp) (cut512_apply scores9_0 (by omega)) (queryScale_read (by omega) (by omega)) (keyScale_read (by omega)) u r

theorem top9_3 (hp : Positive x1 x4) (u : Fin 8) (r : Fin 512) : (v4426 c a2 h2 a3 h3 a4 h4 a5 h5 a6 h6 a10 a11 a12 a14 a15 a16 x0 x1 x2 x3 x4) (ix2 u r) = top (logit x0 x1 x2 x3 x4 9) 3 u r :=
  top_next (hp 9) (top9_2 hp) (cut512_apply scores9_0 (by omega)) (queryScale_read (by omega) (by omega)) (keyScale_read (by omega)) u r

theorem top9_4 (hp : Positive x1 x4) (u : Fin 8) (r : Fin 512) : (v4436 c a2 h2 a3 h3 a4 h4 a5 h5 a6 h6 a10 a11 a12 a14 a15 a16 x0 x1 x2 x3 x4) (ix2 u r) = top (logit x0 x1 x2 x3 x4 9) 4 u r :=
  top_next (hp 9) (top9_3 hp) (cut512_apply scores9_0 (by omega)) (queryScale_read (by omega) (by omega)) (keyScale_read (by omega)) u r

theorem top9_5 (hp : Positive x1 x4) (u : Fin 8) (r : Fin 512) : (v4446 c a2 h2 a3 h3 a4 h4 a5 h5 a6 h6 a10 a11 a12 a14 a15 a16 x0 x1 x2 x3 x4) (ix2 u r) = top (logit x0 x1 x2 x3 x4 9) 5 u r :=
  top_next (hp 9) (top9_4 hp) (cut512_apply scores9_0 (by omega)) (queryScale_read (by omega) (by omega)) (keyScale_read (by omega)) u r

theorem top9_6 (hp : Positive x1 x4) (u : Fin 8) (r : Fin 512) : (v4456 c a2 h2 a3 h3 a4 h4 a5 h5 a6 h6 a10 a11 a12 a14 a15 a16 x0 x1 x2 x3 x4) (ix2 u r) = top (logit x0 x1 x2 x3 x4 9) 6 u r :=
  top_next (hp 9) (top9_5 hp) (cut512_apply scores9_0 (by omega)) (queryScale_read (by omega) (by omega)) (keyScale_read (by omega)) u r

theorem top9_7 (hp : Positive x1 x4) (u : Fin 8) (r : Fin 512) : (v4466 c a2 h2 a3 h3 a4 h4 a5 h5 a6 h6 a10 a11 a12 a14 a15 a16 x0 x1 x2 x3 x4) (ix2 u r) = top (logit x0 x1 x2 x3 x4 9) 7 u r :=
  top_next (hp 9) (top9_6 hp) (cut512_apply scores9_0 (by omega)) (queryScale_read (by omega) (by omega)) (keyScale_read (by omega)) u r

theorem top9_8 (hp : Positive x1 x4) (u : Fin 8) (r : Fin 512) : (v4485 c a2 h2 a3 h3 a4 h4 a5 h5 a6 h6 a10 a11 a12 a14 a15 a16 x0 x1 x2 x3 x4) (ix2 u r) = top (logit x0 x1 x2 x3 x4 9) 8 u r :=
  top_next (hp 9) (top9_7 hp) (cut512_apply scores9_1 (by omega)) (queryScale_read (by omega) (by omega)) (keyScale_read (by omega)) u r

theorem top9_9 (hp : Positive x1 x4) (u : Fin 8) (r : Fin 512) : (v4495 c a2 h2 a3 h3 a4 h4 a5 h5 a6 h6 a10 a11 a12 a14 a15 a16 x0 x1 x2 x3 x4) (ix2 u r) = top (logit x0 x1 x2 x3 x4 9) 9 u r :=
  top_next (hp 9) (top9_8 hp) (cut512_apply scores9_1 (by omega)) (queryScale_read (by omega) (by omega)) (keyScale_read (by omega)) u r

theorem top9_10 (hp : Positive x1 x4) (u : Fin 8) (r : Fin 512) : (v4505 c a2 h2 a3 h3 a4 h4 a5 h5 a6 h6 a10 a11 a12 a14 a15 a16 x0 x1 x2 x3 x4) (ix2 u r) = top (logit x0 x1 x2 x3 x4 9) 10 u r :=
  top_next (hp 9) (top9_9 hp) (cut512_apply scores9_1 (by omega)) (queryScale_read (by omega) (by omega)) (keyScale_read (by omega)) u r

theorem top9_11 (hp : Positive x1 x4) (u : Fin 8) (r : Fin 512) : (v4515 c a2 h2 a3 h3 a4 h4 a5 h5 a6 h6 a10 a11 a12 a14 a15 a16 x0 x1 x2 x3 x4) (ix2 u r) = top (logit x0 x1 x2 x3 x4 9) 11 u r :=
  top_next (hp 9) (top9_10 hp) (cut512_apply scores9_1 (by omega)) (queryScale_read (by omega) (by omega)) (keyScale_read (by omega)) u r

theorem top9_12 (hp : Positive x1 x4) (u : Fin 8) (r : Fin 512) : (v4525 c a2 h2 a3 h3 a4 h4 a5 h5 a6 h6 a10 a11 a12 a14 a15 a16 x0 x1 x2 x3 x4) (ix2 u r) = top (logit x0 x1 x2 x3 x4 9) 12 u r :=
  top_next (hp 9) (top9_11 hp) (cut512_apply scores9_1 (by omega)) (queryScale_read (by omega) (by omega)) (keyScale_read (by omega)) u r

theorem top9_13 (hp : Positive x1 x4) (u : Fin 8) (r : Fin 512) : (v4535 c a2 h2 a3 h3 a4 h4 a5 h5 a6 h6 a10 a11 a12 a14 a15 a16 x0 x1 x2 x3 x4) (ix2 u r) = top (logit x0 x1 x2 x3 x4 9) 13 u r :=
  top_next (hp 9) (top9_12 hp) (cut512_apply scores9_1 (by omega)) (queryScale_read (by omega) (by omega)) (keyScale_read (by omega)) u r

theorem top9_14 (hp : Positive x1 x4) (u : Fin 8) (r : Fin 512) : (v4545 c a2 h2 a3 h3 a4 h4 a5 h5 a6 h6 a10 a11 a12 a14 a15 a16 x0 x1 x2 x3 x4) (ix2 u r) = top (logit x0 x1 x2 x3 x4 9) 14 u r :=
  top_next (hp 9) (top9_13 hp) (cut512_apply scores9_1 (by omega)) (queryScale_read (by omega) (by omega)) (keyScale_read (by omega)) u r

theorem top9_15 (hp : Positive x1 x4) (u : Fin 8) (r : Fin 512) : (v4555 c a2 h2 a3 h3 a4 h4 a5 h5 a6 h6 a10 a11 a12 a14 a15 a16 x0 x1 x2 x3 x4) (ix2 u r) = top (logit x0 x1 x2 x3 x4 9) 15 u r :=
  top_next (hp 9) (top9_14 hp) (cut512_apply scores9_1 (by omega)) (queryScale_read (by omega) (by omega)) (keyScale_read (by omega)) u r

theorem top9_16 (hp : Positive x1 x4) (u : Fin 8) (r : Fin 512) : (v4579 c a2 h2 a3 h3 a4 h4 a5 h5 a6 h6 a10 a11 a12 a14 a15 a16 x0 x1 x2 x3 x4) (ix2 u r) = top (logit x0 x1 x2 x3 x4 9) 16 u r :=
  top_next (hp 9) (top9_15 hp) (cut256_apply scores9_2 (by omega)) (queryScale_read (by omega) (by omega)) (keyScale_read (by omega)) u r

theorem top9_17 (hp : Positive x1 x4) (u : Fin 8) (r : Fin 512) : (v4589 c a2 h2 a3 h3 a4 h4 a5 h5 a6 h6 a10 a11 a12 a14 a15 a16 x0 x1 x2 x3 x4) (ix2 u r) = top (logit x0 x1 x2 x3 x4 9) 17 u r :=
  top_next (hp 9) (top9_16 hp) (cut256_apply scores9_2 (by omega)) (queryScale_read (by omega) (by omega)) (keyScale_read (by omega)) u r

theorem top9_18 (hp : Positive x1 x4) (u : Fin 8) (r : Fin 512) : (v4599 c a2 h2 a3 h3 a4 h4 a5 h5 a6 h6 a10 a11 a12 a14 a15 a16 x0 x1 x2 x3 x4) (ix2 u r) = top (logit x0 x1 x2 x3 x4 9) 18 u r :=
  top_next (hp 9) (top9_17 hp) (cut256_apply scores9_2 (by omega)) (queryScale_read (by omega) (by omega)) (keyScale_read (by omega)) u r

theorem top9_19 (hp : Positive x1 x4) (u : Fin 8) (r : Fin 512) : (v4609 c a2 h2 a3 h3 a4 h4 a5 h5 a6 h6 a10 a11 a12 a14 a15 a16 x0 x1 x2 x3 x4) (ix2 u r) = top (logit x0 x1 x2 x3 x4 9) 19 u r :=
  top_next (hp 9) (top9_18 hp) (cut256_apply scores9_2 (by omega)) (queryScale_read (by omega) (by omega)) (keyScale_read (by omega)) u r

theorem shift9 (hp : Positive x1 x4) (r : Fin 512) : (v4613 c a2 h2 a3 h3 a4 h4 a5 h5 a6 h6 a10 a11 a12 a14 a15 a16 x0 x1 x2 x3 x4) (ix2 0 r) = shift (logit x0 x1 x2 x3 x4 9) 19 r :=
  shift_apply (top9_19 hp) r

theorem prb9_0 (hp : Positive x1 x4) (s : Fin 64) (r : Fin 512) : (v4629 c a2 h2 a3 h3 a4 h4 a5 h5 a6 h6 a10 a11 a12 a14 a15 a16 a17 x0 x1 x2 x3 x4) (ix2 s r) = prb x0 x1 x2 x3 x4 9 r (0 + s.val) :=
  prob_apply (g := 0) (fun s r => scores_skip (by omega) (scores_skip (by omega) (scores_hit (by omega) (by omega) (store512_apply scores9_0) s r))) (queryScale_read (by omega) (by omega)) (keyScale_read (by omega)) (shift9 hp) s r

theorem mass9_0 (hp : Positive x1 x4) (u : Fin 8) (r : Fin 512) : (v4632 c a2 h2 a3 h3 a4 h4 a5 h5 a6 h6 a10 a11 a12 a14 a15 a16 a17 x0 x1 x2 x3 x4) (ix2 u r) = mass (prb x0 x1 x2 x3 x4 9) 0 u r :=
  mass_first (prb9_0 hp) u r

theorem prb9_1 (hp : Positive x1 x4) (s : Fin 64) (r : Fin 512) : (v4655 c a2 h2 a3 h3 a4 h4 a5 h5 a6 h6 a10 a11 a12 a14 a15 a16 a17 x0 x1 x2 x3 x4) (ix2 s r) = prb x0 x1 x2 x3 x4 9 r (64 + s.val) :=
  prob_apply (g := 1) (fun s r => scores_skip (by omega) (scores_skip (by omega) (scores_hit (by omega) (by omega) (store512_apply scores9_0) s r))) (queryScale_read (by omega) (by omega)) (keyScale_read (by omega)) (shift9 hp) s r

theorem mass9_1 (hp : Positive x1 x4) (u : Fin 8) (r : Fin 512) : (v4658 c a2 h2 a3 h3 a4 h4 a5 h5 a6 h6 a10 a11 a12 a14 a15 a16 a17 x0 x1 x2 x3 x4) (ix2 u r) = mass (prb x0 x1 x2 x3 x4 9) 1 u r :=
  mass_next (mass9_0 hp) (prb9_1 hp) u r

theorem prb9_2 (hp : Positive x1 x4) (s : Fin 64) (r : Fin 512) : (v4681 c a2 h2 a3 h3 a4 h4 a5 h5 a6 h6 a10 a11 a12 a14 a15 a16 a17 x0 x1 x2 x3 x4) (ix2 s r) = prb x0 x1 x2 x3 x4 9 r (128 + s.val) :=
  prob_apply (g := 2) (fun s r => scores_skip (by omega) (scores_skip (by omega) (scores_hit (by omega) (by omega) (store512_apply scores9_0) s r))) (queryScale_read (by omega) (by omega)) (keyScale_read (by omega)) (shift9 hp) s r

theorem mass9_2 (hp : Positive x1 x4) (u : Fin 8) (r : Fin 512) : (v4684 c a2 h2 a3 h3 a4 h4 a5 h5 a6 h6 a10 a11 a12 a14 a15 a16 a17 x0 x1 x2 x3 x4) (ix2 u r) = mass (prb x0 x1 x2 x3 x4 9) 2 u r :=
  mass_next (mass9_1 hp) (prb9_2 hp) u r

theorem prb9_3 (hp : Positive x1 x4) (s : Fin 64) (r : Fin 512) : (v4707 c a2 h2 a3 h3 a4 h4 a5 h5 a6 h6 a10 a11 a12 a14 a15 a16 a17 x0 x1 x2 x3 x4) (ix2 s r) = prb x0 x1 x2 x3 x4 9 r (192 + s.val) :=
  prob_apply (g := 3) (fun s r => scores_skip (by omega) (scores_skip (by omega) (scores_hit (by omega) (by omega) (store512_apply scores9_0) s r))) (queryScale_read (by omega) (by omega)) (keyScale_read (by omega)) (shift9 hp) s r

theorem mass9_3 (hp : Positive x1 x4) (u : Fin 8) (r : Fin 512) : (v4710 c a2 h2 a3 h3 a4 h4 a5 h5 a6 h6 a10 a11 a12 a14 a15 a16 a17 x0 x1 x2 x3 x4) (ix2 u r) = mass (prb x0 x1 x2 x3 x4 9) 3 u r :=
  mass_next (mass9_2 hp) (prb9_3 hp) u r

theorem prb9_4 (hp : Positive x1 x4) (s : Fin 64) (r : Fin 512) : (v4733 c a2 h2 a3 h3 a4 h4 a5 h5 a6 h6 a10 a11 a12 a14 a15 a16 a17 x0 x1 x2 x3 x4) (ix2 s r) = prb x0 x1 x2 x3 x4 9 r (256 + s.val) :=
  prob_apply (g := 4) (fun s r => scores_skip (by omega) (scores_skip (by omega) (scores_hit (by omega) (by omega) (store512_apply scores9_0) s r))) (queryScale_read (by omega) (by omega)) (keyScale_read (by omega)) (shift9 hp) s r

theorem mass9_4 (hp : Positive x1 x4) (u : Fin 8) (r : Fin 512) : (v4736 c a2 h2 a3 h3 a4 h4 a5 h5 a6 h6 a10 a11 a12 a14 a15 a16 a17 x0 x1 x2 x3 x4) (ix2 u r) = mass (prb x0 x1 x2 x3 x4 9) 4 u r :=
  mass_next (mass9_3 hp) (prb9_4 hp) u r

theorem prb9_5 (hp : Positive x1 x4) (s : Fin 64) (r : Fin 512) : (v4759 c a2 h2 a3 h3 a4 h4 a5 h5 a6 h6 a10 a11 a12 a14 a15 a16 a17 x0 x1 x2 x3 x4) (ix2 s r) = prb x0 x1 x2 x3 x4 9 r (320 + s.val) :=
  prob_apply (g := 5) (fun s r => scores_skip (by omega) (scores_skip (by omega) (scores_hit (by omega) (by omega) (store512_apply scores9_0) s r))) (queryScale_read (by omega) (by omega)) (keyScale_read (by omega)) (shift9 hp) s r

theorem mass9_5 (hp : Positive x1 x4) (u : Fin 8) (r : Fin 512) : (v4762 c a2 h2 a3 h3 a4 h4 a5 h5 a6 h6 a10 a11 a12 a14 a15 a16 a17 x0 x1 x2 x3 x4) (ix2 u r) = mass (prb x0 x1 x2 x3 x4 9) 5 u r :=
  mass_next (mass9_4 hp) (prb9_5 hp) u r

theorem prb9_6 (hp : Positive x1 x4) (s : Fin 64) (r : Fin 512) : (v4785 c a2 h2 a3 h3 a4 h4 a5 h5 a6 h6 a10 a11 a12 a14 a15 a16 a17 x0 x1 x2 x3 x4) (ix2 s r) = prb x0 x1 x2 x3 x4 9 r (384 + s.val) :=
  prob_apply (g := 6) (fun s r => scores_skip (by omega) (scores_skip (by omega) (scores_hit (by omega) (by omega) (store512_apply scores9_0) s r))) (queryScale_read (by omega) (by omega)) (keyScale_read (by omega)) (shift9 hp) s r

theorem mass9_6 (hp : Positive x1 x4) (u : Fin 8) (r : Fin 512) : (v4788 c a2 h2 a3 h3 a4 h4 a5 h5 a6 h6 a10 a11 a12 a14 a15 a16 a17 x0 x1 x2 x3 x4) (ix2 u r) = mass (prb x0 x1 x2 x3 x4 9) 6 u r :=
  mass_next (mass9_5 hp) (prb9_6 hp) u r

theorem prb9_7 (hp : Positive x1 x4) (s : Fin 64) (r : Fin 512) : (v4811 c a2 h2 a3 h3 a4 h4 a5 h5 a6 h6 a10 a11 a12 a14 a15 a16 a17 x0 x1 x2 x3 x4) (ix2 s r) = prb x0 x1 x2 x3 x4 9 r (448 + s.val) :=
  prob_apply (g := 7) (fun s r => scores_skip (by omega) (scores_skip (by omega) (scores_hit (by omega) (by omega) (store512_apply scores9_0) s r))) (queryScale_read (by omega) (by omega)) (keyScale_read (by omega)) (shift9 hp) s r

theorem mass9_7 (hp : Positive x1 x4) (u : Fin 8) (r : Fin 512) : (v4814 c a2 h2 a3 h3 a4 h4 a5 h5 a6 h6 a10 a11 a12 a14 a15 a16 a17 x0 x1 x2 x3 x4) (ix2 u r) = mass (prb x0 x1 x2 x3 x4 9) 7 u r :=
  mass_next (mass9_6 hp) (prb9_7 hp) u r

theorem prb9_8 (hp : Positive x1 x4) (s : Fin 64) (r : Fin 512) : (v4837 c a2 h2 a3 h3 a4 h4 a5 h5 a6 h6 a10 a11 a12 a14 a15 a16 a17 x0 x1 x2 x3 x4) (ix2 s r) = prb x0 x1 x2 x3 x4 9 r (512 + s.val) :=
  prob_apply (g := 8) (fun s r => scores_skip (by omega) (scores_hit (by omega) (by omega) (store512_apply scores9_1) s r)) (queryScale_read (by omega) (by omega)) (keyScale_read (by omega)) (shift9 hp) s r

theorem mass9_8 (hp : Positive x1 x4) (u : Fin 8) (r : Fin 512) : (v4840 c a2 h2 a3 h3 a4 h4 a5 h5 a6 h6 a10 a11 a12 a14 a15 a16 a17 x0 x1 x2 x3 x4) (ix2 u r) = mass (prb x0 x1 x2 x3 x4 9) 8 u r :=
  mass_next (mass9_7 hp) (prb9_8 hp) u r

theorem prb9_9 (hp : Positive x1 x4) (s : Fin 64) (r : Fin 512) : (v4863 c a2 h2 a3 h3 a4 h4 a5 h5 a6 h6 a10 a11 a12 a14 a15 a16 a17 x0 x1 x2 x3 x4) (ix2 s r) = prb x0 x1 x2 x3 x4 9 r (576 + s.val) :=
  prob_apply (g := 9) (fun s r => scores_skip (by omega) (scores_hit (by omega) (by omega) (store512_apply scores9_1) s r)) (queryScale_read (by omega) (by omega)) (keyScale_read (by omega)) (shift9 hp) s r

theorem mass9_9 (hp : Positive x1 x4) (u : Fin 8) (r : Fin 512) : (v4866 c a2 h2 a3 h3 a4 h4 a5 h5 a6 h6 a10 a11 a12 a14 a15 a16 a17 x0 x1 x2 x3 x4) (ix2 u r) = mass (prb x0 x1 x2 x3 x4 9) 9 u r :=
  mass_next (mass9_8 hp) (prb9_9 hp) u r

theorem prb9_10 (hp : Positive x1 x4) (s : Fin 64) (r : Fin 512) : (v4889 c a2 h2 a3 h3 a4 h4 a5 h5 a6 h6 a10 a11 a12 a14 a15 a16 a17 x0 x1 x2 x3 x4) (ix2 s r) = prb x0 x1 x2 x3 x4 9 r (640 + s.val) :=
  prob_apply (g := 10) (fun s r => scores_skip (by omega) (scores_hit (by omega) (by omega) (store512_apply scores9_1) s r)) (queryScale_read (by omega) (by omega)) (keyScale_read (by omega)) (shift9 hp) s r

theorem mass9_10 (hp : Positive x1 x4) (u : Fin 8) (r : Fin 512) : (v4892 c a2 h2 a3 h3 a4 h4 a5 h5 a6 h6 a10 a11 a12 a14 a15 a16 a17 x0 x1 x2 x3 x4) (ix2 u r) = mass (prb x0 x1 x2 x3 x4 9) 10 u r :=
  mass_next (mass9_9 hp) (prb9_10 hp) u r

theorem prb9_11 (hp : Positive x1 x4) (s : Fin 64) (r : Fin 512) : (v4915 c a2 h2 a3 h3 a4 h4 a5 h5 a6 h6 a10 a11 a12 a14 a15 a16 a17 x0 x1 x2 x3 x4) (ix2 s r) = prb x0 x1 x2 x3 x4 9 r (704 + s.val) :=
  prob_apply (g := 11) (fun s r => scores_skip (by omega) (scores_hit (by omega) (by omega) (store512_apply scores9_1) s r)) (queryScale_read (by omega) (by omega)) (keyScale_read (by omega)) (shift9 hp) s r

theorem mass9_11 (hp : Positive x1 x4) (u : Fin 8) (r : Fin 512) : (v4918 c a2 h2 a3 h3 a4 h4 a5 h5 a6 h6 a10 a11 a12 a14 a15 a16 a17 x0 x1 x2 x3 x4) (ix2 u r) = mass (prb x0 x1 x2 x3 x4 9) 11 u r :=
  mass_next (mass9_10 hp) (prb9_11 hp) u r

theorem prb9_12 (hp : Positive x1 x4) (s : Fin 64) (r : Fin 512) : (v4941 c a2 h2 a3 h3 a4 h4 a5 h5 a6 h6 a10 a11 a12 a14 a15 a16 a17 x0 x1 x2 x3 x4) (ix2 s r) = prb x0 x1 x2 x3 x4 9 r (768 + s.val) :=
  prob_apply (g := 12) (fun s r => scores_skip (by omega) (scores_hit (by omega) (by omega) (store512_apply scores9_1) s r)) (queryScale_read (by omega) (by omega)) (keyScale_read (by omega)) (shift9 hp) s r

theorem mass9_12 (hp : Positive x1 x4) (u : Fin 8) (r : Fin 512) : (v4944 c a2 h2 a3 h3 a4 h4 a5 h5 a6 h6 a10 a11 a12 a14 a15 a16 a17 x0 x1 x2 x3 x4) (ix2 u r) = mass (prb x0 x1 x2 x3 x4 9) 12 u r :=
  mass_next (mass9_11 hp) (prb9_12 hp) u r

theorem prb9_13 (hp : Positive x1 x4) (s : Fin 64) (r : Fin 512) : (v4967 c a2 h2 a3 h3 a4 h4 a5 h5 a6 h6 a10 a11 a12 a14 a15 a16 a17 x0 x1 x2 x3 x4) (ix2 s r) = prb x0 x1 x2 x3 x4 9 r (832 + s.val) :=
  prob_apply (g := 13) (fun s r => scores_skip (by omega) (scores_hit (by omega) (by omega) (store512_apply scores9_1) s r)) (queryScale_read (by omega) (by omega)) (keyScale_read (by omega)) (shift9 hp) s r

theorem mass9_13 (hp : Positive x1 x4) (u : Fin 8) (r : Fin 512) : (v4970 c a2 h2 a3 h3 a4 h4 a5 h5 a6 h6 a10 a11 a12 a14 a15 a16 a17 x0 x1 x2 x3 x4) (ix2 u r) = mass (prb x0 x1 x2 x3 x4 9) 13 u r :=
  mass_next (mass9_12 hp) (prb9_13 hp) u r

theorem prb9_14 (hp : Positive x1 x4) (s : Fin 64) (r : Fin 512) : (v4993 c a2 h2 a3 h3 a4 h4 a5 h5 a6 h6 a10 a11 a12 a14 a15 a16 a17 x0 x1 x2 x3 x4) (ix2 s r) = prb x0 x1 x2 x3 x4 9 r (896 + s.val) :=
  prob_apply (g := 14) (fun s r => scores_skip (by omega) (scores_hit (by omega) (by omega) (store512_apply scores9_1) s r)) (queryScale_read (by omega) (by omega)) (keyScale_read (by omega)) (shift9 hp) s r

theorem mass9_14 (hp : Positive x1 x4) (u : Fin 8) (r : Fin 512) : (v4996 c a2 h2 a3 h3 a4 h4 a5 h5 a6 h6 a10 a11 a12 a14 a15 a16 a17 x0 x1 x2 x3 x4) (ix2 u r) = mass (prb x0 x1 x2 x3 x4 9) 14 u r :=
  mass_next (mass9_13 hp) (prb9_14 hp) u r

theorem prb9_15 (hp : Positive x1 x4) (s : Fin 64) (r : Fin 512) : (v5019 c a2 h2 a3 h3 a4 h4 a5 h5 a6 h6 a10 a11 a12 a14 a15 a16 a17 x0 x1 x2 x3 x4) (ix2 s r) = prb x0 x1 x2 x3 x4 9 r (960 + s.val) :=
  prob_apply (g := 15) (fun s r => scores_skip (by omega) (scores_hit (by omega) (by omega) (store512_apply scores9_1) s r)) (queryScale_read (by omega) (by omega)) (keyScale_read (by omega)) (shift9 hp) s r

theorem mass9_15 (hp : Positive x1 x4) (u : Fin 8) (r : Fin 512) : (v5022 c a2 h2 a3 h3 a4 h4 a5 h5 a6 h6 a10 a11 a12 a14 a15 a16 a17 x0 x1 x2 x3 x4) (ix2 u r) = mass (prb x0 x1 x2 x3 x4 9) 15 u r :=
  mass_next (mass9_14 hp) (prb9_15 hp) u r

theorem prb9_16 (hp : Positive x1 x4) (s : Fin 64) (r : Fin 512) : (v5045 c a2 h2 a3 h3 a4 h4 a5 h5 a6 h6 a10 a11 a12 a14 a15 a16 a17 x0 x1 x2 x3 x4) (ix2 s r) = prb x0 x1 x2 x3 x4 9 r (1024 + s.val) :=
  prob_apply (g := 16) (fun s r => scores_hit (by omega) (by omega) (store256_apply scores9_2) s r) (queryScale_read (by omega) (by omega)) (keyScale_read (by omega)) (shift9 hp) s r

theorem mass9_16 (hp : Positive x1 x4) (u : Fin 8) (r : Fin 512) : (v5048 c a2 h2 a3 h3 a4 h4 a5 h5 a6 h6 a10 a11 a12 a14 a15 a16 a17 x0 x1 x2 x3 x4) (ix2 u r) = mass (prb x0 x1 x2 x3 x4 9) 16 u r :=
  mass_next (mass9_15 hp) (prb9_16 hp) u r

theorem prb9_17 (hp : Positive x1 x4) (s : Fin 64) (r : Fin 512) : (v5071 c a2 h2 a3 h3 a4 h4 a5 h5 a6 h6 a10 a11 a12 a14 a15 a16 a17 x0 x1 x2 x3 x4) (ix2 s r) = prb x0 x1 x2 x3 x4 9 r (1088 + s.val) :=
  prob_apply (g := 17) (fun s r => scores_hit (by omega) (by omega) (store256_apply scores9_2) s r) (queryScale_read (by omega) (by omega)) (keyScale_read (by omega)) (shift9 hp) s r

theorem mass9_17 (hp : Positive x1 x4) (u : Fin 8) (r : Fin 512) : (v5074 c a2 h2 a3 h3 a4 h4 a5 h5 a6 h6 a10 a11 a12 a14 a15 a16 a17 x0 x1 x2 x3 x4) (ix2 u r) = mass (prb x0 x1 x2 x3 x4 9) 17 u r :=
  mass_next (mass9_16 hp) (prb9_17 hp) u r

theorem prb9_18 (hp : Positive x1 x4) (s : Fin 64) (r : Fin 512) : (v5097 c a2 h2 a3 h3 a4 h4 a5 h5 a6 h6 a10 a11 a12 a14 a15 a16 a17 x0 x1 x2 x3 x4) (ix2 s r) = prb x0 x1 x2 x3 x4 9 r (1152 + s.val) :=
  prob_apply (g := 18) (fun s r => scores_hit (by omega) (by omega) (store256_apply scores9_2) s r) (queryScale_read (by omega) (by omega)) (keyScale_read (by omega)) (shift9 hp) s r

theorem mass9_18 (hp : Positive x1 x4) (u : Fin 8) (r : Fin 512) : (v5100 c a2 h2 a3 h3 a4 h4 a5 h5 a6 h6 a10 a11 a12 a14 a15 a16 a17 x0 x1 x2 x3 x4) (ix2 u r) = mass (prb x0 x1 x2 x3 x4 9) 18 u r :=
  mass_next (mass9_17 hp) (prb9_18 hp) u r

theorem prb9_19 (hp : Positive x1 x4) (s : Fin 64) (r : Fin 512) : (v5123 c a2 h2 a3 h3 a4 h4 a5 h5 a6 h6 a10 a11 a12 a14 a15 a16 a17 x0 x1 x2 x3 x4) (ix2 s r) = prb x0 x1 x2 x3 x4 9 r (1216 + s.val) :=
  prob_apply (g := 19) (fun s r => scores_hit (by omega) (by omega) (store256_apply scores9_2) s r) (queryScale_read (by omega) (by omega)) (keyScale_read (by omega)) (shift9 hp) s r

theorem mass9_19 (hp : Positive x1 x4) (u : Fin 8) (r : Fin 512) : (v5126 c a2 h2 a3 h3 a4 h4 a5 h5 a6 h6 a10 a11 a12 a14 a15 a16 a17 x0 x1 x2 x3 x4) (ix2 u r) = mass (prb x0 x1 x2 x3 x4 9) 19 u r :=
  mass_next (mass9_18 hp) (prb9_19 hp) u r

theorem row9 (hp : Positive x1 x4) (r : Fin 512) (d : Fin 128) : (v5148 c a2 h2 a3 h3 a4 h4 a5 h5 a6 h6 a7 h7 a10 a11 a12 a13 a14 a15 a16 a17 a18 x0 x1 x2 x3 x4 x5) (ix3 0 r d) = row x0 x1 x2 x3 x4 x5 9 r d :=
  rows_apply (product1280_apply (value_read (by omega)) (fun s r => (codes_start (by omega) (by omega) s r).trans (codes_step (codes_apply (prb9_19 hp)) s.isLt fun _ =>
      codes_step (codes_apply (prb9_18 hp)) (by omega) fun _ =>
      codes_step (codes_apply (prb9_17 hp)) (by omega) fun _ =>
      codes_step (codes_apply (prb9_16 hp)) (by omega) fun _ =>
      codes_step (codes_apply (prb9_15 hp)) (by omega) fun _ =>
      codes_step (codes_apply (prb9_14 hp)) (by omega) fun _ =>
      codes_step (codes_apply (prb9_13 hp)) (by omega) fun _ =>
      codes_step (codes_apply (prb9_12 hp)) (by omega) fun _ =>
      codes_step (codes_apply (prb9_11 hp)) (by omega) fun _ =>
      codes_step (codes_apply (prb9_10 hp)) (by omega) fun _ =>
      codes_step (codes_apply (prb9_9 hp)) (by omega) fun _ =>
      codes_step (codes_apply (prb9_8 hp)) (by omega) fun _ =>
      codes_step (codes_apply (prb9_7 hp)) (by omega) fun _ =>
      codes_step (codes_apply (prb9_6 hp)) (by omega) fun _ =>
      codes_step (codes_apply (prb9_5 hp)) (by omega) fun _ =>
      codes_step (codes_apply (prb9_4 hp)) (by omega) fun _ =>
      codes_step (codes_apply (prb9_3 hp)) (by omega) fun _ =>
      codes_step (codes_apply (prb9_2 hp)) (by omega) fun _ =>
      codes_step (codes_apply (prb9_1 hp)) (by omega) fun _ =>
      codes_step (codes_apply (prb9_0 hp)) (by omega) fun _ =>
      absurd ‹_› (by omega)))) (mass9_19 hp) r d

theorem head9_0 (hp : Positive x1 x4) (t d : Fin 128) : (v5156 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 9 0 t d :=
  (head_apply _ _ t d).trans (congrArg₂ (· * ·) ((head_read (by omega) t d).trans ((row9 hp _ d).trans (congrArg (fun a => row x0 x1 x2 x3 x4 x5 9 a d) (Fin.ext (by dsimp only; omega))))) (valueScales d))

theorem head9_1 (hp : Positive x1 x4) (t d : Fin 128) : (v5164 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 9 1 t d :=
  (head_apply _ _ t d).trans (congrArg₂ (· * ·) ((head_read (by omega) t d).trans ((row9 hp _ d).trans (congrArg (fun a => row x0 x1 x2 x3 x4 x5 9 a d) (Fin.ext (by dsimp only; omega))))) (valueScales d))

theorem head9_2 (hp : Positive x1 x4) (t d : Fin 128) : (v5172 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 9 2 t d :=
  (head_apply _ _ t d).trans (congrArg₂ (· * ·) ((head_read (by omega) t d).trans ((row9 hp _ d).trans (congrArg (fun a => row x0 x1 x2 x3 x4 x5 9 a d) (Fin.ext (by dsimp only; omega))))) (valueScales d))

theorem head9_3 (hp : Positive x1 x4) (t d : Fin 128) : (v5180 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 9 3 t d :=
  (head_apply _ _ t d).trans (congrArg₂ (· * ·) ((head_read (by omega) t d).trans ((row9 hp _ d).trans (congrArg (fun a => row x0 x1 x2 x3 x4 x5 9 a d) (Fin.ext (by dsimp only; omega))))) (valueScales d))

/-! ## Query block 10 -/

theorem scores10_0 (s : Fin 512) (r : Fin 512) : (v5193 c a2 h2 a3 h3 a4 h4 a5 h5 a10 a11 a14 a15 x0 x1 x2 x3) (ix2 s r) = (score x0 x1 x2 x3 10 r (0 + s.val)) :=
  whole_apply (raw512_apply (keys8_read (by omega)) (keys16_read (by omega)) (query_read (by omega) (by omega)) (tile_apply (mean_read (by omega) (by omega)))) (by omega) s r

theorem scores10_1 (s : Fin 512) (r : Fin 512) : (v5281 c a2 h2 a3 h3 a4 h4 a5 h5 a10 a11 a14 a15 x0 x1 x2 x3) (ix2 s r) = (score x0 x1 x2 x3 10 r (512 + s.val)) :=
  whole_apply (raw512_apply (keys8_read (by omega)) (keys16_read (by omega)) (query_read (by omega) (by omega)) (tile_apply (mean_read (by omega) (by omega)))) (by omega) s r

theorem scores10_2 (s : Fin 384) (r : Fin 512) : (v5375 c a2 h2 a3 h3 a4 h4 a5 h5 a10 a11 a14 a15 x0 x1 x2 x3) (ix2 s r) = (score x0 x1 x2 x3 10 r (1024 + s.val)) :=
  tail384_apply (raw384_apply (keys8_read (by omega)) (keys16_read (by omega)) (query_read (by omega) (by omega)) (tile_apply (mean_read (by omega) (by omega)))) (by omega) s r

theorem top10_0 (hp : Positive x1 x4) (u : Fin 8) (r : Fin 512) : (v5205 c a2 h2 a3 h3 a4 h4 a5 h5 a6 h6 a10 a11 a12 a14 a15 a16 x0 x1 x2 x3 x4) (ix2 u r) = top (logit x0 x1 x2 x3 x4 10) 0 u r :=
  top_first (hp 10) (cut512_apply scores10_0 (by omega)) (queryScale_read (by omega) (by omega)) (keyScale_read (by omega)) u r

theorem top10_1 (hp : Positive x1 x4) (u : Fin 8) (r : Fin 512) : (v5215 c a2 h2 a3 h3 a4 h4 a5 h5 a6 h6 a10 a11 a12 a14 a15 a16 x0 x1 x2 x3 x4) (ix2 u r) = top (logit x0 x1 x2 x3 x4 10) 1 u r :=
  top_next (hp 10) (top10_0 hp) (cut512_apply scores10_0 (by omega)) (queryScale_read (by omega) (by omega)) (keyScale_read (by omega)) u r

theorem top10_2 (hp : Positive x1 x4) (u : Fin 8) (r : Fin 512) : (v5225 c a2 h2 a3 h3 a4 h4 a5 h5 a6 h6 a10 a11 a12 a14 a15 a16 x0 x1 x2 x3 x4) (ix2 u r) = top (logit x0 x1 x2 x3 x4 10) 2 u r :=
  top_next (hp 10) (top10_1 hp) (cut512_apply scores10_0 (by omega)) (queryScale_read (by omega) (by omega)) (keyScale_read (by omega)) u r

theorem top10_3 (hp : Positive x1 x4) (u : Fin 8) (r : Fin 512) : (v5235 c a2 h2 a3 h3 a4 h4 a5 h5 a6 h6 a10 a11 a12 a14 a15 a16 x0 x1 x2 x3 x4) (ix2 u r) = top (logit x0 x1 x2 x3 x4 10) 3 u r :=
  top_next (hp 10) (top10_2 hp) (cut512_apply scores10_0 (by omega)) (queryScale_read (by omega) (by omega)) (keyScale_read (by omega)) u r

theorem top10_4 (hp : Positive x1 x4) (u : Fin 8) (r : Fin 512) : (v5245 c a2 h2 a3 h3 a4 h4 a5 h5 a6 h6 a10 a11 a12 a14 a15 a16 x0 x1 x2 x3 x4) (ix2 u r) = top (logit x0 x1 x2 x3 x4 10) 4 u r :=
  top_next (hp 10) (top10_3 hp) (cut512_apply scores10_0 (by omega)) (queryScale_read (by omega) (by omega)) (keyScale_read (by omega)) u r

theorem top10_5 (hp : Positive x1 x4) (u : Fin 8) (r : Fin 512) : (v5255 c a2 h2 a3 h3 a4 h4 a5 h5 a6 h6 a10 a11 a12 a14 a15 a16 x0 x1 x2 x3 x4) (ix2 u r) = top (logit x0 x1 x2 x3 x4 10) 5 u r :=
  top_next (hp 10) (top10_4 hp) (cut512_apply scores10_0 (by omega)) (queryScale_read (by omega) (by omega)) (keyScale_read (by omega)) u r

theorem top10_6 (hp : Positive x1 x4) (u : Fin 8) (r : Fin 512) : (v5265 c a2 h2 a3 h3 a4 h4 a5 h5 a6 h6 a10 a11 a12 a14 a15 a16 x0 x1 x2 x3 x4) (ix2 u r) = top (logit x0 x1 x2 x3 x4 10) 6 u r :=
  top_next (hp 10) (top10_5 hp) (cut512_apply scores10_0 (by omega)) (queryScale_read (by omega) (by omega)) (keyScale_read (by omega)) u r

theorem top10_7 (hp : Positive x1 x4) (u : Fin 8) (r : Fin 512) : (v5275 c a2 h2 a3 h3 a4 h4 a5 h5 a6 h6 a10 a11 a12 a14 a15 a16 x0 x1 x2 x3 x4) (ix2 u r) = top (logit x0 x1 x2 x3 x4 10) 7 u r :=
  top_next (hp 10) (top10_6 hp) (cut512_apply scores10_0 (by omega)) (queryScale_read (by omega) (by omega)) (keyScale_read (by omega)) u r

theorem top10_8 (hp : Positive x1 x4) (u : Fin 8) (r : Fin 512) : (v5294 c a2 h2 a3 h3 a4 h4 a5 h5 a6 h6 a10 a11 a12 a14 a15 a16 x0 x1 x2 x3 x4) (ix2 u r) = top (logit x0 x1 x2 x3 x4 10) 8 u r :=
  top_next (hp 10) (top10_7 hp) (cut512_apply scores10_1 (by omega)) (queryScale_read (by omega) (by omega)) (keyScale_read (by omega)) u r

theorem top10_9 (hp : Positive x1 x4) (u : Fin 8) (r : Fin 512) : (v5304 c a2 h2 a3 h3 a4 h4 a5 h5 a6 h6 a10 a11 a12 a14 a15 a16 x0 x1 x2 x3 x4) (ix2 u r) = top (logit x0 x1 x2 x3 x4 10) 9 u r :=
  top_next (hp 10) (top10_8 hp) (cut512_apply scores10_1 (by omega)) (queryScale_read (by omega) (by omega)) (keyScale_read (by omega)) u r

theorem top10_10 (hp : Positive x1 x4) (u : Fin 8) (r : Fin 512) : (v5314 c a2 h2 a3 h3 a4 h4 a5 h5 a6 h6 a10 a11 a12 a14 a15 a16 x0 x1 x2 x3 x4) (ix2 u r) = top (logit x0 x1 x2 x3 x4 10) 10 u r :=
  top_next (hp 10) (top10_9 hp) (cut512_apply scores10_1 (by omega)) (queryScale_read (by omega) (by omega)) (keyScale_read (by omega)) u r

theorem top10_11 (hp : Positive x1 x4) (u : Fin 8) (r : Fin 512) : (v5324 c a2 h2 a3 h3 a4 h4 a5 h5 a6 h6 a10 a11 a12 a14 a15 a16 x0 x1 x2 x3 x4) (ix2 u r) = top (logit x0 x1 x2 x3 x4 10) 11 u r :=
  top_next (hp 10) (top10_10 hp) (cut512_apply scores10_1 (by omega)) (queryScale_read (by omega) (by omega)) (keyScale_read (by omega)) u r

theorem top10_12 (hp : Positive x1 x4) (u : Fin 8) (r : Fin 512) : (v5334 c a2 h2 a3 h3 a4 h4 a5 h5 a6 h6 a10 a11 a12 a14 a15 a16 x0 x1 x2 x3 x4) (ix2 u r) = top (logit x0 x1 x2 x3 x4 10) 12 u r :=
  top_next (hp 10) (top10_11 hp) (cut512_apply scores10_1 (by omega)) (queryScale_read (by omega) (by omega)) (keyScale_read (by omega)) u r

theorem top10_13 (hp : Positive x1 x4) (u : Fin 8) (r : Fin 512) : (v5344 c a2 h2 a3 h3 a4 h4 a5 h5 a6 h6 a10 a11 a12 a14 a15 a16 x0 x1 x2 x3 x4) (ix2 u r) = top (logit x0 x1 x2 x3 x4 10) 13 u r :=
  top_next (hp 10) (top10_12 hp) (cut512_apply scores10_1 (by omega)) (queryScale_read (by omega) (by omega)) (keyScale_read (by omega)) u r

theorem top10_14 (hp : Positive x1 x4) (u : Fin 8) (r : Fin 512) : (v5354 c a2 h2 a3 h3 a4 h4 a5 h5 a6 h6 a10 a11 a12 a14 a15 a16 x0 x1 x2 x3 x4) (ix2 u r) = top (logit x0 x1 x2 x3 x4 10) 14 u r :=
  top_next (hp 10) (top10_13 hp) (cut512_apply scores10_1 (by omega)) (queryScale_read (by omega) (by omega)) (keyScale_read (by omega)) u r

theorem top10_15 (hp : Positive x1 x4) (u : Fin 8) (r : Fin 512) : (v5364 c a2 h2 a3 h3 a4 h4 a5 h5 a6 h6 a10 a11 a12 a14 a15 a16 x0 x1 x2 x3 x4) (ix2 u r) = top (logit x0 x1 x2 x3 x4 10) 15 u r :=
  top_next (hp 10) (top10_14 hp) (cut512_apply scores10_1 (by omega)) (queryScale_read (by omega) (by omega)) (keyScale_read (by omega)) u r

theorem top10_16 (hp : Positive x1 x4) (u : Fin 8) (r : Fin 512) : (v5388 c a2 h2 a3 h3 a4 h4 a5 h5 a6 h6 a10 a11 a12 a14 a15 a16 x0 x1 x2 x3 x4) (ix2 u r) = top (logit x0 x1 x2 x3 x4 10) 16 u r :=
  top_next (hp 10) (top10_15 hp) (cut384_apply scores10_2 (by omega)) (queryScale_read (by omega) (by omega)) (keyScale_read (by omega)) u r

theorem top10_17 (hp : Positive x1 x4) (u : Fin 8) (r : Fin 512) : (v5398 c a2 h2 a3 h3 a4 h4 a5 h5 a6 h6 a10 a11 a12 a14 a15 a16 x0 x1 x2 x3 x4) (ix2 u r) = top (logit x0 x1 x2 x3 x4 10) 17 u r :=
  top_next (hp 10) (top10_16 hp) (cut384_apply scores10_2 (by omega)) (queryScale_read (by omega) (by omega)) (keyScale_read (by omega)) u r

theorem top10_18 (hp : Positive x1 x4) (u : Fin 8) (r : Fin 512) : (v5408 c a2 h2 a3 h3 a4 h4 a5 h5 a6 h6 a10 a11 a12 a14 a15 a16 x0 x1 x2 x3 x4) (ix2 u r) = top (logit x0 x1 x2 x3 x4 10) 18 u r :=
  top_next (hp 10) (top10_17 hp) (cut384_apply scores10_2 (by omega)) (queryScale_read (by omega) (by omega)) (keyScale_read (by omega)) u r

theorem top10_19 (hp : Positive x1 x4) (u : Fin 8) (r : Fin 512) : (v5418 c a2 h2 a3 h3 a4 h4 a5 h5 a6 h6 a10 a11 a12 a14 a15 a16 x0 x1 x2 x3 x4) (ix2 u r) = top (logit x0 x1 x2 x3 x4 10) 19 u r :=
  top_next (hp 10) (top10_18 hp) (cut384_apply scores10_2 (by omega)) (queryScale_read (by omega) (by omega)) (keyScale_read (by omega)) u r

theorem top10_20 (hp : Positive x1 x4) (u : Fin 8) (r : Fin 512) : (v5428 c a2 h2 a3 h3 a4 h4 a5 h5 a6 h6 a10 a11 a12 a14 a15 a16 x0 x1 x2 x3 x4) (ix2 u r) = top (logit x0 x1 x2 x3 x4 10) 20 u r :=
  top_next (hp 10) (top10_19 hp) (cut384_apply scores10_2 (by omega)) (queryScale_read (by omega) (by omega)) (keyScale_read (by omega)) u r

theorem top10_21 (hp : Positive x1 x4) (u : Fin 8) (r : Fin 512) : (v5438 c a2 h2 a3 h3 a4 h4 a5 h5 a6 h6 a10 a11 a12 a14 a15 a16 x0 x1 x2 x3 x4) (ix2 u r) = top (logit x0 x1 x2 x3 x4 10) 21 u r :=
  top_next (hp 10) (top10_20 hp) (cut384_apply scores10_2 (by omega)) (queryScale_read (by omega) (by omega)) (keyScale_read (by omega)) u r

theorem shift10 (hp : Positive x1 x4) (r : Fin 512) : (v5442 c a2 h2 a3 h3 a4 h4 a5 h5 a6 h6 a10 a11 a12 a14 a15 a16 x0 x1 x2 x3 x4) (ix2 0 r) = shift (logit x0 x1 x2 x3 x4 10) 21 r :=
  shift_apply (top10_21 hp) r

theorem prb10_0 (hp : Positive x1 x4) (s : Fin 64) (r : Fin 512) : (v5458 c a2 h2 a3 h3 a4 h4 a5 h5 a6 h6 a10 a11 a12 a14 a15 a16 a17 x0 x1 x2 x3 x4) (ix2 s r) = prb x0 x1 x2 x3 x4 10 r (0 + s.val) :=
  prob_apply (g := 0) (fun s r => scores_skip (by omega) (scores_skip (by omega) (scores_hit (by omega) (by omega) (store512_apply scores10_0) s r))) (queryScale_read (by omega) (by omega)) (keyScale_read (by omega)) (shift10 hp) s r

theorem mass10_0 (hp : Positive x1 x4) (u : Fin 8) (r : Fin 512) : (v5461 c a2 h2 a3 h3 a4 h4 a5 h5 a6 h6 a10 a11 a12 a14 a15 a16 a17 x0 x1 x2 x3 x4) (ix2 u r) = mass (prb x0 x1 x2 x3 x4 10) 0 u r :=
  mass_first (prb10_0 hp) u r

theorem prb10_1 (hp : Positive x1 x4) (s : Fin 64) (r : Fin 512) : (v5484 c a2 h2 a3 h3 a4 h4 a5 h5 a6 h6 a10 a11 a12 a14 a15 a16 a17 x0 x1 x2 x3 x4) (ix2 s r) = prb x0 x1 x2 x3 x4 10 r (64 + s.val) :=
  prob_apply (g := 1) (fun s r => scores_skip (by omega) (scores_skip (by omega) (scores_hit (by omega) (by omega) (store512_apply scores10_0) s r))) (queryScale_read (by omega) (by omega)) (keyScale_read (by omega)) (shift10 hp) s r

theorem mass10_1 (hp : Positive x1 x4) (u : Fin 8) (r : Fin 512) : (v5487 c a2 h2 a3 h3 a4 h4 a5 h5 a6 h6 a10 a11 a12 a14 a15 a16 a17 x0 x1 x2 x3 x4) (ix2 u r) = mass (prb x0 x1 x2 x3 x4 10) 1 u r :=
  mass_next (mass10_0 hp) (prb10_1 hp) u r

theorem prb10_2 (hp : Positive x1 x4) (s : Fin 64) (r : Fin 512) : (v5510 c a2 h2 a3 h3 a4 h4 a5 h5 a6 h6 a10 a11 a12 a14 a15 a16 a17 x0 x1 x2 x3 x4) (ix2 s r) = prb x0 x1 x2 x3 x4 10 r (128 + s.val) :=
  prob_apply (g := 2) (fun s r => scores_skip (by omega) (scores_skip (by omega) (scores_hit (by omega) (by omega) (store512_apply scores10_0) s r))) (queryScale_read (by omega) (by omega)) (keyScale_read (by omega)) (shift10 hp) s r

theorem mass10_2 (hp : Positive x1 x4) (u : Fin 8) (r : Fin 512) : (v5513 c a2 h2 a3 h3 a4 h4 a5 h5 a6 h6 a10 a11 a12 a14 a15 a16 a17 x0 x1 x2 x3 x4) (ix2 u r) = mass (prb x0 x1 x2 x3 x4 10) 2 u r :=
  mass_next (mass10_1 hp) (prb10_2 hp) u r

theorem prb10_3 (hp : Positive x1 x4) (s : Fin 64) (r : Fin 512) : (v5536 c a2 h2 a3 h3 a4 h4 a5 h5 a6 h6 a10 a11 a12 a14 a15 a16 a17 x0 x1 x2 x3 x4) (ix2 s r) = prb x0 x1 x2 x3 x4 10 r (192 + s.val) :=
  prob_apply (g := 3) (fun s r => scores_skip (by omega) (scores_skip (by omega) (scores_hit (by omega) (by omega) (store512_apply scores10_0) s r))) (queryScale_read (by omega) (by omega)) (keyScale_read (by omega)) (shift10 hp) s r

theorem mass10_3 (hp : Positive x1 x4) (u : Fin 8) (r : Fin 512) : (v5539 c a2 h2 a3 h3 a4 h4 a5 h5 a6 h6 a10 a11 a12 a14 a15 a16 a17 x0 x1 x2 x3 x4) (ix2 u r) = mass (prb x0 x1 x2 x3 x4 10) 3 u r :=
  mass_next (mass10_2 hp) (prb10_3 hp) u r

theorem prb10_4 (hp : Positive x1 x4) (s : Fin 64) (r : Fin 512) : (v5562 c a2 h2 a3 h3 a4 h4 a5 h5 a6 h6 a10 a11 a12 a14 a15 a16 a17 x0 x1 x2 x3 x4) (ix2 s r) = prb x0 x1 x2 x3 x4 10 r (256 + s.val) :=
  prob_apply (g := 4) (fun s r => scores_skip (by omega) (scores_skip (by omega) (scores_hit (by omega) (by omega) (store512_apply scores10_0) s r))) (queryScale_read (by omega) (by omega)) (keyScale_read (by omega)) (shift10 hp) s r

theorem mass10_4 (hp : Positive x1 x4) (u : Fin 8) (r : Fin 512) : (v5565 c a2 h2 a3 h3 a4 h4 a5 h5 a6 h6 a10 a11 a12 a14 a15 a16 a17 x0 x1 x2 x3 x4) (ix2 u r) = mass (prb x0 x1 x2 x3 x4 10) 4 u r :=
  mass_next (mass10_3 hp) (prb10_4 hp) u r

theorem prb10_5 (hp : Positive x1 x4) (s : Fin 64) (r : Fin 512) : (v5588 c a2 h2 a3 h3 a4 h4 a5 h5 a6 h6 a10 a11 a12 a14 a15 a16 a17 x0 x1 x2 x3 x4) (ix2 s r) = prb x0 x1 x2 x3 x4 10 r (320 + s.val) :=
  prob_apply (g := 5) (fun s r => scores_skip (by omega) (scores_skip (by omega) (scores_hit (by omega) (by omega) (store512_apply scores10_0) s r))) (queryScale_read (by omega) (by omega)) (keyScale_read (by omega)) (shift10 hp) s r

theorem mass10_5 (hp : Positive x1 x4) (u : Fin 8) (r : Fin 512) : (v5591 c a2 h2 a3 h3 a4 h4 a5 h5 a6 h6 a10 a11 a12 a14 a15 a16 a17 x0 x1 x2 x3 x4) (ix2 u r) = mass (prb x0 x1 x2 x3 x4 10) 5 u r :=
  mass_next (mass10_4 hp) (prb10_5 hp) u r

theorem prb10_6 (hp : Positive x1 x4) (s : Fin 64) (r : Fin 512) : (v5614 c a2 h2 a3 h3 a4 h4 a5 h5 a6 h6 a10 a11 a12 a14 a15 a16 a17 x0 x1 x2 x3 x4) (ix2 s r) = prb x0 x1 x2 x3 x4 10 r (384 + s.val) :=
  prob_apply (g := 6) (fun s r => scores_skip (by omega) (scores_skip (by omega) (scores_hit (by omega) (by omega) (store512_apply scores10_0) s r))) (queryScale_read (by omega) (by omega)) (keyScale_read (by omega)) (shift10 hp) s r

theorem mass10_6 (hp : Positive x1 x4) (u : Fin 8) (r : Fin 512) : (v5617 c a2 h2 a3 h3 a4 h4 a5 h5 a6 h6 a10 a11 a12 a14 a15 a16 a17 x0 x1 x2 x3 x4) (ix2 u r) = mass (prb x0 x1 x2 x3 x4 10) 6 u r :=
  mass_next (mass10_5 hp) (prb10_6 hp) u r

theorem prb10_7 (hp : Positive x1 x4) (s : Fin 64) (r : Fin 512) : (v5640 c a2 h2 a3 h3 a4 h4 a5 h5 a6 h6 a10 a11 a12 a14 a15 a16 a17 x0 x1 x2 x3 x4) (ix2 s r) = prb x0 x1 x2 x3 x4 10 r (448 + s.val) :=
  prob_apply (g := 7) (fun s r => scores_skip (by omega) (scores_skip (by omega) (scores_hit (by omega) (by omega) (store512_apply scores10_0) s r))) (queryScale_read (by omega) (by omega)) (keyScale_read (by omega)) (shift10 hp) s r

theorem mass10_7 (hp : Positive x1 x4) (u : Fin 8) (r : Fin 512) : (v5643 c a2 h2 a3 h3 a4 h4 a5 h5 a6 h6 a10 a11 a12 a14 a15 a16 a17 x0 x1 x2 x3 x4) (ix2 u r) = mass (prb x0 x1 x2 x3 x4 10) 7 u r :=
  mass_next (mass10_6 hp) (prb10_7 hp) u r

theorem prb10_8 (hp : Positive x1 x4) (s : Fin 64) (r : Fin 512) : (v5666 c a2 h2 a3 h3 a4 h4 a5 h5 a6 h6 a10 a11 a12 a14 a15 a16 a17 x0 x1 x2 x3 x4) (ix2 s r) = prb x0 x1 x2 x3 x4 10 r (512 + s.val) :=
  prob_apply (g := 8) (fun s r => scores_skip (by omega) (scores_hit (by omega) (by omega) (store512_apply scores10_1) s r)) (queryScale_read (by omega) (by omega)) (keyScale_read (by omega)) (shift10 hp) s r

theorem mass10_8 (hp : Positive x1 x4) (u : Fin 8) (r : Fin 512) : (v5669 c a2 h2 a3 h3 a4 h4 a5 h5 a6 h6 a10 a11 a12 a14 a15 a16 a17 x0 x1 x2 x3 x4) (ix2 u r) = mass (prb x0 x1 x2 x3 x4 10) 8 u r :=
  mass_next (mass10_7 hp) (prb10_8 hp) u r

theorem prb10_9 (hp : Positive x1 x4) (s : Fin 64) (r : Fin 512) : (v5692 c a2 h2 a3 h3 a4 h4 a5 h5 a6 h6 a10 a11 a12 a14 a15 a16 a17 x0 x1 x2 x3 x4) (ix2 s r) = prb x0 x1 x2 x3 x4 10 r (576 + s.val) :=
  prob_apply (g := 9) (fun s r => scores_skip (by omega) (scores_hit (by omega) (by omega) (store512_apply scores10_1) s r)) (queryScale_read (by omega) (by omega)) (keyScale_read (by omega)) (shift10 hp) s r

theorem mass10_9 (hp : Positive x1 x4) (u : Fin 8) (r : Fin 512) : (v5695 c a2 h2 a3 h3 a4 h4 a5 h5 a6 h6 a10 a11 a12 a14 a15 a16 a17 x0 x1 x2 x3 x4) (ix2 u r) = mass (prb x0 x1 x2 x3 x4 10) 9 u r :=
  mass_next (mass10_8 hp) (prb10_9 hp) u r

theorem prb10_10 (hp : Positive x1 x4) (s : Fin 64) (r : Fin 512) : (v5718 c a2 h2 a3 h3 a4 h4 a5 h5 a6 h6 a10 a11 a12 a14 a15 a16 a17 x0 x1 x2 x3 x4) (ix2 s r) = prb x0 x1 x2 x3 x4 10 r (640 + s.val) :=
  prob_apply (g := 10) (fun s r => scores_skip (by omega) (scores_hit (by omega) (by omega) (store512_apply scores10_1) s r)) (queryScale_read (by omega) (by omega)) (keyScale_read (by omega)) (shift10 hp) s r

theorem mass10_10 (hp : Positive x1 x4) (u : Fin 8) (r : Fin 512) : (v5721 c a2 h2 a3 h3 a4 h4 a5 h5 a6 h6 a10 a11 a12 a14 a15 a16 a17 x0 x1 x2 x3 x4) (ix2 u r) = mass (prb x0 x1 x2 x3 x4 10) 10 u r :=
  mass_next (mass10_9 hp) (prb10_10 hp) u r

theorem prb10_11 (hp : Positive x1 x4) (s : Fin 64) (r : Fin 512) : (v5744 c a2 h2 a3 h3 a4 h4 a5 h5 a6 h6 a10 a11 a12 a14 a15 a16 a17 x0 x1 x2 x3 x4) (ix2 s r) = prb x0 x1 x2 x3 x4 10 r (704 + s.val) :=
  prob_apply (g := 11) (fun s r => scores_skip (by omega) (scores_hit (by omega) (by omega) (store512_apply scores10_1) s r)) (queryScale_read (by omega) (by omega)) (keyScale_read (by omega)) (shift10 hp) s r

theorem mass10_11 (hp : Positive x1 x4) (u : Fin 8) (r : Fin 512) : (v5747 c a2 h2 a3 h3 a4 h4 a5 h5 a6 h6 a10 a11 a12 a14 a15 a16 a17 x0 x1 x2 x3 x4) (ix2 u r) = mass (prb x0 x1 x2 x3 x4 10) 11 u r :=
  mass_next (mass10_10 hp) (prb10_11 hp) u r

theorem prb10_12 (hp : Positive x1 x4) (s : Fin 64) (r : Fin 512) : (v5770 c a2 h2 a3 h3 a4 h4 a5 h5 a6 h6 a10 a11 a12 a14 a15 a16 a17 x0 x1 x2 x3 x4) (ix2 s r) = prb x0 x1 x2 x3 x4 10 r (768 + s.val) :=
  prob_apply (g := 12) (fun s r => scores_skip (by omega) (scores_hit (by omega) (by omega) (store512_apply scores10_1) s r)) (queryScale_read (by omega) (by omega)) (keyScale_read (by omega)) (shift10 hp) s r

theorem mass10_12 (hp : Positive x1 x4) (u : Fin 8) (r : Fin 512) : (v5773 c a2 h2 a3 h3 a4 h4 a5 h5 a6 h6 a10 a11 a12 a14 a15 a16 a17 x0 x1 x2 x3 x4) (ix2 u r) = mass (prb x0 x1 x2 x3 x4 10) 12 u r :=
  mass_next (mass10_11 hp) (prb10_12 hp) u r

theorem prb10_13 (hp : Positive x1 x4) (s : Fin 64) (r : Fin 512) : (v5796 c a2 h2 a3 h3 a4 h4 a5 h5 a6 h6 a10 a11 a12 a14 a15 a16 a17 x0 x1 x2 x3 x4) (ix2 s r) = prb x0 x1 x2 x3 x4 10 r (832 + s.val) :=
  prob_apply (g := 13) (fun s r => scores_skip (by omega) (scores_hit (by omega) (by omega) (store512_apply scores10_1) s r)) (queryScale_read (by omega) (by omega)) (keyScale_read (by omega)) (shift10 hp) s r

theorem mass10_13 (hp : Positive x1 x4) (u : Fin 8) (r : Fin 512) : (v5799 c a2 h2 a3 h3 a4 h4 a5 h5 a6 h6 a10 a11 a12 a14 a15 a16 a17 x0 x1 x2 x3 x4) (ix2 u r) = mass (prb x0 x1 x2 x3 x4 10) 13 u r :=
  mass_next (mass10_12 hp) (prb10_13 hp) u r

theorem prb10_14 (hp : Positive x1 x4) (s : Fin 64) (r : Fin 512) : (v5822 c a2 h2 a3 h3 a4 h4 a5 h5 a6 h6 a10 a11 a12 a14 a15 a16 a17 x0 x1 x2 x3 x4) (ix2 s r) = prb x0 x1 x2 x3 x4 10 r (896 + s.val) :=
  prob_apply (g := 14) (fun s r => scores_skip (by omega) (scores_hit (by omega) (by omega) (store512_apply scores10_1) s r)) (queryScale_read (by omega) (by omega)) (keyScale_read (by omega)) (shift10 hp) s r

theorem mass10_14 (hp : Positive x1 x4) (u : Fin 8) (r : Fin 512) : (v5825 c a2 h2 a3 h3 a4 h4 a5 h5 a6 h6 a10 a11 a12 a14 a15 a16 a17 x0 x1 x2 x3 x4) (ix2 u r) = mass (prb x0 x1 x2 x3 x4 10) 14 u r :=
  mass_next (mass10_13 hp) (prb10_14 hp) u r

theorem prb10_15 (hp : Positive x1 x4) (s : Fin 64) (r : Fin 512) : (v5848 c a2 h2 a3 h3 a4 h4 a5 h5 a6 h6 a10 a11 a12 a14 a15 a16 a17 x0 x1 x2 x3 x4) (ix2 s r) = prb x0 x1 x2 x3 x4 10 r (960 + s.val) :=
  prob_apply (g := 15) (fun s r => scores_skip (by omega) (scores_hit (by omega) (by omega) (store512_apply scores10_1) s r)) (queryScale_read (by omega) (by omega)) (keyScale_read (by omega)) (shift10 hp) s r

theorem mass10_15 (hp : Positive x1 x4) (u : Fin 8) (r : Fin 512) : (v5851 c a2 h2 a3 h3 a4 h4 a5 h5 a6 h6 a10 a11 a12 a14 a15 a16 a17 x0 x1 x2 x3 x4) (ix2 u r) = mass (prb x0 x1 x2 x3 x4 10) 15 u r :=
  mass_next (mass10_14 hp) (prb10_15 hp) u r

theorem prb10_16 (hp : Positive x1 x4) (s : Fin 64) (r : Fin 512) : (v5874 c a2 h2 a3 h3 a4 h4 a5 h5 a6 h6 a10 a11 a12 a14 a15 a16 a17 x0 x1 x2 x3 x4) (ix2 s r) = prb x0 x1 x2 x3 x4 10 r (1024 + s.val) :=
  prob_apply (g := 16) (fun s r => scores_hit (by omega) (by omega) (store384_apply scores10_2) s r) (queryScale_read (by omega) (by omega)) (keyScale_read (by omega)) (shift10 hp) s r

theorem mass10_16 (hp : Positive x1 x4) (u : Fin 8) (r : Fin 512) : (v5877 c a2 h2 a3 h3 a4 h4 a5 h5 a6 h6 a10 a11 a12 a14 a15 a16 a17 x0 x1 x2 x3 x4) (ix2 u r) = mass (prb x0 x1 x2 x3 x4 10) 16 u r :=
  mass_next (mass10_15 hp) (prb10_16 hp) u r

theorem prb10_17 (hp : Positive x1 x4) (s : Fin 64) (r : Fin 512) : (v5900 c a2 h2 a3 h3 a4 h4 a5 h5 a6 h6 a10 a11 a12 a14 a15 a16 a17 x0 x1 x2 x3 x4) (ix2 s r) = prb x0 x1 x2 x3 x4 10 r (1088 + s.val) :=
  prob_apply (g := 17) (fun s r => scores_hit (by omega) (by omega) (store384_apply scores10_2) s r) (queryScale_read (by omega) (by omega)) (keyScale_read (by omega)) (shift10 hp) s r

theorem mass10_17 (hp : Positive x1 x4) (u : Fin 8) (r : Fin 512) : (v5903 c a2 h2 a3 h3 a4 h4 a5 h5 a6 h6 a10 a11 a12 a14 a15 a16 a17 x0 x1 x2 x3 x4) (ix2 u r) = mass (prb x0 x1 x2 x3 x4 10) 17 u r :=
  mass_next (mass10_16 hp) (prb10_17 hp) u r

theorem prb10_18 (hp : Positive x1 x4) (s : Fin 64) (r : Fin 512) : (v5926 c a2 h2 a3 h3 a4 h4 a5 h5 a6 h6 a10 a11 a12 a14 a15 a16 a17 x0 x1 x2 x3 x4) (ix2 s r) = prb x0 x1 x2 x3 x4 10 r (1152 + s.val) :=
  prob_apply (g := 18) (fun s r => scores_hit (by omega) (by omega) (store384_apply scores10_2) s r) (queryScale_read (by omega) (by omega)) (keyScale_read (by omega)) (shift10 hp) s r

theorem mass10_18 (hp : Positive x1 x4) (u : Fin 8) (r : Fin 512) : (v5929 c a2 h2 a3 h3 a4 h4 a5 h5 a6 h6 a10 a11 a12 a14 a15 a16 a17 x0 x1 x2 x3 x4) (ix2 u r) = mass (prb x0 x1 x2 x3 x4 10) 18 u r :=
  mass_next (mass10_17 hp) (prb10_18 hp) u r

theorem prb10_19 (hp : Positive x1 x4) (s : Fin 64) (r : Fin 512) : (v5952 c a2 h2 a3 h3 a4 h4 a5 h5 a6 h6 a10 a11 a12 a14 a15 a16 a17 x0 x1 x2 x3 x4) (ix2 s r) = prb x0 x1 x2 x3 x4 10 r (1216 + s.val) :=
  prob_apply (g := 19) (fun s r => scores_hit (by omega) (by omega) (store384_apply scores10_2) s r) (queryScale_read (by omega) (by omega)) (keyScale_read (by omega)) (shift10 hp) s r

theorem mass10_19 (hp : Positive x1 x4) (u : Fin 8) (r : Fin 512) : (v5955 c a2 h2 a3 h3 a4 h4 a5 h5 a6 h6 a10 a11 a12 a14 a15 a16 a17 x0 x1 x2 x3 x4) (ix2 u r) = mass (prb x0 x1 x2 x3 x4 10) 19 u r :=
  mass_next (mass10_18 hp) (prb10_19 hp) u r

theorem prb10_20 (hp : Positive x1 x4) (s : Fin 64) (r : Fin 512) : (v5978 c a2 h2 a3 h3 a4 h4 a5 h5 a6 h6 a10 a11 a12 a14 a15 a16 a17 x0 x1 x2 x3 x4) (ix2 s r) = prb x0 x1 x2 x3 x4 10 r (1280 + s.val) :=
  prob_apply (g := 20) (fun s r => scores_hit (by omega) (by omega) (store384_apply scores10_2) s r) (queryScale_read (by omega) (by omega)) (keyScale_read (by omega)) (shift10 hp) s r

theorem mass10_20 (hp : Positive x1 x4) (u : Fin 8) (r : Fin 512) : (v5981 c a2 h2 a3 h3 a4 h4 a5 h5 a6 h6 a10 a11 a12 a14 a15 a16 a17 x0 x1 x2 x3 x4) (ix2 u r) = mass (prb x0 x1 x2 x3 x4 10) 20 u r :=
  mass_next (mass10_19 hp) (prb10_20 hp) u r

theorem prb10_21 (hp : Positive x1 x4) (s : Fin 64) (r : Fin 512) : (v6004 c a2 h2 a3 h3 a4 h4 a5 h5 a6 h6 a10 a11 a12 a14 a15 a16 a17 x0 x1 x2 x3 x4) (ix2 s r) = prb x0 x1 x2 x3 x4 10 r (1344 + s.val) :=
  prob_apply (g := 21) (fun s r => scores_hit (by omega) (by omega) (store384_apply scores10_2) s r) (queryScale_read (by omega) (by omega)) (keyScale_read (by omega)) (shift10 hp) s r

theorem mass10_21 (hp : Positive x1 x4) (u : Fin 8) (r : Fin 512) : (v6007 c a2 h2 a3 h3 a4 h4 a5 h5 a6 h6 a10 a11 a12 a14 a15 a16 a17 x0 x1 x2 x3 x4) (ix2 u r) = mass (prb x0 x1 x2 x3 x4 10) 21 u r :=
  mass_next (mass10_20 hp) (prb10_21 hp) u r

theorem row10 (hp : Positive x1 x4) (r : Fin 512) (d : Fin 128) : (v6029 c a2 h2 a3 h3 a4 h4 a5 h5 a6 h6 a7 h7 a10 a11 a12 a13 a14 a15 a16 a17 a18 x0 x1 x2 x3 x4 x5) (ix3 0 r d) = row x0 x1 x2 x3 x4 x5 10 r d :=
  rows_apply (product1408_apply (value_read (by omega)) (fun s r => (codes_start (by omega) (by omega) s r).trans (codes_step (codes_apply (prb10_21 hp)) s.isLt fun _ =>
      codes_step (codes_apply (prb10_20 hp)) (by omega) fun _ =>
      codes_step (codes_apply (prb10_19 hp)) (by omega) fun _ =>
      codes_step (codes_apply (prb10_18 hp)) (by omega) fun _ =>
      codes_step (codes_apply (prb10_17 hp)) (by omega) fun _ =>
      codes_step (codes_apply (prb10_16 hp)) (by omega) fun _ =>
      codes_step (codes_apply (prb10_15 hp)) (by omega) fun _ =>
      codes_step (codes_apply (prb10_14 hp)) (by omega) fun _ =>
      codes_step (codes_apply (prb10_13 hp)) (by omega) fun _ =>
      codes_step (codes_apply (prb10_12 hp)) (by omega) fun _ =>
      codes_step (codes_apply (prb10_11 hp)) (by omega) fun _ =>
      codes_step (codes_apply (prb10_10 hp)) (by omega) fun _ =>
      codes_step (codes_apply (prb10_9 hp)) (by omega) fun _ =>
      codes_step (codes_apply (prb10_8 hp)) (by omega) fun _ =>
      codes_step (codes_apply (prb10_7 hp)) (by omega) fun _ =>
      codes_step (codes_apply (prb10_6 hp)) (by omega) fun _ =>
      codes_step (codes_apply (prb10_5 hp)) (by omega) fun _ =>
      codes_step (codes_apply (prb10_4 hp)) (by omega) fun _ =>
      codes_step (codes_apply (prb10_3 hp)) (by omega) fun _ =>
      codes_step (codes_apply (prb10_2 hp)) (by omega) fun _ =>
      codes_step (codes_apply (prb10_1 hp)) (by omega) fun _ =>
      codes_step (codes_apply (prb10_0 hp)) (by omega) fun _ =>
      absurd ‹_› (by omega)))) (mass10_21 hp) r d

theorem head10_0 (hp : Positive x1 x4) (t d : Fin 128) : (v6037 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 10 0 t d :=
  (head_apply _ _ t d).trans (congrArg₂ (· * ·) ((head_read (by omega) t d).trans ((row10 hp _ d).trans (congrArg (fun a => row x0 x1 x2 x3 x4 x5 10 a d) (Fin.ext (by dsimp only; omega))))) (valueScales d))

theorem head10_1 (hp : Positive x1 x4) (t d : Fin 128) : (v6045 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 10 1 t d :=
  (head_apply _ _ t d).trans (congrArg₂ (· * ·) ((head_read (by omega) t d).trans ((row10 hp _ d).trans (congrArg (fun a => row x0 x1 x2 x3 x4 x5 10 a d) (Fin.ext (by dsimp only; omega))))) (valueScales d))

theorem head10_2 (hp : Positive x1 x4) (t d : Fin 128) : (v6053 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 10 2 t d :=
  (head_apply _ _ t d).trans (congrArg₂ (· * ·) ((head_read (by omega) t d).trans ((row10 hp _ d).trans (congrArg (fun a => row x0 x1 x2 x3 x4 x5 10 a d) (Fin.ext (by dsimp only; omega))))) (valueScales d))

theorem head10_3 (hp : Positive x1 x4) (t d : Fin 128) : (v6061 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 10 3 t d :=
  (head_apply _ _ t d).trans (congrArg₂ (· * ·) ((head_read (by omega) t d).trans ((row10 hp _ d).trans (congrArg (fun a => row x0 x1 x2 x3 x4 x5 10 a d) (Fin.ext (by dsimp only; omega))))) (valueScales d))

end Cert.KernelIdeal.Block

end
-- ==== Proof.BlocksC.lean ====
/- Query blocks 11, 12, 13: every value the kernel names, read at an index. -/
module

public import proofs.«01_k».proof.Proof.Readings
public import proofs.«01_k».proof.Proof.Rows

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Gen.kernelRun0_A.sl

variable {c : Dev nD} {i : grid0.Coords}
  {a2 : Memref sig .tc .vmem S1x1x8192x128 .bf16} {h2 : a2.IsWhole}
  {a3 : Memref sig .tc .vmem S1x1x4x16 .f32} {h3 : a3.IsWhole}
  {a4 : Memref sig .tc .vmem S1x4x16x128 .bf16} {h4 : a4.IsWhole}
  {a5 : Memref sig .tc .vmem S1x1x2048x128 .bf16} {h5 : a5.IsWhole}
  {a6 : Memref sig .tc .vmem S1x1x32x1 .f32} {h6 : a6.IsWhole}
  {a7 : Memref sig .tc .vmem S1x1x2048x128 .bf16} {h7 : a7.IsWhole}
  {a8 : Memref sig .tc .vmem S1x4x128 .f32} {h8 : a8.IsWhole}
  {a10 : Memref sig .tc .vmem S2048x128 .fp8e4m3}
  {a11 : Memref sig .tc .vmem S2048x128 .bf16}
  {a12 : Memref sig .tc .vmem S32x128 .f32}
  {a13 : Memref sig .tc .vmem S128x2048 .fp8e4m3}
  {a14 : Memref sig .tc .vmem S8192x128 .fp8e4m3}
  {a15 : Memref sig .tc .vmem S128x128 .f32}
  {a16 : Memref sig .tc .vmem S128x128 .f32}
  {a17 : Memref sig .tc .vmem S2x2048x512 .f32}
  {a18 : Memref sig .tc .vmem S2x2048x512 .fp8e4m3}
  {a19 : Memref sig .tc .vmem S2x512x128 .f32}
  {x0 : Vec Ideal S1x1x8192x128 .bf16}  {x1 : Vec Ideal S1x1x4x16 .f32}  {x2 : Vec Ideal S1x4x16x128 .bf16}
  {x3 : Vec Ideal S1x1x2048x128 .bf16}  {x4 : Vec Ideal S1x1x32x1 .f32}
  {x5 : Vec Ideal S1x1x2048x128 .bf16}  {x6 : Vec Ideal S1x4x128 .f32}

/-! ## Query block 11 -/

theorem scores11_0 (s : Fin 512) (r : Fin 512) : (v6074 c a2 h2 a3 h3 a4 h4 a5 h5 a10 a11 a14 a15 x0 x1 x2 x3) (ix2 s r) = (score x0 x1 x2 x3 11 r (0 + s.val)) :=
  whole_apply (raw512_apply (keys8_read (by omega)) (keys16_read (by omega)) (query_read (by omega) (by omega)) (tile_apply (mean_read (by omega) (by omega)))) (by omega) s r

theorem scores11_1 (s : Fin 512) (r : Fin 512) : (v6162 c a2 h2 a3 h3 a4 h4 a5 h5 a10 a11 a14 a15 x0 x1 x2 x3) (ix2 s r) = (score x0 x1 x2 x3 11 r (512 + s.val)) :=
  whole_apply (raw512_apply (keys8_read (by omega)) (keys16_read (by omega)) (query_read (by omega) (by omega)) (tile_apply (mean_read (by omega) (by omega)))) (by omega) s r

theorem scores11_2 (s : Fin 512) (r : Fin 512) : (v6256 c a2 h2 a3 h3 a4 h4 a5 h5 a10 a11 a14 a15 x0 x1 x2 x3) (ix2 s r) = (score x0 x1 x2 x3 11 r (1024 + s.val)) :=
  tail512_apply (raw512_apply (keys8_read (by omega)) (keys16_read (by omega)) (query_read (by omega) (by omega)) (tile_apply (mean_read (by omega) (by omega)))) (by omega) s r

theorem top11_0 (hp : Positive x1 x4) (u : Fin 8) (r : Fin 512) : (v6086 c a2 h2 a3 h3 a4 h4 a5 h5 a6 h6 a10 a11 a12 a14 a15 a16 x0 x1 x2 x3 x4) (ix2 u r) = top (logit x0 x1 x2 x3 x4 11) 0 u r :=
  top_first (hp 11) (cut512_apply scores11_0 (by omega)) (queryScale_read (by omega) (by omega)) (keyScale_read (by omega)) u r

theorem top11_1 (hp : Positive x1 x4) (u : Fin 8) (r : Fin 512) : (v6096 c a2 h2 a3 h3 a4 h4 a5 h5 a6 h6 a10 a11 a12 a14 a15 a16 x0 x1 x2 x3 x4) (ix2 u r) = top (logit x0 x1 x2 x3 x4 11) 1 u r :=
  top_next (hp 11) (top11_0 hp) (cut512_apply scores11_0 (by omega)) (queryScale_read (by omega) (by omega)) (keyScale_read (by omega)) u r

theorem top11_2 (hp : Positive x1 x4) (u : Fin 8) (r : Fin 512) : (v6106 c a2 h2 a3 h3 a4 h4 a5 h5 a6 h6 a10 a11 a12 a14 a15 a16 x0 x1 x2 x3 x4) (ix2 u r) = top (logit x0 x1 x2 x3 x4 11) 2 u r :=
  top_next (hp 11) (top11_1 hp) (cut512_apply scores11_0 (by omega)) (queryScale_read (by omega) (by omega)) (keyScale_read (by omega)) u r

theorem top11_3 (hp : Positive x1 x4) (u : Fin 8) (r : Fin 512) : (v6116 c a2 h2 a3 h3 a4 h4 a5 h5 a6 h6 a10 a11 a12 a14 a15 a16 x0 x1 x2 x3 x4) (ix2 u r) = top (logit x0 x1 x2 x3 x4 11) 3 u r :=
  top_next (hp 11) (top11_2 hp) (cut512_apply scores11_0 (by omega)) (queryScale_read (by omega) (by omega)) (keyScale_read (by omega)) u r

theorem top11_4 (hp : Positive x1 x4) (u : Fin 8) (r : Fin 512) : (v6126 c a2 h2 a3 h3 a4 h4 a5 h5 a6 h6 a10 a11 a12 a14 a15 a16 x0 x1 x2 x3 x4) (ix2 u r) = top (logit x0 x1 x2 x3 x4 11) 4 u r :=
  top_next (hp 11) (top11_3 hp) (cut512_apply scores11_0 (by omega)) (queryScale_read (by omega) (by omega)) (keyScale_read (by omega)) u r

theorem top11_5 (hp : Positive x1 x4) (u : Fin 8) (r : Fin 512) : (v6136 c a2 h2 a3 h3 a4 h4 a5 h5 a6 h6 a10 a11 a12 a14 a15 a16 x0 x1 x2 x3 x4) (ix2 u r) = top (logit x0 x1 x2 x3 x4 11) 5 u r :=
  top_next (hp 11) (top11_4 hp) (cut512_apply scores11_0 (by omega)) (queryScale_read (by omega) (by omega)) (keyScale_read (by omega)) u r

theorem top11_6 (hp : Positive x1 x4) (u : Fin 8) (r : Fin 512) : (v6146 c a2 h2 a3 h3 a4 h4 a5 h5 a6 h6 a10 a11 a12 a14 a15 a16 x0 x1 x2 x3 x4) (ix2 u r) = top (logit x0 x1 x2 x3 x4 11) 6 u r :=
  top_next (hp 11) (top11_5 hp) (cut512_apply scores11_0 (by omega)) (queryScale_read (by omega) (by omega)) (keyScale_read (by omega)) u r

theorem top11_7 (hp : Positive x1 x4) (u : Fin 8) (r : Fin 512) : (v6156 c a2 h2 a3 h3 a4 h4 a5 h5 a6 h6 a10 a11 a12 a14 a15 a16 x0 x1 x2 x3 x4) (ix2 u r) = top (logit x0 x1 x2 x3 x4 11) 7 u r :=
  top_next (hp 11) (top11_6 hp) (cut512_apply scores11_0 (by omega)) (queryScale_read (by omega) (by omega)) (keyScale_read (by omega)) u r

theorem top11_8 (hp : Positive x1 x4) (u : Fin 8) (r : Fin 512) : (v6175 c a2 h2 a3 h3 a4 h4 a5 h5 a6 h6 a10 a11 a12 a14 a15 a16 x0 x1 x2 x3 x4) (ix2 u r) = top (logit x0 x1 x2 x3 x4 11) 8 u r :=
  top_next (hp 11) (top11_7 hp) (cut512_apply scores11_1 (by omega)) (queryScale_read (by omega) (by omega)) (keyScale_read (by omega)) u r

theorem top11_9 (hp : Positive x1 x4) (u : Fin 8) (r : Fin 512) : (v6185 c a2 h2 a3 h3 a4 h4 a5 h5 a6 h6 a10 a11 a12 a14 a15 a16 x0 x1 x2 x3 x4) (ix2 u r) = top (logit x0 x1 x2 x3 x4 11) 9 u r :=
  top_next (hp 11) (top11_8 hp) (cut512_apply scores11_1 (by omega)) (queryScale_read (by omega) (by omega)) (keyScale_read (by omega)) u r

theorem top11_10 (hp : Positive x1 x4) (u : Fin 8) (r : Fin 512) : (v6195 c a2 h2 a3 h3 a4 h4 a5 h5 a6 h6 a10 a11 a12 a14 a15 a16 x0 x1 x2 x3 x4) (ix2 u r) = top (logit x0 x1 x2 x3 x4 11) 10 u r :=
  top_next (hp 11) (top11_9 hp) (cut512_apply scores11_1 (by omega)) (queryScale_read (by omega) (by omega)) (keyScale_read (by omega)) u r

theorem top11_11 (hp : Positive x1 x4) (u : Fin 8) (r : Fin 512) : (v6205 c a2 h2 a3 h3 a4 h4 a5 h5 a6 h6 a10 a11 a12 a14 a15 a16 x0 x1 x2 x3 x4) (ix2 u r) = top (logit x0 x1 x2 x3 x4 11) 11 u r :=
  top_next (hp 11) (top11_10 hp) (cut512_apply scores11_1 (by omega)) (queryScale_read (by omega) (by omega)) (keyScale_read (by omega)) u r

theorem top11_12 (hp : Positive x1 x4) (u : Fin 8) (r : Fin 512) : (v6215 c a2 h2 a3 h3 a4 h4 a5 h5 a6 h6 a10 a11 a12 a14 a15 a16 x0 x1 x2 x3 x4) (ix2 u r) = top (logit x0 x1 x2 x3 x4 11) 12 u r :=
  top_next (hp 11) (top11_11 hp) (cut512_apply scores11_1 (by omega)) (queryScale_read (by omega) (by omega)) (keyScale_read (by omega)) u r

theorem top11_13 (hp : Positive x1 x4) (u : Fin 8) (r : Fin 512) : (v6225 c a2 h2 a3 h3 a4 h4 a5 h5 a6 h6 a10 a11 a12 a14 a15 a16 x0 x1 x2 x3 x4) (ix2 u r) = top (logit x0 x1 x2 x3 x4 11) 13 u r :=
  top_next (hp 11) (top11_12 hp) (cut512_apply scores11_1 (by omega)) (queryScale_read (by omega) (by omega)) (keyScale_read (by omega)) u r

theorem top11_14 (hp : Positive x1 x4) (u : Fin 8) (r : Fin 512) : (v6235 c a2 h2 a3 h3 a4 h4 a5 h5 a6 h6 a10 a11 a12 a14 a15 a16 x0 x1 x2 x3 x4) (ix2 u r) = top (logit x0 x1 x2 x3 x4 11) 14 u r :=
  top_next (hp 11) (top11_13 hp) (cut512_apply scores11_1 (by omega)) (queryScale_read (by omega) (by omega)) (keyScale_read (by omega)) u r

theorem top11_15 (hp : Positive x1 x4) (u : Fin 8) (r : Fin 512) : (v6245 c a2 h2 a3 h3 a4 h4 a5 h5 a6 h6 a10 a11 a12 a14 a15 a16 x0 x1 x2 x3 x4) (ix2 u r) = top (logit x0 x1 x2 x3 x4 11) 15 u r :=
  top_next (hp 11) (top11_14 hp) (cut512_apply scores11_1 (by omega)) (queryScale_read (by omega) (by omega)) (keyScale_read (by omega)) u r

theorem top11_16 (hp : Positive x1 x4) (u : Fin 8) (r : Fin 512) : (v6269 c a2 h2 a3 h3 a4 h4 a5 h5 a6 h6 a10 a11 a12 a14 a15 a16 x0 x1 x2 x3 x4) (ix2 u r) = top (logit x0 x1 x2 x3 x4 11) 16 u r :=
  top_next (hp 11) (top11_15 hp) (cut512_apply scores11_2 (by omega)) (queryScale_read (by omega) (by omega)) (keyScale_read (by omega)) u r

theorem top11_17 (hp : Positive x1 x4) (u : Fin 8) (r : Fin 512) : (v6279 c a2 h2 a3 h3 a4 h4 a5 h5 a6 h6 a10 a11 a12 a14 a15 a16 x0 x1 x2 x3 x4) (ix2 u r) = top (logit x0 x1 x2 x3 x4 11) 17 u r :=
  top_next (hp 11) (top11_16 hp) (cut512_apply scores11_2 (by omega)) (queryScale_read (by omega) (by omega)) (keyScale_read (by omega)) u r

theorem top11_18 (hp : Positive x1 x4) (u : Fin 8) (r : Fin 512) : (v6289 c a2 h2 a3 h3 a4 h4 a5 h5 a6 h6 a10 a11 a12 a14 a15 a16 x0 x1 x2 x3 x4) (ix2 u r) = top (logit x0 x1 x2 x3 x4 11) 18 u r :=
  top_next (hp 11) (top11_17 hp) (cut512_apply scores11_2 (by omega)) (queryScale_read (by omega) (by omega)) (keyScale_read (by omega)) u r

theorem top11_19 (hp : Positive x1 x4) (u : Fin 8) (r : Fin 512) : (v6299 c a2 h2 a3 h3 a4 h4 a5 h5 a6 h6 a10 a11 a12 a14 a15 a16 x0 x1 x2 x3 x4) (ix2 u r) = top (logit x0 x1 x2 x3 x4 11) 19 u r :=
  top_next (hp 11) (top11_18 hp) (cut512_apply scores11_2 (by omega)) (queryScale_read (by omega) (by omega)) (keyScale_read (by omega)) u r

theorem top11_20 (hp : Positive x1 x4) (u : Fin 8) (r : Fin 512) : (v6309 c a2 h2 a3 h3 a4 h4 a5 h5 a6 h6 a10 a11 a12 a14 a15 a16 x0 x1 x2 x3 x4) (ix2 u r) = top (logit x0 x1 x2 x3 x4 11) 20 u r :=
  top_next (hp 11) (top11_19 hp) (cut512_apply scores11_2 (by omega)) (queryScale_read (by omega) (by omega)) (keyScale_read (by omega)) u r

theorem top11_21 (hp : Positive x1 x4) (u : Fin 8) (r : Fin 512) : (v6319 c a2 h2 a3 h3 a4 h4 a5 h5 a6 h6 a10 a11 a12 a14 a15 a16 x0 x1 x2 x3 x4) (ix2 u r) = top (logit x0 x1 x2 x3 x4 11) 21 u r :=
  top_next (hp 11) (top11_20 hp) (cut512_apply scores11_2 (by omega)) (queryScale_read (by omega) (by omega)) (keyScale_read (by omega)) u r

theorem top11_22 (hp : Positive x1 x4) (u : Fin 8) (r : Fin 512) : (v6329 c a2 h2 a3 h3 a4 h4 a5 h5 a6 h6 a10 a11 a12 a14 a15 a16 x0 x1 x2 x3 x4) (ix2 u r) = top (logit x0 x1 x2 x3 x4 11) 22 u r :=
  top_next (hp 11) (top11_21 hp) (cut512_apply scores11_2 (by omega)) (queryScale_read (by omega) (by omega)) (keyScale_read (by omega)) u r

theorem top11_23 (hp : Positive x1 x4) (u : Fin 8) (r : Fin 512) : (v6339 c a2 h2 a3 h3 a4 h4 a5 h5 a6 h6 a10 a11 a12 a14 a15 a16 x0 x1 x2 x3 x4) (ix2 u r) = top (logit x0 x1 x2 x3 x4 11) 23 u r :=
  top_next (hp 11) (top11_22 hp) (cut512_apply scores11_2 (by omega)) (queryScale_read (by omega) (by omega)) (keyScale_read (by omega)) u r

theorem shift11 (hp : Positive x1 x4) (r : Fin 512) : (v6343 c a2 h2 a3 h3 a4 h4 a5 h5 a6 h6 a10 a11 a12 a14 a15 a16 x0 x1 x2 x3 x4) (ix2 0 r) = shift (logit x0 x1 x2 x3 x4 11) 23 r :=
  shift_apply (top11_23 hp) r

theorem prb11_0 (hp : Positive x1 x4) (s : Fin 64) (r : Fin 512) : (v6359 c a2 h2 a3 h3 a4 h4 a5 h5 a6 h6 a10 a11 a12 a14 a15 a16 a17 x0 x1 x2 x3 x4) (ix2 s r) = prb x0 x1 x2 x3 x4 11 r (0 + s.val) :=
  prob_apply (g := 0) (fun s r => scores_skip (by omega) (scores_skip (by omega) (scores_hit (by omega) (by omega) (store512_apply scores11_0) s r))) (queryScale_read (by omega) (by omega)) (keyScale_read (by omega)) (shift11 hp) s r

theorem mass11_0 (hp : Positive x1 x4) (u : Fin 8) (r : Fin 512) : (v6362 c a2 h2 a3 h3 a4 h4 a5 h5 a6 h6 a10 a11 a12 a14 a15 a16 a17 x0 x1 x2 x3 x4) (ix2 u r) = mass (prb x0 x1 x2 x3 x4 11) 0 u r :=
  mass_first (prb11_0 hp) u r

theorem prb11_1 (hp : Positive x1 x4) (s : Fin 64) (r : Fin 512) : (v6385 c a2 h2 a3 h3 a4 h4 a5 h5 a6 h6 a10 a11 a12 a14 a15 a16 a17 x0 x1 x2 x3 x4) (ix2 s r) = prb x0 x1 x2 x3 x4 11 r (64 + s.val) :=
  prob_apply (g := 1) (fun s r => scores_skip (by omega) (scores_skip (by omega) (scores_hit (by omega) (by omega) (store512_apply scores11_0) s r))) (queryScale_read (by omega) (by omega)) (keyScale_read (by omega)) (shift11 hp) s r

theorem mass11_1 (hp : Positive x1 x4) (u : Fin 8) (r : Fin 512) : (v6388 c a2 h2 a3 h3 a4 h4 a5 h5 a6 h6 a10 a11 a12 a14 a15 a16 a17 x0 x1 x2 x3 x4) (ix2 u r) = mass (prb x0 x1 x2 x3 x4 11) 1 u r :=
  mass_next (mass11_0 hp) (prb11_1 hp) u r

theorem prb11_2 (hp : Positive x1 x4) (s : Fin 64) (r : Fin 512) : (v6411 c a2 h2 a3 h3 a4 h4 a5 h5 a6 h6 a10 a11 a12 a14 a15 a16 a17 x0 x1 x2 x3 x4) (ix2 s r) = prb x0 x1 x2 x3 x4 11 r (128 + s.val) :=
  prob_apply (g := 2) (fun s r => scores_skip (by omega) (scores_skip (by omega) (scores_hit (by omega) (by omega) (store512_apply scores11_0) s r))) (queryScale_read (by omega) (by omega)) (keyScale_read (by omega)) (shift11 hp) s r

theorem mass11_2 (hp : Positive x1 x4) (u : Fin 8) (r : Fin 512) : (v6414 c a2 h2 a3 h3 a4 h4 a5 h5 a6 h6 a10 a11 a12 a14 a15 a16 a17 x0 x1 x2 x3 x4) (ix2 u r) = mass (prb x0 x1 x2 x3 x4 11) 2 u r :=
  mass_next (mass11_1 hp) (prb11_2 hp) u r

theorem prb11_3 (hp : Positive x1 x4) (s : Fin 64) (r : Fin 512) : (v6437 c a2 h2 a3 h3 a4 h4 a5 h5 a6 h6 a10 a11 a12 a14 a15 a16 a17 x0 x1 x2 x3 x4) (ix2 s r) = prb x0 x1 x2 x3 x4 11 r (192 + s.val) :=
  prob_apply (g := 3) (fun s r => scores_skip (by omega) (scores_skip (by omega) (scores_hit (by omega) (by omega) (store512_apply scores11_0) s r))) (queryScale_read (by omega) (by omega)) (keyScale_read (by omega)) (shift11 hp) s r

theorem mass11_3 (hp : Positive x1 x4) (u : Fin 8) (r : Fin 512) : (v6440 c a2 h2 a3 h3 a4 h4 a5 h5 a6 h6 a10 a11 a12 a14 a15 a16 a17 x0 x1 x2 x3 x4) (ix2 u r) = mass (prb x0 x1 x2 x3 x4 11) 3 u r :=
  mass_next (mass11_2 hp) (prb11_3 hp) u r

theorem prb11_4 (hp : Positive x1 x4) (s : Fin 64) (r : Fin 512) : (v6463 c a2 h2 a3 h3 a4 h4 a5 h5 a6 h6 a10 a11 a12 a14 a15 a16 a17 x0 x1 x2 x3 x4) (ix2 s r) = prb x0 x1 x2 x3 x4 11 r (256 + s.val) :=
  prob_apply (g := 4) (fun s r => scores_skip (by omega) (scores_skip (by omega) (scores_hit (by omega) (by omega) (store512_apply scores11_0) s r))) (queryScale_read (by omega) (by omega)) (keyScale_read (by omega)) (shift11 hp) s r

theorem mass11_4 (hp : Positive x1 x4) (u : Fin 8) (r : Fin 512) : (v6466 c a2 h2 a3 h3 a4 h4 a5 h5 a6 h6 a10 a11 a12 a14 a15 a16 a17 x0 x1 x2 x3 x4) (ix2 u r) = mass (prb x0 x1 x2 x3 x4 11) 4 u r :=
  mass_next (mass11_3 hp) (prb11_4 hp) u r

theorem prb11_5 (hp : Positive x1 x4) (s : Fin 64) (r : Fin 512) : (v6489 c a2 h2 a3 h3 a4 h4 a5 h5 a6 h6 a10 a11 a12 a14 a15 a16 a17 x0 x1 x2 x3 x4) (ix2 s r) = prb x0 x1 x2 x3 x4 11 r (320 + s.val) :=
  prob_apply (g := 5) (fun s r => scores_skip (by omega) (scores_skip (by omega) (scores_hit (by omega) (by omega) (store512_apply scores11_0) s r))) (queryScale_read (by omega) (by omega)) (keyScale_read (by omega)) (shift11 hp) s r

theorem mass11_5 (hp : Positive x1 x4) (u : Fin 8) (r : Fin 512) : (v6492 c a2 h2 a3 h3 a4 h4 a5 h5 a6 h6 a10 a11 a12 a14 a15 a16 a17 x0 x1 x2 x3 x4) (ix2 u r) = mass (prb x0 x1 x2 x3 x4 11) 5 u r :=
  mass_next (mass11_4 hp) (prb11_5 hp) u r

theorem prb11_6 (hp : Positive x1 x4) (s : Fin 64) (r : Fin 512) : (v6515 c a2 h2 a3 h3 a4 h4 a5 h5 a6 h6 a10 a11 a12 a14 a15 a16 a17 x0 x1 x2 x3 x4) (ix2 s r) = prb x0 x1 x2 x3 x4 11 r (384 + s.val) :=
  prob_apply (g := 6) (fun s r => scores_skip (by omega) (scores_skip (by omega) (scores_hit (by omega) (by omega) (store512_apply scores11_0) s r))) (queryScale_read (by omega) (by omega)) (keyScale_read (by omega)) (shift11 hp) s r

theorem mass11_6 (hp : Positive x1 x4) (u : Fin 8) (r : Fin 512) : (v6518 c a2 h2 a3 h3 a4 h4 a5 h5 a6 h6 a10 a11 a12 a14 a15 a16 a17 x0 x1 x2 x3 x4) (ix2 u r) = mass (prb x0 x1 x2 x3 x4 11) 6 u r :=
  mass_next (mass11_5 hp) (prb11_6 hp) u r

theorem prb11_7 (hp : Positive x1 x4) (s : Fin 64) (r : Fin 512) : (v6541 c a2 h2 a3 h3 a4 h4 a5 h5 a6 h6 a10 a11 a12 a14 a15 a16 a17 x0 x1 x2 x3 x4) (ix2 s r) = prb x0 x1 x2 x3 x4 11 r (448 + s.val) :=
  prob_apply (g := 7) (fun s r => scores_skip (by omega) (scores_skip (by omega) (scores_hit (by omega) (by omega) (store512_apply scores11_0) s r))) (queryScale_read (by omega) (by omega)) (keyScale_read (by omega)) (shift11 hp) s r

theorem mass11_7 (hp : Positive x1 x4) (u : Fin 8) (r : Fin 512) : (v6544 c a2 h2 a3 h3 a4 h4 a5 h5 a6 h6 a10 a11 a12 a14 a15 a16 a17 x0 x1 x2 x3 x4) (ix2 u r) = mass (prb x0 x1 x2 x3 x4 11) 7 u r :=
  mass_next (mass11_6 hp) (prb11_7 hp) u r

theorem prb11_8 (hp : Positive x1 x4) (s : Fin 64) (r : Fin 512) : (v6567 c a2 h2 a3 h3 a4 h4 a5 h5 a6 h6 a10 a11 a12 a14 a15 a16 a17 x0 x1 x2 x3 x4) (ix2 s r) = prb x0 x1 x2 x3 x4 11 r (512 + s.val) :=
  prob_apply (g := 8) (fun s r => scores_skip (by omega) (scores_hit (by omega) (by omega) (store512_apply scores11_1) s r)) (queryScale_read (by omega) (by omega)) (keyScale_read (by omega)) (shift11 hp) s r

theorem mass11_8 (hp : Positive x1 x4) (u : Fin 8) (r : Fin 512) : (v6570 c a2 h2 a3 h3 a4 h4 a5 h5 a6 h6 a10 a11 a12 a14 a15 a16 a17 x0 x1 x2 x3 x4) (ix2 u r) = mass (prb x0 x1 x2 x3 x4 11) 8 u r :=
  mass_next (mass11_7 hp) (prb11_8 hp) u r

theorem prb11_9 (hp : Positive x1 x4) (s : Fin 64) (r : Fin 512) : (v6593 c a2 h2 a3 h3 a4 h4 a5 h5 a6 h6 a10 a11 a12 a14 a15 a16 a17 x0 x1 x2 x3 x4) (ix2 s r) = prb x0 x1 x2 x3 x4 11 r (576 + s.val) :=
  prob_apply (g := 9) (fun s r => scores_skip (by omega) (scores_hit (by omega) (by omega) (store512_apply scores11_1) s r)) (queryScale_read (by omega) (by omega)) (keyScale_read (by omega)) (shift11 hp) s r

theorem mass11_9 (hp : Positive x1 x4) (u : Fin 8) (r : Fin 512) : (v6596 c a2 h2 a3 h3 a4 h4 a5 h5 a6 h6 a10 a11 a12 a14 a15 a16 a17 x0 x1 x2 x3 x4) (ix2 u r) = mass (prb x0 x1 x2 x3 x4 11) 9 u r :=
  mass_next (mass11_8 hp) (prb11_9 hp) u r

theorem prb11_10 (hp : Positive x1 x4) (s : Fin 64) (r : Fin 512) : (v6619 c a2 h2 a3 h3 a4 h4 a5 h5 a6 h6 a10 a11 a12 a14 a15 a16 a17 x0 x1 x2 x3 x4) (ix2 s r) = prb x0 x1 x2 x3 x4 11 r (640 + s.val) :=
  prob_apply (g := 10) (fun s r => scores_skip (by omega) (scores_hit (by omega) (by omega) (store512_apply scores11_1) s r)) (queryScale_read (by omega) (by omega)) (keyScale_read (by omega)) (shift11 hp) s r

theorem mass11_10 (hp : Positive x1 x4) (u : Fin 8) (r : Fin 512) : (v6622 c a2 h2 a3 h3 a4 h4 a5 h5 a6 h6 a10 a11 a12 a14 a15 a16 a17 x0 x1 x2 x3 x4) (ix2 u r) = mass (prb x0 x1 x2 x3 x4 11) 10 u r :=
  mass_next (mass11_9 hp) (prb11_10 hp) u r

theorem prb11_11 (hp : Positive x1 x4) (s : Fin 64) (r : Fin 512) : (v6645 c a2 h2 a3 h3 a4 h4 a5 h5 a6 h6 a10 a11 a12 a14 a15 a16 a17 x0 x1 x2 x3 x4) (ix2 s r) = prb x0 x1 x2 x3 x4 11 r (704 + s.val) :=
  prob_apply (g := 11) (fun s r => scores_skip (by omega) (scores_hit (by omega) (by omega) (store512_apply scores11_1) s r)) (queryScale_read (by omega) (by omega)) (keyScale_read (by omega)) (shift11 hp) s r

theorem mass11_11 (hp : Positive x1 x4) (u : Fin 8) (r : Fin 512) : (v6648 c a2 h2 a3 h3 a4 h4 a5 h5 a6 h6 a10 a11 a12 a14 a15 a16 a17 x0 x1 x2 x3 x4) (ix2 u r) = mass (prb x0 x1 x2 x3 x4 11) 11 u r :=
  mass_next (mass11_10 hp) (prb11_11 hp) u r

theorem prb11_12 (hp : Positive x1 x4) (s : Fin 64) (r : Fin 512) : (v6671 c a2 h2 a3 h3 a4 h4 a5 h5 a6 h6 a10 a11 a12 a14 a15 a16 a17 x0 x1 x2 x3 x4) (ix2 s r) = prb x0 x1 x2 x3 x4 11 r (768 + s.val) :=
  prob_apply (g := 12) (fun s r => scores_skip (by omega) (scores_hit (by omega) (by omega) (store512_apply scores11_1) s r)) (queryScale_read (by omega) (by omega)) (keyScale_read (by omega)) (shift11 hp) s r

theorem mass11_12 (hp : Positive x1 x4) (u : Fin 8) (r : Fin 512) : (v6674 c a2 h2 a3 h3 a4 h4 a5 h5 a6 h6 a10 a11 a12 a14 a15 a16 a17 x0 x1 x2 x3 x4) (ix2 u r) = mass (prb x0 x1 x2 x3 x4 11) 12 u r :=
  mass_next (mass11_11 hp) (prb11_12 hp) u r

theorem prb11_13 (hp : Positive x1 x4) (s : Fin 64) (r : Fin 512) : (v6697 c a2 h2 a3 h3 a4 h4 a5 h5 a6 h6 a10 a11 a12 a14 a15 a16 a17 x0 x1 x2 x3 x4) (ix2 s r) = prb x0 x1 x2 x3 x4 11 r (832 + s.val) :=
  prob_apply (g := 13) (fun s r => scores_skip (by omega) (scores_hit (by omega) (by omega) (store512_apply scores11_1) s r)) (queryScale_read (by omega) (by omega)) (keyScale_read (by omega)) (shift11 hp) s r

theorem mass11_13 (hp : Positive x1 x4) (u : Fin 8) (r : Fin 512) : (v6700 c a2 h2 a3 h3 a4 h4 a5 h5 a6 h6 a10 a11 a12 a14 a15 a16 a17 x0 x1 x2 x3 x4) (ix2 u r) = mass (prb x0 x1 x2 x3 x4 11) 13 u r :=
  mass_next (mass11_12 hp) (prb11_13 hp) u r

theorem prb11_14 (hp : Positive x1 x4) (s : Fin 64) (r : Fin 512) : (v6723 c a2 h2 a3 h3 a4 h4 a5 h5 a6 h6 a10 a11 a12 a14 a15 a16 a17 x0 x1 x2 x3 x4) (ix2 s r) = prb x0 x1 x2 x3 x4 11 r (896 + s.val) :=
  prob_apply (g := 14) (fun s r => scores_skip (by omega) (scores_hit (by omega) (by omega) (store512_apply scores11_1) s r)) (queryScale_read (by omega) (by omega)) (keyScale_read (by omega)) (shift11 hp) s r

theorem mass11_14 (hp : Positive x1 x4) (u : Fin 8) (r : Fin 512) : (v6726 c a2 h2 a3 h3 a4 h4 a5 h5 a6 h6 a10 a11 a12 a14 a15 a16 a17 x0 x1 x2 x3 x4) (ix2 u r) = mass (prb x0 x1 x2 x3 x4 11) 14 u r :=
  mass_next (mass11_13 hp) (prb11_14 hp) u r

theorem prb11_15 (hp : Positive x1 x4) (s : Fin 64) (r : Fin 512) : (v6749 c a2 h2 a3 h3 a4 h4 a5 h5 a6 h6 a10 a11 a12 a14 a15 a16 a17 x0 x1 x2 x3 x4) (ix2 s r) = prb x0 x1 x2 x3 x4 11 r (960 + s.val) :=
  prob_apply (g := 15) (fun s r => scores_skip (by omega) (scores_hit (by omega) (by omega) (store512_apply scores11_1) s r)) (queryScale_read (by omega) (by omega)) (keyScale_read (by omega)) (shift11 hp) s r

theorem mass11_15 (hp : Positive x1 x4) (u : Fin 8) (r : Fin 512) : (v6752 c a2 h2 a3 h3 a4 h4 a5 h5 a6 h6 a10 a11 a12 a14 a15 a16 a17 x0 x1 x2 x3 x4) (ix2 u r) = mass (prb x0 x1 x2 x3 x4 11) 15 u r :=
  mass_next (mass11_14 hp) (prb11_15 hp) u r

theorem prb11_16 (hp : Positive x1 x4) (s : Fin 64) (r : Fin 512) : (v6775 c a2 h2 a3 h3 a4 h4 a5 h5 a6 h6 a10 a11 a12 a14 a15 a16 a17 x0 x1 x2 x3 x4) (ix2 s r) = prb x0 x1 x2 x3 x4 11 r (1024 + s.val) :=
  prob_apply (g := 16) (fun s r => scores_hit (by omega) (by omega) (store512_apply scores11_2) s r) (queryScale_read (by omega) (by omega)) (keyScale_read (by omega)) (shift11 hp) s r

theorem mass11_16 (hp : Positive x1 x4) (u : Fin 8) (r : Fin 512) : (v6778 c a2 h2 a3 h3 a4 h4 a5 h5 a6 h6 a10 a11 a12 a14 a15 a16 a17 x0 x1 x2 x3 x4) (ix2 u r) = mass (prb x0 x1 x2 x3 x4 11) 16 u r :=
  mass_next (mass11_15 hp) (prb11_16 hp) u r

theorem prb11_17 (hp : Positive x1 x4) (s : Fin 64) (r : Fin 512) : (v6801 c a2 h2 a3 h3 a4 h4 a5 h5 a6 h6 a10 a11 a12 a14 a15 a16 a17 x0 x1 x2 x3 x4) (ix2 s r) = prb x0 x1 x2 x3 x4 11 r (1088 + s.val) :=
  prob_apply (g := 17) (fun s r => scores_hit (by omega) (by omega) (store512_apply scores11_2) s r) (queryScale_read (by omega) (by omega)) (keyScale_read (by omega)) (shift11 hp) s r

theorem mass11_17 (hp : Positive x1 x4) (u : Fin 8) (r : Fin 512) : (v6804 c a2 h2 a3 h3 a4 h4 a5 h5 a6 h6 a10 a11 a12 a14 a15 a16 a17 x0 x1 x2 x3 x4) (ix2 u r) = mass (prb x0 x1 x2 x3 x4 11) 17 u r :=
  mass_next (mass11_16 hp) (prb11_17 hp) u r

theorem prb11_18 (hp : Positive x1 x4) (s : Fin 64) (r : Fin 512) : (v6827 c a2 h2 a3 h3 a4 h4 a5 h5 a6 h6 a10 a11 a12 a14 a15 a16 a17 x0 x1 x2 x3 x4) (ix2 s r) = prb x0 x1 x2 x3 x4 11 r (1152 + s.val) :=
  prob_apply (g := 18) (fun s r => scores_hit (by omega) (by omega) (store512_apply scores11_2) s r) (queryScale_read (by omega) (by omega)) (keyScale_read (by omega)) (shift11 hp) s r

theorem mass11_18 (hp : Positive x1 x4) (u : Fin 8) (r : Fin 512) : (v6830 c a2 h2 a3 h3 a4 h4 a5 h5 a6 h6 a10 a11 a12 a14 a15 a16 a17 x0 x1 x2 x3 x4) (ix2 u r) = mass (prb x0 x1 x2 x3 x4 11) 18 u r :=
  mass_next (mass11_17 hp) (prb11_18 hp) u r

theorem prb11_19 (hp : Positive x1 x4) (s : Fin 64) (r : Fin 512) : (v6853 c a2 h2 a3 h3 a4 h4 a5 h5 a6 h6 a10 a11 a12 a14 a15 a16 a17 x0 x1 x2 x3 x4) (ix2 s r) = prb x0 x1 x2 x3 x4 11 r (1216 + s.val) :=
  prob_apply (g := 19) (fun s r => scores_hit (by omega) (by omega) (store512_apply scores11_2) s r) (queryScale_read (by omega) (by omega)) (keyScale_read (by omega)) (shift11 hp) s r

theorem mass11_19 (hp : Positive x1 x4) (u : Fin 8) (r : Fin 512) : (v6856 c a2 h2 a3 h3 a4 h4 a5 h5 a6 h6 a10 a11 a12 a14 a15 a16 a17 x0 x1 x2 x3 x4) (ix2 u r) = mass (prb x0 x1 x2 x3 x4 11) 19 u r :=
  mass_next (mass11_18 hp) (prb11_19 hp) u r

theorem prb11_20 (hp : Positive x1 x4) (s : Fin 64) (r : Fin 512) : (v6879 c a2 h2 a3 h3 a4 h4 a5 h5 a6 h6 a10 a11 a12 a14 a15 a16 a17 x0 x1 x2 x3 x4) (ix2 s r) = prb x0 x1 x2 x3 x4 11 r (1280 + s.val) :=
  prob_apply (g := 20) (fun s r => scores_hit (by omega) (by omega) (store512_apply scores11_2) s r) (queryScale_read (by omega) (by omega)) (keyScale_read (by omega)) (shift11 hp) s r

theorem mass11_20 (hp : Positive x1 x4) (u : Fin 8) (r : Fin 512) : (v6882 c a2 h2 a3 h3 a4 h4 a5 h5 a6 h6 a10 a11 a12 a14 a15 a16 a17 x0 x1 x2 x3 x4) (ix2 u r) = mass (prb x0 x1 x2 x3 x4 11) 20 u r :=
  mass_next (mass11_19 hp) (prb11_20 hp) u r

theorem prb11_21 (hp : Positive x1 x4) (s : Fin 64) (r : Fin 512) : (v6905 c a2 h2 a3 h3 a4 h4 a5 h5 a6 h6 a10 a11 a12 a14 a15 a16 a17 x0 x1 x2 x3 x4) (ix2 s r) = prb x0 x1 x2 x3 x4 11 r (1344 + s.val) :=
  prob_apply (g := 21) (fun s r => scores_hit (by omega) (by omega) (store512_apply scores11_2) s r) (queryScale_read (by omega) (by omega)) (keyScale_read (by omega)) (shift11 hp) s r

theorem mass11_21 (hp : Positive x1 x4) (u : Fin 8) (r : Fin 512) : (v6908 c a2 h2 a3 h3 a4 h4 a5 h5 a6 h6 a10 a11 a12 a14 a15 a16 a17 x0 x1 x2 x3 x4) (ix2 u r) = mass (prb x0 x1 x2 x3 x4 11) 21 u r :=
  mass_next (mass11_20 hp) (prb11_21 hp) u r

theorem prb11_22 (hp : Positive x1 x4) (s : Fin 64) (r : Fin 512) : (v6931 c a2 h2 a3 h3 a4 h4 a5 h5 a6 h6 a10 a11 a12 a14 a15 a16 a17 x0 x1 x2 x3 x4) (ix2 s r) = prb x0 x1 x2 x3 x4 11 r (1408 + s.val) :=
  prob_apply (g := 22) (fun s r => scores_hit (by omega) (by omega) (store512_apply scores11_2) s r) (queryScale_read (by omega) (by omega)) (keyScale_read (by omega)) (shift11 hp) s r

theorem mass11_22 (hp : Positive x1 x4) (u : Fin 8) (r : Fin 512) : (v6934 c a2 h2 a3 h3 a4 h4 a5 h5 a6 h6 a10 a11 a12 a14 a15 a16 a17 x0 x1 x2 x3 x4) (ix2 u r) = mass (prb x0 x1 x2 x3 x4 11) 22 u r :=
  mass_next (mass11_21 hp) (prb11_22 hp) u r

theorem prb11_23 (hp : Positive x1 x4) (s : Fin 64) (r : Fin 512) : (v6957 c a2 h2 a3 h3 a4 h4 a5 h5 a6 h6 a10 a11 a12 a14 a15 a16 a17 x0 x1 x2 x3 x4) (ix2 s r) = prb x0 x1 x2 x3 x4 11 r (1472 + s.val) :=
  prob_apply (g := 23) (fun s r => scores_hit (by omega) (by omega) (store512_apply scores11_2) s r) (queryScale_read (by omega) (by omega)) (keyScale_read (by omega)) (shift11 hp) s r

theorem mass11_23 (hp : Positive x1 x4) (u : Fin 8) (r : Fin 512) : (v6960 c a2 h2 a3 h3 a4 h4 a5 h5 a6 h6 a10 a11 a12 a14 a15 a16 a17 x0 x1 x2 x3 x4) (ix2 u r) = mass (prb x0 x1 x2 x3 x4 11) 23 u r :=
  mass_next (mass11_22 hp) (prb11_23 hp) u r

theorem row11 (hp : Positive x1 x4) (r : Fin 512) (d : Fin 128) : (v6982 c a2 h2 a3 h3 a4 h4 a5 h5 a6 h6 a7 h7 a10 a11 a12 a13 a14 a15 a16 a17 a18 x0 x1 x2 x3 x4 x5) (ix3 0 r d) = row x0 x1 x2 x3 x4 x5 11 r d :=
  rows_apply (product1536_apply (value_read (by omega)) (fun s r => (codes_start (by omega) (by omega) s r).trans (codes_step (codes_apply (prb11_23 hp)) s.isLt fun _ =>
      codes_step (codes_apply (prb11_22 hp)) (by omega) fun _ =>
      codes_step (codes_apply (prb11_21 hp)) (by omega) fun _ =>
      codes_step (codes_apply (prb11_20 hp)) (by omega) fun _ =>
      codes_step (codes_apply (prb11_19 hp)) (by omega) fun _ =>
      codes_step (codes_apply (prb11_18 hp)) (by omega) fun _ =>
      codes_step (codes_apply (prb11_17 hp)) (by omega) fun _ =>
      codes_step (codes_apply (prb11_16 hp)) (by omega) fun _ =>
      codes_step (codes_apply (prb11_15 hp)) (by omega) fun _ =>
      codes_step (codes_apply (prb11_14 hp)) (by omega) fun _ =>
      codes_step (codes_apply (prb11_13 hp)) (by omega) fun _ =>
      codes_step (codes_apply (prb11_12 hp)) (by omega) fun _ =>
      codes_step (codes_apply (prb11_11 hp)) (by omega) fun _ =>
      codes_step (codes_apply (prb11_10 hp)) (by omega) fun _ =>
      codes_step (codes_apply (prb11_9 hp)) (by omega) fun _ =>
      codes_step (codes_apply (prb11_8 hp)) (by omega) fun _ =>
      codes_step (codes_apply (prb11_7 hp)) (by omega) fun _ =>
      codes_step (codes_apply (prb11_6 hp)) (by omega) fun _ =>
      codes_step (codes_apply (prb11_5 hp)) (by omega) fun _ =>
      codes_step (codes_apply (prb11_4 hp)) (by omega) fun _ =>
      codes_step (codes_apply (prb11_3 hp)) (by omega) fun _ =>
      codes_step (codes_apply (prb11_2 hp)) (by omega) fun _ =>
      codes_step (codes_apply (prb11_1 hp)) (by omega) fun _ =>
      codes_step (codes_apply (prb11_0 hp)) (by omega) fun _ =>
      absurd ‹_› (by omega)))) (mass11_23 hp) r d

theorem head11_0 (hp : Positive x1 x4) (t d : Fin 128) : (v6990 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 11 0 t d :=
  (head_apply _ _ t d).trans (congrArg₂ (· * ·) ((head_read (by omega) t d).trans ((row11 hp _ d).trans (congrArg (fun a => row x0 x1 x2 x3 x4 x5 11 a d) (Fin.ext (by dsimp only; omega))))) (valueScales d))

theorem head11_1 (hp : Positive x1 x4) (t d : Fin 128) : (v6998 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 11 1 t d :=
  (head_apply _ _ t d).trans (congrArg₂ (· * ·) ((head_read (by omega) t d).trans ((row11 hp _ d).trans (congrArg (fun a => row x0 x1 x2 x3 x4 x5 11 a d) (Fin.ext (by dsimp only; omega))))) (valueScales d))

theorem head11_2 (hp : Positive x1 x4) (t d : Fin 128) : (v7006 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 11 2 t d :=
  (head_apply _ _ t d).trans (congrArg₂ (· * ·) ((head_read (by omega) t d).trans ((row11 hp _ d).trans (congrArg (fun a => row x0 x1 x2 x3 x4 x5 11 a d) (Fin.ext (by dsimp only; omega))))) (valueScales d))

theorem head11_3 (hp : Positive x1 x4) (t d : Fin 128) : (v7014 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 11 3 t d :=
  (head_apply _ _ t d).trans (congrArg₂ (· * ·) ((head_read (by omega) t d).trans ((row11 hp _ d).trans (congrArg (fun a => row x0 x1 x2 x3 x4 x5 11 a d) (Fin.ext (by dsimp only; omega))))) (valueScales d))

/-! ## Query block 12 -/

theorem scores12_0 (s : Fin 512) (r : Fin 512) : (v7027 c a2 h2 a3 h3 a4 h4 a5 h5 a10 a11 a14 a15 x0 x1 x2 x3) (ix2 s r) = (score x0 x1 x2 x3 12 r (0 + s.val)) :=
  whole_apply (raw512_apply (keys8_read (by omega)) (keys16_read (by omega)) (query_read (by omega) (by omega)) (tile_apply (mean_read (by omega) (by omega)))) (by omega) s r

theorem scores12_1 (s : Fin 512) (r : Fin 512) : (v7115 c a2 h2 a3 h3 a4 h4 a5 h5 a10 a11 a14 a15 x0 x1 x2 x3) (ix2 s r) = (score x0 x1 x2 x3 12 r (512 + s.val)) :=
  whole_apply (raw512_apply (keys8_read (by omega)) (keys16_read (by omega)) (query_read (by omega) (by omega)) (tile_apply (mean_read (by omega) (by omega)))) (by omega) s r

theorem scores12_2 (s : Fin 512) (r : Fin 512) : (v7204 c a2 h2 a3 h3 a4 h4 a5 h5 a10 a11 a14 a15 x0 x1 x2 x3) (ix2 s r) = (score x0 x1 x2 x3 12 r (1024 + s.val)) :=
  whole_apply (raw512_apply (keys8_read (by omega)) (keys16_read (by omega)) (query_read (by omega) (by omega)) (tile_apply (mean_read (by omega) (by omega)))) (by omega) s r

theorem scores12_3 (s : Fin 128) (r : Fin 512) : (v7295 c a2 h2 a3 h3 a4 h4 a5 h5 a10 a11 a14 a15 x0 x1 x2 x3) (ix2 s r) = (score x0 x1 x2 x3 12 r (1536 + s.val)) :=
  mask_apply (raw128_apply (keys8_read (by omega)) (keys16_read (by omega)) (query_read (by omega) (by omega)) (tile_apply (mean_read (by omega) (by omega)))) (by omega) s r

theorem top12_0 (hp : Positive x1 x4) (u : Fin 8) (r : Fin 512) : (v7039 c a2 h2 a3 h3 a4 h4 a5 h5 a6 h6 a10 a11 a12 a14 a15 a16 x0 x1 x2 x3 x4) (ix2 u r) = top (logit x0 x1 x2 x3 x4 12) 0 u r :=
  top_first (hp 12) (cut512_apply scores12_0 (by omega)) (queryScale_read (by omega) (by omega)) (keyScale_read (by omega)) u r

theorem top12_1 (hp : Positive x1 x4) (u : Fin 8) (r : Fin 512) : (v7049 c a2 h2 a3 h3 a4 h4 a5 h5 a6 h6 a10 a11 a12 a14 a15 a16 x0 x1 x2 x3 x4) (ix2 u r) = top (logit x0 x1 x2 x3 x4 12) 1 u r :=
  top_next (hp 12) (top12_0 hp) (cut512_apply scores12_0 (by omega)) (queryScale_read (by omega) (by omega)) (keyScale_read (by omega)) u r

theorem top12_2 (hp : Positive x1 x4) (u : Fin 8) (r : Fin 512) : (v7059 c a2 h2 a3 h3 a4 h4 a5 h5 a6 h6 a10 a11 a12 a14 a15 a16 x0 x1 x2 x3 x4) (ix2 u r) = top (logit x0 x1 x2 x3 x4 12) 2 u r :=
  top_next (hp 12) (top12_1 hp) (cut512_apply scores12_0 (by omega)) (queryScale_read (by omega) (by omega)) (keyScale_read (by omega)) u r

theorem top12_3 (hp : Positive x1 x4) (u : Fin 8) (r : Fin 512) : (v7069 c a2 h2 a3 h3 a4 h4 a5 h5 a6 h6 a10 a11 a12 a14 a15 a16 x0 x1 x2 x3 x4) (ix2 u r) = top (logit x0 x1 x2 x3 x4 12) 3 u r :=
  top_next (hp 12) (top12_2 hp) (cut512_apply scores12_0 (by omega)) (queryScale_read (by omega) (by omega)) (keyScale_read (by omega)) u r

theorem top12_4 (hp : Positive x1 x4) (u : Fin 8) (r : Fin 512) : (v7079 c a2 h2 a3 h3 a4 h4 a5 h5 a6 h6 a10 a11 a12 a14 a15 a16 x0 x1 x2 x3 x4) (ix2 u r) = top (logit x0 x1 x2 x3 x4 12) 4 u r :=
  top_next (hp 12) (top12_3 hp) (cut512_apply scores12_0 (by omega)) (queryScale_read (by omega) (by omega)) (keyScale_read (by omega)) u r

theorem top12_5 (hp : Positive x1 x4) (u : Fin 8) (r : Fin 512) : (v7089 c a2 h2 a3 h3 a4 h4 a5 h5 a6 h6 a10 a11 a12 a14 a15 a16 x0 x1 x2 x3 x4) (ix2 u r) = top (logit x0 x1 x2 x3 x4 12) 5 u r :=
  top_next (hp 12) (top12_4 hp) (cut512_apply scores12_0 (by omega)) (queryScale_read (by omega) (by omega)) (keyScale_read (by omega)) u r

theorem top12_6 (hp : Positive x1 x4) (u : Fin 8) (r : Fin 512) : (v7099 c a2 h2 a3 h3 a4 h4 a5 h5 a6 h6 a10 a11 a12 a14 a15 a16 x0 x1 x2 x3 x4) (ix2 u r) = top (logit x0 x1 x2 x3 x4 12) 6 u r :=
  top_next (hp 12) (top12_5 hp) (cut512_apply scores12_0 (by omega)) (queryScale_read (by omega) (by omega)) (keyScale_read (by omega)) u r

theorem top12_7 (hp : Positive x1 x4) (u : Fin 8) (r : Fin 512) : (v7109 c a2 h2 a3 h3 a4 h4 a5 h5 a6 h6 a10 a11 a12 a14 a15 a16 x0 x1 x2 x3 x4) (ix2 u r) = top (logit x0 x1 x2 x3 x4 12) 7 u r :=
  top_next (hp 12) (top12_6 hp) (cut512_apply scores12_0 (by omega)) (queryScale_read (by omega) (by omega)) (keyScale_read (by omega)) u r

theorem top12_8 (hp : Positive x1 x4) (u : Fin 8) (r : Fin 512) : (v7128 c a2 h2 a3 h3 a4 h4 a5 h5 a6 h6 a10 a11 a12 a14 a15 a16 x0 x1 x2 x3 x4) (ix2 u r) = top (logit x0 x1 x2 x3 x4 12) 8 u r :=
  top_next (hp 12) (top12_7 hp) (cut512_apply scores12_1 (by omega)) (queryScale_read (by omega) (by omega)) (keyScale_read (by omega)) u r

theorem top12_9 (hp : Positive x1 x4) (u : Fin 8) (r : Fin 512) : (v7138 c a2 h2 a3 h3 a4 h4 a5 h5 a6 h6 a10 a11 a12 a14 a15 a16 x0 x1 x2 x3 x4) (ix2 u r) = top (logit x0 x1 x2 x3 x4 12) 9 u r :=
  top_next (hp 12) (top12_8 hp) (cut512_apply scores12_1 (by omega)) (queryScale_read (by omega) (by omega)) (keyScale_read (by omega)) u r

theorem top12_10 (hp : Positive x1 x4) (u : Fin 8) (r : Fin 512) : (v7148 c a2 h2 a3 h3 a4 h4 a5 h5 a6 h6 a10 a11 a12 a14 a15 a16 x0 x1 x2 x3 x4) (ix2 u r) = top (logit x0 x1 x2 x3 x4 12) 10 u r :=
  top_next (hp 12) (top12_9 hp) (cut512_apply scores12_1 (by omega)) (queryScale_read (by omega) (by omega)) (keyScale_read (by omega)) u r

theorem top12_11 (hp : Positive x1 x4) (u : Fin 8) (r : Fin 512) : (v7158 c a2 h2 a3 h3 a4 h4 a5 h5 a6 h6 a10 a11 a12 a14 a15 a16 x0 x1 x2 x3 x4) (ix2 u r) = top (logit x0 x1 x2 x3 x4 12) 11 u r :=
  top_next (hp 12) (top12_10 hp) (cut512_apply scores12_1 (by omega)) (queryScale_read (by omega) (by omega)) (keyScale_read (by omega)) u r

theorem top12_12 (hp : Positive x1 x4) (u : Fin 8) (r : Fin 512) : (v7168 c a2 h2 a3 h3 a4 h4 a5 h5 a6 h6 a10 a11 a12 a14 a15 a16 x0 x1 x2 x3 x4) (ix2 u r) = top (logit x0 x1 x2 x3 x4 12) 12 u r :=
  top_next (hp 12) (top12_11 hp) (cut512_apply scores12_1 (by omega)) (queryScale_read (by omega) (by omega)) (keyScale_read (by omega)) u r

theorem top12_13 (hp : Positive x1 x4) (u : Fin 8) (r : Fin 512) : (v7178 c a2 h2 a3 h3 a4 h4 a5 h5 a6 h6 a10 a11 a12 a14 a15 a16 x0 x1 x2 x3 x4) (ix2 u r) = top (logit x0 x1 x2 x3 x4 12) 13 u r :=
  top_next (hp 12) (top12_12 hp) (cut512_apply scores12_1 (by omega)) (queryScale_read (by omega) (by omega)) (keyScale_read (by omega)) u r

theorem top12_14 (hp : Positive x1 x4) (u : Fin 8) (r : Fin 512) : (v7188 c a2 h2 a3 h3 a4 h4 a5 h5 a6 h6 a10 a11 a12 a14 a15 a16 x0 x1 x2 x3 x4) (ix2 u r) = top (logit x0 x1 x2 x3 x4 12) 14 u r :=
  top_next (hp 12) (top12_13 hp) (cut512_apply scores12_1 (by omega)) (queryScale_read (by omega) (by omega)) (keyScale_read (by omega)) u r

theorem top12_15 (hp : Positive x1 x4) (u : Fin 8) (r : Fin 512) : (v7198 c a2 h2 a3 h3 a4 h4 a5 h5 a6 h6 a10 a11 a12 a14 a15 a16 x0 x1 x2 x3 x4) (ix2 u r) = top (logit x0 x1 x2 x3 x4 12) 15 u r :=
  top_next (hp 12) (top12_14 hp) (cut512_apply scores12_1 (by omega)) (queryScale_read (by omega) (by omega)) (keyScale_read (by omega)) u r

theorem top12_16 (hp : Positive x1 x4) (u : Fin 8) (r : Fin 512) : (v7217 c a2 h2 a3 h3 a4 h4 a5 h5 a6 h6 a10 a11 a12 a14 a15 a16 x0 x1 x2 x3 x4) (ix2 u r) = top (logit x0 x1 x2 x3 x4 12) 16 u r :=
  top_next (hp 12) (top12_15 hp) (cut512_apply scores12_2 (by omega)) (queryScale_read (by omega) (by omega)) (keyScale_read (by omega)) u r

theorem top12_17 (hp : Positive x1 x4) (u : Fin 8) (r : Fin 512) : (v7227 c a2 h2 a3 h3 a4 h4 a5 h5 a6 h6 a10 a11 a12 a14 a15 a16 x0 x1 x2 x3 x4) (ix2 u r) = top (logit x0 x1 x2 x3 x4 12) 17 u r :=
  top_next (hp 12) (top12_16 hp) (cut512_apply scores12_2 (by omega)) (queryScale_read (by omega) (by omega)) (keyScale_read (by omega)) u r

theorem top12_18 (hp : Positive x1 x4) (u : Fin 8) (r : Fin 512) : (v7237 c a2 h2 a3 h3 a4 h4 a5 h5 a6 h6 a10 a11 a12 a14 a15 a16 x0 x1 x2 x3 x4) (ix2 u r) = top (logit x0 x1 x2 x3 x4 12) 18 u r :=
  top_next (hp 12) (top12_17 hp) (cut512_apply scores12_2 (by omega)) (queryScale_read (by omega) (by omega)) (keyScale_read (by omega)) u r

theorem top12_19 (hp : Positive x1 x4) (u : Fin 8) (r : Fin 512) : (v7247 c a2 h2 a3 h3 a4 h4 a5 h5 a6 h6 a10 a11 a12 a14 a15 a16 x0 x1 x2 x3 x4) (ix2 u r) = top (logit x0 x1 x2 x3 x4 12) 19 u r :=
  top_next (hp 12) (top12_18 hp) (cut512_apply scores12_2 (by omega)) (queryScale_read (by omega) (by omega)) (keyScale_read (by omega)) u r

theorem top12_20 (hp : Positive x1 x4) (u : Fin 8) (r : Fin 512) : (v7257 c a2 h2 a3 h3 a4 h4 a5 h5 a6 h6 a10 a11 a12 a14 a15 a16 x0 x1 x2 x3 x4) (ix2 u r) = top (logit x0 x1 x2 x3 x4 12) 20 u r :=
  top_next (hp 12) (top12_19 hp) (cut512_apply scores12_2 (by omega)) (queryScale_read (by omega) (by omega)) (keyScale_read (by omega)) u r

theorem top12_21 (hp : Positive x1 x4) (u : Fin 8) (r : Fin 512) : (v7267 c a2 h2 a3 h3 a4 h4 a5 h5 a6 h6 a10 a11 a12 a14 a15 a16 x0 x1 x2 x3 x4) (ix2 u r) = top (logit x0 x1 x2 x3 x4 12) 21 u r :=
  top_next (hp 12) (top12_20 hp) (cut512_apply scores12_2 (by omega)) (queryScale_read (by omega) (by omega)) (keyScale_read (by omega)) u r

theorem top12_22 (hp : Positive x1 x4) (u : Fin 8) (r : Fin 512) : (v7277 c a2 h2 a3 h3 a4 h4 a5 h5 a6 h6 a10 a11 a12 a14 a15 a16 x0 x1 x2 x3 x4) (ix2 u r) = top (logit x0 x1 x2 x3 x4 12) 22 u r :=
  top_next (hp 12) (top12_21 hp) (cut512_apply scores12_2 (by omega)) (queryScale_read (by omega) (by omega)) (keyScale_read (by omega)) u r

theorem top12_23 (hp : Positive x1 x4) (u : Fin 8) (r : Fin 512) : (v7287 c a2 h2 a3 h3 a4 h4 a5 h5 a6 h6 a10 a11 a12 a14 a15 a16 x0 x1 x2 x3 x4) (ix2 u r) = top (logit x0 x1 x2 x3 x4 12) 23 u r :=
  top_next (hp 12) (top12_22 hp) (cut512_apply scores12_2 (by omega)) (queryScale_read (by omega) (by omega)) (keyScale_read (by omega)) u r

theorem top12_24 (hp : Positive x1 x4) (u : Fin 8) (r : Fin 512) : (v7308 c a2 h2 a3 h3 a4 h4 a5 h5 a6 h6 a10 a11 a12 a14 a15 a16 x0 x1 x2 x3 x4) (ix2 u r) = top (logit x0 x1 x2 x3 x4 12) 24 u r :=
  top_next (hp 12) (top12_23 hp) (cut128_apply scores12_3 (by omega)) (queryScale_read (by omega) (by omega)) (keyScale_read (by omega)) u r

theorem top12_25 (hp : Positive x1 x4) (u : Fin 8) (r : Fin 512) : (v7318 c a2 h2 a3 h3 a4 h4 a5 h5 a6 h6 a10 a11 a12 a14 a15 a16 x0 x1 x2 x3 x4) (ix2 u r) = top (logit x0 x1 x2 x3 x4 12) 25 u r :=
  top_next (hp 12) (top12_24 hp) (cut128_apply scores12_3 (by omega)) (queryScale_read (by omega) (by omega)) (keyScale_read (by omega)) u r

theorem shift12 (hp : Positive x1 x4) (r : Fin 512) : (v7322 c a2 h2 a3 h3 a4 h4 a5 h5 a6 h6 a10 a11 a12 a14 a15 a16 x0 x1 x2 x3 x4) (ix2 0 r) = shift (logit x0 x1 x2 x3 x4 12) 25 r :=
  shift_apply (top12_25 hp) r

theorem prb12_0 (hp : Positive x1 x4) (s : Fin 64) (r : Fin 512) : (v7338 c a2 h2 a3 h3 a4 h4 a5 h5 a6 h6 a10 a11 a12 a14 a15 a16 a17 x0 x1 x2 x3 x4) (ix2 s r) = prb x0 x1 x2 x3 x4 12 r (0 + s.val) :=
  prob_apply (g := 0) (fun s r => scores_skip (by omega) (scores_skip (by omega) (scores_skip (by omega) (scores_hit (by omega) (by omega) (store512_apply scores12_0) s r)))) (queryScale_read (by omega) (by omega)) (keyScale_read (by omega)) (shift12 hp) s r

theorem mass12_0 (hp : Positive x1 x4) (u : Fin 8) (r : Fin 512) : (v7341 c a2 h2 a3 h3 a4 h4 a5 h5 a6 h6 a10 a11 a12 a14 a15 a16 a17 x0 x1 x2 x3 x4) (ix2 u r) = mass (prb x0 x1 x2 x3 x4 12) 0 u r :=
  mass_first (prb12_0 hp) u r

theorem prb12_1 (hp : Positive x1 x4) (s : Fin 64) (r : Fin 512) : (v7364 c a2 h2 a3 h3 a4 h4 a5 h5 a6 h6 a10 a11 a12 a14 a15 a16 a17 x0 x1 x2 x3 x4) (ix2 s r) = prb x0 x1 x2 x3 x4 12 r (64 + s.val) :=
  prob_apply (g := 1) (fun s r => scores_skip (by omega) (scores_skip (by omega) (scores_skip (by omega) (scores_hit (by omega) (by omega) (store512_apply scores12_0) s r)))) (queryScale_read (by omega) (by omega)) (keyScale_read (by omega)) (shift12 hp) s r

theorem mass12_1 (hp : Positive x1 x4) (u : Fin 8) (r : Fin 512) : (v7367 c a2 h2 a3 h3 a4 h4 a5 h5 a6 h6 a10 a11 a12 a14 a15 a16 a17 x0 x1 x2 x3 x4) (ix2 u r) = mass (prb x0 x1 x2 x3 x4 12) 1 u r :=
  mass_next (mass12_0 hp) (prb12_1 hp) u r

theorem prb12_2 (hp : Positive x1 x4) (s : Fin 64) (r : Fin 512) : (v7390 c a2 h2 a3 h3 a4 h4 a5 h5 a6 h6 a10 a11 a12 a14 a15 a16 a17 x0 x1 x2 x3 x4) (ix2 s r) = prb x0 x1 x2 x3 x4 12 r (128 + s.val) :=
  prob_apply (g := 2) (fun s r => scores_skip (by omega) (scores_skip (by omega) (scores_skip (by omega) (scores_hit (by omega) (by omega) (store512_apply scores12_0) s r)))) (queryScale_read (by omega) (by omega)) (keyScale_read (by omega)) (shift12 hp) s r

theorem mass12_2 (hp : Positive x1 x4) (u : Fin 8) (r : Fin 512) : (v7393 c a2 h2 a3 h3 a4 h4 a5 h5 a6 h6 a10 a11 a12 a14 a15 a16 a17 x0 x1 x2 x3 x4) (ix2 u r) = mass (prb x0 x1 x2 x3 x4 12) 2 u r :=
  mass_next (mass12_1 hp) (prb12_2 hp) u r

theorem prb12_3 (hp : Positive x1 x4) (s : Fin 64) (r : Fin 512) : (v7416 c a2 h2 a3 h3 a4 h4 a5 h5 a6 h6 a10 a11 a12 a14 a15 a16 a17 x0 x1 x2 x3 x4) (ix2 s r) = prb x0 x1 x2 x3 x4 12 r (192 + s.val) :=
  prob_apply (g := 3) (fun s r => scores_skip (by omega) (scores_skip (by omega) (scores_skip (by omega) (scores_hit (by omega) (by omega) (store512_apply scores12_0) s r)))) (queryScale_read (by omega) (by omega)) (keyScale_read (by omega)) (shift12 hp) s r

theorem mass12_3 (hp : Positive x1 x4) (u : Fin 8) (r : Fin 512) : (v7419 c a2 h2 a3 h3 a4 h4 a5 h5 a6 h6 a10 a11 a12 a14 a15 a16 a17 x0 x1 x2 x3 x4) (ix2 u r) = mass (prb x0 x1 x2 x3 x4 12) 3 u r :=
  mass_next (mass12_2 hp) (prb12_3 hp) u r

theorem prb12_4 (hp : Positive x1 x4) (s : Fin 64) (r : Fin 512) : (v7442 c a2 h2 a3 h3 a4 h4 a5 h5 a6 h6 a10 a11 a12 a14 a15 a16 a17 x0 x1 x2 x3 x4) (ix2 s r) = prb x0 x1 x2 x3 x4 12 r (256 + s.val) :=
  prob_apply (g := 4) (fun s r => scores_skip (by omega) (scores_skip (by omega) (scores_skip (by omega) (scores_hit (by omega) (by omega) (store512_apply scores12_0) s r)))) (queryScale_read (by omega) (by omega)) (keyScale_read (by omega)) (shift12 hp) s r

theorem mass12_4 (hp : Positive x1 x4) (u : Fin 8) (r : Fin 512) : (v7445 c a2 h2 a3 h3 a4 h4 a5 h5 a6 h6 a10 a11 a12 a14 a15 a16 a17 x0 x1 x2 x3 x4) (ix2 u r) = mass (prb x0 x1 x2 x3 x4 12) 4 u r :=
  mass_next (mass12_3 hp) (prb12_4 hp) u r

theorem prb12_5 (hp : Positive x1 x4) (s : Fin 64) (r : Fin 512) : (v7468 c a2 h2 a3 h3 a4 h4 a5 h5 a6 h6 a10 a11 a12 a14 a15 a16 a17 x0 x1 x2 x3 x4) (ix2 s r) = prb x0 x1 x2 x3 x4 12 r (320 + s.val) :=
  prob_apply (g := 5) (fun s r => scores_skip (by omega) (scores_skip (by omega) (scores_skip (by omega) (scores_hit (by omega) (by omega) (store512_apply scores12_0) s r)))) (queryScale_read (by omega) (by omega)) (keyScale_read (by omega)) (shift12 hp) s r

theorem mass12_5 (hp : Positive x1 x4) (u : Fin 8) (r : Fin 512) : (v7471 c a2 h2 a3 h3 a4 h4 a5 h5 a6 h6 a10 a11 a12 a14 a15 a16 a17 x0 x1 x2 x3 x4) (ix2 u r) = mass (prb x0 x1 x2 x3 x4 12) 5 u r :=
  mass_next (mass12_4 hp) (prb12_5 hp) u r

theorem prb12_6 (hp : Positive x1 x4) (s : Fin 64) (r : Fin 512) : (v7494 c a2 h2 a3 h3 a4 h4 a5 h5 a6 h6 a10 a11 a12 a14 a15 a16 a17 x0 x1 x2 x3 x4) (ix2 s r) = prb x0 x1 x2 x3 x4 12 r (384 + s.val) :=
  prob_apply (g := 6) (fun s r => scores_skip (by omega) (scores_skip (by omega) (scores_skip (by omega) (scores_hit (by omega) (by omega) (store512_apply scores12_0) s r)))) (queryScale_read (by omega) (by omega)) (keyScale_read (by omega)) (shift12 hp) s r

theorem mass12_6 (hp : Positive x1 x4) (u : Fin 8) (r : Fin 512) : (v7497 c a2 h2 a3 h3 a4 h4 a5 h5 a6 h6 a10 a11 a12 a14 a15 a16 a17 x0 x1 x2 x3 x4) (ix2 u r) = mass (prb x0 x1 x2 x3 x4 12) 6 u r :=
  mass_next (mass12_5 hp) (prb12_6 hp) u r

theorem prb12_7 (hp : Positive x1 x4) (s : Fin 64) (r : Fin 512) : (v7520 c a2 h2 a3 h3 a4 h4 a5 h5 a6 h6 a10 a11 a12 a14 a15 a16 a17 x0 x1 x2 x3 x4) (ix2 s r) = prb x0 x1 x2 x3 x4 12 r (448 + s.val) :=
  prob_apply (g := 7) (fun s r => scores_skip (by omega) (scores_skip (by omega) (scores_skip (by omega) (scores_hit (by omega) (by omega) (store512_apply scores12_0) s r)))) (queryScale_read (by omega) (by omega)) (keyScale_read (by omega)) (shift12 hp) s r

theorem mass12_7 (hp : Positive x1 x4) (u : Fin 8) (r : Fin 512) : (v7523 c a2 h2 a3 h3 a4 h4 a5 h5 a6 h6 a10 a11 a12 a14 a15 a16 a17 x0 x1 x2 x3 x4) (ix2 u r) = mass (prb x0 x1 x2 x3 x4 12) 7 u r :=
  mass_next (mass12_6 hp) (prb12_7 hp) u r

theorem prb12_8 (hp : Positive x1 x4) (s : Fin 64) (r : Fin 512) : (v7546 c a2 h2 a3 h3 a4 h4 a5 h5 a6 h6 a10 a11 a12 a14 a15 a16 a17 x0 x1 x2 x3 x4) (ix2 s r) = prb x0 x1 x2 x3 x4 12 r (512 + s.val) :=
  prob_apply (g := 8) (fun s r => scores_skip (by omega) (scores_skip (by omega) (scores_hit (by omega) (by omega) (store512_apply scores12_1) s r))) (queryScale_read (by omega) (by omega)) (keyScale_read (by omega)) (shift12 hp) s r

theorem mass12_8 (hp : Positive x1 x4) (u : Fin 8) (r : Fin 512) : (v7549 c a2 h2 a3 h3 a4 h4 a5 h5 a6 h6 a10 a11 a12 a14 a15 a16 a17 x0 x1 x2 x3 x4) (ix2 u r) = mass (prb x0 x1 x2 x3 x4 12) 8 u r :=
  mass_next (mass12_7 hp) (prb12_8 hp) u r

theorem prb12_9 (hp : Positive x1 x4) (s : Fin 64) (r : Fin 512) : (v7572 c a2 h2 a3 h3 a4 h4 a5 h5 a6 h6 a10 a11 a12 a14 a15 a16 a17 x0 x1 x2 x3 x4) (ix2 s r) = prb x0 x1 x2 x3 x4 12 r (576 + s.val) :=
  prob_apply (g := 9) (fun s r => scores_skip (by omega) (scores_skip (by omega) (scores_hit (by omega) (by omega) (store512_apply scores12_1) s r))) (queryScale_read (by omega) (by omega)) (keyScale_read (by omega)) (shift12 hp) s r

theorem mass12_9 (hp : Positive x1 x4) (u : Fin 8) (r : Fin 512) : (v7575 c a2 h2 a3 h3 a4 h4 a5 h5 a6 h6 a10 a11 a12 a14 a15 a16 a17 x0 x1 x2 x3 x4) (ix2 u r) = mass (prb x0 x1 x2 x3 x4 12) 9 u r :=
  mass_next (mass12_8 hp) (prb12_9 hp) u r

theorem prb12_10 (hp : Positive x1 x4) (s : Fin 64) (r : Fin 512) : (v7598 c a2 h2 a3 h3 a4 h4 a5 h5 a6 h6 a10 a11 a12 a14 a15 a16 a17 x0 x1 x2 x3 x4) (ix2 s r) = prb x0 x1 x2 x3 x4 12 r (640 + s.val) :=
  prob_apply (g := 10) (fun s r => scores_skip (by omega) (scores_skip (by omega) (scores_hit (by omega) (by omega) (store512_apply scores12_1) s r))) (queryScale_read (by omega) (by omega)) (keyScale_read (by omega)) (shift12 hp) s r

theorem mass12_10 (hp : Positive x1 x4) (u : Fin 8) (r : Fin 512) : (v7601 c a2 h2 a3 h3 a4 h4 a5 h5 a6 h6 a10 a11 a12 a14 a15 a16 a17 x0 x1 x2 x3 x4) (ix2 u r) = mass (prb x0 x1 x2 x3 x4 12) 10 u r :=
  mass_next (mass12_9 hp) (prb12_10 hp) u r

theorem prb12_11 (hp : Positive x1 x4) (s : Fin 64) (r : Fin 512) : (v7624 c a2 h2 a3 h3 a4 h4 a5 h5 a6 h6 a10 a11 a12 a14 a15 a16 a17 x0 x1 x2 x3 x4) (ix2 s r) = prb x0 x1 x2 x3 x4 12 r (704 + s.val) :=
  prob_apply (g := 11) (fun s r => scores_skip (by omega) (scores_skip (by omega) (scores_hit (by omega) (by omega) (store512_apply scores12_1) s r))) (queryScale_read (by omega) (by omega)) (keyScale_read (by omega)) (shift12 hp) s r

theorem mass12_11 (hp : Positive x1 x4) (u : Fin 8) (r : Fin 512) : (v7627 c a2 h2 a3 h3 a4 h4 a5 h5 a6 h6 a10 a11 a12 a14 a15 a16 a17 x0 x1 x2 x3 x4) (ix2 u r) = mass (prb x0 x1 x2 x3 x4 12) 11 u r :=
  mass_next (mass12_10 hp) (prb12_11 hp) u r

theorem prb12_12 (hp : Positive x1 x4) (s : Fin 64) (r : Fin 512) : (v7650 c a2 h2 a3 h3 a4 h4 a5 h5 a6 h6 a10 a11 a12 a14 a15 a16 a17 x0 x1 x2 x3 x4) (ix2 s r) = prb x0 x1 x2 x3 x4 12 r (768 + s.val) :=
  prob_apply (g := 12) (fun s r => scores_skip (by omega) (scores_skip (by omega) (scores_hit (by omega) (by omega) (store512_apply scores12_1) s r))) (queryScale_read (by omega) (by omega)) (keyScale_read (by omega)) (shift12 hp) s r

theorem mass12_12 (hp : Positive x1 x4) (u : Fin 8) (r : Fin 512) : (v7653 c a2 h2 a3 h3 a4 h4 a5 h5 a6 h6 a10 a11 a12 a14 a15 a16 a17 x0 x1 x2 x3 x4) (ix2 u r) = mass (prb x0 x1 x2 x3 x4 12) 12 u r :=
  mass_next (mass12_11 hp) (prb12_12 hp) u r

theorem prb12_13 (hp : Positive x1 x4) (s : Fin 64) (r : Fin 512) : (v7676 c a2 h2 a3 h3 a4 h4 a5 h5 a6 h6 a10 a11 a12 a14 a15 a16 a17 x0 x1 x2 x3 x4) (ix2 s r) = prb x0 x1 x2 x3 x4 12 r (832 + s.val) :=
  prob_apply (g := 13) (fun s r => scores_skip (by omega) (scores_skip (by omega) (scores_hit (by omega) (by omega) (store512_apply scores12_1) s r))) (queryScale_read (by omega) (by omega)) (keyScale_read (by omega)) (shift12 hp) s r

theorem mass12_13 (hp : Positive x1 x4) (u : Fin 8) (r : Fin 512) : (v7679 c a2 h2 a3 h3 a4 h4 a5 h5 a6 h6 a10 a11 a12 a14 a15 a16 a17 x0 x1 x2 x3 x4) (ix2 u r) = mass (prb x0 x1 x2 x3 x4 12) 13 u r :=
  mass_next (mass12_12 hp) (prb12_13 hp) u r

theorem prb12_14 (hp : Positive x1 x4) (s : Fin 64) (r : Fin 512) : (v7702 c a2 h2 a3 h3 a4 h4 a5 h5 a6 h6 a10 a11 a12 a14 a15 a16 a17 x0 x1 x2 x3 x4) (ix2 s r) = prb x0 x1 x2 x3 x4 12 r (896 + s.val) :=
  prob_apply (g := 14) (fun s r => scores_skip (by omega) (scores_skip (by omega) (scores_hit (by omega) (by omega) (store512_apply scores12_1) s r))) (queryScale_read (by omega) (by omega)) (keyScale_read (by omega)) (shift12 hp) s r

theorem mass12_14 (hp : Positive x1 x4) (u : Fin 8) (r : Fin 512) : (v7705 c a2 h2 a3 h3 a4 h4 a5 h5 a6 h6 a10 a11 a12 a14 a15 a16 a17 x0 x1 x2 x3 x4) (ix2 u r) = mass (prb x0 x1 x2 x3 x4 12) 14 u r :=
  mass_next (mass12_13 hp) (prb12_14 hp) u r

theorem prb12_15 (hp : Positive x1 x4) (s : Fin 64) (r : Fin 512) : (v7728 c a2 h2 a3 h3 a4 h4 a5 h5 a6 h6 a10 a11 a12 a14 a15 a16 a17 x0 x1 x2 x3 x4) (ix2 s r) = prb x0 x1 x2 x3 x4 12 r (960 + s.val) :=
  prob_apply (g := 15) (fun s r => scores_skip (by omega) (scores_skip (by omega) (scores_hit (by omega) (by omega) (store512_apply scores12_1) s r))) (queryScale_read (by omega) (by omega)) (keyScale_read (by omega)) (shift12 hp) s r

theorem mass12_15 (hp : Positive x1 x4) (u : Fin 8) (r : Fin 512) : (v7731 c a2 h2 a3 h3 a4 h4 a5 h5 a6 h6 a10 a11 a12 a14 a15 a16 a17 x0 x1 x2 x3 x4) (ix2 u r) = mass (prb x0 x1 x2 x3 x4 12) 15 u r :=
  mass_next (mass12_14 hp) (prb12_15 hp) u r

theorem prb12_16 (hp : Positive x1 x4) (s : Fin 64) (r : Fin 512) : (v7754 c a2 h2 a3 h3 a4 h4 a5 h5 a6 h6 a10 a11 a12 a14 a15 a16 a17 x0 x1 x2 x3 x4) (ix2 s r) = prb x0 x1 x2 x3 x4 12 r (1024 + s.val) :=
  prob_apply (g := 16) (fun s r => scores_skip (by omega) (scores_hit (by omega) (by omega) (store512_apply scores12_2) s r)) (queryScale_read (by omega) (by omega)) (keyScale_read (by omega)) (shift12 hp) s r

theorem mass12_16 (hp : Positive x1 x4) (u : Fin 8) (r : Fin 512) : (v7757 c a2 h2 a3 h3 a4 h4 a5 h5 a6 h6 a10 a11 a12 a14 a15 a16 a17 x0 x1 x2 x3 x4) (ix2 u r) = mass (prb x0 x1 x2 x3 x4 12) 16 u r :=
  mass_next (mass12_15 hp) (prb12_16 hp) u r

theorem prb12_17 (hp : Positive x1 x4) (s : Fin 64) (r : Fin 512) : (v7780 c a2 h2 a3 h3 a4 h4 a5 h5 a6 h6 a10 a11 a12 a14 a15 a16 a17 x0 x1 x2 x3 x4) (ix2 s r) = prb x0 x1 x2 x3 x4 12 r (1088 + s.val) :=
  prob_apply (g := 17) (fun s r => scores_skip (by omega) (scores_hit (by omega) (by omega) (store512_apply scores12_2) s r)) (queryScale_read (by omega) (by omega)) (keyScale_read (by omega)) (shift12 hp) s r

theorem mass12_17 (hp : Positive x1 x4) (u : Fin 8) (r : Fin 512) : (v7783 c a2 h2 a3 h3 a4 h4 a5 h5 a6 h6 a10 a11 a12 a14 a15 a16 a17 x0 x1 x2 x3 x4) (ix2 u r) = mass (prb x0 x1 x2 x3 x4 12) 17 u r :=
  mass_next (mass12_16 hp) (prb12_17 hp) u r

theorem prb12_18 (hp : Positive x1 x4) (s : Fin 64) (r : Fin 512) : (v7806 c a2 h2 a3 h3 a4 h4 a5 h5 a6 h6 a10 a11 a12 a14 a15 a16 a17 x0 x1 x2 x3 x4) (ix2 s r) = prb x0 x1 x2 x3 x4 12 r (1152 + s.val) :=
  prob_apply (g := 18) (fun s r => scores_skip (by omega) (scores_hit (by omega) (by omega) (store512_apply scores12_2) s r)) (queryScale_read (by omega) (by omega)) (keyScale_read (by omega)) (shift12 hp) s r

theorem mass12_18 (hp : Positive x1 x4) (u : Fin 8) (r : Fin 512) : (v7809 c a2 h2 a3 h3 a4 h4 a5 h5 a6 h6 a10 a11 a12 a14 a15 a16 a17 x0 x1 x2 x3 x4) (ix2 u r) = mass (prb x0 x1 x2 x3 x4 12) 18 u r :=
  mass_next (mass12_17 hp) (prb12_18 hp) u r

theorem prb12_19 (hp : Positive x1 x4) (s : Fin 64) (r : Fin 512) : (v7832 c a2 h2 a3 h3 a4 h4 a5 h5 a6 h6 a10 a11 a12 a14 a15 a16 a17 x0 x1 x2 x3 x4) (ix2 s r) = prb x0 x1 x2 x3 x4 12 r (1216 + s.val) :=
  prob_apply (g := 19) (fun s r => scores_skip (by omega) (scores_hit (by omega) (by omega) (store512_apply scores12_2) s r)) (queryScale_read (by omega) (by omega)) (keyScale_read (by omega)) (shift12 hp) s r

theorem mass12_19 (hp : Positive x1 x4) (u : Fin 8) (r : Fin 512) : (v7835 c a2 h2 a3 h3 a4 h4 a5 h5 a6 h6 a10 a11 a12 a14 a15 a16 a17 x0 x1 x2 x3 x4) (ix2 u r) = mass (prb x0 x1 x2 x3 x4 12) 19 u r :=
  mass_next (mass12_18 hp) (prb12_19 hp) u r

theorem prb12_20 (hp : Positive x1 x4) (s : Fin 64) (r : Fin 512) : (v7858 c a2 h2 a3 h3 a4 h4 a5 h5 a6 h6 a10 a11 a12 a14 a15 a16 a17 x0 x1 x2 x3 x4) (ix2 s r) = prb x0 x1 x2 x3 x4 12 r (1280 + s.val) :=
  prob_apply (g := 20) (fun s r => scores_skip (by omega) (scores_hit (by omega) (by omega) (store512_apply scores12_2) s r)) (queryScale_read (by omega) (by omega)) (keyScale_read (by omega)) (shift12 hp) s r

theorem mass12_20 (hp : Positive x1 x4) (u : Fin 8) (r : Fin 512) : (v7861 c a2 h2 a3 h3 a4 h4 a5 h5 a6 h6 a10 a11 a12 a14 a15 a16 a17 x0 x1 x2 x3 x4) (ix2 u r) = mass (prb x0 x1 x2 x3 x4 12) 20 u r :=
  mass_next (mass12_19 hp) (prb12_20 hp) u r

theorem prb12_21 (hp : Positive x1 x4) (s : Fin 64) (r : Fin 512) : (v7884 c a2 h2 a3 h3 a4 h4 a5 h5 a6 h6 a10 a11 a12 a14 a15 a16 a17 x0 x1 x2 x3 x4) (ix2 s r) = prb x0 x1 x2 x3 x4 12 r (1344 + s.val) :=
  prob_apply (g := 21) (fun s r => scores_skip (by omega) (scores_hit (by omega) (by omega) (store512_apply scores12_2) s r)) (queryScale_read (by omega) (by omega)) (keyScale_read (by omega)) (shift12 hp) s r

theorem mass12_21 (hp : Positive x1 x4) (u : Fin 8) (r : Fin 512) : (v7887 c a2 h2 a3 h3 a4 h4 a5 h5 a6 h6 a10 a11 a12 a14 a15 a16 a17 x0 x1 x2 x3 x4) (ix2 u r) = mass (prb x0 x1 x2 x3 x4 12) 21 u r :=
  mass_next (mass12_20 hp) (prb12_21 hp) u r

theorem prb12_22 (hp : Positive x1 x4) (s : Fin 64) (r : Fin 512) : (v7910 c a2 h2 a3 h3 a4 h4 a5 h5 a6 h6 a10 a11 a12 a14 a15 a16 a17 x0 x1 x2 x3 x4) (ix2 s r) = prb x0 x1 x2 x3 x4 12 r (1408 + s.val) :=
  prob_apply (g := 22) (fun s r => scores_skip (by omega) (scores_hit (by omega) (by omega) (store512_apply scores12_2) s r)) (queryScale_read (by omega) (by omega)) (keyScale_read (by omega)) (shift12 hp) s r

theorem mass12_22 (hp : Positive x1 x4) (u : Fin 8) (r : Fin 512) : (v7913 c a2 h2 a3 h3 a4 h4 a5 h5 a6 h6 a10 a11 a12 a14 a15 a16 a17 x0 x1 x2 x3 x4) (ix2 u r) = mass (prb x0 x1 x2 x3 x4 12) 22 u r :=
  mass_next (mass12_21 hp) (prb12_22 hp) u r

theorem prb12_23 (hp : Positive x1 x4) (s : Fin 64) (r : Fin 512) : (v7936 c a2 h2 a3 h3 a4 h4 a5 h5 a6 h6 a10 a11 a12 a14 a15 a16 a17 x0 x1 x2 x3 x4) (ix2 s r) = prb x0 x1 x2 x3 x4 12 r (1472 + s.val) :=
  prob_apply (g := 23) (fun s r => scores_skip (by omega) (scores_hit (by omega) (by omega) (store512_apply scores12_2) s r)) (queryScale_read (by omega) (by omega)) (keyScale_read (by omega)) (shift12 hp) s r

theorem mass12_23 (hp : Positive x1 x4) (u : Fin 8) (r : Fin 512) : (v7939 c a2 h2 a3 h3 a4 h4 a5 h5 a6 h6 a10 a11 a12 a14 a15 a16 a17 x0 x1 x2 x3 x4) (ix2 u r) = mass (prb x0 x1 x2 x3 x4 12) 23 u r :=
  mass_next (mass12_22 hp) (prb12_23 hp) u r

theorem prb12_24 (hp : Positive x1 x4) (s : Fin 64) (r : Fin 512) : (v7962 c a2 h2 a3 h3 a4 h4 a5 h5 a6 h6 a10 a11 a12 a14 a15 a16 a17 x0 x1 x2 x3 x4) (ix2 s r) = prb x0 x1 x2 x3 x4 12 r (1536 + s.val) :=
  prob_apply (g := 24) (fun s r => scores_hit (by omega) (by omega) (store128_apply scores12_3) s r) (queryScale_read (by omega) (by omega)) (keyScale_read (by omega)) (shift12 hp) s r

theorem mass12_24 (hp : Positive x1 x4) (u : Fin 8) (r : Fin 512) : (v7965 c a2 h2 a3 h3 a4 h4 a5 h5 a6 h6 a10 a11 a12 a14 a15 a16 a17 x0 x1 x2 x3 x4) (ix2 u r) = mass (prb x0 x1 x2 x3 x4 12) 24 u r :=
  mass_next (mass12_23 hp) (prb12_24 hp) u r

theorem prb12_25 (hp : Positive x1 x4) (s : Fin 64) (r : Fin 512) : (v7988 c a2 h2 a3 h3 a4 h4 a5 h5 a6 h6 a10 a11 a12 a14 a15 a16 a17 x0 x1 x2 x3 x4) (ix2 s r) = prb x0 x1 x2 x3 x4 12 r (1600 + s.val) :=
  prob_apply (g := 25) (fun s r => scores_hit (by omega) (by omega) (store128_apply scores12_3) s r) (queryScale_read (by omega) (by omega)) (keyScale_read (by omega)) (shift12 hp) s r

theorem mass12_25 (hp : Positive x1 x4) (u : Fin 8) (r : Fin 512) : (v7991 c a2 h2 a3 h3 a4 h4 a5 h5 a6 h6 a10 a11 a12 a14 a15 a16 a17 x0 x1 x2 x3 x4) (ix2 u r) = mass (prb x0 x1 x2 x3 x4 12) 25 u r :=
  mass_next (mass12_24 hp) (prb12_25 hp) u r

theorem row12 (hp : Positive x1 x4) (r : Fin 512) (d : Fin 128) : (v8013 c a2 h2 a3 h3 a4 h4 a5 h5 a6 h6 a7 h7 a10 a11 a12 a13 a14 a15 a16 a17 a18 x0 x1 x2 x3 x4 x5) (ix3 0 r d) = row x0 x1 x2 x3 x4 x5 12 r d :=
  rows_apply (product1664_apply (value_read (by omega)) (fun s r => (codes_start (by omega) (by omega) s r).trans (codes_step (codes_apply (prb12_25 hp)) s.isLt fun _ =>
      codes_step (codes_apply (prb12_24 hp)) (by omega) fun _ =>
      codes_step (codes_apply (prb12_23 hp)) (by omega) fun _ =>
      codes_step (codes_apply (prb12_22 hp)) (by omega) fun _ =>
      codes_step (codes_apply (prb12_21 hp)) (by omega) fun _ =>
      codes_step (codes_apply (prb12_20 hp)) (by omega) fun _ =>
      codes_step (codes_apply (prb12_19 hp)) (by omega) fun _ =>
      codes_step (codes_apply (prb12_18 hp)) (by omega) fun _ =>
      codes_step (codes_apply (prb12_17 hp)) (by omega) fun _ =>
      codes_step (codes_apply (prb12_16 hp)) (by omega) fun _ =>
      codes_step (codes_apply (prb12_15 hp)) (by omega) fun _ =>
      codes_step (codes_apply (prb12_14 hp)) (by omega) fun _ =>
      codes_step (codes_apply (prb12_13 hp)) (by omega) fun _ =>
      codes_step (codes_apply (prb12_12 hp)) (by omega) fun _ =>
      codes_step (codes_apply (prb12_11 hp)) (by omega) fun _ =>
      codes_step (codes_apply (prb12_10 hp)) (by omega) fun _ =>
      codes_step (codes_apply (prb12_9 hp)) (by omega) fun _ =>
      codes_step (codes_apply (prb12_8 hp)) (by omega) fun _ =>
      codes_step (codes_apply (prb12_7 hp)) (by omega) fun _ =>
      codes_step (codes_apply (prb12_6 hp)) (by omega) fun _ =>
      codes_step (codes_apply (prb12_5 hp)) (by omega) fun _ =>
      codes_step (codes_apply (prb12_4 hp)) (by omega) fun _ =>
      codes_step (codes_apply (prb12_3 hp)) (by omega) fun _ =>
      codes_step (codes_apply (prb12_2 hp)) (by omega) fun _ =>
      codes_step (codes_apply (prb12_1 hp)) (by omega) fun _ =>
      codes_step (codes_apply (prb12_0 hp)) (by omega) fun _ =>
      absurd ‹_› (by omega)))) (mass12_25 hp) r d

theorem head12_0 (hp : Positive x1 x4) (t d : Fin 128) : (v8021 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 12 0 t d :=
  (head_apply _ _ t d).trans (congrArg₂ (· * ·) ((head_read (by omega) t d).trans ((row12 hp _ d).trans (congrArg (fun a => row x0 x1 x2 x3 x4 x5 12 a d) (Fin.ext (by dsimp only; omega))))) (valueScales d))

theorem head12_1 (hp : Positive x1 x4) (t d : Fin 128) : (v8029 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 12 1 t d :=
  (head_apply _ _ t d).trans (congrArg₂ (· * ·) ((head_read (by omega) t d).trans ((row12 hp _ d).trans (congrArg (fun a => row x0 x1 x2 x3 x4 x5 12 a d) (Fin.ext (by dsimp only; omega))))) (valueScales d))

theorem head12_2 (hp : Positive x1 x4) (t d : Fin 128) : (v8037 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 12 2 t d :=
  (head_apply _ _ t d).trans (congrArg₂ (· * ·) ((head_read (by omega) t d).trans ((row12 hp _ d).trans (congrArg (fun a => row x0 x1 x2 x3 x4 x5 12 a d) (Fin.ext (by dsimp only; omega))))) (valueScales d))

theorem head12_3 (hp : Positive x1 x4) (t d : Fin 128) : (v8045 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 12 3 t d :=
  (head_apply _ _ t d).trans (congrArg₂ (· * ·) ((head_read (by omega) t d).trans ((row12 hp _ d).trans (congrArg (fun a => row x0 x1 x2 x3 x4 x5 12 a d) (Fin.ext (by dsimp only; omega))))) (valueScales d))

/-! ## Query block 13 -/

theorem scores13_0 (s : Fin 512) (r : Fin 512) : (v8058 c a2 h2 a3 h3 a4 h4 a5 h5 a10 a11 a14 a15 x0 x1 x2 x3) (ix2 s r) = (score x0 x1 x2 x3 13 r (0 + s.val)) :=
  whole_apply (raw512_apply (keys8_read (by omega)) (keys16_read (by omega)) (query_read (by omega) (by omega)) (tile_apply (mean_read (by omega) (by omega)))) (by omega) s r

theorem scores13_1 (s : Fin 512) (r : Fin 512) : (v8146 c a2 h2 a3 h3 a4 h4 a5 h5 a10 a11 a14 a15 x0 x1 x2 x3) (ix2 s r) = (score x0 x1 x2 x3 13 r (512 + s.val)) :=
  whole_apply (raw512_apply (keys8_read (by omega)) (keys16_read (by omega)) (query_read (by omega) (by omega)) (tile_apply (mean_read (by omega) (by omega)))) (by omega) s r

theorem scores13_2 (s : Fin 512) (r : Fin 512) : (v8235 c a2 h2 a3 h3 a4 h4 a5 h5 a10 a11 a14 a15 x0 x1 x2 x3) (ix2 s r) = (score x0 x1 x2 x3 13 r (1024 + s.val)) :=
  whole_apply (raw512_apply (keys8_read (by omega)) (keys16_read (by omega)) (query_read (by omega) (by omega)) (tile_apply (mean_read (by omega) (by omega)))) (by omega) s r

theorem scores13_3 (s : Fin 256) (r : Fin 512) : (v8329 c a2 h2 a3 h3 a4 h4 a5 h5 a10 a11 a14 a15 x0 x1 x2 x3) (ix2 s r) = (score x0 x1 x2 x3 13 r (1536 + s.val)) :=
  tail256_apply (raw256_apply (keys8_read (by omega)) (keys16_read (by omega)) (query_read (by omega) (by omega)) (tile_apply (mean_read (by omega) (by omega)))) (by omega) s r

theorem top13_0 (hp : Positive x1 x4) (u : Fin 8) (r : Fin 512) : (v8070 c a2 h2 a3 h3 a4 h4 a5 h5 a6 h6 a10 a11 a12 a14 a15 a16 x0 x1 x2 x3 x4) (ix2 u r) = top (logit x0 x1 x2 x3 x4 13) 0 u r :=
  top_first (hp 13) (cut512_apply scores13_0 (by omega)) (queryScale_read (by omega) (by omega)) (keyScale_read (by omega)) u r

theorem top13_1 (hp : Positive x1 x4) (u : Fin 8) (r : Fin 512) : (v8080 c a2 h2 a3 h3 a4 h4 a5 h5 a6 h6 a10 a11 a12 a14 a15 a16 x0 x1 x2 x3 x4) (ix2 u r) = top (logit x0 x1 x2 x3 x4 13) 1 u r :=
  top_next (hp 13) (top13_0 hp) (cut512_apply scores13_0 (by omega)) (queryScale_read (by omega) (by omega)) (keyScale_read (by omega)) u r

theorem top13_2 (hp : Positive x1 x4) (u : Fin 8) (r : Fin 512) : (v8090 c a2 h2 a3 h3 a4 h4 a5 h5 a6 h6 a10 a11 a12 a14 a15 a16 x0 x1 x2 x3 x4) (ix2 u r) = top (logit x0 x1 x2 x3 x4 13) 2 u r :=
  top_next (hp 13) (top13_1 hp) (cut512_apply scores13_0 (by omega)) (queryScale_read (by omega) (by omega)) (keyScale_read (by omega)) u r

theorem top13_3 (hp : Positive x1 x4) (u : Fin 8) (r : Fin 512) : (v8100 c a2 h2 a3 h3 a4 h4 a5 h5 a6 h6 a10 a11 a12 a14 a15 a16 x0 x1 x2 x3 x4) (ix2 u r) = top (logit x0 x1 x2 x3 x4 13) 3 u r :=
  top_next (hp 13) (top13_2 hp) (cut512_apply scores13_0 (by omega)) (queryScale_read (by omega) (by omega)) (keyScale_read (by omega)) u r

theorem top13_4 (hp : Positive x1 x4) (u : Fin 8) (r : Fin 512) : (v8110 c a2 h2 a3 h3 a4 h4 a5 h5 a6 h6 a10 a11 a12 a14 a15 a16 x0 x1 x2 x3 x4) (ix2 u r) = top (logit x0 x1 x2 x3 x4 13) 4 u r :=
  top_next (hp 13) (top13_3 hp) (cut512_apply scores13_0 (by omega)) (queryScale_read (by omega) (by omega)) (keyScale_read (by omega)) u r

theorem top13_5 (hp : Positive x1 x4) (u : Fin 8) (r : Fin 512) : (v8120 c a2 h2 a3 h3 a4 h4 a5 h5 a6 h6 a10 a11 a12 a14 a15 a16 x0 x1 x2 x3 x4) (ix2 u r) = top (logit x0 x1 x2 x3 x4 13) 5 u r :=
  top_next (hp 13) (top13_4 hp) (cut512_apply scores13_0 (by omega)) (queryScale_read (by omega) (by omega)) (keyScale_read (by omega)) u r

theorem top13_6 (hp : Positive x1 x4) (u : Fin 8) (r : Fin 512) : (v8130 c a2 h2 a3 h3 a4 h4 a5 h5 a6 h6 a10 a11 a12 a14 a15 a16 x0 x1 x2 x3 x4) (ix2 u r) = top (logit x0 x1 x2 x3 x4 13) 6 u r :=
  top_next (hp 13) (top13_5 hp) (cut512_apply scores13_0 (by omega)) (queryScale_read (by omega) (by omega)) (keyScale_read (by omega)) u r

theorem top13_7 (hp : Positive x1 x4) (u : Fin 8) (r : Fin 512) : (v8140 c a2 h2 a3 h3 a4 h4 a5 h5 a6 h6 a10 a11 a12 a14 a15 a16 x0 x1 x2 x3 x4) (ix2 u r) = top (logit x0 x1 x2 x3 x4 13) 7 u r :=
  top_next (hp 13) (top13_6 hp) (cut512_apply scores13_0 (by omega)) (queryScale_read (by omega) (by omega)) (keyScale_read (by omega)) u r

theorem top13_8 (hp : Positive x1 x4) (u : Fin 8) (r : Fin 512) : (v8159 c a2 h2 a3 h3 a4 h4 a5 h5 a6 h6 a10 a11 a12 a14 a15 a16 x0 x1 x2 x3 x4) (ix2 u r) = top (logit x0 x1 x2 x3 x4 13) 8 u r :=
  top_next (hp 13) (top13_7 hp) (cut512_apply scores13_1 (by omega)) (queryScale_read (by omega) (by omega)) (keyScale_read (by omega)) u r

theorem top13_9 (hp : Positive x1 x4) (u : Fin 8) (r : Fin 512) : (v8169 c a2 h2 a3 h3 a4 h4 a5 h5 a6 h6 a10 a11 a12 a14 a15 a16 x0 x1 x2 x3 x4) (ix2 u r) = top (logit x0 x1 x2 x3 x4 13) 9 u r :=
  top_next (hp 13) (top13_8 hp) (cut512_apply scores13_1 (by omega)) (queryScale_read (by omega) (by omega)) (keyScale_read (by omega)) u r

theorem top13_10 (hp : Positive x1 x4) (u : Fin 8) (r : Fin 512) : (v8179 c a2 h2 a3 h3 a4 h4 a5 h5 a6 h6 a10 a11 a12 a14 a15 a16 x0 x1 x2 x3 x4) (ix2 u r) = top (logit x0 x1 x2 x3 x4 13) 10 u r :=
  top_next (hp 13) (top13_9 hp) (cut512_apply scores13_1 (by omega)) (queryScale_read (by omega) (by omega)) (keyScale_read (by omega)) u r

theorem top13_11 (hp : Positive x1 x4) (u : Fin 8) (r : Fin 512) : (v8189 c a2 h2 a3 h3 a4 h4 a5 h5 a6 h6 a10 a11 a12 a14 a15 a16 x0 x1 x2 x3 x4) (ix2 u r) = top (logit x0 x1 x2 x3 x4 13) 11 u r :=
  top_next (hp 13) (top13_10 hp) (cut512_apply scores13_1 (by omega)) (queryScale_read (by omega) (by omega)) (keyScale_read (by omega)) u r

theorem top13_12 (hp : Positive x1 x4) (u : Fin 8) (r : Fin 512) : (v8199 c a2 h2 a3 h3 a4 h4 a5 h5 a6 h6 a10 a11 a12 a14 a15 a16 x0 x1 x2 x3 x4) (ix2 u r) = top (logit x0 x1 x2 x3 x4 13) 12 u r :=
  top_next (hp 13) (top13_11 hp) (cut512_apply scores13_1 (by omega)) (queryScale_read (by omega) (by omega)) (keyScale_read (by omega)) u r

theorem top13_13 (hp : Positive x1 x4) (u : Fin 8) (r : Fin 512) : (v8209 c a2 h2 a3 h3 a4 h4 a5 h5 a6 h6 a10 a11 a12 a14 a15 a16 x0 x1 x2 x3 x4) (ix2 u r) = top (logit x0 x1 x2 x3 x4 13) 13 u r :=
  top_next (hp 13) (top13_12 hp) (cut512_apply scores13_1 (by omega)) (queryScale_read (by omega) (by omega)) (keyScale_read (by omega)) u r

theorem top13_14 (hp : Positive x1 x4) (u : Fin 8) (r : Fin 512) : (v8219 c a2 h2 a3 h3 a4 h4 a5 h5 a6 h6 a10 a11 a12 a14 a15 a16 x0 x1 x2 x3 x4) (ix2 u r) = top (logit x0 x1 x2 x3 x4 13) 14 u r :=
  top_next (hp 13) (top13_13 hp) (cut512_apply scores13_1 (by omega)) (queryScale_read (by omega) (by omega)) (keyScale_read (by omega)) u r

theorem top13_15 (hp : Positive x1 x4) (u : Fin 8) (r : Fin 512) : (v8229 c a2 h2 a3 h3 a4 h4 a5 h5 a6 h6 a10 a11 a12 a14 a15 a16 x0 x1 x2 x3 x4) (ix2 u r) = top (logit x0 x1 x2 x3 x4 13) 15 u r :=
  top_next (hp 13) (top13_14 hp) (cut512_apply scores13_1 (by omega)) (queryScale_read (by omega) (by omega)) (keyScale_read (by omega)) u r

theorem top13_16 (hp : Positive x1 x4) (u : Fin 8) (r : Fin 512) : (v8248 c a2 h2 a3 h3 a4 h4 a5 h5 a6 h6 a10 a11 a12 a14 a15 a16 x0 x1 x2 x3 x4) (ix2 u r) = top (logit x0 x1 x2 x3 x4 13) 16 u r :=
  top_next (hp 13) (top13_15 hp) (cut512_apply scores13_2 (by omega)) (queryScale_read (by omega) (by omega)) (keyScale_read (by omega)) u r

theorem top13_17 (hp : Positive x1 x4) (u : Fin 8) (r : Fin 512) : (v8258 c a2 h2 a3 h3 a4 h4 a5 h5 a6 h6 a10 a11 a12 a14 a15 a16 x0 x1 x2 x3 x4) (ix2 u r) = top (logit x0 x1 x2 x3 x4 13) 17 u r :=
  top_next (hp 13) (top13_16 hp) (cut512_apply scores13_2 (by omega)) (queryScale_read (by omega) (by omega)) (keyScale_read (by omega)) u r

theorem top13_18 (hp : Positive x1 x4) (u : Fin 8) (r : Fin 512) : (v8268 c a2 h2 a3 h3 a4 h4 a5 h5 a6 h6 a10 a11 a12 a14 a15 a16 x0 x1 x2 x3 x4) (ix2 u r) = top (logit x0 x1 x2 x3 x4 13) 18 u r :=
  top_next (hp 13) (top13_17 hp) (cut512_apply scores13_2 (by omega)) (queryScale_read (by omega) (by omega)) (keyScale_read (by omega)) u r

theorem top13_19 (hp : Positive x1 x4) (u : Fin 8) (r : Fin 512) : (v8278 c a2 h2 a3 h3 a4 h4 a5 h5 a6 h6 a10 a11 a12 a14 a15 a16 x0 x1 x2 x3 x4) (ix2 u r) = top (logit x0 x1 x2 x3 x4 13) 19 u r :=
  top_next (hp 13) (top13_18 hp) (cut512_apply scores13_2 (by omega)) (queryScale_read (by omega) (by omega)) (keyScale_read (by omega)) u r

theorem top13_20 (hp : Positive x1 x4) (u : Fin 8) (r : Fin 512) : (v8288 c a2 h2 a3 h3 a4 h4 a5 h5 a6 h6 a10 a11 a12 a14 a15 a16 x0 x1 x2 x3 x4) (ix2 u r) = top (logit x0 x1 x2 x3 x4 13) 20 u r :=
  top_next (hp 13) (top13_19 hp) (cut512_apply scores13_2 (by omega)) (queryScale_read (by omega) (by omega)) (keyScale_read (by omega)) u r

theorem top13_21 (hp : Positive x1 x4) (u : Fin 8) (r : Fin 512) : (v8298 c a2 h2 a3 h3 a4 h4 a5 h5 a6 h6 a10 a11 a12 a14 a15 a16 x0 x1 x2 x3 x4) (ix2 u r) = top (logit x0 x1 x2 x3 x4 13) 21 u r :=
  top_next (hp 13) (top13_20 hp) (cut512_apply scores13_2 (by omega)) (queryScale_read (by omega) (by omega)) (keyScale_read (by omega)) u r

theorem top13_22 (hp : Positive x1 x4) (u : Fin 8) (r : Fin 512) : (v8308 c a2 h2 a3 h3 a4 h4 a5 h5 a6 h6 a10 a11 a12 a14 a15 a16 x0 x1 x2 x3 x4) (ix2 u r) = top (logit x0 x1 x2 x3 x4 13) 22 u r :=
  top_next (hp 13) (top13_21 hp) (cut512_apply scores13_2 (by omega)) (queryScale_read (by omega) (by omega)) (keyScale_read (by omega)) u r

theorem top13_23 (hp : Positive x1 x4) (u : Fin 8) (r : Fin 512) : (v8318 c a2 h2 a3 h3 a4 h4 a5 h5 a6 h6 a10 a11 a12 a14 a15 a16 x0 x1 x2 x3 x4) (ix2 u r) = top (logit x0 x1 x2 x3 x4 13) 23 u r :=
  top_next (hp 13) (top13_22 hp) (cut512_apply scores13_2 (by omega)) (queryScale_read (by omega) (by omega)) (keyScale_read (by omega)) u r

theorem top13_24 (hp : Positive x1 x4) (u : Fin 8) (r : Fin 512) : (v8342 c a2 h2 a3 h3 a4 h4 a5 h5 a6 h6 a10 a11 a12 a14 a15 a16 x0 x1 x2 x3 x4) (ix2 u r) = top (logit x0 x1 x2 x3 x4 13) 24 u r :=
  top_next (hp 13) (top13_23 hp) (cut256_apply scores13_3 (by omega)) (queryScale_read (by omega) (by omega)) (keyScale_read (by omega)) u r

theorem top13_25 (hp : Positive x1 x4) (u : Fin 8) (r : Fin 512) : (v8352 c a2 h2 a3 h3 a4 h4 a5 h5 a6 h6 a10 a11 a12 a14 a15 a16 x0 x1 x2 x3 x4) (ix2 u r) = top (logit x0 x1 x2 x3 x4 13) 25 u r :=
  top_next (hp 13) (top13_24 hp) (cut256_apply scores13_3 (by omega)) (queryScale_read (by omega) (by omega)) (keyScale_read (by omega)) u r

theorem top13_26 (hp : Positive x1 x4) (u : Fin 8) (r : Fin 512) : (v8362 c a2 h2 a3 h3 a4 h4 a5 h5 a6 h6 a10 a11 a12 a14 a15 a16 x0 x1 x2 x3 x4) (ix2 u r) = top (logit x0 x1 x2 x3 x4 13) 26 u r :=
  top_next (hp 13) (top13_25 hp) (cut256_apply scores13_3 (by omega)) (queryScale_read (by omega) (by omega)) (keyScale_read (by omega)) u r

theorem top13_27 (hp : Positive x1 x4) (u : Fin 8) (r : Fin 512) : (v8372 c a2 h2 a3 h3 a4 h4 a5 h5 a6 h6 a10 a11 a12 a14 a15 a16 x0 x1 x2 x3 x4) (ix2 u r) = top (logit x0 x1 x2 x3 x4 13) 27 u r :=
  top_next (hp 13) (top13_26 hp) (cut256_apply scores13_3 (by omega)) (queryScale_read (by omega) (by omega)) (keyScale_read (by omega)) u r

theorem shift13 (hp : Positive x1 x4) (r : Fin 512) : (v8376 c a2 h2 a3 h3 a4 h4 a5 h5 a6 h6 a10 a11 a12 a14 a15 a16 x0 x1 x2 x3 x4) (ix2 0 r) = shift (logit x0 x1 x2 x3 x4 13) 27 r :=
  shift_apply (top13_27 hp) r

theorem prb13_0 (hp : Positive x1 x4) (s : Fin 64) (r : Fin 512) : (v8392 c a2 h2 a3 h3 a4 h4 a5 h5 a6 h6 a10 a11 a12 a14 a15 a16 a17 x0 x1 x2 x3 x4) (ix2 s r) = prb x0 x1 x2 x3 x4 13 r (0 + s.val) :=
  prob_apply (g := 0) (fun s r => scores_skip (by omega) (scores_skip (by omega) (scores_skip (by omega) (scores_hit (by omega) (by omega) (store512_apply scores13_0) s r)))) (queryScale_read (by omega) (by omega)) (keyScale_read (by omega)) (shift13 hp) s r

theorem mass13_0 (hp : Positive x1 x4) (u : Fin 8) (r : Fin 512) : (v8395 c a2 h2 a3 h3 a4 h4 a5 h5 a6 h6 a10 a11 a12 a14 a15 a16 a17 x0 x1 x2 x3 x4) (ix2 u r) = mass (prb x0 x1 x2 x3 x4 13) 0 u r :=
  mass_first (prb13_0 hp) u r

theorem prb13_1 (hp : Positive x1 x4) (s : Fin 64) (r : Fin 512) : (v8418 c a2 h2 a3 h3 a4 h4 a5 h5 a6 h6 a10 a11 a12 a14 a15 a16 a17 x0 x1 x2 x3 x4) (ix2 s r) = prb x0 x1 x2 x3 x4 13 r (64 + s.val) :=
  prob_apply (g := 1) (fun s r => scores_skip (by omega) (scores_skip (by omega) (scores_skip (by omega) (scores_hit (by omega) (by omega) (store512_apply scores13_0) s r)))) (queryScale_read (by omega) (by omega)) (keyScale_read (by omega)) (shift13 hp) s r

theorem mass13_1 (hp : Positive x1 x4) (u : Fin 8) (r : Fin 512) : (v8421 c a2 h2 a3 h3 a4 h4 a5 h5 a6 h6 a10 a11 a12 a14 a15 a16 a17 x0 x1 x2 x3 x4) (ix2 u r) = mass (prb x0 x1 x2 x3 x4 13) 1 u r :=
  mass_next (mass13_0 hp) (prb13_1 hp) u r

theorem prb13_2 (hp : Positive x1 x4) (s : Fin 64) (r : Fin 512) : (v8444 c a2 h2 a3 h3 a4 h4 a5 h5 a6 h6 a10 a11 a12 a14 a15 a16 a17 x0 x1 x2 x3 x4) (ix2 s r) = prb x0 x1 x2 x3 x4 13 r (128 + s.val) :=
  prob_apply (g := 2) (fun s r => scores_skip (by omega) (scores_skip (by omega) (scores_skip (by omega) (scores_hit (by omega) (by omega) (store512_apply scores13_0) s r)))) (queryScale_read (by omega) (by omega)) (keyScale_read (by omega)) (shift13 hp) s r

theorem mass13_2 (hp : Positive x1 x4) (u : Fin 8) (r : Fin 512) : (v8447 c a2 h2 a3 h3 a4 h4 a5 h5 a6 h6 a10 a11 a12 a14 a15 a16 a17 x0 x1 x2 x3 x4) (ix2 u r) = mass (prb x0 x1 x2 x3 x4 13) 2 u r :=
  mass_next (mass13_1 hp) (prb13_2 hp) u r

theorem prb13_3 (hp : Positive x1 x4) (s : Fin 64) (r : Fin 512) : (v8470 c a2 h2 a3 h3 a4 h4 a5 h5 a6 h6 a10 a11 a12 a14 a15 a16 a17 x0 x1 x2 x3 x4) (ix2 s r) = prb x0 x1 x2 x3 x4 13 r (192 + s.val) :=
  prob_apply (g := 3) (fun s r => scores_skip (by omega) (scores_skip (by omega) (scores_skip (by omega) (scores_hit (by omega) (by omega) (store512_apply scores13_0) s r)))) (queryScale_read (by omega) (by omega)) (keyScale_read (by omega)) (shift13 hp) s r

theorem mass13_3 (hp : Positive x1 x4) (u : Fin 8) (r : Fin 512) : (v8473 c a2 h2 a3 h3 a4 h4 a5 h5 a6 h6 a10 a11 a12 a14 a15 a16 a17 x0 x1 x2 x3 x4) (ix2 u r) = mass (prb x0 x1 x2 x3 x4 13) 3 u r :=
  mass_next (mass13_2 hp) (prb13_3 hp) u r

theorem prb13_4 (hp : Positive x1 x4) (s : Fin 64) (r : Fin 512) : (v8496 c a2 h2 a3 h3 a4 h4 a5 h5 a6 h6 a10 a11 a12 a14 a15 a16 a17 x0 x1 x2 x3 x4) (ix2 s r) = prb x0 x1 x2 x3 x4 13 r (256 + s.val) :=
  prob_apply (g := 4) (fun s r => scores_skip (by omega) (scores_skip (by omega) (scores_skip (by omega) (scores_hit (by omega) (by omega) (store512_apply scores13_0) s r)))) (queryScale_read (by omega) (by omega)) (keyScale_read (by omega)) (shift13 hp) s r

theorem mass13_4 (hp : Positive x1 x4) (u : Fin 8) (r : Fin 512) : (v8499 c a2 h2 a3 h3 a4 h4 a5 h5 a6 h6 a10 a11 a12 a14 a15 a16 a17 x0 x1 x2 x3 x4) (ix2 u r) = mass (prb x0 x1 x2 x3 x4 13) 4 u r :=
  mass_next (mass13_3 hp) (prb13_4 hp) u r

theorem prb13_5 (hp : Positive x1 x4) (s : Fin 64) (r : Fin 512) : (v8522 c a2 h2 a3 h3 a4 h4 a5 h5 a6 h6 a10 a11 a12 a14 a15 a16 a17 x0 x1 x2 x3 x4) (ix2 s r) = prb x0 x1 x2 x3 x4 13 r (320 + s.val) :=
  prob_apply (g := 5) (fun s r => scores_skip (by omega) (scores_skip (by omega) (scores_skip (by omega) (scores_hit (by omega) (by omega) (store512_apply scores13_0) s r)))) (queryScale_read (by omega) (by omega)) (keyScale_read (by omega)) (shift13 hp) s r

theorem mass13_5 (hp : Positive x1 x4) (u : Fin 8) (r : Fin 512) : (v8525 c a2 h2 a3 h3 a4 h4 a5 h5 a6 h6 a10 a11 a12 a14 a15 a16 a17 x0 x1 x2 x3 x4) (ix2 u r) = mass (prb x0 x1 x2 x3 x4 13) 5 u r :=
  mass_next (mass13_4 hp) (prb13_5 hp) u r

theorem prb13_6 (hp : Positive x1 x4) (s : Fin 64) (r : Fin 512) : (v8548 c a2 h2 a3 h3 a4 h4 a5 h5 a6 h6 a10 a11 a12 a14 a15 a16 a17 x0 x1 x2 x3 x4) (ix2 s r) = prb x0 x1 x2 x3 x4 13 r (384 + s.val) :=
  prob_apply (g := 6) (fun s r => scores_skip (by omega) (scores_skip (by omega) (scores_skip (by omega) (scores_hit (by omega) (by omega) (store512_apply scores13_0) s r)))) (queryScale_read (by omega) (by omega)) (keyScale_read (by omega)) (shift13 hp) s r

theorem mass13_6 (hp : Positive x1 x4) (u : Fin 8) (r : Fin 512) : (v8551 c a2 h2 a3 h3 a4 h4 a5 h5 a6 h6 a10 a11 a12 a14 a15 a16 a17 x0 x1 x2 x3 x4) (ix2 u r) = mass (prb x0 x1 x2 x3 x4 13) 6 u r :=
  mass_next (mass13_5 hp) (prb13_6 hp) u r

theorem prb13_7 (hp : Positive x1 x4) (s : Fin 64) (r : Fin 512) : (v8574 c a2 h2 a3 h3 a4 h4 a5 h5 a6 h6 a10 a11 a12 a14 a15 a16 a17 x0 x1 x2 x3 x4) (ix2 s r) = prb x0 x1 x2 x3 x4 13 r (448 + s.val) :=
  prob_apply (g := 7) (fun s r => scores_skip (by omega) (scores_skip (by omega) (scores_skip (by omega) (scores_hit (by omega) (by omega) (store512_apply scores13_0) s r)))) (queryScale_read (by omega) (by omega)) (keyScale_read (by omega)) (shift13 hp) s r

theorem mass13_7 (hp : Positive x1 x4) (u : Fin 8) (r : Fin 512) : (v8577 c a2 h2 a3 h3 a4 h4 a5 h5 a6 h6 a10 a11 a12 a14 a15 a16 a17 x0 x1 x2 x3 x4) (ix2 u r) = mass (prb x0 x1 x2 x3 x4 13) 7 u r :=
  mass_next (mass13_6 hp) (prb13_7 hp) u r

theorem prb13_8 (hp : Positive x1 x4) (s : Fin 64) (r : Fin 512) : (v8600 c a2 h2 a3 h3 a4 h4 a5 h5 a6 h6 a10 a11 a12 a14 a15 a16 a17 x0 x1 x2 x3 x4) (ix2 s r) = prb x0 x1 x2 x3 x4 13 r (512 + s.val) :=
  prob_apply (g := 8) (fun s r => scores_skip (by omega) (scores_skip (by omega) (scores_hit (by omega) (by omega) (store512_apply scores13_1) s r))) (queryScale_read (by omega) (by omega)) (keyScale_read (by omega)) (shift13 hp) s r

theorem mass13_8 (hp : Positive x1 x4) (u : Fin 8) (r : Fin 512) : (v8603 c a2 h2 a3 h3 a4 h4 a5 h5 a6 h6 a10 a11 a12 a14 a15 a16 a17 x0 x1 x2 x3 x4) (ix2 u r) = mass (prb x0 x1 x2 x3 x4 13) 8 u r :=
  mass_next (mass13_7 hp) (prb13_8 hp) u r

theorem prb13_9 (hp : Positive x1 x4) (s : Fin 64) (r : Fin 512) : (v8626 c a2 h2 a3 h3 a4 h4 a5 h5 a6 h6 a10 a11 a12 a14 a15 a16 a17 x0 x1 x2 x3 x4) (ix2 s r) = prb x0 x1 x2 x3 x4 13 r (576 + s.val) :=
  prob_apply (g := 9) (fun s r => scores_skip (by omega) (scores_skip (by omega) (scores_hit (by omega) (by omega) (store512_apply scores13_1) s r))) (queryScale_read (by omega) (by omega)) (keyScale_read (by omega)) (shift13 hp) s r

theorem mass13_9 (hp : Positive x1 x4) (u : Fin 8) (r : Fin 512) : (v8629 c a2 h2 a3 h3 a4 h4 a5 h5 a6 h6 a10 a11 a12 a14 a15 a16 a17 x0 x1 x2 x3 x4) (ix2 u r) = mass (prb x0 x1 x2 x3 x4 13) 9 u r :=
  mass_next (mass13_8 hp) (prb13_9 hp) u r

theorem prb13_10 (hp : Positive x1 x4) (s : Fin 64) (r : Fin 512) : (v8652 c a2 h2 a3 h3 a4 h4 a5 h5 a6 h6 a10 a11 a12 a14 a15 a16 a17 x0 x1 x2 x3 x4) (ix2 s r) = prb x0 x1 x2 x3 x4 13 r (640 + s.val) :=
  prob_apply (g := 10) (fun s r => scores_skip (by omega) (scores_skip (by omega) (scores_hit (by omega) (by omega) (store512_apply scores13_1) s r))) (queryScale_read (by omega) (by omega)) (keyScale_read (by omega)) (shift13 hp) s r

theorem mass13_10 (hp : Positive x1 x4) (u : Fin 8) (r : Fin 512) : (v8655 c a2 h2 a3 h3 a4 h4 a5 h5 a6 h6 a10 a11 a12 a14 a15 a16 a17 x0 x1 x2 x3 x4) (ix2 u r) = mass (prb x0 x1 x2 x3 x4 13) 10 u r :=
  mass_next (mass13_9 hp) (prb13_10 hp) u r

theorem prb13_11 (hp : Positive x1 x4) (s : Fin 64) (r : Fin 512) : (v8678 c a2 h2 a3 h3 a4 h4 a5 h5 a6 h6 a10 a11 a12 a14 a15 a16 a17 x0 x1 x2 x3 x4) (ix2 s r) = prb x0 x1 x2 x3 x4 13 r (704 + s.val) :=
  prob_apply (g := 11) (fun s r => scores_skip (by omega) (scores_skip (by omega) (scores_hit (by omega) (by omega) (store512_apply scores13_1) s r))) (queryScale_read (by omega) (by omega)) (keyScale_read (by omega)) (shift13 hp) s r

theorem mass13_11 (hp : Positive x1 x4) (u : Fin 8) (r : Fin 512) : (v8681 c a2 h2 a3 h3 a4 h4 a5 h5 a6 h6 a10 a11 a12 a14 a15 a16 a17 x0 x1 x2 x3 x4) (ix2 u r) = mass (prb x0 x1 x2 x3 x4 13) 11 u r :=
  mass_next (mass13_10 hp) (prb13_11 hp) u r

theorem prb13_12 (hp : Positive x1 x4) (s : Fin 64) (r : Fin 512) : (v8704 c a2 h2 a3 h3 a4 h4 a5 h5 a6 h6 a10 a11 a12 a14 a15 a16 a17 x0 x1 x2 x3 x4) (ix2 s r) = prb x0 x1 x2 x3 x4 13 r (768 + s.val) :=
  prob_apply (g := 12) (fun s r => scores_skip (by omega) (scores_skip (by omega) (scores_hit (by omega) (by omega) (store512_apply scores13_1) s r))) (queryScale_read (by omega) (by omega)) (keyScale_read (by omega)) (shift13 hp) s r

theorem mass13_12 (hp : Positive x1 x4) (u : Fin 8) (r : Fin 512) : (v8707 c a2 h2 a3 h3 a4 h4 a5 h5 a6 h6 a10 a11 a12 a14 a15 a16 a17 x0 x1 x2 x3 x4) (ix2 u r) = mass (prb x0 x1 x2 x3 x4 13) 12 u r :=
  mass_next (mass13_11 hp) (prb13_12 hp) u r

theorem prb13_13 (hp : Positive x1 x4) (s : Fin 64) (r : Fin 512) : (v8730 c a2 h2 a3 h3 a4 h4 a5 h5 a6 h6 a10 a11 a12 a14 a15 a16 a17 x0 x1 x2 x3 x4) (ix2 s r) = prb x0 x1 x2 x3 x4 13 r (832 + s.val) :=
  prob_apply (g := 13) (fun s r => scores_skip (by omega) (scores_skip (by omega) (scores_hit (by omega) (by omega) (store512_apply scores13_1) s r))) (queryScale_read (by omega) (by omega)) (keyScale_read (by omega)) (shift13 hp) s r

theorem mass13_13 (hp : Positive x1 x4) (u : Fin 8) (r : Fin 512) : (v8733 c a2 h2 a3 h3 a4 h4 a5 h5 a6 h6 a10 a11 a12 a14 a15 a16 a17 x0 x1 x2 x3 x4) (ix2 u r) = mass (prb x0 x1 x2 x3 x4 13) 13 u r :=
  mass_next (mass13_12 hp) (prb13_13 hp) u r

theorem prb13_14 (hp : Positive x1 x4) (s : Fin 64) (r : Fin 512) : (v8756 c a2 h2 a3 h3 a4 h4 a5 h5 a6 h6 a10 a11 a12 a14 a15 a16 a17 x0 x1 x2 x3 x4) (ix2 s r) = prb x0 x1 x2 x3 x4 13 r (896 + s.val) :=
  prob_apply (g := 14) (fun s r => scores_skip (by omega) (scores_skip (by omega) (scores_hit (by omega) (by omega) (store512_apply scores13_1) s r))) (queryScale_read (by omega) (by omega)) (keyScale_read (by omega)) (shift13 hp) s r

theorem mass13_14 (hp : Positive x1 x4) (u : Fin 8) (r : Fin 512) : (v8759 c a2 h2 a3 h3 a4 h4 a5 h5 a6 h6 a10 a11 a12 a14 a15 a16 a17 x0 x1 x2 x3 x4) (ix2 u r) = mass (prb x0 x1 x2 x3 x4 13) 14 u r :=
  mass_next (mass13_13 hp) (prb13_14 hp) u r

theorem prb13_15 (hp : Positive x1 x4) (s : Fin 64) (r : Fin 512) : (v8782 c a2 h2 a3 h3 a4 h4 a5 h5 a6 h6 a10 a11 a12 a14 a15 a16 a17 x0 x1 x2 x3 x4) (ix2 s r) = prb x0 x1 x2 x3 x4 13 r (960 + s.val) :=
  prob_apply (g := 15) (fun s r => scores_skip (by omega) (scores_skip (by omega) (scores_hit (by omega) (by omega) (store512_apply scores13_1) s r))) (queryScale_read (by omega) (by omega)) (keyScale_read (by omega)) (shift13 hp) s r

theorem mass13_15 (hp : Positive x1 x4) (u : Fin 8) (r : Fin 512) : (v8785 c a2 h2 a3 h3 a4 h4 a5 h5 a6 h6 a10 a11 a12 a14 a15 a16 a17 x0 x1 x2 x3 x4) (ix2 u r) = mass (prb x0 x1 x2 x3 x4 13) 15 u r :=
  mass_next (mass13_14 hp) (prb13_15 hp) u r

theorem prb13_16 (hp : Positive x1 x4) (s : Fin 64) (r : Fin 512) : (v8808 c a2 h2 a3 h3 a4 h4 a5 h5 a6 h6 a10 a11 a12 a14 a15 a16 a17 x0 x1 x2 x3 x4) (ix2 s r) = prb x0 x1 x2 x3 x4 13 r (1024 + s.val) :=
  prob_apply (g := 16) (fun s r => scores_skip (by omega) (scores_hit (by omega) (by omega) (store512_apply scores13_2) s r)) (queryScale_read (by omega) (by omega)) (keyScale_read (by omega)) (shift13 hp) s r

theorem mass13_16 (hp : Positive x1 x4) (u : Fin 8) (r : Fin 512) : (v8811 c a2 h2 a3 h3 a4 h4 a5 h5 a6 h6 a10 a11 a12 a14 a15 a16 a17 x0 x1 x2 x3 x4) (ix2 u r) = mass (prb x0 x1 x2 x3 x4 13) 16 u r :=
  mass_next (mass13_15 hp) (prb13_16 hp) u r

theorem prb13_17 (hp : Positive x1 x4) (s : Fin 64) (r : Fin 512) : (v8834 c a2 h2 a3 h3 a4 h4 a5 h5 a6 h6 a10 a11 a12 a14 a15 a16 a17 x0 x1 x2 x3 x4) (ix2 s r) = prb x0 x1 x2 x3 x4 13 r (1088 + s.val) :=
  prob_apply (g := 17) (fun s r => scores_skip (by omega) (scores_hit (by omega) (by omega) (store512_apply scores13_2) s r)) (queryScale_read (by omega) (by omega)) (keyScale_read (by omega)) (shift13 hp) s r

theorem mass13_17 (hp : Positive x1 x4) (u : Fin 8) (r : Fin 512) : (v8837 c a2 h2 a3 h3 a4 h4 a5 h5 a6 h6 a10 a11 a12 a14 a15 a16 a17 x0 x1 x2 x3 x4) (ix2 u r) = mass (prb x0 x1 x2 x3 x4 13) 17 u r :=
  mass_next (mass13_16 hp) (prb13_17 hp) u r

theorem prb13_18 (hp : Positive x1 x4) (s : Fin 64) (r : Fin 512) : (v8860 c a2 h2 a3 h3 a4 h4 a5 h5 a6 h6 a10 a11 a12 a14 a15 a16 a17 x0 x1 x2 x3 x4) (ix2 s r) = prb x0 x1 x2 x3 x4 13 r (1152 + s.val) :=
  prob_apply (g := 18) (fun s r => scores_skip (by omega) (scores_hit (by omega) (by omega) (store512_apply scores13_2) s r)) (queryScale_read (by omega) (by omega)) (keyScale_read (by omega)) (shift13 hp) s r

theorem mass13_18 (hp : Positive x1 x4) (u : Fin 8) (r : Fin 512) : (v8863 c a2 h2 a3 h3 a4 h4 a5 h5 a6 h6 a10 a11 a12 a14 a15 a16 a17 x0 x1 x2 x3 x4) (ix2 u r) = mass (prb x0 x1 x2 x3 x4 13) 18 u r :=
  mass_next (mass13_17 hp) (prb13_18 hp) u r

theorem prb13_19 (hp : Positive x1 x4) (s : Fin 64) (r : Fin 512) : (v8886 c a2 h2 a3 h3 a4 h4 a5 h5 a6 h6 a10 a11 a12 a14 a15 a16 a17 x0 x1 x2 x3 x4) (ix2 s r) = prb x0 x1 x2 x3 x4 13 r (1216 + s.val) :=
  prob_apply (g := 19) (fun s r => scores_skip (by omega) (scores_hit (by omega) (by omega) (store512_apply scores13_2) s r)) (queryScale_read (by omega) (by omega)) (keyScale_read (by omega)) (shift13 hp) s r

theorem mass13_19 (hp : Positive x1 x4) (u : Fin 8) (r : Fin 512) : (v8889 c a2 h2 a3 h3 a4 h4 a5 h5 a6 h6 a10 a11 a12 a14 a15 a16 a17 x0 x1 x2 x3 x4) (ix2 u r) = mass (prb x0 x1 x2 x3 x4 13) 19 u r :=
  mass_next (mass13_18 hp) (prb13_19 hp) u r

theorem prb13_20 (hp : Positive x1 x4) (s : Fin 64) (r : Fin 512) : (v8912 c a2 h2 a3 h3 a4 h4 a5 h5 a6 h6 a10 a11 a12 a14 a15 a16 a17 x0 x1 x2 x3 x4) (ix2 s r) = prb x0 x1 x2 x3 x4 13 r (1280 + s.val) :=
  prob_apply (g := 20) (fun s r => scores_skip (by omega) (scores_hit (by omega) (by omega) (store512_apply scores13_2) s r)) (queryScale_read (by omega) (by omega)) (keyScale_read (by omega)) (shift13 hp) s r

theorem mass13_20 (hp : Positive x1 x4) (u : Fin 8) (r : Fin 512) : (v8915 c a2 h2 a3 h3 a4 h4 a5 h5 a6 h6 a10 a11 a12 a14 a15 a16 a17 x0 x1 x2 x3 x4) (ix2 u r) = mass (prb x0 x1 x2 x3 x4 13) 20 u r :=
  mass_next (mass13_19 hp) (prb13_20 hp) u r

theorem prb13_21 (hp : Positive x1 x4) (s : Fin 64) (r : Fin 512) : (v8938 c a2 h2 a3 h3 a4 h4 a5 h5 a6 h6 a10 a11 a12 a14 a15 a16 a17 x0 x1 x2 x3 x4) (ix2 s r) = prb x0 x1 x2 x3 x4 13 r (1344 + s.val) :=
  prob_apply (g := 21) (fun s r => scores_skip (by omega) (scores_hit (by omega) (by omega) (store512_apply scores13_2) s r)) (queryScale_read (by omega) (by omega)) (keyScale_read (by omega)) (shift13 hp) s r

theorem mass13_21 (hp : Positive x1 x4) (u : Fin 8) (r : Fin 512) : (v8941 c a2 h2 a3 h3 a4 h4 a5 h5 a6 h6 a10 a11 a12 a14 a15 a16 a17 x0 x1 x2 x3 x4) (ix2 u r) = mass (prb x0 x1 x2 x3 x4 13) 21 u r :=
  mass_next (mass13_20 hp) (prb13_21 hp) u r

theorem prb13_22 (hp : Positive x1 x4) (s : Fin 64) (r : Fin 512) : (v8964 c a2 h2 a3 h3 a4 h4 a5 h5 a6 h6 a10 a11 a12 a14 a15 a16 a17 x0 x1 x2 x3 x4) (ix2 s r) = prb x0 x1 x2 x3 x4 13 r (1408 + s.val) :=
  prob_apply (g := 22) (fun s r => scores_skip (by omega) (scores_hit (by omega) (by omega) (store512_apply scores13_2) s r)) (queryScale_read (by omega) (by omega)) (keyScale_read (by omega)) (shift13 hp) s r

theorem mass13_22 (hp : Positive x1 x4) (u : Fin 8) (r : Fin 512) : (v8967 c a2 h2 a3 h3 a4 h4 a5 h5 a6 h6 a10 a11 a12 a14 a15 a16 a17 x0 x1 x2 x3 x4) (ix2 u r) = mass (prb x0 x1 x2 x3 x4 13) 22 u r :=
  mass_next (mass13_21 hp) (prb13_22 hp) u r

theorem prb13_23 (hp : Positive x1 x4) (s : Fin 64) (r : Fin 512) : (v8990 c a2 h2 a3 h3 a4 h4 a5 h5 a6 h6 a10 a11 a12 a14 a15 a16 a17 x0 x1 x2 x3 x4) (ix2 s r) = prb x0 x1 x2 x3 x4 13 r (1472 + s.val) :=
  prob_apply (g := 23) (fun s r => scores_skip (by omega) (scores_hit (by omega) (by omega) (store512_apply scores13_2) s r)) (queryScale_read (by omega) (by omega)) (keyScale_read (by omega)) (shift13 hp) s r

theorem mass13_23 (hp : Positive x1 x4) (u : Fin 8) (r : Fin 512) : (v8993 c a2 h2 a3 h3 a4 h4 a5 h5 a6 h6 a10 a11 a12 a14 a15 a16 a17 x0 x1 x2 x3 x4) (ix2 u r) = mass (prb x0 x1 x2 x3 x4 13) 23 u r :=
  mass_next (mass13_22 hp) (prb13_23 hp) u r

theorem prb13_24 (hp : Positive x1 x4) (s : Fin 64) (r : Fin 512) : (v9016 c a2 h2 a3 h3 a4 h4 a5 h5 a6 h6 a10 a11 a12 a14 a15 a16 a17 x0 x1 x2 x3 x4) (ix2 s r) = prb x0 x1 x2 x3 x4 13 r (1536 + s.val) :=
  prob_apply (g := 24) (fun s r => scores_hit (by omega) (by omega) (store256_apply scores13_3) s r) (queryScale_read (by omega) (by omega)) (keyScale_read (by omega)) (shift13 hp) s r

theorem mass13_24 (hp : Positive x1 x4) (u : Fin 8) (r : Fin 512) : (v9019 c a2 h2 a3 h3 a4 h4 a5 h5 a6 h6 a10 a11 a12 a14 a15 a16 a17 x0 x1 x2 x3 x4) (ix2 u r) = mass (prb x0 x1 x2 x3 x4 13) 24 u r :=
  mass_next (mass13_23 hp) (prb13_24 hp) u r

theorem prb13_25 (hp : Positive x1 x4) (s : Fin 64) (r : Fin 512) : (v9042 c a2 h2 a3 h3 a4 h4 a5 h5 a6 h6 a10 a11 a12 a14 a15 a16 a17 x0 x1 x2 x3 x4) (ix2 s r) = prb x0 x1 x2 x3 x4 13 r (1600 + s.val) :=
  prob_apply (g := 25) (fun s r => scores_hit (by omega) (by omega) (store256_apply scores13_3) s r) (queryScale_read (by omega) (by omega)) (keyScale_read (by omega)) (shift13 hp) s r

theorem mass13_25 (hp : Positive x1 x4) (u : Fin 8) (r : Fin 512) : (v9045 c a2 h2 a3 h3 a4 h4 a5 h5 a6 h6 a10 a11 a12 a14 a15 a16 a17 x0 x1 x2 x3 x4) (ix2 u r) = mass (prb x0 x1 x2 x3 x4 13) 25 u r :=
  mass_next (mass13_24 hp) (prb13_25 hp) u r

theorem prb13_26 (hp : Positive x1 x4) (s : Fin 64) (r : Fin 512) : (v9068 c a2 h2 a3 h3 a4 h4 a5 h5 a6 h6 a10 a11 a12 a14 a15 a16 a17 x0 x1 x2 x3 x4) (ix2 s r) = prb x0 x1 x2 x3 x4 13 r (1664 + s.val) :=
  prob_apply (g := 26) (fun s r => scores_hit (by omega) (by omega) (store256_apply scores13_3) s r) (queryScale_read (by omega) (by omega)) (keyScale_read (by omega)) (shift13 hp) s r

theorem mass13_26 (hp : Positive x1 x4) (u : Fin 8) (r : Fin 512) : (v9071 c a2 h2 a3 h3 a4 h4 a5 h5 a6 h6 a10 a11 a12 a14 a15 a16 a17 x0 x1 x2 x3 x4) (ix2 u r) = mass (prb x0 x1 x2 x3 x4 13) 26 u r :=
  mass_next (mass13_25 hp) (prb13_26 hp) u r

theorem prb13_27 (hp : Positive x1 x4) (s : Fin 64) (r : Fin 512) : (v9094 c a2 h2 a3 h3 a4 h4 a5 h5 a6 h6 a10 a11 a12 a14 a15 a16 a17 x0 x1 x2 x3 x4) (ix2 s r) = prb x0 x1 x2 x3 x4 13 r (1728 + s.val) :=
  prob_apply (g := 27) (fun s r => scores_hit (by omega) (by omega) (store256_apply scores13_3) s r) (queryScale_read (by omega) (by omega)) (keyScale_read (by omega)) (shift13 hp) s r

theorem mass13_27 (hp : Positive x1 x4) (u : Fin 8) (r : Fin 512) : (v9097 c a2 h2 a3 h3 a4 h4 a5 h5 a6 h6 a10 a11 a12 a14 a15 a16 a17 x0 x1 x2 x3 x4) (ix2 u r) = mass (prb x0 x1 x2 x3 x4 13) 27 u r :=
  mass_next (mass13_26 hp) (prb13_27 hp) u r

theorem row13 (hp : Positive x1 x4) (r : Fin 512) (d : Fin 128) : (v9119 c a2 h2 a3 h3 a4 h4 a5 h5 a6 h6 a7 h7 a10 a11 a12 a13 a14 a15 a16 a17 a18 x0 x1 x2 x3 x4 x5) (ix3 0 r d) = row x0 x1 x2 x3 x4 x5 13 r d :=
  rows_apply (product1792_apply (value_read (by omega)) (fun s r => (codes_start (by omega) (by omega) s r).trans (codes_step (codes_apply (prb13_27 hp)) s.isLt fun _ =>
      codes_step (codes_apply (prb13_26 hp)) (by omega) fun _ =>
      codes_step (codes_apply (prb13_25 hp)) (by omega) fun _ =>
      codes_step (codes_apply (prb13_24 hp)) (by omega) fun _ =>
      codes_step (codes_apply (prb13_23 hp)) (by omega) fun _ =>
      codes_step (codes_apply (prb13_22 hp)) (by omega) fun _ =>
      codes_step (codes_apply (prb13_21 hp)) (by omega) fun _ =>
      codes_step (codes_apply (prb13_20 hp)) (by omega) fun _ =>
      codes_step (codes_apply (prb13_19 hp)) (by omega) fun _ =>
      codes_step (codes_apply (prb13_18 hp)) (by omega) fun _ =>
      codes_step (codes_apply (prb13_17 hp)) (by omega) fun _ =>
      codes_step (codes_apply (prb13_16 hp)) (by omega) fun _ =>
      codes_step (codes_apply (prb13_15 hp)) (by omega) fun _ =>
      codes_step (codes_apply (prb13_14 hp)) (by omega) fun _ =>
      codes_step (codes_apply (prb13_13 hp)) (by omega) fun _ =>
      codes_step (codes_apply (prb13_12 hp)) (by omega) fun _ =>
      codes_step (codes_apply (prb13_11 hp)) (by omega) fun _ =>
      codes_step (codes_apply (prb13_10 hp)) (by omega) fun _ =>
      codes_step (codes_apply (prb13_9 hp)) (by omega) fun _ =>
      codes_step (codes_apply (prb13_8 hp)) (by omega) fun _ =>
      codes_step (codes_apply (prb13_7 hp)) (by omega) fun _ =>
      codes_step (codes_apply (prb13_6 hp)) (by omega) fun _ =>
      codes_step (codes_apply (prb13_5 hp)) (by omega) fun _ =>
      codes_step (codes_apply (prb13_4 hp)) (by omega) fun _ =>
      codes_step (codes_apply (prb13_3 hp)) (by omega) fun _ =>
      codes_step (codes_apply (prb13_2 hp)) (by omega) fun _ =>
      codes_step (codes_apply (prb13_1 hp)) (by omega) fun _ =>
      codes_step (codes_apply (prb13_0 hp)) (by omega) fun _ =>
      absurd ‹_› (by omega)))) (mass13_27 hp) r d

theorem head13_0 (hp : Positive x1 x4) (t d : Fin 128) : (v9127 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 13 0 t d :=
  (head_apply _ _ t d).trans (congrArg₂ (· * ·) ((head_read (by omega) t d).trans ((row13 hp _ d).trans (congrArg (fun a => row x0 x1 x2 x3 x4 x5 13 a d) (Fin.ext (by dsimp only; omega))))) (valueScales d))

theorem head13_1 (hp : Positive x1 x4) (t d : Fin 128) : (v9135 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 13 1 t d :=
  (head_apply _ _ t d).trans (congrArg₂ (· * ·) ((head_read (by omega) t d).trans ((row13 hp _ d).trans (congrArg (fun a => row x0 x1 x2 x3 x4 x5 13 a d) (Fin.ext (by dsimp only; omega))))) (valueScales d))

theorem head13_2 (hp : Positive x1 x4) (t d : Fin 128) : (v9143 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 13 2 t d :=
  (head_apply _ _ t d).trans (congrArg₂ (· * ·) ((head_read (by omega) t d).trans ((row13 hp _ d).trans (congrArg (fun a => row x0 x1 x2 x3 x4 x5 13 a d) (Fin.ext (by dsimp only; omega))))) (valueScales d))

theorem head13_3 (hp : Positive x1 x4) (t d : Fin 128) : (v9151 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 13 3 t d :=
  (head_apply _ _ t d).trans (congrArg₂ (· * ·) ((head_read (by omega) t d).trans ((row13 hp _ d).trans (congrArg (fun a => row x0 x1 x2 x3 x4 x5 13 a d) (Fin.ext (by dsimp only; omega))))) (valueScales d))

end Cert.KernelIdeal.Block

end
-- ==== Proof.BlocksD.lean ====
/- Query blocks 14 and 15: every value the kernel names, read at an index. -/
module

public import proofs.«01_k».proof.Proof.Readings
public import proofs.«01_k».proof.Proof.Rows

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Gen.kernelRun0_A.sl

variable {c : Dev nD} {i : grid0.Coords}
  {a2 : Memref sig .tc .vmem S1x1x8192x128 .bf16} {h2 : a2.IsWhole}
  {a3 : Memref sig .tc .vmem S1x1x4x16 .f32} {h3 : a3.IsWhole}
  {a4 : Memref sig .tc .vmem S1x4x16x128 .bf16} {h4 : a4.IsWhole}
  {a5 : Memref sig .tc .vmem S1x1x2048x128 .bf16} {h5 : a5.IsWhole}
  {a6 : Memref sig .tc .vmem S1x1x32x1 .f32} {h6 : a6.IsWhole}
  {a7 : Memref sig .tc .vmem S1x1x2048x128 .bf16} {h7 : a7.IsWhole}
  {a8 : Memref sig .tc .vmem S1x4x128 .f32} {h8 : a8.IsWhole}
  {a10 : Memref sig .tc .vmem S2048x128 .fp8e4m3}
  {a11 : Memref sig .tc .vmem S2048x128 .bf16}
  {a12 : Memref sig .tc .vmem S32x128 .f32}
  {a13 : Memref sig .tc .vmem S128x2048 .fp8e4m3}
  {a14 : Memref sig .tc .vmem S8192x128 .fp8e4m3}
  {a15 : Memref sig .tc .vmem S128x128 .f32}
  {a16 : Memref sig .tc .vmem S128x128 .f32}
  {a17 : Memref sig .tc .vmem S2x2048x512 .f32}
  {a18 : Memref sig .tc .vmem S2x2048x512 .fp8e4m3}
  {a19 : Memref sig .tc .vmem S2x512x128 .f32}
  {x0 : Vec Ideal S1x1x8192x128 .bf16}  {x1 : Vec Ideal S1x1x4x16 .f32}  {x2 : Vec Ideal S1x4x16x128 .bf16}
  {x3 : Vec Ideal S1x1x2048x128 .bf16}  {x4 : Vec Ideal S1x1x32x1 .f32}
  {x5 : Vec Ideal S1x1x2048x128 .bf16}  {x6 : Vec Ideal S1x4x128 .f32}

/-! ## Query block 14 -/

theorem scores14_0 (s : Fin 512) (r : Fin 512) : (v9164 c a2 h2 a3 h3 a4 h4 a5 h5 a10 a11 a14 a15 x0 x1 x2 x3) (ix2 s r) = (score x0 x1 x2 x3 14 r (0 + s.val)) :=
  whole_apply (raw512_apply (keys8_read (by omega)) (keys16_read (by omega)) (query_read (by omega) (by omega)) (tile_apply (mean_read (by omega) (by omega)))) (by omega) s r

theorem scores14_1 (s : Fin 512) (r : Fin 512) : (v9252 c a2 h2 a3 h3 a4 h4 a5 h5 a10 a11 a14 a15 x0 x1 x2 x3) (ix2 s r) = (score x0 x1 x2 x3 14 r (512 + s.val)) :=
  whole_apply (raw512_apply (keys8_read (by omega)) (keys16_read (by omega)) (query_read (by omega) (by omega)) (tile_apply (mean_read (by omega) (by omega)))) (by omega) s r

theorem scores14_2 (s : Fin 512) (r : Fin 512) : (v9341 c a2 h2 a3 h3 a4 h4 a5 h5 a10 a11 a14 a15 x0 x1 x2 x3) (ix2 s r) = (score x0 x1 x2 x3 14 r (1024 + s.val)) :=
  whole_apply (raw512_apply (keys8_read (by omega)) (keys16_read (by omega)) (query_read (by omega) (by omega)) (tile_apply (mean_read (by omega) (by omega)))) (by omega) s r

theorem scores14_3 (s : Fin 384) (r : Fin 512) : (v9435 c a2 h2 a3 h3 a4 h4 a5 h5 a10 a11 a14 a15 x0 x1 x2 x3) (ix2 s r) = (score x0 x1 x2 x3 14 r (1536 + s.val)) :=
  tail384_apply (raw384_apply (keys8_read (by omega)) (keys16_read (by omega)) (query_read (by omega) (by omega)) (tile_apply (mean_read (by omega) (by omega)))) (by omega) s r

theorem top14_0 (hp : Positive x1 x4) (u : Fin 8) (r : Fin 512) : (v9176 c a2 h2 a3 h3 a4 h4 a5 h5 a6 h6 a10 a11 a12 a14 a15 a16 x0 x1 x2 x3 x4) (ix2 u r) = top (logit x0 x1 x2 x3 x4 14) 0 u r :=
  top_first (hp 14) (cut512_apply scores14_0 (by omega)) (queryScale_read (by omega) (by omega)) (keyScale_read (by omega)) u r

theorem top14_1 (hp : Positive x1 x4) (u : Fin 8) (r : Fin 512) : (v9186 c a2 h2 a3 h3 a4 h4 a5 h5 a6 h6 a10 a11 a12 a14 a15 a16 x0 x1 x2 x3 x4) (ix2 u r) = top (logit x0 x1 x2 x3 x4 14) 1 u r :=
  top_next (hp 14) (top14_0 hp) (cut512_apply scores14_0 (by omega)) (queryScale_read (by omega) (by omega)) (keyScale_read (by omega)) u r

theorem top14_2 (hp : Positive x1 x4) (u : Fin 8) (r : Fin 512) : (v9196 c a2 h2 a3 h3 a4 h4 a5 h5 a6 h6 a10 a11 a12 a14 a15 a16 x0 x1 x2 x3 x4) (ix2 u r) = top (logit x0 x1 x2 x3 x4 14) 2 u r :=
  top_next (hp 14) (top14_1 hp) (cut512_apply scores14_0 (by omega)) (queryScale_read (by omega) (by omega)) (keyScale_read (by omega)) u r

theorem top14_3 (hp : Positive x1 x4) (u : Fin 8) (r : Fin 512) : (v9206 c a2 h2 a3 h3 a4 h4 a5 h5 a6 h6 a10 a11 a12 a14 a15 a16 x0 x1 x2 x3 x4) (ix2 u r) = top (logit x0 x1 x2 x3 x4 14) 3 u r :=
  top_next (hp 14) (top14_2 hp) (cut512_apply scores14_0 (by omega)) (queryScale_read (by omega) (by omega)) (keyScale_read (by omega)) u r

theorem top14_4 (hp : Positive x1 x4) (u : Fin 8) (r : Fin 512) : (v9216 c a2 h2 a3 h3 a4 h4 a5 h5 a6 h6 a10 a11 a12 a14 a15 a16 x0 x1 x2 x3 x4) (ix2 u r) = top (logit x0 x1 x2 x3 x4 14) 4 u r :=
  top_next (hp 14) (top14_3 hp) (cut512_apply scores14_0 (by omega)) (queryScale_read (by omega) (by omega)) (keyScale_read (by omega)) u r

theorem top14_5 (hp : Positive x1 x4) (u : Fin 8) (r : Fin 512) : (v9226 c a2 h2 a3 h3 a4 h4 a5 h5 a6 h6 a10 a11 a12 a14 a15 a16 x0 x1 x2 x3 x4) (ix2 u r) = top (logit x0 x1 x2 x3 x4 14) 5 u r :=
  top_next (hp 14) (top14_4 hp) (cut512_apply scores14_0 (by omega)) (queryScale_read (by omega) (by omega)) (keyScale_read (by omega)) u r

theorem top14_6 (hp : Positive x1 x4) (u : Fin 8) (r : Fin 512) : (v9236 c a2 h2 a3 h3 a4 h4 a5 h5 a6 h6 a10 a11 a12 a14 a15 a16 x0 x1 x2 x3 x4) (ix2 u r) = top (logit x0 x1 x2 x3 x4 14) 6 u r :=
  top_next (hp 14) (top14_5 hp) (cut512_apply scores14_0 (by omega)) (queryScale_read (by omega) (by omega)) (keyScale_read (by omega)) u r

theorem top14_7 (hp : Positive x1 x4) (u : Fin 8) (r : Fin 512) : (v9246 c a2 h2 a3 h3 a4 h4 a5 h5 a6 h6 a10 a11 a12 a14 a15 a16 x0 x1 x2 x3 x4) (ix2 u r) = top (logit x0 x1 x2 x3 x4 14) 7 u r :=
  top_next (hp 14) (top14_6 hp) (cut512_apply scores14_0 (by omega)) (queryScale_read (by omega) (by omega)) (keyScale_read (by omega)) u r

theorem top14_8 (hp : Positive x1 x4) (u : Fin 8) (r : Fin 512) : (v9265 c a2 h2 a3 h3 a4 h4 a5 h5 a6 h6 a10 a11 a12 a14 a15 a16 x0 x1 x2 x3 x4) (ix2 u r) = top (logit x0 x1 x2 x3 x4 14) 8 u r :=
  top_next (hp 14) (top14_7 hp) (cut512_apply scores14_1 (by omega)) (queryScale_read (by omega) (by omega)) (keyScale_read (by omega)) u r

theorem top14_9 (hp : Positive x1 x4) (u : Fin 8) (r : Fin 512) : (v9275 c a2 h2 a3 h3 a4 h4 a5 h5 a6 h6 a10 a11 a12 a14 a15 a16 x0 x1 x2 x3 x4) (ix2 u r) = top (logit x0 x1 x2 x3 x4 14) 9 u r :=
  top_next (hp 14) (top14_8 hp) (cut512_apply scores14_1 (by omega)) (queryScale_read (by omega) (by omega)) (keyScale_read (by omega)) u r

theorem top14_10 (hp : Positive x1 x4) (u : Fin 8) (r : Fin 512) : (v9285 c a2 h2 a3 h3 a4 h4 a5 h5 a6 h6 a10 a11 a12 a14 a15 a16 x0 x1 x2 x3 x4) (ix2 u r) = top (logit x0 x1 x2 x3 x4 14) 10 u r :=
  top_next (hp 14) (top14_9 hp) (cut512_apply scores14_1 (by omega)) (queryScale_read (by omega) (by omega)) (keyScale_read (by omega)) u r

theorem top14_11 (hp : Positive x1 x4) (u : Fin 8) (r : Fin 512) : (v9295 c a2 h2 a3 h3 a4 h4 a5 h5 a6 h6 a10 a11 a12 a14 a15 a16 x0 x1 x2 x3 x4) (ix2 u r) = top (logit x0 x1 x2 x3 x4 14) 11 u r :=
  top_next (hp 14) (top14_10 hp) (cut512_apply scores14_1 (by omega)) (queryScale_read (by omega) (by omega)) (keyScale_read (by omega)) u r

theorem top14_12 (hp : Positive x1 x4) (u : Fin 8) (r : Fin 512) : (v9305 c a2 h2 a3 h3 a4 h4 a5 h5 a6 h6 a10 a11 a12 a14 a15 a16 x0 x1 x2 x3 x4) (ix2 u r) = top (logit x0 x1 x2 x3 x4 14) 12 u r :=
  top_next (hp 14) (top14_11 hp) (cut512_apply scores14_1 (by omega)) (queryScale_read (by omega) (by omega)) (keyScale_read (by omega)) u r

theorem top14_13 (hp : Positive x1 x4) (u : Fin 8) (r : Fin 512) : (v9315 c a2 h2 a3 h3 a4 h4 a5 h5 a6 h6 a10 a11 a12 a14 a15 a16 x0 x1 x2 x3 x4) (ix2 u r) = top (logit x0 x1 x2 x3 x4 14) 13 u r :=
  top_next (hp 14) (top14_12 hp) (cut512_apply scores14_1 (by omega)) (queryScale_read (by omega) (by omega)) (keyScale_read (by omega)) u r

theorem top14_14 (hp : Positive x1 x4) (u : Fin 8) (r : Fin 512) : (v9325 c a2 h2 a3 h3 a4 h4 a5 h5 a6 h6 a10 a11 a12 a14 a15 a16 x0 x1 x2 x3 x4) (ix2 u r) = top (logit x0 x1 x2 x3 x4 14) 14 u r :=
  top_next (hp 14) (top14_13 hp) (cut512_apply scores14_1 (by omega)) (queryScale_read (by omega) (by omega)) (keyScale_read (by omega)) u r

theorem top14_15 (hp : Positive x1 x4) (u : Fin 8) (r : Fin 512) : (v9335 c a2 h2 a3 h3 a4 h4 a5 h5 a6 h6 a10 a11 a12 a14 a15 a16 x0 x1 x2 x3 x4) (ix2 u r) = top (logit x0 x1 x2 x3 x4 14) 15 u r :=
  top_next (hp 14) (top14_14 hp) (cut512_apply scores14_1 (by omega)) (queryScale_read (by omega) (by omega)) (keyScale_read (by omega)) u r

theorem top14_16 (hp : Positive x1 x4) (u : Fin 8) (r : Fin 512) : (v9354 c a2 h2 a3 h3 a4 h4 a5 h5 a6 h6 a10 a11 a12 a14 a15 a16 x0 x1 x2 x3 x4) (ix2 u r) = top (logit x0 x1 x2 x3 x4 14) 16 u r :=
  top_next (hp 14) (top14_15 hp) (cut512_apply scores14_2 (by omega)) (queryScale_read (by omega) (by omega)) (keyScale_read (by omega)) u r

theorem top14_17 (hp : Positive x1 x4) (u : Fin 8) (r : Fin 512) : (v9364 c a2 h2 a3 h3 a4 h4 a5 h5 a6 h6 a10 a11 a12 a14 a15 a16 x0 x1 x2 x3 x4) (ix2 u r) = top (logit x0 x1 x2 x3 x4 14) 17 u r :=
  top_next (hp 14) (top14_16 hp) (cut512_apply scores14_2 (by omega)) (queryScale_read (by omega) (by omega)) (keyScale_read (by omega)) u r

theorem top14_18 (hp : Positive x1 x4) (u : Fin 8) (r : Fin 512) : (v9374 c a2 h2 a3 h3 a4 h4 a5 h5 a6 h6 a10 a11 a12 a14 a15 a16 x0 x1 x2 x3 x4) (ix2 u r) = top (logit x0 x1 x2 x3 x4 14) 18 u r :=
  top_next (hp 14) (top14_17 hp) (cut512_apply scores14_2 (by omega)) (queryScale_read (by omega) (by omega)) (keyScale_read (by omega)) u r

theorem top14_19 (hp : Positive x1 x4) (u : Fin 8) (r : Fin 512) : (v9384 c a2 h2 a3 h3 a4 h4 a5 h5 a6 h6 a10 a11 a12 a14 a15 a16 x0 x1 x2 x3 x4) (ix2 u r) = top (logit x0 x1 x2 x3 x4 14) 19 u r :=
  top_next (hp 14) (top14_18 hp) (cut512_apply scores14_2 (by omega)) (queryScale_read (by omega) (by omega)) (keyScale_read (by omega)) u r

theorem top14_20 (hp : Positive x1 x4) (u : Fin 8) (r : Fin 512) : (v9394 c a2 h2 a3 h3 a4 h4 a5 h5 a6 h6 a10 a11 a12 a14 a15 a16 x0 x1 x2 x3 x4) (ix2 u r) = top (logit x0 x1 x2 x3 x4 14) 20 u r :=
  top_next (hp 14) (top14_19 hp) (cut512_apply scores14_2 (by omega)) (queryScale_read (by omega) (by omega)) (keyScale_read (by omega)) u r

theorem top14_21 (hp : Positive x1 x4) (u : Fin 8) (r : Fin 512) : (v9404 c a2 h2 a3 h3 a4 h4 a5 h5 a6 h6 a10 a11 a12 a14 a15 a16 x0 x1 x2 x3 x4) (ix2 u r) = top (logit x0 x1 x2 x3 x4 14) 21 u r :=
  top_next (hp 14) (top14_20 hp) (cut512_apply scores14_2 (by omega)) (queryScale_read (by omega) (by omega)) (keyScale_read (by omega)) u r

theorem top14_22 (hp : Positive x1 x4) (u : Fin 8) (r : Fin 512) : (v9414 c a2 h2 a3 h3 a4 h4 a5 h5 a6 h6 a10 a11 a12 a14 a15 a16 x0 x1 x2 x3 x4) (ix2 u r) = top (logit x0 x1 x2 x3 x4 14) 22 u r :=
  top_next (hp 14) (top14_21 hp) (cut512_apply scores14_2 (by omega)) (queryScale_read (by omega) (by omega)) (keyScale_read (by omega)) u r

theorem top14_23 (hp : Positive x1 x4) (u : Fin 8) (r : Fin 512) : (v9424 c a2 h2 a3 h3 a4 h4 a5 h5 a6 h6 a10 a11 a12 a14 a15 a16 x0 x1 x2 x3 x4) (ix2 u r) = top (logit x0 x1 x2 x3 x4 14) 23 u r :=
  top_next (hp 14) (top14_22 hp) (cut512_apply scores14_2 (by omega)) (queryScale_read (by omega) (by omega)) (keyScale_read (by omega)) u r

theorem top14_24 (hp : Positive x1 x4) (u : Fin 8) (r : Fin 512) : (v9448 c a2 h2 a3 h3 a4 h4 a5 h5 a6 h6 a10 a11 a12 a14 a15 a16 x0 x1 x2 x3 x4) (ix2 u r) = top (logit x0 x1 x2 x3 x4 14) 24 u r :=
  top_next (hp 14) (top14_23 hp) (cut384_apply scores14_3 (by omega)) (queryScale_read (by omega) (by omega)) (keyScale_read (by omega)) u r

theorem top14_25 (hp : Positive x1 x4) (u : Fin 8) (r : Fin 512) : (v9458 c a2 h2 a3 h3 a4 h4 a5 h5 a6 h6 a10 a11 a12 a14 a15 a16 x0 x1 x2 x3 x4) (ix2 u r) = top (logit x0 x1 x2 x3 x4 14) 25 u r :=
  top_next (hp 14) (top14_24 hp) (cut384_apply scores14_3 (by omega)) (queryScale_read (by omega) (by omega)) (keyScale_read (by omega)) u r

theorem top14_26 (hp : Positive x1 x4) (u : Fin 8) (r : Fin 512) : (v9468 c a2 h2 a3 h3 a4 h4 a5 h5 a6 h6 a10 a11 a12 a14 a15 a16 x0 x1 x2 x3 x4) (ix2 u r) = top (logit x0 x1 x2 x3 x4 14) 26 u r :=
  top_next (hp 14) (top14_25 hp) (cut384_apply scores14_3 (by omega)) (queryScale_read (by omega) (by omega)) (keyScale_read (by omega)) u r

theorem top14_27 (hp : Positive x1 x4) (u : Fin 8) (r : Fin 512) : (v9478 c a2 h2 a3 h3 a4 h4 a5 h5 a6 h6 a10 a11 a12 a14 a15 a16 x0 x1 x2 x3 x4) (ix2 u r) = top (logit x0 x1 x2 x3 x4 14) 27 u r :=
  top_next (hp 14) (top14_26 hp) (cut384_apply scores14_3 (by omega)) (queryScale_read (by omega) (by omega)) (keyScale_read (by omega)) u r

theorem top14_28 (hp : Positive x1 x4) (u : Fin 8) (r : Fin 512) : (v9488 c a2 h2 a3 h3 a4 h4 a5 h5 a6 h6 a10 a11 a12 a14 a15 a16 x0 x1 x2 x3 x4) (ix2 u r) = top (logit x0 x1 x2 x3 x4 14) 28 u r :=
  top_next (hp 14) (top14_27 hp) (cut384_apply scores14_3 (by omega)) (queryScale_read (by omega) (by omega)) (keyScale_read (by omega)) u r

theorem top14_29 (hp : Positive x1 x4) (u : Fin 8) (r : Fin 512) : (v9498 c a2 h2 a3 h3 a4 h4 a5 h5 a6 h6 a10 a11 a12 a14 a15 a16 x0 x1 x2 x3 x4) (ix2 u r) = top (logit x0 x1 x2 x3 x4 14) 29 u r :=
  top_next (hp 14) (top14_28 hp) (cut384_apply scores14_3 (by omega)) (queryScale_read (by omega) (by omega)) (keyScale_read (by omega)) u r

theorem shift14 (hp : Positive x1 x4) (r : Fin 512) : (v9502 c a2 h2 a3 h3 a4 h4 a5 h5 a6 h6 a10 a11 a12 a14 a15 a16 x0 x1 x2 x3 x4) (ix2 0 r) = shift (logit x0 x1 x2 x3 x4 14) 29 r :=
  shift_apply (top14_29 hp) r

theorem prb14_0 (hp : Positive x1 x4) (s : Fin 64) (r : Fin 512) : (v9518 c a2 h2 a3 h3 a4 h4 a5 h5 a6 h6 a10 a11 a12 a14 a15 a16 a17 x0 x1 x2 x3 x4) (ix2 s r) = prb x0 x1 x2 x3 x4 14 r (0 + s.val) :=
  prob_apply (g := 0) (fun s r => scores_skip (by omega) (scores_skip (by omega) (scores_skip (by omega) (scores_hit (by omega) (by omega) (store512_apply scores14_0) s r)))) (queryScale_read (by omega) (by omega)) (keyScale_read (by omega)) (shift14 hp) s r

theorem mass14_0 (hp : Positive x1 x4) (u : Fin 8) (r : Fin 512) : (v9521 c a2 h2 a3 h3 a4 h4 a5 h5 a6 h6 a10 a11 a12 a14 a15 a16 a17 x0 x1 x2 x3 x4) (ix2 u r) = mass (prb x0 x1 x2 x3 x4 14) 0 u r :=
  mass_first (prb14_0 hp) u r

theorem prb14_1 (hp : Positive x1 x4) (s : Fin 64) (r : Fin 512) : (v9544 c a2 h2 a3 h3 a4 h4 a5 h5 a6 h6 a10 a11 a12 a14 a15 a16 a17 x0 x1 x2 x3 x4) (ix2 s r) = prb x0 x1 x2 x3 x4 14 r (64 + s.val) :=
  prob_apply (g := 1) (fun s r => scores_skip (by omega) (scores_skip (by omega) (scores_skip (by omega) (scores_hit (by omega) (by omega) (store512_apply scores14_0) s r)))) (queryScale_read (by omega) (by omega)) (keyScale_read (by omega)) (shift14 hp) s r

theorem mass14_1 (hp : Positive x1 x4) (u : Fin 8) (r : Fin 512) : (v9547 c a2 h2 a3 h3 a4 h4 a5 h5 a6 h6 a10 a11 a12 a14 a15 a16 a17 x0 x1 x2 x3 x4) (ix2 u r) = mass (prb x0 x1 x2 x3 x4 14) 1 u r :=
  mass_next (mass14_0 hp) (prb14_1 hp) u r

theorem prb14_2 (hp : Positive x1 x4) (s : Fin 64) (r : Fin 512) : (v9570 c a2 h2 a3 h3 a4 h4 a5 h5 a6 h6 a10 a11 a12 a14 a15 a16 a17 x0 x1 x2 x3 x4) (ix2 s r) = prb x0 x1 x2 x3 x4 14 r (128 + s.val) :=
  prob_apply (g := 2) (fun s r => scores_skip (by omega) (scores_skip (by omega) (scores_skip (by omega) (scores_hit (by omega) (by omega) (store512_apply scores14_0) s r)))) (queryScale_read (by omega) (by omega)) (keyScale_read (by omega)) (shift14 hp) s r

theorem mass14_2 (hp : Positive x1 x4) (u : Fin 8) (r : Fin 512) : (v9573 c a2 h2 a3 h3 a4 h4 a5 h5 a6 h6 a10 a11 a12 a14 a15 a16 a17 x0 x1 x2 x3 x4) (ix2 u r) = mass (prb x0 x1 x2 x3 x4 14) 2 u r :=
  mass_next (mass14_1 hp) (prb14_2 hp) u r

theorem prb14_3 (hp : Positive x1 x4) (s : Fin 64) (r : Fin 512) : (v9596 c a2 h2 a3 h3 a4 h4 a5 h5 a6 h6 a10 a11 a12 a14 a15 a16 a17 x0 x1 x2 x3 x4) (ix2 s r) = prb x0 x1 x2 x3 x4 14 r (192 + s.val) :=
  prob_apply (g := 3) (fun s r => scores_skip (by omega) (scores_skip (by omega) (scores_skip (by omega) (scores_hit (by omega) (by omega) (store512_apply scores14_0) s r)))) (queryScale_read (by omega) (by omega)) (keyScale_read (by omega)) (shift14 hp) s r

theorem mass14_3 (hp : Positive x1 x4) (u : Fin 8) (r : Fin 512) : (v9599 c a2 h2 a3 h3 a4 h4 a5 h5 a6 h6 a10 a11 a12 a14 a15 a16 a17 x0 x1 x2 x3 x4) (ix2 u r) = mass (prb x0 x1 x2 x3 x4 14) 3 u r :=
  mass_next (mass14_2 hp) (prb14_3 hp) u r

theorem prb14_4 (hp : Positive x1 x4) (s : Fin 64) (r : Fin 512) : (v9622 c a2 h2 a3 h3 a4 h4 a5 h5 a6 h6 a10 a11 a12 a14 a15 a16 a17 x0 x1 x2 x3 x4) (ix2 s r) = prb x0 x1 x2 x3 x4 14 r (256 + s.val) :=
  prob_apply (g := 4) (fun s r => scores_skip (by omega) (scores_skip (by omega) (scores_skip (by omega) (scores_hit (by omega) (by omega) (store512_apply scores14_0) s r)))) (queryScale_read (by omega) (by omega)) (keyScale_read (by omega)) (shift14 hp) s r

theorem mass14_4 (hp : Positive x1 x4) (u : Fin 8) (r : Fin 512) : (v9625 c a2 h2 a3 h3 a4 h4 a5 h5 a6 h6 a10 a11 a12 a14 a15 a16 a17 x0 x1 x2 x3 x4) (ix2 u r) = mass (prb x0 x1 x2 x3 x4 14) 4 u r :=
  mass_next (mass14_3 hp) (prb14_4 hp) u r

theorem prb14_5 (hp : Positive x1 x4) (s : Fin 64) (r : Fin 512) : (v9648 c a2 h2 a3 h3 a4 h4 a5 h5 a6 h6 a10 a11 a12 a14 a15 a16 a17 x0 x1 x2 x3 x4) (ix2 s r) = prb x0 x1 x2 x3 x4 14 r (320 + s.val) :=
  prob_apply (g := 5) (fun s r => scores_skip (by omega) (scores_skip (by omega) (scores_skip (by omega) (scores_hit (by omega) (by omega) (store512_apply scores14_0) s r)))) (queryScale_read (by omega) (by omega)) (keyScale_read (by omega)) (shift14 hp) s r

theorem mass14_5 (hp : Positive x1 x4) (u : Fin 8) (r : Fin 512) : (v9651 c a2 h2 a3 h3 a4 h4 a5 h5 a6 h6 a10 a11 a12 a14 a15 a16 a17 x0 x1 x2 x3 x4) (ix2 u r) = mass (prb x0 x1 x2 x3 x4 14) 5 u r :=
  mass_next (mass14_4 hp) (prb14_5 hp) u r

theorem prb14_6 (hp : Positive x1 x4) (s : Fin 64) (r : Fin 512) : (v9674 c a2 h2 a3 h3 a4 h4 a5 h5 a6 h6 a10 a11 a12 a14 a15 a16 a17 x0 x1 x2 x3 x4) (ix2 s r) = prb x0 x1 x2 x3 x4 14 r (384 + s.val) :=
  prob_apply (g := 6) (fun s r => scores_skip (by omega) (scores_skip (by omega) (scores_skip (by omega) (scores_hit (by omega) (by omega) (store512_apply scores14_0) s r)))) (queryScale_read (by omega) (by omega)) (keyScale_read (by omega)) (shift14 hp) s r

theorem mass14_6 (hp : Positive x1 x4) (u : Fin 8) (r : Fin 512) : (v9677 c a2 h2 a3 h3 a4 h4 a5 h5 a6 h6 a10 a11 a12 a14 a15 a16 a17 x0 x1 x2 x3 x4) (ix2 u r) = mass (prb x0 x1 x2 x3 x4 14) 6 u r :=
  mass_next (mass14_5 hp) (prb14_6 hp) u r

theorem prb14_7 (hp : Positive x1 x4) (s : Fin 64) (r : Fin 512) : (v9700 c a2 h2 a3 h3 a4 h4 a5 h5 a6 h6 a10 a11 a12 a14 a15 a16 a17 x0 x1 x2 x3 x4) (ix2 s r) = prb x0 x1 x2 x3 x4 14 r (448 + s.val) :=
  prob_apply (g := 7) (fun s r => scores_skip (by omega) (scores_skip (by omega) (scores_skip (by omega) (scores_hit (by omega) (by omega) (store512_apply scores14_0) s r)))) (queryScale_read (by omega) (by omega)) (keyScale_read (by omega)) (shift14 hp) s r

theorem mass14_7 (hp : Positive x1 x4) (u : Fin 8) (r : Fin 512) : (v9703 c a2 h2 a3 h3 a4 h4 a5 h5 a6 h6 a10 a11 a12 a14 a15 a16 a17 x0 x1 x2 x3 x4) (ix2 u r) = mass (prb x0 x1 x2 x3 x4 14) 7 u r :=
  mass_next (mass14_6 hp) (prb14_7 hp) u r

theorem prb14_8 (hp : Positive x1 x4) (s : Fin 64) (r : Fin 512) : (v9726 c a2 h2 a3 h3 a4 h4 a5 h5 a6 h6 a10 a11 a12 a14 a15 a16 a17 x0 x1 x2 x3 x4) (ix2 s r) = prb x0 x1 x2 x3 x4 14 r (512 + s.val) :=
  prob_apply (g := 8) (fun s r => scores_skip (by omega) (scores_skip (by omega) (scores_hit (by omega) (by omega) (store512_apply scores14_1) s r))) (queryScale_read (by omega) (by omega)) (keyScale_read (by omega)) (shift14 hp) s r

theorem mass14_8 (hp : Positive x1 x4) (u : Fin 8) (r : Fin 512) : (v9729 c a2 h2 a3 h3 a4 h4 a5 h5 a6 h6 a10 a11 a12 a14 a15 a16 a17 x0 x1 x2 x3 x4) (ix2 u r) = mass (prb x0 x1 x2 x3 x4 14) 8 u r :=
  mass_next (mass14_7 hp) (prb14_8 hp) u r

theorem prb14_9 (hp : Positive x1 x4) (s : Fin 64) (r : Fin 512) : (v9752 c a2 h2 a3 h3 a4 h4 a5 h5 a6 h6 a10 a11 a12 a14 a15 a16 a17 x0 x1 x2 x3 x4) (ix2 s r) = prb x0 x1 x2 x3 x4 14 r (576 + s.val) :=
  prob_apply (g := 9) (fun s r => scores_skip (by omega) (scores_skip (by omega) (scores_hit (by omega) (by omega) (store512_apply scores14_1) s r))) (queryScale_read (by omega) (by omega)) (keyScale_read (by omega)) (shift14 hp) s r

theorem mass14_9 (hp : Positive x1 x4) (u : Fin 8) (r : Fin 512) : (v9755 c a2 h2 a3 h3 a4 h4 a5 h5 a6 h6 a10 a11 a12 a14 a15 a16 a17 x0 x1 x2 x3 x4) (ix2 u r) = mass (prb x0 x1 x2 x3 x4 14) 9 u r :=
  mass_next (mass14_8 hp) (prb14_9 hp) u r

theorem prb14_10 (hp : Positive x1 x4) (s : Fin 64) (r : Fin 512) : (v9778 c a2 h2 a3 h3 a4 h4 a5 h5 a6 h6 a10 a11 a12 a14 a15 a16 a17 x0 x1 x2 x3 x4) (ix2 s r) = prb x0 x1 x2 x3 x4 14 r (640 + s.val) :=
  prob_apply (g := 10) (fun s r => scores_skip (by omega) (scores_skip (by omega) (scores_hit (by omega) (by omega) (store512_apply scores14_1) s r))) (queryScale_read (by omega) (by omega)) (keyScale_read (by omega)) (shift14 hp) s r

theorem mass14_10 (hp : Positive x1 x4) (u : Fin 8) (r : Fin 512) : (v9781 c a2 h2 a3 h3 a4 h4 a5 h5 a6 h6 a10 a11 a12 a14 a15 a16 a17 x0 x1 x2 x3 x4) (ix2 u r) = mass (prb x0 x1 x2 x3 x4 14) 10 u r :=
  mass_next (mass14_9 hp) (prb14_10 hp) u r

theorem prb14_11 (hp : Positive x1 x4) (s : Fin 64) (r : Fin 512) : (v9804 c a2 h2 a3 h3 a4 h4 a5 h5 a6 h6 a10 a11 a12 a14 a15 a16 a17 x0 x1 x2 x3 x4) (ix2 s r) = prb x0 x1 x2 x3 x4 14 r (704 + s.val) :=
  prob_apply (g := 11) (fun s r => scores_skip (by omega) (scores_skip (by omega) (scores_hit (by omega) (by omega) (store512_apply scores14_1) s r))) (queryScale_read (by omega) (by omega)) (keyScale_read (by omega)) (shift14 hp) s r

theorem mass14_11 (hp : Positive x1 x4) (u : Fin 8) (r : Fin 512) : (v9807 c a2 h2 a3 h3 a4 h4 a5 h5 a6 h6 a10 a11 a12 a14 a15 a16 a17 x0 x1 x2 x3 x4) (ix2 u r) = mass (prb x0 x1 x2 x3 x4 14) 11 u r :=
  mass_next (mass14_10 hp) (prb14_11 hp) u r

theorem prb14_12 (hp : Positive x1 x4) (s : Fin 64) (r : Fin 512) : (v9830 c a2 h2 a3 h3 a4 h4 a5 h5 a6 h6 a10 a11 a12 a14 a15 a16 a17 x0 x1 x2 x3 x4) (ix2 s r) = prb x0 x1 x2 x3 x4 14 r (768 + s.val) :=
  prob_apply (g := 12) (fun s r => scores_skip (by omega) (scores_skip (by omega) (scores_hit (by omega) (by omega) (store512_apply scores14_1) s r))) (queryScale_read (by omega) (by omega)) (keyScale_read (by omega)) (shift14 hp) s r

theorem mass14_12 (hp : Positive x1 x4) (u : Fin 8) (r : Fin 512) : (v9833 c a2 h2 a3 h3 a4 h4 a5 h5 a6 h6 a10 a11 a12 a14 a15 a16 a17 x0 x1 x2 x3 x4) (ix2 u r) = mass (prb x0 x1 x2 x3 x4 14) 12 u r :=
  mass_next (mass14_11 hp) (prb14_12 hp) u r

theorem prb14_13 (hp : Positive x1 x4) (s : Fin 64) (r : Fin 512) : (v9856 c a2 h2 a3 h3 a4 h4 a5 h5 a6 h6 a10 a11 a12 a14 a15 a16 a17 x0 x1 x2 x3 x4) (ix2 s r) = prb x0 x1 x2 x3 x4 14 r (832 + s.val) :=
  prob_apply (g := 13) (fun s r => scores_skip (by omega) (scores_skip (by omega) (scores_hit (by omega) (by omega) (store512_apply scores14_1) s r))) (queryScale_read (by omega) (by omega)) (keyScale_read (by omega)) (shift14 hp) s r

theorem mass14_13 (hp : Positive x1 x4) (u : Fin 8) (r : Fin 512) : (v9859 c a2 h2 a3 h3 a4 h4 a5 h5 a6 h6 a10 a11 a12 a14 a15 a16 a17 x0 x1 x2 x3 x4) (ix2 u r) = mass (prb x0 x1 x2 x3 x4 14) 13 u r :=
  mass_next (mass14_12 hp) (prb14_13 hp) u r

theorem prb14_14 (hp : Positive x1 x4) (s : Fin 64) (r : Fin 512) : (v9882 c a2 h2 a3 h3 a4 h4 a5 h5 a6 h6 a10 a11 a12 a14 a15 a16 a17 x0 x1 x2 x3 x4) (ix2 s r) = prb x0 x1 x2 x3 x4 14 r (896 + s.val) :=
  prob_apply (g := 14) (fun s r => scores_skip (by omega) (scores_skip (by omega) (scores_hit (by omega) (by omega) (store512_apply scores14_1) s r))) (queryScale_read (by omega) (by omega)) (keyScale_read (by omega)) (shift14 hp) s r

theorem mass14_14 (hp : Positive x1 x4) (u : Fin 8) (r : Fin 512) : (v9885 c a2 h2 a3 h3 a4 h4 a5 h5 a6 h6 a10 a11 a12 a14 a15 a16 a17 x0 x1 x2 x3 x4) (ix2 u r) = mass (prb x0 x1 x2 x3 x4 14) 14 u r :=
  mass_next (mass14_13 hp) (prb14_14 hp) u r

theorem prb14_15 (hp : Positive x1 x4) (s : Fin 64) (r : Fin 512) : (v9908 c a2 h2 a3 h3 a4 h4 a5 h5 a6 h6 a10 a11 a12 a14 a15 a16 a17 x0 x1 x2 x3 x4) (ix2 s r) = prb x0 x1 x2 x3 x4 14 r (960 + s.val) :=
  prob_apply (g := 15) (fun s r => scores_skip (by omega) (scores_skip (by omega) (scores_hit (by omega) (by omega) (store512_apply scores14_1) s r))) (queryScale_read (by omega) (by omega)) (keyScale_read (by omega)) (shift14 hp) s r

theorem mass14_15 (hp : Positive x1 x4) (u : Fin 8) (r : Fin 512) : (v9911 c a2 h2 a3 h3 a4 h4 a5 h5 a6 h6 a10 a11 a12 a14 a15 a16 a17 x0 x1 x2 x3 x4) (ix2 u r) = mass (prb x0 x1 x2 x3 x4 14) 15 u r :=
  mass_next (mass14_14 hp) (prb14_15 hp) u r

theorem prb14_16 (hp : Positive x1 x4) (s : Fin 64) (r : Fin 512) : (v9934 c a2 h2 a3 h3 a4 h4 a5 h5 a6 h6 a10 a11 a12 a14 a15 a16 a17 x0 x1 x2 x3 x4) (ix2 s r) = prb x0 x1 x2 x3 x4 14 r (1024 + s.val) :=
  prob_apply (g := 16) (fun s r => scores_skip (by omega) (scores_hit (by omega) (by omega) (store512_apply scores14_2) s r)) (queryScale_read (by omega) (by omega)) (keyScale_read (by omega)) (shift14 hp) s r

theorem mass14_16 (hp : Positive x1 x4) (u : Fin 8) (r : Fin 512) : (v9937 c a2 h2 a3 h3 a4 h4 a5 h5 a6 h6 a10 a11 a12 a14 a15 a16 a17 x0 x1 x2 x3 x4) (ix2 u r) = mass (prb x0 x1 x2 x3 x4 14) 16 u r :=
  mass_next (mass14_15 hp) (prb14_16 hp) u r

theorem prb14_17 (hp : Positive x1 x4) (s : Fin 64) (r : Fin 512) : (v9960 c a2 h2 a3 h3 a4 h4 a5 h5 a6 h6 a10 a11 a12 a14 a15 a16 a17 x0 x1 x2 x3 x4) (ix2 s r) = prb x0 x1 x2 x3 x4 14 r (1088 + s.val) :=
  prob_apply (g := 17) (fun s r => scores_skip (by omega) (scores_hit (by omega) (by omega) (store512_apply scores14_2) s r)) (queryScale_read (by omega) (by omega)) (keyScale_read (by omega)) (shift14 hp) s r

theorem mass14_17 (hp : Positive x1 x4) (u : Fin 8) (r : Fin 512) : (v9963 c a2 h2 a3 h3 a4 h4 a5 h5 a6 h6 a10 a11 a12 a14 a15 a16 a17 x0 x1 x2 x3 x4) (ix2 u r) = mass (prb x0 x1 x2 x3 x4 14) 17 u r :=
  mass_next (mass14_16 hp) (prb14_17 hp) u r

theorem prb14_18 (hp : Positive x1 x4) (s : Fin 64) (r : Fin 512) : (v9986 c a2 h2 a3 h3 a4 h4 a5 h5 a6 h6 a10 a11 a12 a14 a15 a16 a17 x0 x1 x2 x3 x4) (ix2 s r) = prb x0 x1 x2 x3 x4 14 r (1152 + s.val) :=
  prob_apply (g := 18) (fun s r => scores_skip (by omega) (scores_hit (by omega) (by omega) (store512_apply scores14_2) s r)) (queryScale_read (by omega) (by omega)) (keyScale_read (by omega)) (shift14 hp) s r

theorem mass14_18 (hp : Positive x1 x4) (u : Fin 8) (r : Fin 512) : (v9989 c a2 h2 a3 h3 a4 h4 a5 h5 a6 h6 a10 a11 a12 a14 a15 a16 a17 x0 x1 x2 x3 x4) (ix2 u r) = mass (prb x0 x1 x2 x3 x4 14) 18 u r :=
  mass_next (mass14_17 hp) (prb14_18 hp) u r

theorem prb14_19 (hp : Positive x1 x4) (s : Fin 64) (r : Fin 512) : (v10012 c a2 h2 a3 h3 a4 h4 a5 h5 a6 h6 a10 a11 a12 a14 a15 a16 a17 x0 x1 x2 x3 x4) (ix2 s r) = prb x0 x1 x2 x3 x4 14 r (1216 + s.val) :=
  prob_apply (g := 19) (fun s r => scores_skip (by omega) (scores_hit (by omega) (by omega) (store512_apply scores14_2) s r)) (queryScale_read (by omega) (by omega)) (keyScale_read (by omega)) (shift14 hp) s r

theorem mass14_19 (hp : Positive x1 x4) (u : Fin 8) (r : Fin 512) : (v10015 c a2 h2 a3 h3 a4 h4 a5 h5 a6 h6 a10 a11 a12 a14 a15 a16 a17 x0 x1 x2 x3 x4) (ix2 u r) = mass (prb x0 x1 x2 x3 x4 14) 19 u r :=
  mass_next (mass14_18 hp) (prb14_19 hp) u r

theorem prb14_20 (hp : Positive x1 x4) (s : Fin 64) (r : Fin 512) : (v10038 c a2 h2 a3 h3 a4 h4 a5 h5 a6 h6 a10 a11 a12 a14 a15 a16 a17 x0 x1 x2 x3 x4) (ix2 s r) = prb x0 x1 x2 x3 x4 14 r (1280 + s.val) :=
  prob_apply (g := 20) (fun s r => scores_skip (by omega) (scores_hit (by omega) (by omega) (store512_apply scores14_2) s r)) (queryScale_read (by omega) (by omega)) (keyScale_read (by omega)) (shift14 hp) s r

theorem mass14_20 (hp : Positive x1 x4) (u : Fin 8) (r : Fin 512) : (v10041 c a2 h2 a3 h3 a4 h4 a5 h5 a6 h6 a10 a11 a12 a14 a15 a16 a17 x0 x1 x2 x3 x4) (ix2 u r) = mass (prb x0 x1 x2 x3 x4 14) 20 u r :=
  mass_next (mass14_19 hp) (prb14_20 hp) u r

theorem prb14_21 (hp : Positive x1 x4) (s : Fin 64) (r : Fin 512) : (v10064 c a2 h2 a3 h3 a4 h4 a5 h5 a6 h6 a10 a11 a12 a14 a15 a16 a17 x0 x1 x2 x3 x4) (ix2 s r) = prb x0 x1 x2 x3 x4 14 r (1344 + s.val) :=
  prob_apply (g := 21) (fun s r => scores_skip (by omega) (scores_hit (by omega) (by omega) (store512_apply scores14_2) s r)) (queryScale_read (by omega) (by omega)) (keyScale_read (by omega)) (shift14 hp) s r

theorem mass14_21 (hp : Positive x1 x4) (u : Fin 8) (r : Fin 512) : (v10067 c a2 h2 a3 h3 a4 h4 a5 h5 a6 h6 a10 a11 a12 a14 a15 a16 a17 x0 x1 x2 x3 x4) (ix2 u r) = mass (prb x0 x1 x2 x3 x4 14) 21 u r :=
  mass_next (mass14_20 hp) (prb14_21 hp) u r

theorem prb14_22 (hp : Positive x1 x4) (s : Fin 64) (r : Fin 512) : (v10090 c a2 h2 a3 h3 a4 h4 a5 h5 a6 h6 a10 a11 a12 a14 a15 a16 a17 x0 x1 x2 x3 x4) (ix2 s r) = prb x0 x1 x2 x3 x4 14 r (1408 + s.val) :=
  prob_apply (g := 22) (fun s r => scores_skip (by omega) (scores_hit (by omega) (by omega) (store512_apply scores14_2) s r)) (queryScale_read (by omega) (by omega)) (keyScale_read (by omega)) (shift14 hp) s r

theorem mass14_22 (hp : Positive x1 x4) (u : Fin 8) (r : Fin 512) : (v10093 c a2 h2 a3 h3 a4 h4 a5 h5 a6 h6 a10 a11 a12 a14 a15 a16 a17 x0 x1 x2 x3 x4) (ix2 u r) = mass (prb x0 x1 x2 x3 x4 14) 22 u r :=
  mass_next (mass14_21 hp) (prb14_22 hp) u r

theorem prb14_23 (hp : Positive x1 x4) (s : Fin 64) (r : Fin 512) : (v10116 c a2 h2 a3 h3 a4 h4 a5 h5 a6 h6 a10 a11 a12 a14 a15 a16 a17 x0 x1 x2 x3 x4) (ix2 s r) = prb x0 x1 x2 x3 x4 14 r (1472 + s.val) :=
  prob_apply (g := 23) (fun s r => scores_skip (by omega) (scores_hit (by omega) (by omega) (store512_apply scores14_2) s r)) (queryScale_read (by omega) (by omega)) (keyScale_read (by omega)) (shift14 hp) s r

theorem mass14_23 (hp : Positive x1 x4) (u : Fin 8) (r : Fin 512) : (v10119 c a2 h2 a3 h3 a4 h4 a5 h5 a6 h6 a10 a11 a12 a14 a15 a16 a17 x0 x1 x2 x3 x4) (ix2 u r) = mass (prb x0 x1 x2 x3 x4 14) 23 u r :=
  mass_next (mass14_22 hp) (prb14_23 hp) u r

theorem prb14_24 (hp : Positive x1 x4) (s : Fin 64) (r : Fin 512) : (v10142 c a2 h2 a3 h3 a4 h4 a5 h5 a6 h6 a10 a11 a12 a14 a15 a16 a17 x0 x1 x2 x3 x4) (ix2 s r) = prb x0 x1 x2 x3 x4 14 r (1536 + s.val) :=
  prob_apply (g := 24) (fun s r => scores_hit (by omega) (by omega) (store384_apply scores14_3) s r) (queryScale_read (by omega) (by omega)) (keyScale_read (by omega)) (shift14 hp) s r

theorem mass14_24 (hp : Positive x1 x4) (u : Fin 8) (r : Fin 512) : (v10145 c a2 h2 a3 h3 a4 h4 a5 h5 a6 h6 a10 a11 a12 a14 a15 a16 a17 x0 x1 x2 x3 x4) (ix2 u r) = mass (prb x0 x1 x2 x3 x4 14) 24 u r :=
  mass_next (mass14_23 hp) (prb14_24 hp) u r

theorem prb14_25 (hp : Positive x1 x4) (s : Fin 64) (r : Fin 512) : (v10168 c a2 h2 a3 h3 a4 h4 a5 h5 a6 h6 a10 a11 a12 a14 a15 a16 a17 x0 x1 x2 x3 x4) (ix2 s r) = prb x0 x1 x2 x3 x4 14 r (1600 + s.val) :=
  prob_apply (g := 25) (fun s r => scores_hit (by omega) (by omega) (store384_apply scores14_3) s r) (queryScale_read (by omega) (by omega)) (keyScale_read (by omega)) (shift14 hp) s r

theorem mass14_25 (hp : Positive x1 x4) (u : Fin 8) (r : Fin 512) : (v10171 c a2 h2 a3 h3 a4 h4 a5 h5 a6 h6 a10 a11 a12 a14 a15 a16 a17 x0 x1 x2 x3 x4) (ix2 u r) = mass (prb x0 x1 x2 x3 x4 14) 25 u r :=
  mass_next (mass14_24 hp) (prb14_25 hp) u r

theorem prb14_26 (hp : Positive x1 x4) (s : Fin 64) (r : Fin 512) : (v10194 c a2 h2 a3 h3 a4 h4 a5 h5 a6 h6 a10 a11 a12 a14 a15 a16 a17 x0 x1 x2 x3 x4) (ix2 s r) = prb x0 x1 x2 x3 x4 14 r (1664 + s.val) :=
  prob_apply (g := 26) (fun s r => scores_hit (by omega) (by omega) (store384_apply scores14_3) s r) (queryScale_read (by omega) (by omega)) (keyScale_read (by omega)) (shift14 hp) s r

theorem mass14_26 (hp : Positive x1 x4) (u : Fin 8) (r : Fin 512) : (v10197 c a2 h2 a3 h3 a4 h4 a5 h5 a6 h6 a10 a11 a12 a14 a15 a16 a17 x0 x1 x2 x3 x4) (ix2 u r) = mass (prb x0 x1 x2 x3 x4 14) 26 u r :=
  mass_next (mass14_25 hp) (prb14_26 hp) u r

theorem prb14_27 (hp : Positive x1 x4) (s : Fin 64) (r : Fin 512) : (v10220 c a2 h2 a3 h3 a4 h4 a5 h5 a6 h6 a10 a11 a12 a14 a15 a16 a17 x0 x1 x2 x3 x4) (ix2 s r) = prb x0 x1 x2 x3 x4 14 r (1728 + s.val) :=
  prob_apply (g := 27) (fun s r => scores_hit (by omega) (by omega) (store384_apply scores14_3) s r) (queryScale_read (by omega) (by omega)) (keyScale_read (by omega)) (shift14 hp) s r

theorem mass14_27 (hp : Positive x1 x4) (u : Fin 8) (r : Fin 512) : (v10223 c a2 h2 a3 h3 a4 h4 a5 h5 a6 h6 a10 a11 a12 a14 a15 a16 a17 x0 x1 x2 x3 x4) (ix2 u r) = mass (prb x0 x1 x2 x3 x4 14) 27 u r :=
  mass_next (mass14_26 hp) (prb14_27 hp) u r

theorem prb14_28 (hp : Positive x1 x4) (s : Fin 64) (r : Fin 512) : (v10246 c a2 h2 a3 h3 a4 h4 a5 h5 a6 h6 a10 a11 a12 a14 a15 a16 a17 x0 x1 x2 x3 x4) (ix2 s r) = prb x0 x1 x2 x3 x4 14 r (1792 + s.val) :=
  prob_apply (g := 28) (fun s r => scores_hit (by omega) (by omega) (store384_apply scores14_3) s r) (queryScale_read (by omega) (by omega)) (keyScale_read (by omega)) (shift14 hp) s r

theorem mass14_28 (hp : Positive x1 x4) (u : Fin 8) (r : Fin 512) : (v10249 c a2 h2 a3 h3 a4 h4 a5 h5 a6 h6 a10 a11 a12 a14 a15 a16 a17 x0 x1 x2 x3 x4) (ix2 u r) = mass (prb x0 x1 x2 x3 x4 14) 28 u r :=
  mass_next (mass14_27 hp) (prb14_28 hp) u r

theorem prb14_29 (hp : Positive x1 x4) (s : Fin 64) (r : Fin 512) : (v10272 c a2 h2 a3 h3 a4 h4 a5 h5 a6 h6 a10 a11 a12 a14 a15 a16 a17 x0 x1 x2 x3 x4) (ix2 s r) = prb x0 x1 x2 x3 x4 14 r (1856 + s.val) :=
  prob_apply (g := 29) (fun s r => scores_hit (by omega) (by omega) (store384_apply scores14_3) s r) (queryScale_read (by omega) (by omega)) (keyScale_read (by omega)) (shift14 hp) s r

theorem mass14_29 (hp : Positive x1 x4) (u : Fin 8) (r : Fin 512) : (v10275 c a2 h2 a3 h3 a4 h4 a5 h5 a6 h6 a10 a11 a12 a14 a15 a16 a17 x0 x1 x2 x3 x4) (ix2 u r) = mass (prb x0 x1 x2 x3 x4 14) 29 u r :=
  mass_next (mass14_28 hp) (prb14_29 hp) u r

theorem row14 (hp : Positive x1 x4) (r : Fin 512) (d : Fin 128) : (v10297 c a2 h2 a3 h3 a4 h4 a5 h5 a6 h6 a7 h7 a10 a11 a12 a13 a14 a15 a16 a17 a18 x0 x1 x2 x3 x4 x5) (ix3 0 r d) = row x0 x1 x2 x3 x4 x5 14 r d :=
  rows_apply (product1920_apply (value_read (by omega)) (fun s r => (codes_start (by omega) (by omega) s r).trans (codes_step (codes_apply (prb14_29 hp)) s.isLt fun _ =>
      codes_step (codes_apply (prb14_28 hp)) (by omega) fun _ =>
      codes_step (codes_apply (prb14_27 hp)) (by omega) fun _ =>
      codes_step (codes_apply (prb14_26 hp)) (by omega) fun _ =>
      codes_step (codes_apply (prb14_25 hp)) (by omega) fun _ =>
      codes_step (codes_apply (prb14_24 hp)) (by omega) fun _ =>
      codes_step (codes_apply (prb14_23 hp)) (by omega) fun _ =>
      codes_step (codes_apply (prb14_22 hp)) (by omega) fun _ =>
      codes_step (codes_apply (prb14_21 hp)) (by omega) fun _ =>
      codes_step (codes_apply (prb14_20 hp)) (by omega) fun _ =>
      codes_step (codes_apply (prb14_19 hp)) (by omega) fun _ =>
      codes_step (codes_apply (prb14_18 hp)) (by omega) fun _ =>
      codes_step (codes_apply (prb14_17 hp)) (by omega) fun _ =>
      codes_step (codes_apply (prb14_16 hp)) (by omega) fun _ =>
      codes_step (codes_apply (prb14_15 hp)) (by omega) fun _ =>
      codes_step (codes_apply (prb14_14 hp)) (by omega) fun _ =>
      codes_step (codes_apply (prb14_13 hp)) (by omega) fun _ =>
      codes_step (codes_apply (prb14_12 hp)) (by omega) fun _ =>
      codes_step (codes_apply (prb14_11 hp)) (by omega) fun _ =>
      codes_step (codes_apply (prb14_10 hp)) (by omega) fun _ =>
      codes_step (codes_apply (prb14_9 hp)) (by omega) fun _ =>
      codes_step (codes_apply (prb14_8 hp)) (by omega) fun _ =>
      codes_step (codes_apply (prb14_7 hp)) (by omega) fun _ =>
      codes_step (codes_apply (prb14_6 hp)) (by omega) fun _ =>
      codes_step (codes_apply (prb14_5 hp)) (by omega) fun _ =>
      codes_step (codes_apply (prb14_4 hp)) (by omega) fun _ =>
      codes_step (codes_apply (prb14_3 hp)) (by omega) fun _ =>
      codes_step (codes_apply (prb14_2 hp)) (by omega) fun _ =>
      codes_step (codes_apply (prb14_1 hp)) (by omega) fun _ =>
      codes_step (codes_apply (prb14_0 hp)) (by omega) fun _ =>
      absurd ‹_› (by omega)))) (mass14_29 hp) r d

theorem head14_0 (hp : Positive x1 x4) (t d : Fin 128) : (v10305 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 14 0 t d :=
  (head_apply _ _ t d).trans (congrArg₂ (· * ·) ((head_read (by omega) t d).trans ((row14 hp _ d).trans (congrArg (fun a => row x0 x1 x2 x3 x4 x5 14 a d) (Fin.ext (by dsimp only; omega))))) (valueScales d))

theorem head14_1 (hp : Positive x1 x4) (t d : Fin 128) : (v10313 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 14 1 t d :=
  (head_apply _ _ t d).trans (congrArg₂ (· * ·) ((head_read (by omega) t d).trans ((row14 hp _ d).trans (congrArg (fun a => row x0 x1 x2 x3 x4 x5 14 a d) (Fin.ext (by dsimp only; omega))))) (valueScales d))

theorem head14_2 (hp : Positive x1 x4) (t d : Fin 128) : (v10321 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 14 2 t d :=
  (head_apply _ _ t d).trans (congrArg₂ (· * ·) ((head_read (by omega) t d).trans ((row14 hp _ d).trans (congrArg (fun a => row x0 x1 x2 x3 x4 x5 14 a d) (Fin.ext (by dsimp only; omega))))) (valueScales d))

theorem head14_3 (hp : Positive x1 x4) (t d : Fin 128) : (v10329 c i a2 h2 a3 h3 a4 h4 a5 h5 a6 h6 a7 h7 a8 h8 a10 a11 a12 a13 a14 a15 a16 a17 a18 a19 x0 x1 x2 x3 x4 x5 x6) (ix3 0 t d) = output x0 x1 x2 x3 x4 x5 x6 i 14 3 t d :=
  (head_apply _ _ t d).trans (congrArg₂ (· * ·) ((head_read (by omega) t d).trans ((row14 hp _ d).trans (congrArg (fun a => row x0 x1 x2 x3 x4 x5 14 a d) (Fin.ext (by dsimp only; omega))))) (valueScales d))

/-! ## Query block 15 -/

theorem scores15_0 (s : Fin 512) (r : Fin 512) : (v10342 c a2 h2 a3 h3 a4 h4 a5 h5 a10 a11 a14 a15 x0 x1 x2 x3) (ix2 s r) = (score x0 x1 x2 x3 15 r (0 + s.val)) :=
  whole_apply (raw512_apply (keys8_read (by omega)) (keys16_read (by omega)) (query_read (by omega) (by omega)) (tile_apply (mean_read (by omega) (by omega)))) (by omega) s r

theorem scores15_1 (s : Fin 512) (r : Fin 512) : (v10430 c a2 h2 a3 h3 a4 h4 a5 h5 a10 a11 a14 a15 x0 x1 x2 x3) (ix2 s r) = (score x0 x1 x2 x3 15 r (512 + s.val)) :=
  whole_apply (raw512_apply (keys8_read (by omega)) (keys16_read (by omega)) (query_read (by omega) (by omega)) (tile_apply (mean_read (by omega) (by omega)))) (by omega) s r

theorem scores15_2 (s : Fin 512) (r : Fin 512) : (v10519 c a2 h2 a3 h3 a4 h4 a5 h5 a10 a11 a14 a15 x0 x1 x2 x3) (ix2 s r) = (score x0 x1 x2 x3 15 r (1024 + s.val)) :=
  whole_apply (raw512_apply (keys8_read (by omega)) (keys16_read (by omega)) (query_read (by omega) (by omega)) (tile_apply (mean_read (by omega) (by omega)))) (by omega) s r

theorem scores15_3 (s : Fin 512) (r : Fin 512) : (v10613 c a2 h2 a3 h3 a4 h4 a5 h5 a10 a11 a14 a15 x0 x1 x2 x3) (ix2 s r) = (score x0 x1 x2 x3 15 r (1536 + s.val)) :=
  tail512_apply (raw512_apply (keys8_read (by omega)) (keys16_read (by omega)) (query_read (by omega) (by omega)) (tile_apply (mean_read (by omega) (by omega)))) (by omega) s r

theorem top15_0 (hp : Positive x1 x4) (u : Fin 8) (r : Fin 512) : (v10354 c a2 h2 a3 h3 a4 h4 a5 h5 a6 h6 a10 a11 a12 a14 a15 a16 x0 x1 x2 x3 x4) (ix2 u r) = top (logit x0 x1 x2 x3 x4 15) 0 u r :=
  top_first (hp 15) (cut512_apply scores15_0 (by omega)) (queryScale_read (by omega) (by omega)) (keyScale_read (by omega)) u r

theorem top15_1 (hp : Positive x1 x4) (u : Fin 8) (r : Fin 512) : (v10364 c a2 h2 a3 h3 a4 h4 a5 h5 a6 h6 a10 a11 a12 a14 a15 a16 x0 x1 x2 x3 x4) (ix2 u r) = top (logit x0 x1 x2 x3 x4 15) 1 u r :=
  top_next (hp 15) (top15_0 hp) (cut512_apply scores15_0 (by omega)) (queryScale_read (by omega) (by omega)) (keyScale_read (by omega)) u r

theorem top15_2 (hp : Positive x1 x4) (u : Fin 8) (r : Fin 512) : (v10374 c a2 h2 a3 h3 a4 h4 a5 h5 a6 h6 a10 a11 a12 a14 a15 a16 x0 x1 x2 x3 x4) (ix2 u r) = top (logit x0 x1 x2 x3 x4 15) 2 u r :=
  top_next (hp 15) (top15_1 hp) (cut512_apply scores15_0 (by omega)) (queryScale_read (by omega) (by omega)) (keyScale_read (by omega)) u r

theorem top15_3 (hp : Positive x1 x4) (u : Fin 8) (r : Fin 512) : (v10384 c a2 h2 a3 h3 a4 h4 a5 h5 a6 h6 a10 a11 a12 a14 a15 a16 x0 x1 x2 x3 x4) (ix2 u r) = top (logit x0 x1 x2 x3 x4 15) 3 u r :=
  top_next (hp 15) (top15_2 hp) (cut512_apply scores15_0 (by omega)) (queryScale_read (by omega) (by omega)) (keyScale_read (by omega)) u r

theorem top15_4 (hp : Positive x1 x4) (u : Fin 8) (r : Fin 512) : (v10394 c a2 h2 a3 h3 a4 h4 a5 h5 a6 h6 a10 a11 a12 a14 a15 a16 x0 x1 x2 x3 x4) (ix2 u r) = top (logit x0 x1 x2 x3 x4 15) 4 u r :=
  top_next (hp 15) (top15_3 hp) (cut512_apply scores15_0 (by omega)) (queryScale_read (by omega) (by omega)) (keyScale_read (by omega)) u r

theorem top15_5 (hp : Positive x1 x4) (u : Fin 8) (r : Fin 512) : (v10404 c a2 h2 a3 h3 a4 h4 a5 h5 a6 h6 a10 a11 a12 a14 a15 a16 x0 x1 x2 x3 x4) (ix2 u r) = top (logit x0 x1 x2 x3 x4 15) 5 u r :=
  top_next (hp 15) (top15_4 hp) (cut512_apply scores15_0 (by omega)) (queryScale_read (by omega) (by omega)) (keyScale_read (by omega)) u r

theorem top15_6 (hp : Positive x1 x4) (u : Fin 8) (r : Fin 512) : (v10414 c a2 h2 a3 h3 a4 h4 a5 h5 a6 h6 a10 a11 a12 a14 a15 a16 x0 x1 x2 x3 x4) (ix2 u r) = top (logit x0 x1 x2 x3 x4 15) 6 u r :=
  top_next (hp 15) (top15_5 hp) (cut512_apply scores15_0 (by omega)) (queryScale_read (by omega) (by omega)) (keyScale_read (by omega)) u r

theorem top15_7 (hp : Positive x1 x4) (u : Fin 8) (r : Fin 512) : (v10424 c a2 h2 a3 h3 a4 h4 a5 h5 a6 h6 a10 a11 a12 a14 a15 a16 x0 x1 x2 x3 x4) (ix2 u r) = top (logit x0 x1 x2 x3 x4 15) 7 u r :=
  top_next (hp 15) (top15_6 hp) (cut512_apply scores15_0 (by omega)) (queryScale_read (by omega) (by omega)) (keyScale_read (by omega)) u r

theorem top15_8 (hp : Positive x1 x4) (u : Fin 8) (r : Fin 512) : (v10443 c a2 h2 a3 h3 a4 h4 a5 h5 a6 h6 a10 a11 a12 a14 a15 a16 x0 x1 x2 x3 x4) (ix2 u r) = top (logit x0 x1 x2 x3 x4 15) 8 u r :=
  top_next (hp 15) (top15_7 hp) (cut512_apply scores15_1 (by omega)) (queryScale_read (by omega) (by omega)) (keyScale_read (by omega)) u r

theorem top15_9 (hp : Positive x1 x4) (u : Fin 8) (r : Fin 512) : (v10453 c a2 h2 a3 h3 a4 h4 a5 h5 a6 h6 a10 a11 a12 a14 a15 a16 x0 x1 x2 x3 x4) (ix2 u r) = top (logit x0 x1 x2 x3 x4 15) 9 u r :=
  top_next (hp 15) (top15_8 hp) (cut512_apply scores15_1 (by omega)) (queryScale_read (by omega) (by omega)) (keyScale_read (by omega)) u r

theorem top15_10 (hp : Positive x1 x4) (u : Fin 8) (r : Fin 512) : (v10463 c a2 h2 a3 h3 a4 h4 a5 h5 a6 h6 a10 a11 a12 a14 a15 a16 x0 x1 x2 x3 x4) (ix2 u r) = top (logit x0 x1 x2 x3 x4 15) 10 u r :=
  top_next (hp 15) (top15_9 hp) (cut512_apply scores15_1 (by omega)) (queryScale_read (by omega) (by omega)) (keyScale_read (by omega)) u r

theorem top15_11 (hp : Positive x1 x4) (u : Fin 8) (r : Fin 512) : (v10473 c a2 h2 a3 h3 a4 h4 a5 h5 a6 h6 a10 a11 a12 a14 a15 a16 x0 x1 x2 x3 x4) (ix2 u r) = top (logit x0 x1 x2 x3 x4 15) 11 u r :=
  top_next (hp 15) (top15_10 hp) (cut512_apply scores15_1 (by omega)) (queryScale_read (by omega) (by omega)) (keyScale_read (by omega)) u r

theorem top15_12 (hp : Positive x1 x4) (u : Fin 8) (r : Fin 512) : (v10483 c a2 h2 a3 h3 a4 h4 a5 h5 a6 h6 a10 a11 a12 a14 a15 a16 x0 x1 x2 x3 x4) (ix2 u r) = top (logit x0 x1 x2 x3 x4 15) 12 u r :=
  top_next (hp 15) (top15_11 hp) (cut512_apply scores15_1 (by omega)) (queryScale_read (by omega) (by omega)) (keyScale_read (by omega)) u r

theorem top15_13 (hp : Positive x1 x4) (u : Fin 8) (r : Fin 512) : (v10493 c a2 h2 a3 h3 a4 h4 a5 h5 a6 h6 a10 a11 a12 a14 a15 a16 x0 x1 x2 x3 x4) (ix2 u r) = top (logit x0 x1 x2 x3 x4 15) 13 u r :=
  top_next (hp 15) (top15_12 hp) (cut512_apply scores15_1 (by omega)) (queryScale_read (by omega) (by omega)) (keyScale_read (by omega)) u r

theorem top15_14 (hp : Positive x1 x4) (u : Fin 8) (r : Fin 512) : (v10503 c a2 h2 a3 h3 a4 h4 a5 h5 a6 h6 a10 a11 a12 a14 a15 a16 x0 x1 x2 x3 x4) (ix2 u r) = top (logit x0 x1 x2 x3 x4 15) 14 u r :=
  top_next (hp 15) (top15_13 hp) (cut512_apply scores15_1 (by omega)) (queryScale_read (by omega) (by omega)) (keyScale_read (by omega)) u r

theorem top15_15 (hp : Positive x1 x4) (u : Fin 8) (r : Fin 512) : (v10513 c a2 h2 a3 h3 a4 h4 a5 h5 a6 h6 a10 a11 a12 a14 a15 a16 x0 x1 x2 x3 x4) (ix2 u r) = top (logit x0 x1 x2 x3 x4 15) 15 u r :=
  top_next (hp 15) (top15_14 hp) (cut512_apply scores15_1 (by omega)) (queryScale_read (by omega) (by omega)) (keyScale_read (by omega)) u r

theorem top15_16 (hp : Positive x1 x4) (u : Fin 8) (r : Fin 512) : (v10532 c a2 h2 a3 h3 a4 h4 a5 h5 a6 h6 a10 a11 a12 a14 a15 a16 x0 x1 x2 x3 x4) (ix2 u r) = top (logit x0 x1 x2 x3 x4 15) 16 u r :=
  top_next (hp 15) (top15_15 hp) (cut512_apply scores15_2 (by omega)) (queryScale_read (by omega) (by omega)) (keyScale_read (by omega)) u r

theorem top15_17 (hp : Positive x1 x4) (u : Fin 8) (r : Fin 512) : (v10542 c a2 h2 a3 h3 a4 h4 a5 h5 a6 h6 a10 a11 a12 a14 a15 a16 x0 x1 x2 x3 x4) (ix2 u r) = top (logit x0 x1 x2 x3 x4 15) 17 u r :=
  top_next (hp 15) (top15_16 hp) (cut512_apply scores15_2 (by omega)) (queryScale_read (by omega) (by omega)) (keyScale_read (by omega)) u r

theorem top15_18 (hp : Positive x1 x4) (u : Fin 8) (r : Fin 512) : (v10552 c a2 h2 a3 h3 a4 h4 a5 h5 a6 h6 a10 a11 a12 a14 a15 a16 x0 x1 x2 x3 x4) (ix2 u r) = top (logit x0 x1 x2 x3 x4 15) 18 u r :=
  top_next (hp 15) (top15_17 hp) (cut512_apply scores15_2 (by omega)) (queryScale_read (by omega) (by omega)) (keyScale_read (by omega)) u r

theorem top15_19 (hp : Positive x1 x4) (u : Fin 8) (r : Fin 512) : (v10562 c a2 h2 a3 h3 a4 h4 a5 h5 a6 h6 a10 a11 a12 a14 a15 a16 x0 x1 x2 x3 x4) (ix2 u r) = top (logit x0 x1 x2 x3 x4 15) 19 u r :=
  top_next (hp 15) (top15_18 hp) (cut512_apply scores15_2 (by omega)) (queryScale_read (by omega) (by omega)) (keyScale_read (by omega)) u r

theorem top15_20 (hp : Positive x1 x4) (u : Fin 8) (r : Fin 512) : (v10572 c a2 h2 a3 h3 a4 h4 a5 h5 a6 h6 a10 a11 a12 a14 a15 a16 x0 x1 x2 x3 x4) (ix2 u r) = top (logit x0 x1 x2 x3 x4 15) 20 u r :=
  top_next (hp 15) (top15_19 hp) (cut512_apply scores15_2 (by omega)) (queryScale_read (by omega) (by omega)) (keyScale_read (by omega)) u r

theorem top15_21 (hp : Positive x1 x4) (u : Fin 8) (r : Fin 512) : (v10582 c a2 h2 a3 h3 a4 h4 a5 h5 a6 h6 a10 a11 a12 a14 a15 a16 x0 x1 x2 x3 x4) (ix2 u r) = top (logit x0 x1 x2 x3 x4 15) 21 u r :=
  top_next (hp 15) (top15_20 hp) (cut512_apply scores15_2 (by omega)) (queryScale_read (by omega) (by omega)) (keyScale_read (by omega)) u r

theorem top15_22 (hp : Positive x1 x4) (u : Fin 8) (r : Fin 512) : (v10592 c a2 h2 a3 h3 a4 h4 a5 h5 a6 h6 a10 a11 a12 a14 a15 a16 x0 x1 x2 x3 x4) (ix2 u r) = top (logit x0 x1 x2 x3 x4 15) 22 u r :=
  top_next (hp 15) (top15_21 hp) (cut512_apply scores15_2 (by omega)) (queryScale_read (by omega) (by omega)) (keyScale_read (by omega)) u r

theorem top15_23 (hp : Positive x1 x4) (u : Fin 8) (r : Fin 512) : (v10602 c a2 h2 a3 h3 a4 h4 a5 h5 a6 h6 a10 a11 a12 a14 a15 a16 x0 x1 x2 x3 x4) (ix2 u r) = top (logit x0 x1 x2 x3 x4 15) 23 u r :=
  top_next (hp 15) (top15_22 hp) (cut512_apply scores15_2 (by omega)) (queryScale_read (by omega) (by omega)) (keyScale_read (by omega)) u r

theorem top15_24 (hp : Positive x1 x4) (u : Fin 8) (r : Fin 512) : (v10626 c a2 h2 a3 h3 a4 h4 a5 h5 a6 h6 a10 a11 a12 a14 a15 a16 x0 x1 x2 x3 x4) (ix2 u r) = top (logit x0 x1 x2 x3 x4 15) 24 u r :=
  top_next (hp 15) (top15_23 hp) (cut512_apply scores15_3 (by omega)) (queryScale_read (by omega) (by omega)) (keyScale_read (by omega)) u r

theorem top15_25 (hp : Positive x1 x4) (u : Fin 8) (r : Fin 512) : (v10636 c a2 h2 a3 h3 a4 h4 a5 h5 a6 h6 a10 a11 a12 a14 a15 a16 x0 x1 x2 x3 x4) (ix2 u r) = top (logit x0 x1 x2 x3 x4 15) 25 u r :=
  top_next (hp 15) (top15_24 hp) (cut512_apply scores15_3 (by omega)) (queryScale_read (by omega) (by omega)) (keyScale_read (by omega)) u r

theorem top15_26 (hp : Positive x1 x4) (u : Fin 8) (r : Fin 512) : (v10646 c a2 h2 a3 h3 a4 h4 a5 h5 a6 h6 a10 a11 a12 a14 a15 a16 x0 x1 x2 x3 x4) (ix2 u r) = top (logit x0 x1 x2 x3 x4 15) 26 u r :=
  top_next (hp 15) (top15_25 hp) (cut512_apply scores15_3 (by omega)) (queryScale_read (by omega) (by omega)) (keyScale_read (by omega)) u r

theorem top15_27 (hp : Positive x1 x4) (u : Fin 8) (r : Fin 512) : (v10656 c a2 h2 a3 h3 a4 h4 a5 h5 a6 h6 a10 a11 a12 a14 a15 a16 x0 x1 x2 x3 x4) (ix2 u r) = top (logit x0 x1 x2 x3 x4 15) 27 u r :=
  top_next (hp 15) (top15_26 hp) (cut512_apply scores15_3 (by omega)) (queryScale_read (by omega) (by omega)) (keyScale_read (by omega)) u r

theorem top15_28 (hp : Positive x1 x4) (u : Fin 8) (r : Fin 512) : (v10666 c a2 h2 a3 h3 a4 h4 a5 h5 a6 h6 a10 a11 a12 a14 a15 a16 x0 x1 x2 x3 x4) (ix2 u r) = top (logit x0 x1 x2 x3 x4 15) 28 u r :=
  top_next (hp 15) (top15_27 hp) (cut512_apply scores15_3 (by omega)) (queryScale_read (by omega) (by omega)) (keyScale_read (by omega)) u r

theorem top15_29 (hp : Positive x1 x4) (u : Fin 8) (r : Fin 512) : (v10676 c a2 h2 a3 h3 a4 h4 a5 h5 a6 h6 a10 a11 a12 a14 a15 a16 x0 x1 x2 x3 x4) (ix2 u r) = top (logit x0 x1 x2 x3 x4 15) 29 u r :=
  top_next (hp 15) (top15_28 hp) (cut512_apply scores15_3 (by omega)) (queryScale_read (by omega) (by omega)) (keyScale_read (by omega)) u r

theorem top15_30 (hp : Positive x1 x4) (u : Fin 8) (r : Fin 512) : (v10686 c a2 h2 a3 h3 a4 h4 a5 h5 a6 h6 a10 a11 a12 a14 a15 a16 x0 x1 x2 x3 x4) (ix2 u r) = top (logit x0 x1 x2 x3 x4 15) 30 u r :=
  top_next (hp 15) (top15_29 hp) (cut512_apply scores15_3 (by omega)) (queryScale_read (by omega) (by omega)) (keyScale_read (by omega)) u r

theorem top15_31 (hp : Positive x1 x4) (u : Fin 8) (r : Fin 512) : (v10696 c a2 h2 a3 h3 a4 h4 a5 h5 a6 h6 a10 a11 a12 a14 a15 a16 x0 x1 x2 x3 x4) (ix2 u r) = top (logit x0 x1 x2 x3 x4 15) 31 u r :=
  top_next (hp 15) (top15_30 hp) (cut512_apply scores15_3 (by omega)) (queryScale_read (by omega) (by omega)) (keyScale_read (by omega)) u r

theorem shift15 (hp : Positive x1 x4) (r : Fin 512) : (v10700 c a2 h2 a3 h3 a4 h4 a5 h5 a6 h6 a10 a11 a12 a14 a15 a16 x0 x1 x2 x3 x4) (ix2 0 r) = shift (logit x0 x1 x2 x3 x4 15) 31 r :=
  shift_apply (top15_31 hp) r

theorem prb15_0 (hp : Positive x1 x4) (s : Fin 64) (r : Fin 512) : (v10716 c a2 h2 a3 h3 a4 h4 a5 h5 a6 h6 a10 a11 a12 a14 a15 a16 a17 x0 x1 x2 x3 x4) (ix2 s r) = prb x0 x1 x2 x3 x4 15 r (0 + s.val) :=
  prob_apply (g := 0) (fun s r => scores_skip (by omega) (scores_skip (by omega) (scores_skip (by omega) (scores_hit (by omega) (by omega) (store512_apply scores15_0) s r)))) (queryScale_read (by omega) (by omega)) (keyScale_read (by omega)) (shift15 hp) s r

theorem mass15_0 (hp : Positive x1 x4) (u : Fin 8) (r : Fin 512) : (v10719 c a2 h2 a3 h3 a4 h4 a5 h5 a6 h6 a10 a11 a12 a14 a15 a16 a17 x0 x1 x2 x3 x4) (ix2 u r) = mass (prb x0 x1 x2 x3 x4 15) 0 u r :=
  mass_first (prb15_0 hp) u r

theorem prb15_1 (hp : Positive x1 x4) (s : Fin 64) (r : Fin 512) : (v10742 c a2 h2 a3 h3 a4 h4 a5 h5 a6 h6 a10 a11 a12 a14 a15 a16 a17 x0 x1 x2 x3 x4) (ix2 s r) = prb x0 x1 x2 x3 x4 15 r (64 + s.val) :=
  prob_apply (g := 1) (fun s r => scores_skip (by omega) (scores_skip (by omega) (scores_skip (by omega) (scores_hit (by omega) (by omega) (store512_apply scores15_0) s r)))) (queryScale_read (by omega) (by omega)) (keyScale_read (by omega)) (shift15 hp) s r

theorem mass15_1 (hp : Positive x1 x4) (u : Fin 8) (r : Fin 512) : (v10745 c a2 h2 a3 h3 a4 h4 a5 h5 a6 h6 a10 a11 a12 a14 a15 a16 a17 x0 x1 x2 x3 x4) (ix2 u r) = mass (prb x0 x1 x2 x3 x4 15) 1 u r :=
  mass_next (mass15_0 hp) (prb15_1 hp) u r

theorem prb15_2 (hp : Positive x1 x4) (s : Fin 64) (r : Fin 512) : (v10768 c a2 h2 a3 h3 a4 h4 a5 h5 a6 h6 a10 a11 a12 a14 a15 a16 a17 x0 x1 x2 x3 x4) (ix2 s r) = prb x0 x1 x2 x3 x4 15 r (128 + s.val) :=
  prob_apply (g := 2) (fun s r => scores_skip (by omega) (scores_skip (by omega) (scores_skip (by omega) (scores_hit (by omega) (by omega) (store512_apply scores15_0) s r)))) (queryScale_read (by omega) (by omega)) (keyScale_read (by omega)) (shift15 hp) s r

theorem mass15_2 (hp : Positive x1 x4) (u : Fin 8) (r : Fin 512) : (v10771 c a2 h2 a3 h3 a4 h4 a5 h5 a6 h6 a10 a11 a12 a14 a15 a16 a17 x0 x1 x2 x3 x4) (ix2 u r) = mass (prb x0 x1 x2 x3 x4 15) 2 u r :=
  mass_next (mass15_1 hp) (prb15_2 hp) u r

theorem prb15_3 (hp : Positive x1 x4) (s : Fin 64) (r : Fin 512) : (v10794 c a2 h2 a3 h3 a4 h4 a5 h5 a6 h6 a10 a11 a12 a14 a15 a16 a17 x0 x1 x2 x3 x4) (ix2 s r) = prb x0 x1 x2 x3 x4 15 r (192 + s.val) :=
  prob_apply (g := 3) (fun s r => scores_skip (by omega) (scores_skip (by omega) (scores_skip (by omega) (scores_hit (by omega) (by omega) (store512_apply scores15_0) s r)))) (queryScale_read (by omega) (by omega)) (keyScale_read (by omega)) (shift15 hp) s r

theorem mass15_3 (hp : Positive x1 x4) (u : Fin 8) (r : Fin 512) : (v10797 c a2 h2 a3 h3 a4 h4 a5 h5 a6 h6 a10 a11 a12 a14 a15 a16 a17 x0 x1 x2 x3 x4) (ix2 u r) = mass (prb x0 x1 x2 x3 x4 15) 3 u r :=
  mass_next (mass15_2 hp) (prb15_3 hp) u r

theorem prb15_4 (hp : Positive x1 x4) (s : Fin 64) (r : Fin 512) : (v10820 c a2 h2 a3 h3 a4 h4 a5 h5 a6 h6 a10 a11 a12 a14 a15 a16 a17 x0 x1 x2 x3 x4) (ix2 s r) = prb x0 x1 x2 x3 x4 15 r (256 + s.val) :=
  prob_apply (g := 4) (fun s r => scores_skip (by omega) (scores_skip (by omega) (scores_skip (by omega) (scores_hit (by omega) (by omega) (store512_apply scores15_0) s r)))) (queryScale_read (by omega) (by omega)) (keyScale_read (by omega)) (shift15 hp) s r

theorem mass15_4 (hp : Positive x1 x4) (u : Fin 8) (r : Fin 512) : (v10823 c a2 h2 a3 h3 a4 h4 a5 h5 a6 h6 a10 a11 a12 a14 a15 a16 a17 x0 x1 x2 x3 x4) (ix2 u r) = mass (prb x0 x1 x2 x3 x4 15) 4 u r :=
  mass_next (mass15_3 hp) (prb15_4 hp) u r

theorem prb15_5 (hp : Positive x1 x4) (s : Fin 64) (r : Fin 512) : (v10846 c a2 h2 a3 h3 a4 h4 a5 h5 a6 h6 a10 a11 a12 a14 a15 a16 a17 x0 x1 x2 x3 x4) (ix2 s r) = prb x0 x1 x2 x3 x4 15 r (320 + s.val) :=
  prob_apply (g := 5) (fun s r => scores_skip (by omega) (scores_skip (by omega) (scores_skip (by omega) (scores_hit (by omega) (by omega) (store512_apply scores15_0) s r)))) (queryScale_read (by omega) (by omega)) (keyScale_read (by omega)) (shift15 hp) s r

theorem mass15_5 (hp : Positive x1 x4) (u : Fin 8) (r : Fin 512) : (v10849 c a2 h2 a3 h3 a4 h4 a5 h5 a6 h6 a10 a11 a12 a14 a15 a16 a17 x0 x1 x2 x3 x4) (ix2 u r) = mass (prb x0 x1 x2 x3 x4 15) 5 u r :=
  mass_next (mass15_4 hp) (prb15_5 hp) u r

theorem prb15_6 (hp : Positive x1 x4) (s : Fin 64) (r : Fin 512) : (v10872 c a2 h2 a3 h3 a4 h4 a5 h5 a6 h6 a10 a11 a12 a14 a15 a16 a17 x0 x1 x2 x3 x4) (ix2 s r) = prb x0 x1 x2 x3 x4 15 r (384 + s.val) :=
  prob_apply (g := 6) (fun s r => scores_skip (by omega) (scores_skip (by omega) (scores_skip (by omega) (scores_hit (by omega) (by omega) (store512_apply scores15_0) s r)))) (queryScale_read (by omega) (by omega)) (keyScale_read (by omega)) (shift15 hp) s r

theorem mass15_6 (hp : Positive x1 x4) (u : Fin 8) (r : Fin 512) : (v10875 c a2 h2 a3 h3 a4 h4 a5 h5 a6 h6 a10 a11 a12 a14 a15 a16 a17 x0 x1 x2 x3 x4) (ix2 u r) = mass (prb x0 x1 x2 x3 x4 15) 6 u r :=
  mass_next (mass15_5 hp) (prb15_6 hp) u r

theorem prb15_7 (hp : Positive x1 x4) (s : Fin 64) (r : Fin 512) : (v10898 c a2 h2 a3 h3 a4 h4 a5 h5 a6 h6 a10 a11 a12 a14 a15 a16 a17 x0 x1 x2 x3 x4) (ix2 s r) = prb x0 x1 x2 x3 x4 15 r (448 + s.val) :=
  prob_apply (g := 7) (fun s r => scores_skip (by omega) (scores_skip (by omega) (scores_skip (by omega) (scores_hit (by omega) (by omega) (store512_apply scores15_0) s r)))) (queryScale_read (by omega) (by omega)) (keyScale_read (by omega)) (shift15 hp) s r

theorem mass15_7 (hp : Positive x1 x4) (u : Fin 8) (r : Fin 512) : (v10901 c a2 h2 a3 h3 a4 h4 a5 h5 a6 h6 a10 a11 a12 a14 a15 a16 a17 x0 x1 x2 x3 x4) (ix2 u r) = mass (prb x0 x1 x2 x3 x4 15) 7 u r :=
  mass_next (mass15_6 hp) (prb15_7 hp) u r

theorem prb15_8 (hp : Positive x1 x4) (s : Fin 64) (r : Fin 512) : (v10924 c a2 h2 a3 h3 a4 h4 a5 h5 a6 h6 a10 a11 a12 a14 a15 a16 a17 x0 x1 x2 x3 x4) (ix2 s r) = prb x0 x1 x2 x3 x4 15 r (512 + s.val) :=
  prob_apply (g := 8) (fun s r => scores_skip (by omega) (scores_skip (by omega) (scores_hit (by omega) (by omega) (store512_apply scores15_1) s r))) (queryScale_read (by omega) (by omega)) (keyScale_read (by omega)) (shift15 hp) s r

theorem mass15_8 (hp : Positive x1 x4) (u : Fin 8) (r : Fin 512) : (v10927 c a2 h2 a3 h3 a4 h4 a5 h5 a6 h6 a10 a11 a12 a14 a15 a16 a17 x0 x1 x2 x3 x4) (ix2 u r) = mass (prb x0 x1 x2 x3 x4 15) 8 u r :=
  mass_next (mass15_7 hp) (prb15_8 hp) u r

theorem prb15_9 (hp : Positive x1 x4) (s : Fin 64) (r : Fin 512) : (v10950 c a2 h2 a3 h3 a4 h4 a5 h5 a6 h6 a10 a11 a12 a14 a15 a16 a17 x0 x1 x2 x3 x4) (ix2 s r) = prb x0 x1 x2 x3 x4 15 r (576 + s.val) :=
  prob_apply (g := 9) (fun s r => scores_skip (by omega) (scores_skip (by omega) (scores_hit (by omega) (by omega) (store512_apply scores15_1) s r))) (queryScale_read (by omega) (by omega)) (keyScale_read (by omega)) (shift15 hp) s r

theorem mass15_9 (hp : Positive x1 x4) (u : Fin 8) (r : Fin 512) : (v10953 c a2 h2 a3 h3 a4 h4 a5 h5 a6 h6 a10 a11 a12 a14 a15 a16 a17 x0 x1 x2 x3 x4) (ix2 u r) = mass (prb x0 x1 x2 x3 x4 15) 9 u r :=
  mass_next (mass15_8 hp) (prb15_9 hp) u r

theorem prb15_10 (hp : Positive x1 x4) (s : Fin 64) (r : Fin 512) : (v10976 c a2 h2 a3 h3 a4 h4 a5 h5 a6 h6 a10 a11 a12 a14 a15 a16 a17 x0 x1 x2 x3 x4) (ix2 s r) = prb x0 x1 x2 x3 x4 15 r (640 + s.val) :=
  prob_apply (g := 10) (fun s r => scores_skip (by omega) (scores_skip (by omega) (scores_hit (by omega) (by omega) (store512_apply scores15_1) s r))) (queryScale_read (by omega) (by omega)) (keyScale_read (by omega)) (shift15 hp) s r

theorem mass15_10 (hp : Positive x1 x4) (u : Fin 8) (r : Fin 512) : (v10979 c a2 h2 a3 h3 a4 h4 a5 h5 a6 h6 a10 a11 a12 a14 a15 a16 a17 x0 x1 x2 x3 x4) (ix2 u r) = mass (prb x0 x1 x2 x3 x4 15) 10 u r :=
  mass_next (mass15_9 hp) (prb15_10 hp) u r

theorem prb15_11 (hp : Positive x1 x4) (s : Fin 64) (r : Fin 512) : (v11002 c a2 h2 a3 h3 a4 h4 a5 h5 a6 h6 a10 a11 a12 a14 a15 a16 a17 x0 x1 x2 x3 x4) (ix2 s r) = prb x0 x1 x2 x3 x4 15 r (704 + s.val) :=
  prob_apply (g := 11) (fun s r => scores_skip (by omega) (scores_skip (by omega) (scores_hit (by omega) (by omega) (store512_apply scores15_1) s r))) (queryScale_read (by omega) (by omega)) (keyScale_read (by omega)) (shift15 hp) s r

theorem mass15_11 (hp : Positive x1 x4) (u : Fin 8) (r : Fin 512) : (v11005 c a2 h2 a3 h3 a4 h4 a5 h5 a6 h6 a10 a11 a12 a14 a15 a16 a17 x0 x1 x2 x3 x4) (ix2 u r) = mass (prb x0 x1 x2 x3 x4 15) 11 u r :=
  mass_next (mass15_10 hp) (prb15_11 hp) u r

theorem prb15_12 (hp : Positive x1 x4) (s : Fin 64) (r : Fin 512) : (v11028 c a2 h2 a3 h3 a4 h4 a5 h5 a6 h6 a10 a11 a12 a14 a15 a16 a17 x0 x1 x2 x3 x4) (ix2 s r) = prb x0 x1 x2 x3 x4 15 r (768 + s.val) :=
  prob_apply (g := 12) (fun s r => scores_skip (by omega) (scores_skip (by omega) (scores_hit (by omega) (by omega) (store512_apply scores15_1) s r))) (queryScale_read (by omega) (by omega)) (keyScale_read (by omega)) (shift15 hp) s r

theorem mass15_12 (hp : Positive x1 x4) (u : Fin 8) (r : Fin 512) : (v11031 c a2 h2 a3 h3 a4 h4 a5 h5 a6 h6 a10 a11 a12 a14 a15 a16 a17 x0 x1 x2 x3 x4) (ix2 u r) = mass (prb x0 x1 x2 x3 x4 15) 12 u r :=
  mass_next (mass15_11 hp) (prb15_12 hp) u r

theorem prb15_13 (hp : Positive x1 x4) (s : Fin 64) (r : Fin 512) : (v11054 c a2 h2 a3 h3 a4 h4 a5 h5 a6 h6 a10 a11 a12 a14 a15 a16 a17 x0 x1 x2 x3 x4) (ix2 s r) = prb x0 x1 x2 x3 x4 15 r (832 + s.val) :=
  prob_apply (g := 13) (fun s r => scores_skip (by omega) (scores_skip (by omega) (scores_hit (by omega) (by omega) (store512_apply scores15_1) s r))) (queryScale_read (by omega) (by omega)) (keyScale_read (by omega)) (shift15 hp) s r

theorem mass15_13 (hp : Positive x1 x4) (u : Fin 8) (r : Fin 512) : (v11057 c a2 h2 a3 h3 a4 h4 a5 h5 a6 h6 a10 a11 a12 a14 a15 a16 a17 x0 x1 x2 x3 x4) (ix2 u r) = mass (prb x0 x1 x2 x3 x4 15) 13 u r :=
  mass_next (mass15_12 hp) (prb15_13 hp) u r

theorem prb15_14 (hp : Positive x1 x4) (s : Fin 64) (r : Fin 512) : (v11080 c a2 h2 a3 h3 a4 h4 a5 h5 a6 h6 a10 a11 a12 a14 a15 a16 a17 x0 x1 x2 x3 x4) (ix2 s r) = prb x0 x1 x2 x3 x4 15 r (896 + s.val) :=
  prob_apply (g := 14) (fun s r => scores_skip (by omega) (scores_skip (by omega) (scores_hit (by omega) (by omega) (store512_apply scores15_1) s r))) (queryScale_read (by omega) (by omega)) (keyScale_read (by omega)) (shift15 hp) s r

theorem mass15_14 (hp : Positive x1 x4) (u : Fin 8) (r : Fin 512) : (v11083 c a2 h2 a3 h3 a4 h4 a5 h5 a6 h6 a10 a11 a12 a14 a15 a16 a17 x0 x1 x2 x3 x4) (ix2 u r) = mass (prb x0 x1 x2 x3 x4 15) 14 u r :=
  mass_next (mass15_13 hp) (prb15_14 hp) u r

theorem prb15_15 (hp : Positive x1 x4) (s : Fin 64) (r : Fin 512) : (v11106 c a2 h2 a3 h3 a4 h4 a5 h5 a6 h6 a10 a11 a12 a14 a15 a16 a17 x0 x1 x2 x3 x4) (ix2 s r) = prb x0 x1 x2 x3 x4 15 r (960 + s.val) :=
  prob_apply (g := 15) (fun s r => scores_skip (by omega) (scores_skip (by omega) (scores_hit (by omega) (by omega) (store512_apply scores15_1) s r))) (queryScale_read (by omega) (by omega)) (keyScale_read (by omega)) (shift15 hp) s r

theorem mass15_15 (hp : Positive x1 x4) (u : Fin 8) (r : Fin 512) : (v11109 c a2 h2 a3 h3 a4 h4 a5 h5 a6 h6 a10 a11 a12 a14 a15 a16 a17 x0 x1 x2 x3 x4) (ix2 u r) = mass (prb x0 x1 x2 x3 x4 15) 15 u r :=
  mass_next (mass15_14 hp) (prb15_15 hp) u r

theorem prb15_16 (hp : Positive x1 x4) (s : Fin 64) (r : Fin 512) : (v11132 c a2 h2 a3 h3 a4 h4 a5 h5 a6 h6 a10 a11 a12 a14 a15 a16 a17 x0 x1 x2 x3 x4) (ix2 s r) = prb x0 x1 x2 x3 x4 15 r (1024 + s.val) :=
  prob_apply (g := 16) (fun s r => scores_skip (by omega) (scores_hit (by omega) (by omega) (store512_apply scores15_2) s r)) (queryScale_read (by omega) (by omega)) (keyScale_read (by omega)) (shift15 hp) s r

theorem mass15_16 (hp : Positive x1 x4) (u : Fin 8) (r : Fin 512) : (v11135 c a2 h2 a3 h3 a4 h4 a5 h5 a6 h6 a10 a11 a12 a14 a15 a16 a17 x0 x1 x2 x3 x4) (ix2 u r) = mass (prb x0 x1 x2 x3 x4 15) 16 u r :=
  mass_next (mass15_15 hp) (prb15_16 hp) u r

theorem prb15_17 (hp : Positive x1 x4) (s : Fin 64) (r : Fin 512) : (v11158 c a2 h2 a3 h3 a4 h4 a5 h5 a6 h6 a10 a11 a12 a14 a15 a16 a17 x0 x1 x2 x3 x4) (ix2 s r) = prb x0 x1 x2 x3 x4 15 r (1088 + s.val) :=
  prob_apply (g := 17) (fun s r => scores_skip (by omega) (scores_hit (by omega) (by omega) (store512_apply scores15_2) s r)) (queryScale_read (by omega) (by omega)) (keyScale_read (by omega)) (shift15 hp) s r

theorem mass15_17 (hp : Positive x1 x4) (u : Fin 8) (r : Fin 512) : (v11161 c a2 h2 a3 h3 a4 h4 a5 h5 a6 h6 a10 a11 a12 a14 a15 a16 a17 x0 x1 x2 x3 x4) (ix2 u r) = mass (prb x0 x1 x2 x3 x4 15) 17 u r :=
  mass_next (mass15_16 hp) (prb15_17 hp) u r

theorem prb15_18 (hp : Positive x1 x4) (s : Fin 64) (r : Fin 512) : (v11184 c a2 h2 a3 h3 a4 h4 a5 h5 a6 h6 a10 a11 a12 a14 a15 a16 a17 x0 x1 x2 x3 x4) (ix2 s r) = prb x0 x1 x2 x3 x4 15 r (1152 + s.val) :=
  prob_apply (g := 18) (fun s r => scores_skip (by omega) (scores_hit (by omega) (by omega) (store512_apply scores15_2) s r)) (queryScale_read (by omega) (by omega)) (keyScale_read (by omega)) (shift15 hp) s r

theorem mass15_18 (hp : Positive x1 x4) (u : Fin 8) (r : Fin 512) : (v11187 c a2 h2 a3 h3 a4 h4 a5 h5 a6 h6 a10 a11 a12 a14 a15 a16 a17 x0 x1 x2 x3 x4) (ix2 u r) = mass (prb x0 x1 x2 x3 x4 15) 18 u r :=
  mass_next (mass15_17 hp) (prb15_18 hp) u r

theorem prb15_19 (hp : Positive x1 x4) (s : Fin 64) (r : Fin 512) : (v11210 c a2 h2 a3 h3 a4 h4 a5 h5 a6 h6 a10 a11 a12 a14 a15 a16 a17 x0 x1 x2 x3 x4) (ix2 s r) = prb x0 x1 x2 x3 x4 15 r (1216 + s.val) :=
  prob_apply (g := 19) (fun s r => scores_skip (by omega) (scores_hit (by omega) (by omega) (store512_apply scores15_2) s r)) (queryScale_read (by omega) (by omega)) (keyScale_read (by omega)) (shift15 hp) s r

theorem mass15_19 (hp : Positive x1 x4) (u : Fin 8) (r : Fin 512) : (v11213 c a2 h2 a3 h3 a4 h4 a5 h5 a6 h6 a10 a11 a12 a14 a15 a16 a17 x0 x1 x2 x3 x4) (ix2 u r) = mass (prb x0 x1 x2 x3 x4 15) 19 u r :=
  mass_next (mass15_18 hp) (prb15_19 hp) u r

theorem prb15_20 (hp : Positive x1 x4) (s : Fin 64) (r : Fin 512) : (v11236 c a2 h2 a3 h3 a4 h4 a5 h5 a6 h6 a10 a11 a12 a14 a15 a16 a17 x0 x1 x2 x3 x4) (ix2 s r) = prb x0 x1 x2 x3 x4 15 r (1280 + s.val) :=
  prob_apply (g := 20) (fun s r => scores_skip (by omega) (scores_hit (by omega) (by omega) (store512_apply scores15_2) s r)) (queryScale_read (by omega) (by omega)) (keyScale_read (by omega)) (shift15 hp) s r

theorem mass15_20 (hp : Positive x1 x4) (u : Fin 8) (r : Fin 512) : (v11239 c a2 h2 a3 h3 a4 h4 a5 h5 a6 h6 a10 a11 a12 a14 a15 a16 a17 x0 x1 x2 x3 x4) (ix2 u r) = mass (prb x0 x1 x2 x3 x4 15) 20 u r :=
  mass_next (mass15_19 hp) (prb15_20 hp) u r

theorem prb15_21 (hp : Positive x1 x4) (s : Fin 64) (r : Fin 512) : (v11262 c a2 h2 a3 h3 a4 h4 a5 h5 a6 h6 a10 a11 a12 a14 a15 a16 a17 x0 x1 x2 x3 x4) (ix2 s r) = prb x0 x1 x2 x3 x4 15 r (1344 + s.val) :=
  prob_apply (g := 21) (fun s r => scores_skip (by omega) (scores_hit (by omega) (by omega) (store512_apply scores15_2) s r)) (queryScale_read (by omega) (by omega)) (keyScale_read (by omega)) (shift15 hp) s r

theorem mass15_21 (hp : Positive x1 x4) (u : Fin 8) (r : Fin 512) : (v11265 c a2 h2 a3 h3 a4 h4 a5 h5 a6 h6 a10 a11 a12 a14 a15 a16 a17 x0 x1 x2 x3 x4) (ix2 u r) = mass (prb x0 x1 x2 x3 x4 15) 21 u r :=
  mass_next (mass15_20 hp) (prb15_21 hp) u r

theorem prb15_22 (hp : Positive x1 x4) (s : Fin 64) (r : Fin 512) : (v11288 c a2 h2 a3 h3 a4 h4 a5 h5 a6 h6 a10 a11 a12 a14 a15 a16 a17 x0 x1 x2 x3 x4) (ix2 s r) = prb x0 x1 x2 x3 x4 15 r (1408 + s.val) :=
  prob_apply (g := 22) (fun s r => scores_skip (by omega) (scores_hit (by omega) (by omega) (store512_apply scores15_2) s r)) (queryScale_read (by omega) (by omega)) (keyScale_read (by omega)) (shift15 hp) s r

theorem mass15_22 (hp : Positive x1 x4) (u : Fin 8) (r : Fin 512) : (v11291 c a2 h2 a3 h3 a4 h4 a5 h5 a6 h6 a10 a11 a12 a14 a15 a16 a17 x0 x1 x2 x3 x4) (ix2 u r) = mass (prb x0 x1 x2 x3 x4 15) 22 u r :=
  mass_next (mass15_21 hp) (prb15_22 hp) u r

theorem prb15_23 (hp : Positive x1 x4) (s : Fin 64) (r : Fin 512) : (v11314 c a2 h2 a3 h3 a4 h4 a5 h5 a6 h6 a10 a11 a12 a14 a15 a16 a17 x0 x1 x2 x3 x4) (ix2 s r) = prb x0 x1 x2 x3 x4 15 r (1472 + s.val) :=
  prob_apply (g := 23) (fun s r => scores_skip (by omega) (scores_hit (by omega) (by omega) (store512_apply scores15_2) s r)) (queryScale_read (by omega) (by omega)) (keyScale_read (by omega)) (shift15 hp) s r

theorem mass15_23 (hp : Positive x1 x4) (u : Fin 8) (r : Fin 512) : (v11317 c a2 h2 a3 h3 a4 h4 a5 h5 a6 h6 a10 a11 a12 a14 a15 a16 a17 x0 x1 x2 x3 x4) (ix2 u r) = mass (prb x0 x1 x2 x3 x4 15) 23 u r :=
  mass_next (mass15_22 hp) (prb15_23 hp) u r

theorem prb15_24 (hp : Positive x1 x4) (s : Fin 64) (r : Fin 512) : (v11340 c a2 h2 a3 h3 a4 h4 a5 h5 a6 h6 a10 a11 a12 a14 a15 a16 a17 x0 x1 x2 x3 x4) (ix2 s r) = prb x0 x1 x2 x3 x4 15 r (1536 + s.val) :=
  prob_apply (g := 24) (fun s r => scores_hit (by omega) (by omega) (store512_apply scores15_3) s r) (queryScale_read (by omega) (by omega)) (keyScale_read (by omega)) (shift15 hp) s r

theorem mass15_24 (hp : Positive x1 x4) (u : Fin 8) (r : Fin 512) : (v11343 c a2 h2 a3 h3 a4 h4 a5 h5 a6 h6 a10 a11 a12 a14 a15 a16 a17 x0 x1 x2 x3 x4) (ix2 u r) = mass (prb x0 x1 x2 x3 x4 15) 24 u r :=
  mass_next (mass15_23 hp) (prb15_24 hp) u r

theorem prb15_25 (hp : Positive x1 x4) (s : Fin 64) (r : Fin 512) : (v11366 c a2 h2 a3 h3 a4 h4 a5 h5 a6 h6 a10 a11 a12 a14 a15 a16 a17 x0 x1 x2 x3 x4) (ix2 s r) = prb x0 x1 x2 x3 x4 15 r (1600 + s.val) :=
  prob_apply (g := 25) (fun s r => scores_hit (by omega) (by omega) (store512_apply scores15_3) s r) (queryScale_read (by omega) (by omega)) (keyScale_read (by omega)) (shift15 hp) s r

theorem mass15_25 (hp : Positive x1 x4) (u : Fin 8) (r : Fin 512) : (v11369 c a2 h2 a3 h3 a4 h4 a5 h5 a6 h6 a10 a11 a12 a14 a15 a16 a17 x0 x1 x2 x3 x4) (ix2 u r) = mass (prb x0 x1 x2 x3 x4 15) 25 u r :=
  mass_next (mass15_24 hp) (prb15_25 hp) u r

theorem prb15_26 (hp : Positive x1 x4) (s : Fin 64) (r : Fin 512) : (v11392 c a2 h2 a3 h3 a4 h4 a5 h5 a6 h6 a10 a11 a12 a14 a15 a16 a17 x0 x1 x2 x3 x4) (ix2 s r) = prb x0 x1 x2 x3 x4 15 r (1664 + s.val) :=
  prob_apply (g := 26) (fun s r => scores_hit (by omega) (by omega) (store512_apply scores15_3) s r) (queryScale_read (by omega) (by omega)) (keyScale_read (by omega)) (shift15 hp) s r

theorem mass15_26 (hp : Positive x1 x4) (u : Fin 8) (r : Fin 512) : (v11395 c a2 h2 a3 h3 a4 h4 a5 h5 a6 h6 a10 a11 a12 a14 a15 a16 a17 x0 x1 x2 x3 x4) (ix2 u r) = mass (prb x0 x1 x2 x3 x4 15) 26 u r :=
  mass_next (mass15_25 hp) (prb15_26 hp) u r

theorem prb15_27 (hp : Positive x1 x4) (s : Fin 64) (r : Fin 512) : (v11418 c a2 h2 a3 h3 a4 h4 a5 h5 a6 h6 a10 a11 a12 a14 a15 a16 a17 x0 x1 x2 x3 x4) (ix2 s r) = prb x0 x1 x2 x3 x4 15 r (1728 + s.val) :=
  prob_apply (g := 27) (fun s r => scores_hit (by omega) (by omega) (store512_apply scores15_3) s r) (queryScale_read (by omega) (by omega)) (keyScale_read (by omega)) (shift15 hp) s r

theorem mass15_27 (hp : Positive x1 x4) (u : Fin 8) (r : Fin 512) : (v11421 c a2 h2 a3 h3 a4 h4 a5 h5 a6 h6 a10 a11 a12 a14 a15 a16 a17 x0 x1 x2 x3 x4) (ix2 u r) = mass (prb x0 x1 x2 x3 x4 15) 27 u r :=
  mass_next (mass15_26 hp) (prb15_27 hp) u r

theorem prb15_28 (hp : Positive x1 x4) (s : Fin 64) (r : Fin 512) : (v11444 c a2 h2 a3 h3 a4 h4 a5 h5 a6 h6 a10 a11 a12 a14 a15 a16 a17 x0 x1 x2 x3 x4) (ix2 s r) = prb x0 x1 x2 x3 x4 15 r (1792 + s.val) :=
  prob_apply (g := 28) (fun s r => scores_hit (by omega) (by omega) (store512_apply scores15_3) s r) (queryScale_read (by omega) (by omega)) (keyScale_read (by omega)) (shift15 hp) s r

theorem mass15_28 (hp : Positive x1 x4) (u : Fin 8) (r : Fin 512) : (v11447 c a2 h2 a3 h3 a4 h4 a5 h5 a6 h6 a10 a11 a12 a14 a15 a16 a17 x0 x1 x2 x3 x4) (ix2 u r) = mass (prb x0 x1 x2 x3 x4 15) 28 u r :=
  mass_next (mass15_27 hp) (prb15_28 hp) u r

theorem prb15_29 (hp : Positive x1 x4) (s : Fin 64) (r : Fin 512) : (k0_pay1330 (v10700 c a2 h2 a3 h3 a4 h4 a5 h5 a6 h6 a10 a11 a12 a14 a15 a16 x0 x1 x2 x3 x4) (v11456 c a2 h2 a3 h3 a4 h4 a5 h5 a10 a11 a14 a15 a17 x0 x1 x2 x3) (v11458 c a3 h3 a16 x1) (v11459 c a6 h6 a12 x4)) (ix2 s r) = prb x0 x1 x2 x3 x4 15 r (1856 + s.val) :=
  prob_apply (g := 29) (fun s r => scores_hit (by omega) (by omega) (store512_apply scores15_3) s r) (queryScale_read (by omega) (by omega)) (keyScale_read (by omega)) (shift15 hp) s r

theorem mass15_29 (hp : Positive x1 x4) (u : Fin 8) (r : Fin 512) : (r_1 c a2 h2 a3 h3 a4 h4 a5 h5 a6 h6 a10 a11 a12 a14 a15 a16 a17 x0 x1 x2 x3 x4) (ix2 u r) = mass (prb x0 x1 x2 x3 x4 15) 29 u r :=
  mass_next (mass15_28 hp) (prb15_29 hp) u r

theorem prb15_30 (hp : Positive x1 x4) (s : Fin 64) (r : Fin 512) : (r_2 c a2 h2 a3 h3 a4 h4 a5 h5 a6 h6 a10 a11 a12 a14 a15 a16 a17 x0 x1 x2 x3 x4) (ix2 s r) = prb x0 x1 x2 x3 x4 15 r (1920 + s.val) :=
  prob_apply (g := 30) (fun s r => scores_hit (by omega) (by omega) (store512_apply scores15_3) s r) (queryScale_read (by omega) (by omega)) (keyScale_read (by omega)) (shift15 hp) s r

theorem prb15_31 (hp : Positive x1 x4) (s : Fin 64) (r : Fin 512) : (k0_pay1336 (v10700 c a2 h2 a3 h3 a4 h4 a5 h5 a6 h6 a10 a11 a12 a14 a15 a16 x0 x1 x2 x3 x4) (v11508 c a2 h2 a3 h3 a4 h4 a5 h5 a10 a11 a14 a15 a17 x0 x1 x2 x3) (v11458 c a3 h3 a16 x1) (v11511 c a6 h6 a12 x4)) (ix2 s r) = prb x0 x1 x2 x3 x4 15 r (1984 + s.val) :=
  prob_apply (g := 31) (fun s r => scores_hit (by omega) (by omega) (store512_apply scores15_3) s r) (queryScale_read (by omega) (by omega)) (keyScale_read (by omega)) (shift15 hp) s r

theorem row15 (hp : Positive x1 x4) (r : Fin 512) (d : Fin 128) : (k0_pay1339 (r_4 c a2 h2 a3 h3 a4 h4 a5 h5 a6 h6 a10 a11 a12 a14 a15 a16 a17 x0 x1 x2 x3 x4) (v11536 c a7 h7 a13 x5) (v11537 c a2 h2 a3 h3 a4 h4 a5 h5 a6 h6 a10 a11 a12 a14 a15 a16 a17 a18 x0 x1 x2 x3 x4)) (ix3 0 r d) = row x0 x1 x2 x3 x4 x5 15 r d :=
  rows_apply (product2048_apply (value_read (by omega)) (fun s r => (codes_start (by omega) (by omega) s r).trans (codes_step (codes_apply (prb15_31 hp)) s.isLt fun _ =>
      codes_step (codes_apply (prb15_30 hp)) (by omega) fun _ =>
      codes_step (codes_apply (prb15_29 hp)) (by omega) fun _ =>
      codes_step (codes_apply (prb15_28 hp)) (by omega) fun _ =>
      codes_step (codes_apply (prb15_27 hp)) (by omega) fun _ =>
      codes_step (codes_apply (prb15_26 hp)) (by omega) fun _ =>
      codes_step (codes_apply (prb15_25 hp)) (by omega) fun _ =>
      codes_step (codes_apply (prb15_24 hp)) (by omega) fun _ =>
      codes_step (codes_apply (prb15_23 hp)) (by omega) fun _ =>
      codes_step (codes_apply (prb15_22 hp)) (by omega) fun _ =>
      codes_step (codes_apply (prb15_21 hp)) (by omega) fun _ =>
      codes_step (codes_apply (prb15_20 hp)) (by omega) fun _ =>
      codes_step (codes_apply (prb15_19 hp)) (by omega) fun _ =>
      codes_step (codes_apply (prb15_18 hp)) (by omega) fun _ =>
      codes_step (codes_apply (prb15_17 hp)) (by omega) fun _ =>
      codes_step (codes_apply (prb15_16 hp)) (by omega) fun _ =>
      codes_step (codes_apply (prb15_15 hp)) (by omega) fun _ =>
      codes_step (codes_apply (prb15_14 hp)) (by omega) fun _ =>
      codes_step (codes_apply (prb15_13 hp)) (by omega) fun _ =>
      codes_step (codes_apply (prb15_12 hp)) (by omega) fun _ =>
      codes_step (codes_apply (prb15_11 hp)) (by omega) fun _ =>
      codes_step (codes_apply (prb15_10 hp)) (by omega) fun _ =>
      codes_step (codes_apply (prb15_9 hp)) (by omega) fun _ =>
      codes_step (codes_apply (prb15_8 hp)) (by omega) fun _ =>
      codes_step (codes_apply (prb15_7 hp)) (by omega) fun _ =>
      codes_step (codes_apply (prb15_6 hp)) (by omega) fun _ =>
      codes_step (codes_apply (prb15_5 hp)) (by omega) fun _ =>
      codes_step (codes_apply (prb15_4 hp)) (by omega) fun _ =>
      codes_step (codes_apply (prb15_3 hp)) (by omega) fun _ =>
      codes_step (codes_apply (prb15_2 hp)) (by omega) fun _ =>
      codes_step (codes_apply (prb15_1 hp)) (by omega) fun _ =>
      codes_step (codes_apply (prb15_0 hp)) (by omega) fun _ =>
      absurd ‹_› (by omega)))) (mass_next (mass_next (mass15_29 hp) (prb15_30 hp)) (prb15_31 hp)) r d

theorem head15_0 (hp : Positive x1 x4) (t d : Fin 128) : (k0_pay1340 (kernelRun0_A.sl.r c i a8 h8 x6) (v11548 c a2 h2 a3 h3 a4 h4 a5 h5 a6 h6 a7 h7 a10 a11 a12 a13 a14 a15 a16 a17 a18 a19 x0 x1 x2 x3 x4 x5)) (ix3 0 t d) = output x0 x1 x2 x3 x4 x5 x6 i 15 0 t d :=
  (head_apply _ _ t d).trans (congrArg₂ (· * ·) ((head_read (by omega) t d).trans ((row15 hp _ d).trans (congrArg (fun a => row x0 x1 x2 x3 x4 x5 15 a d) (Fin.ext (by dsimp only; omega))))) (valueScales d))

theorem head15_1 (hp : Positive x1 x4) (t d : Fin 128) : (k0_pay1341 (kernelRun0_A.sl.r c i a8 h8 x6) (v11556 c a2 h2 a3 h3 a4 h4 a5 h5 a6 h6 a7 h7 a10 a11 a12 a13 a14 a15 a16 a17 a18 a19 x0 x1 x2 x3 x4 x5)) (ix3 0 t d) = output x0 x1 x2 x3 x4 x5 x6 i 15 1 t d :=
  (head_apply _ _ t d).trans (congrArg₂ (· * ·) ((head_read (by omega) t d).trans ((row15 hp _ d).trans (congrArg (fun a => row x0 x1 x2 x3 x4 x5 15 a d) (Fin.ext (by dsimp only; omega))))) (valueScales d))

theorem head15_2 (hp : Positive x1 x4) (t d : Fin 128) : (k0_pay1 (r_5 c i a2 h2 a3 h3 a4 h4 a5 h5 a6 h6 a7 h7 a8 h8 a10 a11 a12 a13 a14 a15 a16 a17 a18 a19 x0 x1 x2 x3 x4 x5 x6)) (ix3 0 t d) = output x0 x1 x2 x3 x4 x5 x6 i 15 2 t d :=
  (head_apply _ _ t d).trans (congrArg₂ (· * ·) ((head_read (by omega) t d).trans ((row15 hp _ d).trans (congrArg (fun a => row x0 x1 x2 x3 x4 x5 15 a d) (Fin.ext (by dsimp only; omega))))) (valueScales d))

theorem head15_3 (hp : Positive x1 x4) (t d : Fin 128) : (k0_pay2 (kernelRun0_A.sl.r c i a8 h8 x6) (v11572 c a2 h2 a3 h3 a4 h4 a5 h5 a6 h6 a7 h7 a10 a11 a12 a13 a14 a15 a16 a17 a18 a19 x0 x1 x2 x3 x4 x5)) (ix3 0 t d) = output x0 x1 x2 x3 x4 x5 x6 i 15 3 t d :=
  (head_apply _ _ t d).trans (congrArg₂ (· * ·) ((head_read (by omega) t d).trans ((row15 hp _ d).trans (congrArg (fun a => row x0 x1 x2 x3 x4 x5 15 a d) (Fin.ext (by dsimp only; omega))))) (valueScales d))

end Cert.KernelIdeal.Block

end
-- ==== Proof.Output.lean ====
/- A grid point's output block, element by element: sixteen query blocks, four heads each. The partial maxima and sums of the kernel
   are the maximum and the sum over all keys a block meets. -/
module

public import proofs.«01_k».proof.Proof.BlocksA
public import proofs.«01_k».proof.Proof.BlocksB
public import proofs.«01_k».proof.Proof.BlocksC
public import proofs.«01_k».proof.Proof.BlocksD

@[expose] public section

set_option maxRecDepth 16384

noncomputable section

open Idealize.ShloMosaic Idealize.ShloMosaic.TcCoe Idealize.SL.Sem

namespace Cert.KernelIdeal.Block

open Cert.KernelIdeal Cert.KernelIdeal.Gen

/-! ## The partial maxima and sums -/

theorem top_sup (lg : Fin 512 → Nat → EReal) (n : Nat) (r : Fin 512) :
    (Finset.univ.sup fun u : Fin 8 => top lg n u r) = (Finset.range (64 * (n + 1))).sup (lg r) := by
  induction n with
  | zero =>
    refine (Column.sup_eighths fun s => lg r (64 * 0 + s)).trans ?_
    exact congrArg (fun f => Finset.sup (Finset.range 64) f) (funext fun s => congrArg (lg r) (by omega))
  | succ n ih =>
    have h : (Finset.univ.sup fun u : Fin 8 => top lg (n + 1) u r)
        = max (Finset.univ.sup fun u : Fin 8 => top lg n u r) (Finset.univ.sup fun u : Fin 8 => part lg (n + 1) u r) := Finset.sup_sup
    rw [h, ih, show 64 * (n + 1 + 1) = 64 * (n + 1) + 64 by omega, Column.sup_range_add]
    exact congrArg _ (Column.sup_eighths fun s => lg r (64 * (n + 1) + s))

theorem mass_sum (w : Fin 512 → Nat → EReal) (n : Nat) (r : Fin 512) :
    (∑ u : Fin 8, mass w n u r) = ∑ s ∈ Finset.range (64 * (n + 1)), w r s := by
  induction n with
  | zero =>
    refine (Column.sum_eighths fun s => w r (64 * 0 + s)).trans ?_
    exact Finset.sum_congr rfl fun s _ => congrArg (w r) (by omega)
  | succ n ih =>
    have h : (∑ u : Fin 8, mass w (n + 1) u r)
        = (∑ u : Fin 8, mass w n u r) + ∑ u : Fin 8, ∑ x : Fin 8, w r (64 * (n + 1) + (x.val * 8 + u.val)) := Finset.sum_add_distrib
    rw [h, ih, show 64 * (n + 1 + 1) = 64 * (n + 1) + 64 by omega, Finset.sum_range_add]
    exact congrArg _ (Column.sum_eighths fun s => w r (64 * (n + 1) + s))

/-! ## The block -/

/-- The element of a grid point's block at token `T` and column `l`. -/
def element (x0 : Vec Ideal S1x1x8192x128 .bf16) (x1 : Vec Ideal S1x1x4x16 .f32) (x2 : Vec Ideal S1x4x16x128 .bf16) (x3 : Vec Ideal S1x1x2048x128 .bf16)
    (x4 : Vec Ideal S1x1x32x1 .f32) (x5 : Vec Ideal S1x1x2048x128 .bf16) (x6 : Vec Ideal S1x4x128 .f32) (i : grid0.Coords) (T l : Nat) : EReal :=
  output x0 x1 x2 x3 x4 x5 x6 i (T / 128) (l / 128) ⟨T % 128, by omega⟩ ⟨l % 128, by omega⟩

theorem place {x0 : Vec Ideal S1x1x8192x128 .bf16} {x1 : Vec Ideal S1x1x4x16 .f32} {x2 : Vec Ideal S1x4x16x128 .bf16}
    {x3 : Vec Ideal S1x1x2048x128 .bf16} {x4 : Vec Ideal S1x1x32x1 .f32} {x5 : Vec Ideal S1x1x2048x128 .bf16} {x6 : Vec Ideal S1x4x128 .f32}
    {i : grid0.Coords} {b h o k : Nat} {w : S1x128x128.Idx → EReal}
    (hw : ∀ t d, w (ix3 0 t d) = output x0 x1 x2 x3 x4 x5 x6 i b h t d) (ho : o = 128 * b) (hk : k = 128 * h) (t d : Fin 128) :
    w (ix3 0 t d) = element x0 x1 x2 x3 x4 x5 x6 i (o + t.val) (k + d.val) := by
  subst ho hk
  unfold element
  rw [hw]
  have e1 : (128 * b + t.val) / 128 = b := by omega
  have e2 : (128 * h + d.val) / 128 = h := by omega
  have e3 : (⟨(128 * b + t.val) % 128, by omega⟩ : Fin 128) = t := Fin.ext (by dsimp only; omega)
  have e4 : (⟨(128 * h + d.val) % 128, by omega⟩ : Fin 128) = d := Fin.ext (by dsimp only; omega)
  rw [e1, e2, e3, e4]

theorem out_apply (m : (ℓ : Loc nD τ sig) → Buf (Elt Ideal) ℓ) (c : Dev nD) (t : Fin cfg0.N)
    (hp : Positive (iblk m c 1 t) (iblk m c 4 t)) (T : Fin 2048) (l : Fin 512) : outsAt0 m c t (ix3 0 T l)
    = element (iblk m c 0 t) (iblk m c 1 t) (iblk m c 2 t) (iblk m c 3 t) (iblk m c 4 t) (iblk m c 5 t) (iblk m c 6 t)
        (grid0.coords t) T.val l.val := by
  unfold outsAt0 out0_A_7
  rw [View.read_writes_eq_canon _ _ _ (fun y => cover0_A_7 (y := y) ..)]
  exact out_step (place (head15_0 hp) (by omega) (by omega)) (place (head15_1 hp) (by omega) (by omega)) (place (head15_2 hp) (by omega) (by omega)) (place (head15_3 hp) (by omega) (by omega)) T.isLt fun _ =>
    out_step (place (head14_0 hp) (by omega) (by omega)) (place (head14_1 hp) (by omega) (by omega)) (place (head14_2 hp) (by omega) (by omega)) (place (head14_3 hp) (by omega) (by omega)) (by omega) fun _ =>
    out_step (place (head13_0 hp) (by omega) (by omega)) (place (head13_1 hp) (by omega) (by omega)) (place (head13_2 hp) (by omega) (by omega)) (place (head13_3 hp) (by omega) (by omega)) (by omega) fun _ =>
    out_step (place (head12_0 hp) (by omega) (by omega)) (place (head12_1 hp) (by omega) (by omega)) (place (head12_2 hp) (by omega) (by omega)) (place (head12_3 hp) (by omega) (by omega)) (by omega) fun _ =>
    out_step (place (head11_0 hp) (by omega) (by omega)) (place (head11_1 hp) (by omega) (by omega)) (place (head11_2 hp) (by omega) (by omega)) (place (head11_3 hp) (by omega) (by omega)) (by omega) fun _ =>
    out_step (place (head10_0 hp) (by omega) (by omega)) (place (head10_1 hp) (by omega) (by omega)) (place (head10_2 hp) (by omega) (by omega)) (place (head10_3 hp) (by omega) (by omega)) (by omega) fun _ =>
    out_step (place (head9_0 hp) (by omega) (by omega)) (place (head9_1 hp) (by omega) (by omega)) (place (head9_2 hp) (by omega) (by omega)) (place (head9_3 hp) (by omega) (by omega)) (by omega) fun _ =>
    out_step (place (head8_0 hp) (by omega) (by omega)) (place (head8_1 hp) (by omega) (by omega)) (place (head8_2 hp) (by omega) (by omega)) (place (head8_3 hp) (by omega) (by omega)) (by omega) fun _ =>
    out_step (place (head7_0 hp) (by omega) (by omega)) (place (head7_1 hp) (by omega) (by omega)) (place (head7_2 hp) (by omega) (by omega)) (place (head7_3 hp) (by omega) (by omega)) (by omega) fun _ =>
    out_step (place (head6_0 hp) (by omega) (by omega)) (place (head6_1 hp) (by omega) (by omega)) (place (head6_2 hp) (by omega) (by omega)) (place (head6_3 hp) (by omega) (by omega)) (by omega) fun _ =>
    out_step (place (head5_0 hp) (by omega) (by omega)) (place (head5_1 hp) (by omega) (by omega)) (place (head5_2 hp) (by omega) (by omega)) (place (head5_3 hp) (by omega) (by omega)) (by omega) fun _ =>
    out_step (place (head4_0 hp) (by omega) (by omega)) (place (head4_1 hp) (by omega) (by omega)) (place (head4_2 hp) (by omega) (by omega)) (place (head4_3 hp) (by omega) (by omega)) (by omega) fun _ =>
    out_step (place (head3_0 hp) (by omega) (by omega)) (place (head3_1 hp) (by omega) (by omega)) (place (head3_2 hp) (by omega) (by omega)) (place (head3_3 hp) (by omega) (by omega)) (by omega) fun _ =>
    out_step (place (head2_0 hp) (by omega) (by omega)) (place (head2_1 hp) (by omega) (by omega)) (place (head2_2 hp) (by omega) (by omega)) (place (head2_3 hp) (by omega) (by omega)) (by omega) fun _ =>
    out_step (place (head1_0 hp) (by omega) (by omega)) (place (head1_1 hp) (by omega) (by omega)) (place (head1_2 hp) (by omega) (by omega)) (place (head1_3 hp) (by omega) (by omega)) (by omega) fun _ =>
    out_step (place (head0_0 hp) (by omega) (by omega)) (place (head0_1 hp) (by omega) (by omega)) (place (head0_2 hp) (by omega) (by omega)) (place (head0_3 hp) (by omega) (by omega)) (by omega) fun _ =>
    absurd ‹_› (by omega)

end Cert.KernelIdeal.Block

end
-- ==== Proof.Array.lean ====
/- What the kernel's result array holds: at batch row `b`, token `k` and column `l`, the element of the grid point that writes it,
   over blocks that are entries of the arguments. -/
module

public import proofs.«01_k».proof.Proof.Output

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ) (c : Dev nD)

/-- The grid point of batch row `b` and key head `j`. -/
def point (b : Fin 8) (j : Fin 4) : Fin cfg0.N := ⟨4 * b.val + j.val, by have : cfg0.N = 32 := N_0; omega⟩

/-! ## Where the windows lie -/

theorem index0 : ∀ (b : Fin 8) (j : Fin 4), win0_0.index (point b j) = ![b.val, j.val, 0, 0] := by decide +kernel
theorem index1 : ∀ (b : Fin 8) (j : Fin 4), win0_1.index (point b j) = ![b.val, j.val, 0, 0] := by decide +kernel
theorem index2 : ∀ (b : Fin 8) (j : Fin 4), win0_2.index (point b j) = ![b.val, j.val, 0, 0] := by decide +kernel
theorem index3 : ∀ (b : Fin 8) (j : Fin 4), win0_3.index (point b j) = ![b.val, j.val, 0, 0] := by decide +kernel
theorem index4 : ∀ (b : Fin 8) (j : Fin 4), win0_4.index (point b j) = ![b.val, j.val, 0, 0] := by decide +kernel
theorem index5 : ∀ (b : Fin 8) (j : Fin 4), win0_5.index (point b j) = ![b.val, j.val, 0, 0] := by decide +kernel
theorem index6 : ∀ (b : Fin 8) (j : Fin 4), win0_6.index (point b j) = ![b.val, 0, 0] := by decide +kernel
theorem index7 : ∀ (b : Fin 8) (j : Fin 4), win0_7.index (point b j) = ![b.val, 0, j.val] := by decide +kernel
theorem head_coord : ∀ (b : Fin 8) (j : Fin 4), k0_off1 (grid0.coords (point b j)) = ![0, j.val, 0] := by decide +kernel

/-! ## The input blocks -/

theorem block0_apply (b : Fin 8) (j : Fin 4) (r : Fin 8192) (d : Fin 128) :
    (iblk m c 0 (point b j) : Vec Ideal S1x1x8192x128 .bf16) (ix4 0 0 r d) = m ((c.tc : Thread nD τ).loc main_arg0) (ix4 b j r d) := by
  have hi := index0 b j
  unfold iblk
  rw [View.read_apply]
  show V m c main_arg0 _ = m (c.tc.loc main_arg0) _
  unfold V
  congr 1
  funext a
  apply Fin.ext
  match a with
  | ⟨0, _⟩ => show win0_0.index (point b j) 0 * 1 + 1 * 0 = b.val; rw [hi]; show b.val * 1 + 1 * 0 = b.val; omega
  | ⟨1, _⟩ => show win0_0.index (point b j) 1 * 1 + 1 * 0 = j.val; rw [hi]; show j.val * 1 + 1 * 0 = j.val; omega
  | ⟨2, _⟩ => show win0_0.index (point b j) 2 * 8192 + 1 * r.val = r.val; rw [hi]; show 0 * 8192 + 1 * r.val = r.val; omega
  | ⟨3, _⟩ => show win0_0.index (point b j) 3 * 128 + 1 * d.val = d.val; rw [hi]; show 0 * 128 + 1 * d.val = d.val; omega

theorem block1_apply (b : Fin 8) (j : Fin 4) (g : Fin 4) (n : Fin 16) :
    (iblk m c 1 (point b j) : Vec Ideal S1x1x4x16 .f32) (ix4 0 0 g n) = m ((c.tc : Thread nD τ).loc main_arg1) (ix4 b j g n) := by
  have hi := index1 b j
  unfold iblk
  rw [View.read_apply]
  show V m c main_arg1 _ = m (c.tc.loc main_arg1) _
  unfold V
  congr 1
  funext a
  apply Fin.ext
  match a with
  | ⟨0, _⟩ => show win0_1.index (point b j) 0 * 1 + 1 * 0 = b.val; rw [hi]; show b.val * 1 + 1 * 0 = b.val; omega
  | ⟨1, _⟩ => show win0_1.index (point b j) 1 * 1 + 1 * 0 = j.val; rw [hi]; show j.val * 1 + 1 * 0 = j.val; omega
  | ⟨2, _⟩ => show win0_1.index (point b j) 2 * 4 + 1 * g.val = g.val; rw [hi]; show 0 * 4 + 1 * g.val = g.val; omega
  | ⟨3, _⟩ => show win0_1.index (point b j) 3 * 16 + 1 * n.val = n.val; rw [hi]; show 0 * 16 + 1 * n.val = n.val; omega

theorem block2_apply (b : Fin 8) (j : Fin 4) (g : Fin 4) (n : Fin 16) (d : Fin 128) :
    (iblk m c 2 (point b j) : Vec Ideal S1x4x16x128 .bf16) (ix4 0 g n d) = m ((c.tc : Thread nD τ).loc main_arg2) (ix4 b ⟨j.val * 4 + g.val, by omega⟩ n d) := by
  have hi := index2 b j
  unfold iblk
  rw [View.read_apply]
  show V m c main_arg2 _ = m (c.tc.loc main_arg2) _
  unfold V
  congr 1
  funext a
  apply Fin.ext
  match a with
  | ⟨0, _⟩ => show win0_2.index (point b j) 0 * 1 + 1 * 0 = b.val; rw [hi]; show b.val * 1 + 1 * 0 = b.val; omega
  | ⟨1, _⟩ => show win0_2.index (point b j) 1 * 4 + 1 * g.val = j.val * 4 + g.val; rw [hi]; show j.val * 4 + 1 * g.val = j.val * 4 + g.val; omega
  | ⟨2, _⟩ => show win0_2.index (point b j) 2 * 16 + 1 * n.val = n.val; rw [hi]; show 0 * 16 + 1 * n.val = n.val; omega
  | ⟨3, _⟩ => show win0_2.index (point b j) 3 * 128 + 1 * d.val = d.val; rw [hi]; show 0 * 128 + 1 * d.val = d.val; omega

theorem block3_apply (b : Fin 8) (j : Fin 4) (s : Fin 2048) (d : Fin 128) :
    (iblk m c 3 (point b j) : Vec Ideal S1x1x2048x128 .bf16) (ix4 0 0 s d) = m ((c.tc : Thread nD τ).loc main_arg3) (ix4 b j s d) := by
  have hi := index3 b j
  unfold iblk
  rw [View.read_apply]
  show V m c main_arg3 _ = m (c.tc.loc main_arg3) _
  unfold V
  congr 1
  funext a
  apply Fin.ext
  match a with
  | ⟨0, _⟩ => show win0_3.index (point b j) 0 * 1 + 1 * 0 = b.val; rw [hi]; show b.val * 1 + 1 * 0 = b.val; omega
  | ⟨1, _⟩ => show win0_3.index (point b j) 1 * 1 + 1 * 0 = j.val; rw [hi]; show j.val * 1 + 1 * 0 = j.val; omega
  | ⟨2, _⟩ => show win0_3.index (point b j) 2 * 2048 + 1 * s.val = s.val; rw [hi]; show 0 * 2048 + 1 * s.val = s.val; omega
  | ⟨3, _⟩ => show win0_3.index (point b j) 3 * 128 + 1 * d.val = d.val; rw [hi]; show 0 * 128 + 1 * d.val = d.val; omega

theorem block4_apply (b : Fin 8) (j : Fin 4) (n : Fin 32) :
    (iblk m c 4 (point b j) : Vec Ideal S1x1x32x1 .f32) (ix4 0 0 n 0) = m ((c.tc : Thread nD τ).loc main_arg4) (ix4 b j n 0) := by
  have hi := index4 b j
  unfold iblk
  rw [View.read_apply]
  show V m c main_arg4 _ = m (c.tc.loc main_arg4) _
  unfold V
  congr 1
  funext a
  apply Fin.ext
  match a with
  | ⟨0, _⟩ => show win0_4.index (point b j) 0 * 1 + 1 * 0 = b.val; rw [hi]; show b.val * 1 + 1 * 0 = b.val; omega
  | ⟨1, _⟩ => show win0_4.index (point b j) 1 * 1 + 1 * 0 = j.val; rw [hi]; show j.val * 1 + 1 * 0 = j.val; omega
  | ⟨2, _⟩ => show win0_4.index (point b j) 2 * 32 + 1 * n.val = n.val; rw [hi]; show 0 * 32 + 1 * n.val = n.val; omega
  | ⟨3, _⟩ => show win0_4.index (point b j) 3 * 1 + 1 * 0 = 0; rw [hi]; show 0 * 1 + 1 * 0 = 0; omega

theorem block5_apply (b : Fin 8) (j : Fin 4) (s : Fin 2048) (d : Fin 128) :
    (iblk m c 5 (point b j) : Vec Ideal S1x1x2048x128 .bf16) (ix4 0 0 s d) = m ((c.tc : Thread nD τ).loc main_arg5) (ix4 b j s d) := by
  have hi := index5 b j
  unfold iblk
  rw [View.read_apply]
  show V m c main_arg5 _ = m (c.tc.loc main_arg5) _
  unfold V
  congr 1
  funext a
  apply Fin.ext
  match a with
  | ⟨0, _⟩ => show win0_5.index (point b j) 0 * 1 + 1 * 0 = b.val; rw [hi]; show b.val * 1 + 1 * 0 = b.val; omega
  | ⟨1, _⟩ => show win0_5.index (point b j) 1 * 1 + 1 * 0 = j.val; rw [hi]; show j.val * 1 + 1 * 0 = j.val; omega
  | ⟨2, _⟩ => show win0_5.index (point b j) 2 * 2048 + 1 * s.val = s.val; rw [hi]; show 0 * 2048 + 1 * s.val = s.val; omega
  | ⟨3, _⟩ => show win0_5.index (point b j) 3 * 128 + 1 * d.val = d.val; rw [hi]; show 0 * 128 + 1 * d.val = d.val; omega

theorem block6_apply (b : Fin 8) (j : Fin 4) (n : Fin 4) (d : Fin 128) :
    (iblk m c 6 (point b j) : Vec Ideal S1x4x128 .f32) (ix3 0 n d) = m ((c.tc : Thread nD τ).loc main_arg6) (ix3 b n d) := by
  have hi := index6 b j
  unfold iblk
  rw [View.read_apply]
  show V m c main_arg6 _ = m (c.tc.loc main_arg6) _
  unfold V
  congr 1
  funext a
  apply Fin.ext
  match a with
  | ⟨0, _⟩ => show win0_6.index (point b j) 0 * 1 + 1 * 0 = b.val; rw [hi]; show b.val * 1 + 1 * 0 = b.val; omega
  | ⟨1, _⟩ => show win0_6.index (point b j) 1 * 4 + 1 * n.val = n.val; rw [hi]; show 0 * 4 + 1 * n.val = n.val; omega
  | ⟨2, _⟩ => show win0_6.index (point b j) 2 * 128 + 1 * d.val = d.val; rw [hi]; show 0 * 128 + 1 * d.val = d.val; omega

/-- The value scales the point reads: its head's row. -/
theorem valueScale_apply (b : Fin 8) (j : Fin 4) (x6 : Vec Ideal S1x4x128 .f32) (d : Fin 128) :
    valueScale (grid0.coords (point b j)) x6 d = x6 (ix3 0 j d) := by
  unfold valueScale
  pointwise [k0_pay4]
  refine congrArg x6 (funext fun a => Fin.ext ?_)
  have hc := head_coord b j
  match a with
  | ⟨0, _⟩ => show k0_off1 (grid0.coords (point b j)) 0 = 0; rw [hc]; rfl
  | ⟨1, _⟩ => show k0_off1 (grid0.coords (point b j)) 1 = j.val; rw [hc]; rfl
  | ⟨2, _⟩ => show k0_off1 (grid0.coords (point b j)) 2 + d.val = d.val; rw [hc]; show 0 + d.val = d.val; omega

/-! ## The output -/

/-- Every output block is moved whole. -/
theorem whole7 : ∀ (t : Fin grid0.N) (a : Fin 3), (win0_7.xblock (grid0.coords t)).size a = (![1, 2048, 512] : Fin 3 → Nat) a := by
  decide +kernel

/-- An index of the output block, as an index of its moved part. -/
def moved (t : Fin cfg0.N) (x : S1x2048x512.Idx) : (win0_7.xblock (grid0.coords t)).Idx :=
  fun a => ⟨(x a).val, lt_of_lt_of_eq (x a).isLt (whole7 t a).symm⟩

theorem array_moved (t : Fin cfg0.N) (x : S1x2048x512.Idx) :
    (dats m 0 c).arrAt 7 cfg0.N ((win0_7.rect t).emb (moved t x)) = outsAt0 m c t x := by
  have h := (dats m 0 c).arrAt_emb_eq_flushed 7 Value.disjoint7 t (flush0_7 t) (moved t x)
  have hf := congrFun (Value.flushed7 m c t) (moved t x)
  exact h.trans hf

/-- The result array, element by element. -/
theorem array_apply (b : Fin 8) (k : Fin 2048) (j : Fin 4) (e : Fin 512) :
    (dats m 0 c).arrAt 7 cfg0.N (ix3 b k ⟨512 * j.val + e.val, by omega⟩) = outsAt0 m c (point b j) (ix3 0 k e) := by
  refine Eq.trans (congrArg _ ?_) (array_moved m c (point b j) (ix3 0 k e))
  have hi := index7 b j
  funext a
  apply Fin.ext
  match a with
  | ⟨0, _⟩ => show b.val = win0_7.index (point b j) 0 * 1 + 1 * 0; rw [hi]; show b.val = b.val * 1 + 1 * 0; omega
  | ⟨1, _⟩ => show k.val = win0_7.index (point b j) 1 * 2048 + 1 * k.val; rw [hi]; show k.val = 0 * 2048 + 1 * k.val; omega
  | ⟨2, _⟩ => show 512 * j.val + e.val = win0_7.index (point b j) 2 * 512 + 1 * e.val; rw [hi]; show 512 * j.val + e.val = j.val * 512 + 1 * e.val; omega

end Cert.KernelIdeal.Block

end
-- ==== Proof.Reference.lean ====
/- What the reference computes, read at an index of its result down to the entries of its arguments. -/
module

public import proofs.«01_k».proof.Proof.Gen.ReferenceIdeal.Run
public import proofs.«01_k».proof.Proof.Column
public import proofs.«01_k».proof.Proof.Consts
public import Idealize.ShloMosaic.Lib.Pointwise
public import Idealize.ShloMosaic.Lib.WordCmp

@[expose] public section

set_option maxRecDepth 16384

noncomputable section

namespace Cert.ReferenceIdeal.Block

open Idealize.ShloMosaic Idealize.ShloMosaic.TcCoe Idealize.SL.Sem
open Cert.ReferenceIdeal Cert.ReferenceIdeal.Gen Cert.ReferenceIdeal.Value

variable {F : FTy → Type} [FloatOps F]

/-- Where a key is no later than the row's token, as printed. -/
def visible : IVec S8x4x16x128x4x2048 1 :=
  cmpi .sle (iotaInDim S8x4x16x128x4x2048 32 5) (addi (muli (iotaInDim S8x4x16x128x4x2048 32 2) (broadcastInDim S8x4x16x128x4x2048 ![] bcast_S_S8x4x16x128x4x2048 (constantI S_ 32 128#32))) (iotaInDim S8x4x16x128x4x2048 32 3))

/-- The masked scores, as printed. -/
def score (x0 : Vec F S8x4x8192x128 .bf16) (x1 : Vec F S8x4x4x16 .f32) (x2 : Vec F S8x16x16x128 .bf16) (x3 : Vec F S8x4x2048x128 .bf16)
    (x4 : Vec F S8x4x32x1 .f32) : FVec F S8x4x16x128x4x2048 .f32 :=
  (select visible (Host.divf (mulf (broadcastInDim S8x4x16x128x4x2048 ![0, 1, 2, 3, 4, 5] bcast_S8x4x1x1x1x2048_S8x4x16x128x4x2048_0_1_2_3_4_5 (shapeCast _ (broadcastInDim S8x4x32x64 ![0, 1, 2, 3] bcast_S8x4x32x1_S8x4x32x64_0_1_2_3 x4) shapeCasts_S8x4x32x64_S8x4x1x1x1x2048)) (addf (mulf (broadcastInDim S8x4x16x128x4x2048 ![0, 1, 2, 3, 4, 5] bcast_S8x4x16x1x4x1_S8x4x16x128x4x2048_0_1_2_3_4_5 (broadcastInDim S8x4x16x1x4x1 ![0, 1, 2, 4] bcast_S8x4x16x4_S8x4x16x1x4x1_0_1_2_4 (transpose S8x4x16x4 [0, 1, 3, 2] x1 transposes_S8x4x4x16_S8x4x16x4_0_1_3_2))) (Host.dotGeneral dot_S8x4x16x128x4x128_S8x4x2048x128_S8x4x16x128x4x2048_5_3_234_2_01_01 none (shapeCast _ x0 shapeCasts_S8x4x8192x128_S8x4x16x128x4x128) x3)) (broadcastInDim S8x4x16x128x4x2048 ![0, 1, 2, 3, 4, 5] bcast_S8x4x16x1x4x2048_S8x4x16x128x4x2048_0_1_2_3_4_5 (broadcastInDim S8x4x16x1x4x2048 ![0, 1, 2, 4, 5] bcast_S8x4x16x4x2048_S8x4x16x1x4x2048_0_1_2_4_5 (transpose S8x4x16x4x2048 [0, 1, 4, 3, 2] (Host.dotGeneral dot_S8x4x2048x128_S8x4x4x16x128_S8x4x2048x4x16_3_4_2_23_01_01 none x3 (shapeCast _ x2 shapeCasts_S8x16x16x128_S8x4x4x16x128)) transposes_S8x4x2048x4x16_S8x4x16x4x2048_0_1_4_3_2))))) (broadcastInDim S8x4x16x128x4x2048 ![] bcast_S_S8x4x16x128x4x2048 (Host.sqrt (constant S_ .f32 0x43000000#32)))) (broadcastInDim S8x4x16x128x4x2048 ![] bcast_S_S8x4x16x128x4x2048 (id (constant S_ .f32 0xFF800000#32))))

/-- The probabilities before their sum divides them, as printed. -/
def prob (σ : FVec F S8x4x16x128x4x2048 .f32) : FVec F S8x4x16x128x4x2048 .f32 :=
  (select visible (Host.exp (subf σ (broadcastInDim S8x4x16x128x4x2048 ![0, 1, 2, 3, 4, 5] bcast_S8x4x16x128x4x1_S8x4x16x128x4x2048_0_1_2_3_4_5 (broadcastInDim S8x4x16x128x4x1 ![0, 1, 2, 3, 4] bcast_S8x4x16x128x4_S8x4x16x128x4x1_0_1_2_3_4 (Host.reduce FloatOps.maximumf σ (constant S_ .f32 0xFF800000#32) reducesTo_S8x4x16x128x4x2048_S8x4x16x128x4_d5 h_S_))))) (broadcastInDim S8x4x16x128x4x2048 ![] bcast_S_S8x4x16x128x4x2048 (id (constant S_ .f32 0x00000000#32))))

/-- The result from the probabilities, as printed. -/
def out (p : FVec F S8x4x16x128x4x2048 .f32) (x5 : Vec F S8x4x2048x128 .bf16) (x6 : Vec F S8x4x128 .f32) : Vec F S8x2048x2048 .bf16 :=
  truncf .bf16 (shapeCast _ (transpose S8x16x128x4x4x128 [0, 2, 3, 1, 4, 5] (Host.divf (mulf (mulf (Host.dotGeneral dot_S8x4x16x128x4x2048_S8x4x2048x128_S8x4x16x128x4x128_5_2_234_3_01_01 none (truncf .bf16 (minimumf (broadcastInDim S8x4x16x128x4x2048 ![] bcast_S_S8x4x16x128x4x2048 (id (constant S_ .f32 0x43E00000#32))) (maximumf (broadcastInDim S8x4x16x128x4x2048 ![] bcast_S_S8x4x16x128x4x2048 (id (constant S_ .f32 0xC3E00000#32))) (mulf p (broadcastInDim S8x4x16x128x4x2048 ![] bcast_S_S8x4x16x128x4x2048 (constant S_ .f32 0x43800000#32))))) bitsLt_bf16_f32) x5) (broadcastInDim S8x4x16x128x4x128 ![] bcast_S_S8x4x16x128x4x128 (constant S_ .f32 0x3B800000#32))) (broadcastInDim S8x4x16x128x4x128 ![0, 1, 2, 3, 4, 5] bcast_S8x4x1x1x1x128_S8x4x16x128x4x128_0_1_2_3_4_5 (broadcastInDim S8x4x1x1x1x128 ![0, 1, 5] bcast_S8x4x128_S8x4x1x1x1x128_0_1_5 x6))) (broadcastInDim S8x4x16x128x4x128 ![0, 1, 2, 3, 4, 5] bcast_S8x4x16x128x4x1_S8x4x16x128x4x128_0_1_2_3_4_5 (broadcastInDim S8x4x16x128x4x1 ![0, 1, 2, 3, 4] bcast_S8x4x16x128x4_S8x4x16x128x4x1_0_1_2_3_4 (Host.reduceAdd p (constant S_ .f32 0x00000000#32) reducesTo_S8x4x16x128x4x2048_S8x4x16x128x4_d5 h_S_)))) transposes_S8x4x16x128x4x128_S8x16x128x4x4x128_0_2_3_1_4_5) shapeCasts_S8x16x128x4x4x128_S8x2048x2048) bitsLt_bf16_f32

/-- The reference's result is these three in turn. -/
theorem res_eq (m : (ℓ : Loc nD τ sig) → Buf (Elt F) ℓ) (c : Dev nD) :
    res_main_v49 m c = out (prob (score (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))))
      (m ((c.tc : Thread nD τ).loc main_arg5)) (m ((c.tc : Thread nD τ).loc main_arg6)) := rfl

theorem root_head_dim : Ideal.sqrt ((128 : ℝ) : EReal) = ((Real.sqrt 128 : ℝ) : EReal) := by
  rw [Ideal.sqrt_coe, if_neg (by norm_num)]

/-- The indices a reduction over the keys brings to one index. -/
theorem reduces : S8x4x16x128x4x2048.Reduces [5] S8x4x16x128x4 := by decide

theorem lift_eq (b : Fin 8) (j : Fin 4) (n : Fin 16) (t : Fin 128) (g : Fin 4) (s : Fin 2048) :
    reduces.lift (ix5 b j n t g) s = ix6 b j n t g s := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The largest score of a row. -/
theorem sup_keys (σ : FVec Ideal S8x4x16x128x4x2048 .f32) (b : Fin 8) (j : Fin 4) (n : Fin 16) (t : Fin 128) (g : Fin 4) :
    (Finset.univ.filter fun i => reducesTo_S8x4x16x128x4x2048_S8x4x16x128x4_d5.drop i = ix5 b j n t g).fold max ⊥ σ
      = Finset.univ.sup fun s : Fin 2048 => σ (ix6 b j n t g s) := by
  rw [Shape.ReducesTo.drop_eq_drop _ reduces, reduces.fold_filter_drop_single]
  exact congrArg (fun f : Fin 2048 → EReal => Finset.univ.fold max ⊥ f) (funext fun s => congrArg σ (lift_eq b j n t g s))

/-- The sum of a row's probabilities. -/
theorem sum_keys (p : FVec Ideal S8x4x16x128x4x2048 .f32) (b : Fin 8) (j : Fin 4) (n : Fin 16) (t : Fin 128) (g : Fin 4) :
    Ideal.hostReduceAdd reducesTo_S8x4x16x128x4x2048_S8x4x16x128x4_d5 p 0 (ix5 b j n t g)
      = ∑ s : Fin 2048, p (ix6 b j n t g s) := by
  rw [Ideal.hostReduceAdd_single _ reduces, zero_add]
  exact Finset.sum_congr rfl fun s _ => congrArg p (lift_eq b j n t g s)

theorem visible_apply (b : Fin 8) (j : Fin 4) (n : Fin 16) (t : Fin 128) (g : Fin 4) (s : Fin 2048) :
    visible (ix6 b j n t g s) = BitVec.ofBool (decide (s.val ≤ n.val * 128 + t.val)) := by
  pointwise [visible]
  have e : IntOp.addi (IntOp.muli (BitVec.ofNat 32 n.val) 128#32) (BitVec.ofNat 32 t.val) = BitVec.ofNat 32 (n.val * 128 + t.val) := by
    show BitVec.ofNat 32 n.val * 128#32 + BitVec.ofNat 32 t.val = _
    rw [BitVec.ofNat_add, BitVec.ofNat_mul]
  rw [e, WordCmp.cmpi_sle_ofNat (by omega) (by omega)]

theorem score_apply (x0 : Vec Ideal S8x4x8192x128 .bf16) (x1 : Vec Ideal S8x4x4x16 .f32) (x2 : Vec Ideal S8x16x16x128 .bf16)
    (x3 : Vec Ideal S8x4x2048x128 .bf16) (x4 : Vec Ideal S8x4x32x1 .f32) (b : Fin 8) (j : Fin 4) (n : Fin 16) (t : Fin 128) (g : Fin 4)
    (s : Fin 2048) : score x0 x1 x2 x3 x4 (ix6 b j n t g s) = if s.val ≤ n.val * 128 + t.val then
      Ideal.div (x4 (ix4 b j ⟨s.val / 64, by omega⟩ 0)
        * (x1 (ix4 b j g n) * (∑ d : Fin 128, x0 (ix4 b j ⟨n.val * 512 + t.val * 4 + g.val, by omega⟩ d) * x3 (ix4 b j s d))
          + ∑ d : Fin 128, x3 (ix4 b j s d) * x2 (ix4 b ⟨j.val * 4 + g.val, by omega⟩ n d)))
        ((Real.sqrt 128 : ℝ) : EReal)
    else ⊥ := by
  pointwise [score, visible_apply]
  rw [Cert.Consts.head_dim, root_head_dim]
  refine if_congr Iff.rfl ?_ Cert.Consts.neg_inf
  rfl

theorem prob_apply (σ : FVec Ideal S8x4x16x128x4x2048 .f32) (b : Fin 8) (j : Fin 4) (n : Fin 16) (t : Fin 128) (g : Fin 4) (s : Fin 2048) :
    prob σ (ix6 b j n t g s) = if s.val ≤ n.val * 128 + t.val then
      Ideal.exp (σ (ix6 b j n t g s) - Finset.univ.sup fun s => σ (ix6 b j n t g s)) else 0 := by
  pointwise [prob, visible_apply, Cert.Consts.neg_inf]
  rw [sup_keys]
  refine if_congr Iff.rfl ?_ Cert.Consts.zero
  rfl

theorem out_apply (p : FVec Ideal S8x4x16x128x4x2048 .f32) (x5 : Vec Ideal S8x4x2048x128 .bf16) (x6 : Vec Ideal S8x4x128 .f32)
    (b : Fin 8) (T l : Fin 2048) : out p x5 x6 (ix3 b T l)
      = Ideal.div ((∑ s : Fin 2048, min ((448 : ℝ) : EReal) (max ((-448 : ℝ) : EReal)
            (p (ix6 b ⟨l.val / 512, by omega⟩ ⟨T.val / 128, by omega⟩ ⟨T.val % 128, by omega⟩ ⟨l.val / 128 % 4, by omega⟩ s) * ((256 : ℝ) : EReal)))
          * x5 (ix4 b ⟨l.val / 512, by omega⟩ s ⟨l.val % 128, by omega⟩)) * ((1 / 256 : ℝ) : EReal)
          * x6 (ix3 b ⟨l.val / 512, by omega⟩ ⟨l.val % 128, by omega⟩))
        (∑ s : Fin 2048, p (ix6 b ⟨l.val / 512, by omega⟩ ⟨T.val / 128, by omega⟩ ⟨T.val % 128, by omega⟩ ⟨l.val / 128 % 4, by omega⟩ s)) := by
  rw [← Cert.Consts.top_code, ← Cert.Consts.bottom_code]
  pointwise [out, Cert.Consts.code_scale, Cert.Consts.inv_code_scale]
  exact congrArg₂ Ideal.div rfl (sum_keys p b ⟨l.val / 512, by omega⟩ ⟨T.val / 128, by omega⟩ ⟨T.val % 128, by omega⟩ ⟨l.val / 128 % 4, by omega⟩)

end Cert.ReferenceIdeal.Block

end
-- ==== Proof.Pre.lean ====
/- What the precondition says of the arguments: the query and key codes and the means are real numbers, the two logit scales
   positive real numbers. -/
module

public import proofs.«01_k».proof.Defs
public import proofs.«01_k».proof.Proof.Gen.Pre_scaled_codes
public import Idealize.ShloMosaic.Lib.Pointwise

@[expose] public section

set_option maxRecDepth 16384

noncomputable section

namespace Cert.Pre

open Idealize.ShloMosaic Idealize.SL.Sem

theorem inf16 : Ideal.ofBits .bf16 0x7F80#16 = ⊤ := by simp [Ideal.ofBits, Ideal.ieee, -EReal.coe_mul]
theorem inf32 : Ideal.ofBits .f32 0x7F800000#32 = ⊤ := by simp [Ideal.ofBits, Ideal.ieee, -EReal.coe_mul]
theorem zero32 : Ideal.ofBits .f32 0x00000000#32 = 0 := by simp [Ideal.ofBits, Ideal.ieee, -EReal.coe_mul]

/-- A value whose magnitude is below infinity is a real number. -/
theorem real_of_abs {x : EReal} (h : Ideal.cmp .olt (max x (-x)) ⊤ = 1#1) : ∃ a : ℝ, x = (a : EReal) := by
  replace h := (Ideal.cmp_olt_eq_one _ _).1 h
  induction x with
  | bot => exact absurd h (by simp)
  | top => exact absurd h (by simp)
  | coe a => exact ⟨a, rfl⟩

/-- A value between zero and infinity is a positive real number. -/
theorem pos_of_between {x : EReal} (h0 : Ideal.cmp .ogt x 0 = 1#1) (h1 : Ideal.cmp .olt x ⊤ = 1#1) :
    ∃ a : ℝ, 0 < a ∧ x = (a : EReal) := by
  replace h0 := (Ideal.cmp_ogt_eq_one _ _).1 h0
  replace h1 := (Ideal.cmp_olt_eq_one _ _).1 h1
  induction x with
  | bot => exact absurd h0 (by simp)
  | top => exact absurd h1 (by simp)
  | coe a => exact ⟨a, by exact_mod_cast h0, rfl⟩

theorem and_one {a b : BitVec 1} (h : a &&& b = 1#1) : a = 1#1 ∧ b = 1#1 := by
  revert a b
  decide

/-- The arguments the scores come from as real numbers, the logit scales positive. -/
structure Reals (x0 : Vec Ideal Cert.KernelIdeal.S8x4x8192x128 .bf16) (x1 : Vec Ideal Cert.KernelIdeal.S8x4x4x16 .f32)
    (x2 : Vec Ideal Cert.KernelIdeal.S8x16x16x128 .bf16) (x3 : Vec Ideal Cert.KernelIdeal.S8x4x2048x128 .bf16)
    (x4 : Vec Ideal Cert.KernelIdeal.S8x4x32x1 .f32) : Prop where
  q : ∀ i, ∃ a : ℝ, x0 i = (a : EReal)
  qs : ∀ i, ∃ a : ℝ, 0 < a ∧ x1 i = (a : EReal)
  mq : ∀ i, ∃ a : ℝ, x2 i = (a : EReal)
  k : ∀ i, ∃ a : ℝ, x3 i = (a : EReal)
  ks : ∀ i, ∃ a : ℝ, 0 < a ∧ x4 i = (a : EReal)

theorem reals (m : (ℓ : Loc Cert.KernelIdeal.nD Cert.KernelIdeal.τ Cert.KernelIdeal.sig) → Buf (Elt Ideal) ℓ)
    (hpre : Cert.Pre_KernelIdeal_scaled_codes m) (c : Dev Cert.KernelIdeal.nD) :
    Reals (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) := by
  obtain ⟨h0, h1, h2, h3, h4⟩ := hpre c
  constructor
  · exact fun i => real_of_abs (by rw [← inf16]; exact congrFun h0 i)
  · intro i
    obtain ⟨ha, hb⟩ := and_one (congrFun h1 i)
    exact pos_of_between (by rw [← zero32]; exact ha) (by rw [← inf32]; exact hb)
  · exact fun i => real_of_abs (by rw [← inf16]; exact congrFun h2 i)
  · exact fun i => real_of_abs (by rw [← inf16]; exact congrFun h3 i)
  · intro i
    obtain ⟨ha, hb⟩ := and_one (congrFun h4 i)
    exact pos_of_between (by rw [← zero32]; exact ha) (by rw [← inf32]; exact hb)

end Cert.Pre

end
-- ==== Proof.Equation.lean ====
/- The equation: at every element, the kernel's block and the reference's result are one number, the query and key codes and the
   means being real numbers and the logit scales positive real numbers. Both are read as the column of one query row. -/
module

public import proofs.«01_k».proof.Proof.Array
public import proofs.«01_k».proof.Proof.Reference
public import proofs.«01_k».proof.Proof.Pre

@[expose] public section

set_option maxRecDepth 16384

noncomputable section

open Idealize.ShloMosaic Idealize.ShloMosaic.TcCoe Idealize.SL.Sem

namespace Cert.Equation

/-- A visible logit in units of `log 2`: query row `q`, mean row `mq`, query scale `qs`, keys `k`, key scales `ks`. -/
def z (q mq : Fin 128 → ℝ) (qs : ℝ) (k : Fin 2048 → Fin 128 → ℝ) (ks : Fin 2048 → ℝ) (s : Fin 2048) : ℝ :=
  ((∑ d, k s d * q d) + ∑ d, k s d * (mq d * (1 * (1 / qs)))) * (qs * (ks s * ((Real.log 2)⁻¹ * (Real.sqrt 128)⁻¹)))

theorem log_two_pos : 0 < Real.log 2 := Real.log_pos (by norm_num)
theorem root_pos : 0 < Real.sqrt 128 := Real.sqrt_pos.2 (by norm_num)

/-- The reference's visible score, over the reals, is the logit times `log 2`. -/
theorem z_log (q mq : Fin 128 → ℝ) (qs : ℝ) (hqs : 0 < qs) (k : Fin 2048 → Fin 128 → ℝ) (ks : Fin 2048 → ℝ) (s : Fin 2048) :
    ks s * (qs * (∑ d, q d * k s d) + ∑ d, k s d * mq d) * (1 / Real.sqrt 128) = z q mq qs k ks s * Real.log 2 := by
  have hl := log_two_pos
  have hr := root_pos
  unfold z
  have h1 : ∑ d, k s d * q d = ∑ d, q d * k s d := Finset.sum_congr rfl fun d _ => mul_comm _ _
  have h2 : ∑ d, k s d * (mq d * (1 * (1 / qs))) = (∑ d, k s d * mq d) * (1 / qs) := by
    rw [Finset.sum_mul]
    exact Finset.sum_congr rfl fun d _ => by ring
  rw [h1, h2]
  field_simp

section
open Cert.KernelIdeal Cert.KernelIdeal.Block

variable {x0 : Vec Ideal S1x1x8192x128 .bf16} {x1 : Vec Ideal S1x1x4x16 .f32} {x2 : Vec Ideal S1x4x16x128 .bf16}
  {x3 : Vec Ideal S1x1x2048x128 .bf16} {x4 : Vec Ideal S1x1x32x1 .f32}

/-- A key later than the row's token has no logit. -/
theorem logit_bot (hp : Positive x1 x4) {n : Nat} {r : Fin 512} {s : Nat} (hs : ¬ s ≤ 128 * n + r.val / 4) :
    Block.logit x0 x1 x2 x3 x4 n r s = ⊥ := by
  obtain ⟨a, ha, e⟩ := hp n ⟨r.val % 4, by omega⟩ (s / 64)
  unfold Block.logit Block.scaled Block.score Block.maskedScore
  rw [if_neg hs, e]
  exact EReal.bot_mul_coe_of_pos ha

/-- The kernel's logits of row `r` of query block `n`. -/
theorem logit_eq (hp : Positive x1 x4) (n : Nat) (r : Fin 512) (q mq : Fin 128 → ℝ) (qs : ℝ) (hqs : 0 < qs)
    (k : Fin 2048 → Fin 128 → ℝ) (ks : Fin 2048 → ℝ) (h0 : ∀ d, query x0 n r d = (q d : EReal))
    (h1 : queryScale x1 n ⟨r.val % 4, by omega⟩ = (qs : EReal))
    (h2 : ∀ d, x2 (ix4 0 ⟨r.val % 4, by omega⟩ ⟨n % 16, by omega⟩ d) = (mq d : EReal))
    (h3 : ∀ (s : Fin 2048) (d : Fin 128), key x3 s.val d = (k s d : EReal))
    (h4 : ∀ s : Fin 2048, x4 (ix4 0 0 ⟨s.val / 64 % 32, by omega⟩ 0) = (ks s : EReal)) (s : Fin 2048) :
    Block.logit x0 x1 x2 x3 x4 n r s.val = Cert.Column.masked (fun s => s.val ≤ 128 * n + r.val / 4) (z q mq qs k ks) s := by
  by_cases hs : s.val ≤ 128 * n + r.val / 4
  · unfold Block.logit Block.scaled Block.score Block.maskedScore Block.rawScore Block.mean Block.keyScale Cert.Column.masked
    rw [if_pos hs, if_pos hs, h1, h4 s, Ideal.div_coe hqs.ne']
    simp only [h0, h2, h3]
    unfold z
    rw [← EReal.coe_one]
    simp only [← EReal.coe_mul, Cert.Column.coe_sum, ← EReal.coe_add]
  · rw [logit_bot hp hs]
    exact (if_neg hs).symm

/-- The kernel's element, as the column of its query row. -/
theorem element_eq (hp : Positive x1 x4) (x5 : Vec Ideal S1x1x2048x128 .bf16) (x6 : Vec Ideal S1x4x128 .f32) (i : grid0.Coords)
    (T : Fin 2048) (g : Fin 4) (d : Fin 128) :
    Block.element x0 x1 x2 x3 x4 x5 x6 i T.val (128 * g.val + d.val)
      = Cert.Column.kernel (fun s => Block.logit x0 x1 x2 x3 x4 (T.val / 128) ⟨4 * (T.val % 128) + g.val, by omega⟩ s.val)
          (fun s => val x5 s.val d) (valueScale i x6 d) := by
  have hr : (⟨(4 * (T.val % 128) + (128 * g.val + d.val) / 128) % 512, by omega⟩ : Fin 512) = ⟨4 * (T.val % 128) + g.val, by omega⟩ :=
    Fin.ext (by dsimp only; omega)
  have hd : (⟨(128 * g.val + d.val) % 128, by omega⟩ : Fin 128) = d := Fin.ext (by dsimp only; omega)
  have hn : 64 * (2 * (T.val / 128) + 1 + 1) = 128 * (T.val / 128 + 1) := by omega
  unfold Block.element Block.output Block.row
  rw [hd]
  dsimp only
  rw [hr, mass_sum]
  unfold Block.code Block.prb Block.weight Block.shift
  rw [top_sup, hn]
  exact Cert.Column.kernel_extend _ _ _ (by omega) fun s hs => logit_bot hp (by dsimp only; omega)

end

open Cert.ReferenceIdeal Cert.ReferenceIdeal.Block in
/-- The reference's scores of token `128 n + t`, head `4 j + g`. -/
theorem score_eq (x0 : Vec Ideal S8x4x8192x128 .bf16) (x1 : Vec Ideal S8x4x4x16 .f32) (x2 : Vec Ideal S8x16x16x128 .bf16)
    (x3 : Vec Ideal S8x4x2048x128 .bf16) (x4 : Vec Ideal S8x4x32x1 .f32) (b : Fin 8) (j : Fin 4) (n : Fin 16) (t : Fin 128) (g : Fin 4)
    (q mq : Fin 128 → ℝ) (qs : ℝ) (hqs : 0 < qs) (k : Fin 2048 → Fin 128 → ℝ) (ks : Fin 2048 → ℝ)
    (h0 : ∀ d, x0 (ix4 b j ⟨n.val * 512 + t.val * 4 + g.val, by omega⟩ d) = (q d : EReal)) (h1 : x1 (ix4 b j g n) = (qs : EReal))
    (h2 : ∀ d, x2 (ix4 b ⟨j.val * 4 + g.val, by omega⟩ n d) = (mq d : EReal))
    (h3 : ∀ (s : Fin 2048) (d : Fin 128), x3 (ix4 b j s d) = (k s d : EReal))
    (h4 : ∀ s : Fin 2048, x4 (ix4 b j ⟨s.val / 64, by omega⟩ 0) = (ks s : EReal)) (s : Fin 2048) :
    Block.score x0 x1 x2 x3 x4 (ix6 b j n t g s)
      = Cert.Column.masked (fun s => s.val ≤ n.val * 128 + t.val) (fun s => z q mq qs k ks s * Real.log 2) s := by
  rw [score_apply]
  unfold Cert.Column.masked
  refine if_congr Iff.rfl ?_ rfl
  rw [h1, h4 s, Ideal.div_coe root_pos.ne']
  show _ = ((z q mq qs k ks s * Real.log 2 : ℝ) : EReal)
  rw [← z_log q mq qs hqs k ks s]
  simp only [h0, h2, h3]
  simp only [← EReal.coe_mul, Cert.Column.coe_sum, ← EReal.coe_add]

open Cert.ReferenceIdeal Cert.ReferenceIdeal.Block in
/-- The reference's element, as the column of its query row. -/
theorem out_eq (x0 : Vec Ideal S8x4x8192x128 .bf16) (x1 : Vec Ideal S8x4x4x16 .f32) (x2 : Vec Ideal S8x16x16x128 .bf16)
    (x3 : Vec Ideal S8x4x2048x128 .bf16) (x4 : Vec Ideal S8x4x32x1 .f32) (x5 : Vec Ideal S8x4x2048x128 .bf16)
    (x6 : Vec Ideal S8x4x128 .f32) (b : Fin 8) (T : Fin 2048) (j g : Fin 4) (d : Fin 128) :
    Block.out (Block.prob (Block.score x0 x1 x2 x3 x4)) x5 x6 (ix3 b T ⟨512 * j.val + (128 * g.val + d.val), by omega⟩)
      = Cert.Column.reference (fun s => s.val ≤ T.val / 128 * 128 + T.val % 128)
          (fun s => Block.score x0 x1 x2 x3 x4 (ix6 b j ⟨T.val / 128, by omega⟩ ⟨T.val % 128, by omega⟩ g s))
          (fun s => x5 (ix4 b j s d)) (x6 (ix3 b j d)) := by
  rw [out_apply]
  have hj : (⟨(512 * j.val + (128 * g.val + d.val)) / 512, by omega⟩ : Fin 4) = j := Fin.ext (by dsimp only; omega)
  have hg : (⟨(512 * j.val + (128 * g.val + d.val)) / 128 % 4, by omega⟩ : Fin 4) = g := Fin.ext (by dsimp only; omega)
  have hd : (⟨(512 * j.val + (128 * g.val + d.val)) % 128, by omega⟩ : Fin 128) = d := Fin.ext (by dsimp only; omega)
  simp only [hj, hg, hd, prob_apply]
  rfl

open Cert.KernelIdeal Cert.KernelIdeal.Gen Cert.KernelIdeal.Block in
/-- The result array is the reference's result. -/
theorem array_eq (m : (ℓ : Loc nD τ sig) → Buf (Elt Ideal) ℓ) (hpre : Cert.Pre_KernelIdeal_scaled_codes m) (c : Dev nD) :
    (dats m 0 c).arrAt 7 cfg0.N
      = Cert.ReferenceIdeal.Block.out (Cert.ReferenceIdeal.Block.prob (Cert.ReferenceIdeal.Block.score (m (c.tc.loc main_arg0))
          (m (c.tc.loc main_arg1)) (m (c.tc.loc main_arg2)) (m (c.tc.loc main_arg3)) (m (c.tc.loc main_arg4))))
          (m (c.tc.loc main_arg5)) (m (c.tc.loc main_arg6)) := by
  obtain ⟨hq, hqs, hmq, hk, hks⟩ := Cert.Pre.reals m hpre c
  choose q hq using hq
  choose qs hqs0 hqs using hqs
  choose mq hmq using hmq
  choose k hk using hk
  choose ks hks0 hks using hks
  have key : ∀ (b : Fin 8) (T : Fin 2048) (j g : Fin 4) (d : Fin 128),
      (dats m 0 c).arrAt 7 cfg0.N (ix3 b T ⟨512 * j.val + (128 * g.val + d.val), by omega⟩)
        = Cert.ReferenceIdeal.Block.out (Cert.ReferenceIdeal.Block.prob (Cert.ReferenceIdeal.Block.score (m (c.tc.loc main_arg0))
          (m (c.tc.loc main_arg1)) (m (c.tc.loc main_arg2)) (m (c.tc.loc main_arg3)) (m (c.tc.loc main_arg4))))
          (m (c.tc.loc main_arg5)) (m (c.tc.loc main_arg6)) (ix3 b T ⟨512 * j.val + (128 * g.val + d.val), by omega⟩) := by
    intro b T j g d
    have hl := log_two_pos
    have hroot := root_pos
    have hp : Positive (iblk m c 1 (point b j)) (iblk m c 4 (point b j)) := by
      intro i g n
      refine ⟨qs (ix4 b j g ⟨i % 16, by omega⟩) * (ks (ix4 b j ⟨n % 32, by omega⟩ 0) * ((Real.log 2)⁻¹ * (Real.sqrt 128)⁻¹)), ?_, ?_⟩
      · have h1 := hqs0 (ix4 b j g ⟨i % 16, by omega⟩)
        have h2 := hks0 (ix4 b j ⟨n % 32, by omega⟩ 0)
        positivity
      · unfold queryScale keyScale
        rw [block1_apply, block4_apply, hqs, hks, ← EReal.coe_mul, ← EReal.coe_mul]
    have hr : (⟨(512 * (T.val / 128) + (4 * (T.val % 128) + g.val)) % 8192, by omega⟩ : Fin 8192)
        = ⟨T.val / 128 * 512 + T.val % 128 * 4 + g.val, by omega⟩ := Fin.ext (by dsimp only; omega)
    have hg : (⟨(4 * (T.val % 128) + g.val) % 4, by omega⟩ : Fin 4) = g := Fin.ext (by dsimp only; omega)
    have hn : (⟨T.val / 128 % 16, by omega⟩ : Fin 16) = ⟨T.val / 128, by omega⟩ := Fin.ext (by dsimp only; omega)
    have hs : ∀ s : Fin 2048, (⟨s.val % 2048, by omega⟩ : Fin 2048) = s := fun s => Fin.ext (by dsimp only; omega)
    have hs64 : ∀ s : Fin 2048, (⟨s.val / 64 % 32, by omega⟩ : Fin 32) = ⟨s.val / 64, by omega⟩ := fun s => Fin.ext (by dsimp only; omega)
    have ht : 128 * (T.val / 128) + (4 * (T.val % 128) + g.val) / 4 = T.val / 128 * 128 + T.val % 128 := by omega
    rw [out_eq, array_apply m c b T j ⟨128 * g.val + d.val, by omega⟩, out_apply m c (point b j) hp, element_eq hp]
    have hL := logit_eq (x0 := iblk m c 0 (point b j)) (x2 := iblk m c 2 (point b j)) (x3 := iblk m c 3 (point b j)) hp (T.val / 128)
      ⟨4 * (T.val % 128) + g.val, by omega⟩ (fun d => q (ix4 b j ⟨T.val / 128 * 512 + T.val % 128 * 4 + g.val, by omega⟩ d))
      (fun d => mq (ix4 b ⟨j.val * 4 + g.val, by omega⟩ ⟨T.val / 128, by omega⟩ d)) (qs (ix4 b j g ⟨T.val / 128, by omega⟩)) (hqs0 _)
      (fun s d => k (ix4 b j s d)) (fun s => ks (ix4 b j ⟨s.val / 64, by omega⟩ 0))
      (fun d => by unfold query; rw [hr, block0_apply, hq]) (by unfold queryScale; rw [hg, hn, block1_apply, hqs])
      (fun d => by rw [hg, hn, block2_apply, hmq]) (fun s d => by unfold Block.key; rw [hs, block3_apply, hk])
      (fun s => by rw [hs64, block4_apply, hks])
    have hS := score_eq (m (c.tc.loc main_arg0)) (m (c.tc.loc main_arg1)) (m (c.tc.loc main_arg2)) (m (c.tc.loc main_arg3))
      (m (c.tc.loc main_arg4)) b j ⟨T.val / 128, by omega⟩ ⟨T.val % 128, by omega⟩ g
      (fun d => q (ix4 b j ⟨T.val / 128 * 512 + T.val % 128 * 4 + g.val, by omega⟩ d))
      (fun d => mq (ix4 b ⟨j.val * 4 + g.val, by omega⟩ ⟨T.val / 128, by omega⟩ d)) (qs (ix4 b j g ⟨T.val / 128, by omega⟩)) (hqs0 _)
      (fun s d => k (ix4 b j s d)) (fun s => ks (ix4 b j ⟨s.val / 64, by omega⟩ 0))
      (fun d => hq _) (hqs _) (fun d => hmq _) (fun s d => hk _) (fun s => hks _)
    have hV : (fun s : Fin 2048 => val (iblk m c 5 (point b j)) s.val d)
        = fun s => (m (c.tc.loc main_arg5) : Vec Ideal S8x4x2048x128 .bf16) (ix4 b j s d) :=
      funext fun s => by unfold val; rw [hs, block5_apply]
    simp only [ht] at hL
    rw [funext hL, funext hS, hV, valueScale_apply, block6_apply]
    exact Cert.Column.kernel_eq_reference (fun s => s.val ≤ T.val / 128 * 128 + T.val % 128) (Nat.zero_le _) _ _ _
  funext i
  have hi : i = ix3 (i 0) (i 1) ⟨512 * ((i 2).val / 512) + (128 * ((i 2).val / 128 % 4) + (i 2).val % 128), by have := (i 2).isLt; change _ < 2048 at this; omega⟩ := by
    funext a
    match a with
    | ⟨0, _⟩ => rfl
    | ⟨1, _⟩ => rfl
    | ⟨2, _⟩ => exact Fin.ext (by show (i 2).val = 512 * ((i 2).val / 512) + (128 * ((i 2).val / 128 % 4) + (i 2).val % 128); omega)
  rw [hi]
  have h2 : (i 2).val < 2048 := (i 2).isLt
  exact key (i 0) (i 1) ⟨(i 2).val / 512, by omega⟩ ⟨(i 2).val / 128 % 4, by omega⟩ ⟨(i 2).val % 128, by omega⟩

end Cert.Equation

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scaled_codes
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel's result and the reference's are one array: what the kernel's run leaves, the reference's run leaves too. -/
theorem algebraic : Cert.algebraic_KernelIdeal_ReferenceIdeal_pre_scaled_codes := by
  intro m ρ m' ρ' hpre hagree
  refine ⟨fun c => (Cert.KernelIdeal.Gen.dats m 0 c).arrAt 7 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Block.res_eq, h0, h1, h2, h3, h4, h5, h6]
  exact (Cert.Equation.array_eq m hpre c).symm

theorem claim : Cert.Claim := ⟨Cert.Kernel.Gen.facts, Cert.KernelIdeal.Gen.facts, Cert.ReferenceIdeal.Gen.facts, Cert.Pre_scaled_codes.Gen.facts,
  Frames.kernel, Frames.kernelIdeal, Frames.kernelIdeal_pre, Frames.reference, Frames.reference_pre, Frames.preserves, algebraic⟩

end Cert.Proof

end
